-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_4)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v7_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "gelu_a" .f32 0x3D372713#32 ((8943 / 200000 : ℝ) : EReal)
  ∧ IdealRules.named_const.Statement Cert.Kernel2Ideal.κ "gelu_3a" .f32 0x3E095D4F#32 ((26829 / 200000 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v10)) (v2 : (c : Dev Cert.Kernel2Ideal.nD) → Buf (Elt Ideal) ((c.tc : Thread Cert.Kernel2Ideal.nD Cert.Kernel2Ideal.τ).loc Cert.Kernel2Ideal.main_v3_3)) (v3 : (c : Dev Cert.Kernel2Ideal.nD) → Buf (Elt Ideal) ((c.tc : Thread Cert.Kernel2Ideal.nD Cert.Kernel2Ideal.τ).loc Cert.Kernel2Ideal.main_v3_4)) (v4 : (c : Dev Cert.Kernel2Ideal.nD) → Buf (Elt Ideal) ((c.tc : Thread Cert.Kernel2Ideal.nD Cert.Kernel2Ideal.τ).loc Cert.Kernel2Ideal.main_v3_1)) (v5 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_v3_3) = v2 c
          ∧ r.2.mem ((c.tc : Thread Cert.Kernel2Ideal.nD Cert.Kernel2Ideal.τ).loc Cert.Kernel2Ideal.main_v3_4) = v3 c
          ∧ r.2.mem ((c.tc : Thread Cert.Kernel2Ideal.nD Cert.Kernel2Ideal.τ).loc Cert.Kernel2Ideal.main_v3_1) = v4 c
          ∧ r.2.mem ((c.tc : Thread Cert.Kernel2Ideal.nD Cert.Kernel2Ideal.τ).loc Cert.Kernel2Ideal.main_v6) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v165) = v0 c
          ∧ r.2.mem ((c.tc : Thread Cert.Reference2Ideal.nD Cert.Reference2Ideal.τ).loc Cert.Reference2Ideal.main_v151) = v1 c
          ∧ r.2.mem ((c.tc : Thread Cert.Reference2Ideal.nD Cert.Reference2Ideal.τ).loc Cert.Reference2Ideal.main_v111) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_v105) = v4 c
          ∧ r.2.mem ((c.tc : Thread Cert.Reference2Ideal.nD Cert.Reference2Ideal.τ).loc Cert.Reference2Ideal.main_v100) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v7_0)) (v2 : (c : Dev Cert.Kernel3Ideal.nD) → Buf (Elt Ideal) ((c.tc : Thread Cert.Kernel3Ideal.nD Cert.Kernel3Ideal.τ).loc Cert.Kernel3Ideal.main_v7_1)) (v3 : (c : Dev Cert.Kernel3Ideal.nD) → Buf (Elt Ideal) ((c.tc : Thread Cert.Kernel3Ideal.nD Cert.Kernel3Ideal.τ).loc Cert.Kernel3Ideal.main_v6)) (v4 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v7_0) = v1 c
          ∧ r.2.mem ((c.tc : Thread Cert.Kernel3Ideal.nD Cert.Kernel3Ideal.τ).loc Cert.Kernel3Ideal.main_v7_1) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_v9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v40) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_ReferenceIdeal_pre_finite [hKernel4Ideal : Cert.Kernel4Ideal.Facts] [hReferenceIdeal : Cert.ReferenceIdeal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel4Ideal_finite m →
    (∀ c : Dev Cert.Kernel4Ideal.nD,
      m' ((c.tc : Thread Cert.ReferenceIdeal.nD Cert.ReferenceIdeal.τ).loc Cert.ReferenceIdeal.main_arg0) = m ((c.tc : Thread Cert.Kernel4Ideal.nD Cert.Kernel4Ideal.τ).loc Cert.Kernel4Ideal.main_arg0)
      ∧ m' ((c.tc : Thread Cert.ReferenceIdeal.nD Cert.ReferenceIdeal.τ).loc Cert.ReferenceIdeal.main_arg1) = m ((c.tc : Thread Cert.Kernel4Ideal.nD Cert.Kernel4Ideal.τ).loc Cert.Kernel4Ideal.main_arg1)
      ∧ m' ((c.tc : Thread Cert.ReferenceIdeal.nD Cert.ReferenceIdeal.τ).loc Cert.ReferenceIdeal.main_arg2) = m ((c.tc : Thread Cert.Kernel4Ideal.nD Cert.Kernel4Ideal.τ).loc Cert.Kernel4Ideal.main_arg2)
      ∧ m' ((c.tc : Thread Cert.ReferenceIdeal.nD Cert.ReferenceIdeal.τ).loc Cert.ReferenceIdeal.main_arg3) = m ((c.tc : Thread Cert.Kernel4Ideal.nD Cert.Kernel4Ideal.τ).loc Cert.Kernel4Ideal.main_arg3)
      ∧ m' ((c.tc : Thread Cert.ReferenceIdeal.nD Cert.ReferenceIdeal.τ).loc Cert.ReferenceIdeal.main_arg4) = m ((c.tc : Thread Cert.Kernel4Ideal.nD Cert.Kernel4Ideal.τ).loc Cert.Kernel4Ideal.main_arg4)
      ∧ m' ((c.tc : Thread Cert.ReferenceIdeal.nD Cert.ReferenceIdeal.τ).loc Cert.ReferenceIdeal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9)) (v1 : (c : Dev Cert.Kernel4Ideal.nD) → Buf (Elt Ideal) ((c.tc : Thread Cert.Kernel4Ideal.nD Cert.Kernel4Ideal.τ).loc Cert.Kernel4Ideal.main_v6_0)) (v2 : (c : Dev Cert.Kernel4Ideal.nD) → Buf (Elt Ideal) ((c.tc : Thread Cert.Kernel4Ideal.nD Cert.Kernel4Ideal.τ).loc Cert.Kernel4Ideal.main_v6_4)) (v3 : (c : Dev Cert.Kernel4Ideal.nD) → Buf (Elt Ideal) ((c.tc : Thread Cert.Kernel4Ideal.nD Cert.Kernel4Ideal.τ).loc Cert.Kernel4Ideal.main_v10)) (v4 : (c : Dev Cert.Kernel4Ideal.nD) → Buf (Elt Ideal) ((c.tc : Thread Cert.Kernel4Ideal.nD Cert.Kernel4Ideal.τ).loc Cert.Kernel4Ideal.main_v11)) (v5 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_v6_0) = v1 c
          ∧ r.2.mem ((c.tc : Thread Cert.Kernel4Ideal.nD Cert.Kernel4Ideal.τ).loc Cert.Kernel4Ideal.main_v6_4) = v2 c
          ∧ r.2.mem ((c.tc : Thread Cert.Kernel4Ideal.nD Cert.Kernel4Ideal.τ).loc Cert.Kernel4Ideal.main_v10) = v3 c
          ∧ r.2.mem ((c.tc : Thread Cert.Kernel4Ideal.nD Cert.Kernel4Ideal.τ).loc Cert.Kernel4Ideal.main_v11) = v4 c
          ∧ r.2.mem ((c.tc : Thread Cert.Kernel4Ideal.nD Cert.Kernel4Ideal.τ).loc Cert.Kernel4Ideal.main_v8) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_ReferenceIdeal_pre_finite (hKernel4Ideal := hKernel4Ideal) (hReferenceIdeal := hReferenceIdeal) (hPre_finite := hPre_finite)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite2.lean ====
abbrev S8192x512 : Shape := ⟨2, ![8192, 512]⟩
abbrev S8192x3200 : Shape := ⟨2, ![8192, 3200]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x3200 : S_.BroadcastsInDim S8192x3200 (![] : Fin 0 → Fin S8192x3200.rank)
  reducesTo_S8192x3200_S_d0_1 : S8192x3200.ReducesTo [0, 1] S_
  bcast_S_S1x512 : S_.BroadcastsInDim S1x512 (![] : Fin 0 → Fin S1x512.rank)
  reducesTo_S1x512_S_d0_1 : S1x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S8192x512 .f32) (main_arg1 : FVec F S8192x3200 .f32) (main_arg2 : FVec F S1x512 .f32) (main_arg3 : FVec F S1x512 .f32) (main_arg4 : FVec F S8x128x128 .f32) (main_arg5 : FVec F S8x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x3200 .f32 := Host.absf main_arg1
  let main_cst_0 : FVec F S_ .f32 := constant S_ .f32 0x7F800000#32
  let main_v5 : FVec F S8192x3200 .f32 := broadcastInDim S8192x3200 ![] bcast_S_S8192x3200 main_cst_0
  let main_v6 : IVec S8192x3200 1 := cmpf .olt main_v4 main_v5
  let main_c_1 : IVec S_ 1 := constantI S_ 1 1#1
  let main_v7 : IVec S_ 1 := (fun x v => Host.reduce IntOp.andi x v reducesTo_S8192x3200_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_v13 main_v16
-- ==== Pre_finite3.lean ====
abbrev S8192x1024 : Shape := ⟨2, ![8192, 1024]⟩
abbrev S1x1024 : Shape := ⟨2, ![1, 1024]⟩
abbrev S1024x3080 : Shape := ⟨2, ![1024, 3080]⟩
abbrev S8192x3080 : Shape := ⟨2, ![8192, 3080]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3080 : S_.BroadcastsInDim S1024x3080 (![] : Fin 0 → Fin S1024x3080.rank)
  reducesTo_S1024x3080_S_d0_1 : S1024x3080.ReducesTo [0, 1] S_
  bcast_S_S8192x3080 : S_.BroadcastsInDim S8192x3080 (![] : Fin 0 → Fin S8192x3080.rank)
  reducesTo_S8192x3080_S_d0_1 : S8192x3080.ReducesTo [0, 1] S_

variable [Facts]

def fn_part1 {F : FTy → Type} [FloatOps F] (main_arg4 : FVec F S8192x3080 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x3080 .f32 := Host.absf main_arg4
  let main_cst_6 : FVec F S_ .f32 := constant S_ .f32 0x7F800000#32
  let main_v20 : FVec F S8192x3080 .f32 := broadcastInDim S8192x3080 ![] bcast_S_S8192x3080 main_cst_6
  let main_v21 : IVec S8192x3080 1 := cmpf .olt main_v19 main_v20
  let main_c_7 : IVec S_ 1 := constantI S_ 1 1#1
  let main_v22 : IVec S_ 1 := (fun x v => Host.reduce IntOp.andi x v reducesTo_S8192x3080_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x3080 .f32) (main_arg3 : FVec F S8192x1024 .f32) (main_arg4 : FVec F S8192x3080 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3080 .f32 := Host.absf main_arg2
  let main_cst_2 : FVec F S_ .f32 := constant S_ .f32 0x7F800000#32
  let main_v10 : FVec F S1024x3080 .f32 := broadcastInDim S1024x3080 ![] bcast_S_S1024x3080 main_cst_2
  let main_v11 : IVec S1024x3080 1 := cmpf .olt main_v9 main_v10
  let main_c_3 : IVec S_ 1 := constantI S_ 1 1#1
  let main_v12 : IVec S_ 1 := (fun x v => Host.reduce IntOp.andi x v reducesTo_S1024x3080_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Kernel.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩
abbrev S256x1024 : Shape := ⟨2, ![256, 1024]⟩
abbrev S256x2816 : Shape := ⟨2, ![256, 2816]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1024 : Shape := ⟨1, ![1024]⟩
abbrev S512x1408 : Shape := ⟨2, ![512, 1408]⟩
abbrev S1408x1024 : Shape := ⟨2, ![1408, 1024]⟩
abbrev S384x1024 : Shape := ⟨2, ![384, 1024]⟩
abbrev S512x384 : Shape := ⟨2, ![512, 384]⟩

abbrev nBuf : Space → Nat
  | .hbm => 26
  | .vmem => 55
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8192x1024, .bf16⟩
  | .hbm, ⟨20, _⟩ => ⟨S1x1024, .f32⟩
  | .hbm, ⟨21, _⟩ => ⟨S2816x1024, .f32⟩
  | .hbm, ⟨22, _⟩ => ⟨S2816x1024, .f32⟩
  | .hbm, ⟨23, _⟩ => ⟨S2816x1024, .f32⟩
  | .hbm, ⟨24, _⟩ => ⟨S1024x2816, .f32⟩
  | .hbm, ⟨25, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S2816x1024, .bf16⟩
  | .local _ .vmem, ⟨27, _⟩ => ⟨S2816x1024, .bf16⟩
  | .local _ .vmem, ⟨28, _⟩ => ⟨S2816x1024, .bf16⟩
  | .local _ .vmem, ⟨29, _⟩ => ⟨S256x1024, .f32⟩
  | .local _ .vmem, ⟨30, _⟩ => ⟨S256x1024, .f32⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x1024, .bf16⟩
  | .local _ .vmem, ⟨36, _⟩ => ⟨S256x1024, .bf16⟩
  | .local _ .vmem, ⟨37, _⟩ => ⟨S1x1024, .f32⟩
  | .local _ .vmem, ⟨38, _⟩ => ⟨S256x1024, .f32⟩
  | .local _ .vmem, ⟨39, _⟩ => ⟨S512x1408, .bf16⟩
  | .local _ .vmem, ⟨40, _⟩ => ⟨S512x1408, .bf16⟩
  | .local _ .vmem, ⟨41, _⟩ => ⟨S512x1408, .bf16⟩
  | .local _ .vmem, ⟨42, _⟩ => ⟨S512x1408, .bf16⟩
  | .local _ .vmem, ⟨43, _⟩ => ⟨S512x1408, .bf16⟩
  | .local _ .vmem, ⟨44, _⟩ => ⟨S512x1408, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S1408x1024, .f32⟩
  | .local _ .vmem, ⟨50, _⟩ => ⟨S1408x1024, .f32⟩
  | .local _ .vmem, ⟨51, _⟩ => ⟨S1408x1024, .f32⟩
  | .local _ .vmem, ⟨52, _⟩ => ⟨S1408x1024, .f32⟩
  | .local _ .vmem, ⟨53, _⟩ => ⟨S1408x1024, .f32⟩
  | .local _ .vmem, ⟨54, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_scratch0 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc2_stg3_0 : Ref sig .tc := ⟨.vmem, 45, rfl⟩
abbrev cc2_stg3_1 : Ref sig .tc := ⟨.vmem, 46, rfl⟩
abbrev cc2_stg4_0 : Ref sig .tc := ⟨.vmem, 47, rfl⟩
abbrev cc2_stg4_1 : Ref sig .tc := ⟨.vmem, 48, rfl⟩
abbrev cc2_stg5_0 : Ref sig .tc := ⟨.vmem, 49, rfl⟩
abbrev cc2_stg5_1 : Ref sig .tc := ⟨.vmem, 50, rfl⟩
abbrev cc2_stg6_0 : Ref sig .tc := ⟨.vmem, 51, rfl⟩
abbrev cc2_stg6_1 : Ref sig .tc := ⟨.vmem, 52, rfl⟩
abbrev cc2_stg7_0 : Ref sig .tc := ⟨.vmem, 53, rfl⟩
abbrev cc2_stg7_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem4_1 : DmaSem sig := 46
abbrev cc2_sem5_0 : DmaSem sig := 47
abbrev cc2_sem5_1 : DmaSem sig := 48
abbrev cc2_sem6_0 : DmaSem sig := 49
abbrev cc2_sem6_1 : DmaSem sig := 50
abbrev cc2_sem7_0 : DmaSem sig := 51
abbrev cc2_sem7_1 : DmaSem sig := 52

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1408x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1408x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1408x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]
-- ==== ReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S1024x2816, .f32⟩
  | .hbm, ⟨51, _⟩ => ⟨S2816x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S2816x1024, .f32⟩
  | .hbm, ⟨56, _⟩ => ⟨S1024x2816, .f32⟩
  | .hbm, ⟨57, _⟩ => ⟨S8192x1024, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S2816x1024, .f32⟩
  | .hbm, ⟨63, _⟩ => ⟨S1024x2816, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel2.lean ====
abbrev S8192x512 : Shape := ⟨2, ![8192, 512]⟩
abbrev S8192x3200 : Shape := ⟨2, ![8192, 3200]⟩
abbrev S1x512 : Shape := ⟨2, ![1, 512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S512 : Shape := ⟨1, ![512]⟩
abbrev S_ : Shape := ⟨0, ![]⟩

abbrev nBuf : Space → Nat
  | .hbm => 22
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x3200, .f32⟩
  | .hbm, ⟨2, _⟩ => ⟨S1x512, .f32⟩
  | .hbm, ⟨3, _⟩ => ⟨S1x512, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S128x8x64, .f32⟩
  | .hbm, ⟨8, _⟩ => ⟨S128x512, .f32⟩
  | .hbm, ⟨9, _⟩ => ⟨S8192x3200, .bf16⟩
  | .hbm, ⟨10, _⟩ => ⟨S8x128x128, .f32⟩
  | .hbm, ⟨11, _⟩ => ⟨S128x512, .f32⟩
  | .hbm, ⟨12, _⟩ => ⟨S1x512, .f32⟩
  | .hbm, ⟨13, _⟩ => ⟨S1x512, .f32⟩
  | .hbm, ⟨14, _⟩ => ⟨S128x8x64, .f32⟩
  | .hbm, ⟨15, _⟩ => ⟨S_, .f32⟩
  | .hbm, ⟨16, _⟩ => ⟨S128x8, .f32⟩
  | .hbm, ⟨17, _⟩ => ⟨S8x128, .f32⟩
  | .hbm, ⟨18, _⟩ => ⟨S8192x512, .bf16⟩
  | .hbm, ⟨19, _⟩ => ⟨S8192x512, .f32⟩
  | .hbm, ⟨20, _⟩ => ⟨S8192x512, .bf16⟩
  | .hbm, ⟨21, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S8x128x128, .f32⟩
  | .local _ .vmem, ⟨9, _⟩ => ⟨S128x512, .f32⟩
  | .local _ .vmem, ⟨10, _⟩ => ⟨S512x1024, .bf16⟩
  | .local _ .vmem, ⟨11, _⟩ => ⟨S512x1024, .bf16⟩
  | .local _ .vmem, ⟨12, _⟩ => ⟨S8x128x128, .f32⟩
  | .local _ .vmem, ⟨13, _⟩ => ⟨S128x512, .f32⟩
  | .local _ .vmem, ⟨14, _⟩ => ⟨S1x512, .f32⟩
  | .local _ .vmem, ⟨15, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel2Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference2Ideal.lean ====
abbrev S8192x512 : Shape := ⟨2, ![8192, 512]⟩
abbrev S8192x3200 : Shape := ⟨2, ![8192, 3200]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩
abbrev S512 : Shape := ⟨1, ![512]⟩

abbrev nBuf : Space → Nat
  | .hbm => 222
  | .vmem => 0
  | .smem => 0
  | _ => 0

abbrev hbmTy0_0 (i : Nat) : BufTy := match i % 128 with
  | 0 => ⟨S8192x512, .f32⟩
  | 1 => ⟨S8192x3200, .f32⟩
  | 2 => ⟨S1x512, .f32⟩
  | 3 => ⟨S1x512, .f32⟩
  | 4 => ⟨S8x128x128, .f32⟩
  | 5 => ⟨S8x128, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S8192x512, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x512, .f32⟩
  | 89 => ⟨S8192x512, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x512, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S64x128x8x64, .f32⟩
  | 105 => ⟨S128, .i32⟩
  | 106 => ⟨S128x1, .i32⟩
  | 107 => ⟨S1x128, .i32⟩
  | 108 => ⟨S128x128, .i32⟩
  | 109 => ⟨S128x128, .i32⟩
  | 110 => ⟨S128x128, .i1⟩
  | 111 => ⟨S_, .f32⟩
  | 112 => ⟨S8x128x128, .i1⟩
  | 113 => ⟨S8x128x128, .f32⟩
  | 114 => ⟨S8x128x128, .f32⟩
  | 115 => ⟨S_, .f32⟩
  | 116 => ⟨S8x128x128, .f32⟩
  | 117 => ⟨S8x64x64x128, .f32⟩
  | 118 => ⟨S64x128x8x64, .f32⟩
  | 119 => ⟨S128x8, .f32⟩
  | 120 => ⟨S128x8x1, .f32⟩
  | 121 => ⟨S1x128x8x1, .f32⟩
  | 122 => ⟨S64x128x8x64, .f32⟩
  | 123 => ⟨S64x128x8x64, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_1 (i : Nat) : BufTy := match i % 128 with
  | 0 => ⟨S64x128x8x64, .f32⟩
  | 1 => ⟨S_, .f32⟩
  | 2 => ⟨S128x8, .f32⟩
  | 3 => ⟨S1x128x8x1, .f32⟩
  | 4 => ⟨S_, .f32⟩
  | 5 => ⟨S128x8, .f32⟩
  | 6 => ⟨S128x8x1, .f32⟩
  | 7 => ⟨S_, .f32⟩
  | 8 => ⟨S128x8, .f32⟩
  | 9 => ⟨S8x128, .f32⟩
  | 10 => ⟨S8x64x64x128, .f32⟩
  | 11 => ⟨S8x128x128, .f32⟩
  | 12 => ⟨S8x64x64x128, .f32⟩
  | 13 => ⟨S64x128x8x64, .f32⟩
  | 14 => ⟨S_, .f32⟩
  | 15 => ⟨S8x128x128, .f32⟩
  | 16 => ⟨S8x128x128, .f32⟩
  | 17 => ⟨S8192x512, .f32⟩
  | 18 => ⟨S_, .f32⟩
  | 19 => ⟨S512, .f32⟩
  | 20 => ⟨S1x512, .f32⟩
  | 21 => ⟨S8192x512, .f32⟩
  | 22 => ⟨S_, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S_, .f32⟩
  | 29 => ⟨S8192, .f32⟩
  | 30 => ⟨S8192x1, .f32⟩
  | 31 => ⟨S8192x512, .f32⟩
  | 32 => ⟨S8192x512, .f32⟩
  | 33 => ⟨S8192x1, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x512, .f32⟩
  | 44 => ⟨S8192x512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S_, .f32⟩
  | 79 => ⟨S8192x512, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S8192x512, .f32⟩
  | 93 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_17 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_20 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_22 : Ref sig .tc := ⟨.hbm, 111, rfl⟩
abbrev main_v82_1 : Ref sig .tc := ⟨.hbm, 112, rfl⟩
abbrev main_call0_v1 : Ref sig .tc := ⟨.hbm, 113, rfl⟩
abbrev main_v82_0 : Ref sig .tc := ⟨.hbm, 114, rfl⟩
abbrev main_call0_cst : Ref sig .tc := ⟨.hbm, 115, rfl⟩
abbrev main_v82_2 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_cst_24 : Ref sig .tc := ⟨.hbm, 132, rfl⟩
abbrev main_v97 : Ref sig .tc := ⟨.hbm, 133, rfl⟩
abbrev main_v98 : Ref sig .tc := ⟨.hbm, 134, rfl⟩
abbrev main_cst_25 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call1_cst : Ref sig .tc := ⟨.hbm, 142, rfl⟩
abbrev main_call1_v0 : Ref sig .tc := ⟨.hbm, 143, rfl⟩
abbrev main_v105 : Ref sig .tc := ⟨.hbm, 144, rfl⟩
abbrev main_v106 : Ref sig .tc := ⟨.hbm, 145, rfl⟩
abbrev main_cst_26 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_27 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_28 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_29 : Ref sig .tc := ⟨.hbm, 163, rfl⟩
abbrev main_v121 : Ref sig .tc := ⟨.hbm, 164, rfl⟩
abbrev main_v122 : Ref sig .tc := ⟨.hbm, 165, rfl⟩
abbrev main_cst_30 : Ref sig .tc := ⟨.hbm, 166, rfl⟩
abbrev main_v123 : Ref sig .tc := ⟨.hbm, 167, rfl⟩
abbrev main_v124 : Ref sig .tc := ⟨.hbm, 168, rfl⟩
abbrev main_cst_31 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_32 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_33 : Ref sig .tc := ⟨.hbm, 179, rfl⟩
abbrev main_v133 : Ref sig .tc := ⟨.hbm, 180, rfl⟩
abbrev main_v134 : Ref sig .tc := ⟨.hbm, 181, rfl⟩
abbrev main_cst_34 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_35 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_36 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_37 : Ref sig .tc := ⟨.hbm, 196, rfl⟩
abbrev main_v146 : Ref sig .tc := ⟨.hbm, 197, rfl⟩
abbrev main_v147 : Ref sig .tc := ⟨.hbm, 198, rfl⟩
abbrev main_cst_38 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_39 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_40 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_41 : Ref sig .tc := ⟨.hbm, 214, rfl⟩
abbrev main_v160 : Ref sig .tc := ⟨.hbm, 215, rfl⟩
abbrev main_v161 : Ref sig .tc := ⟨.hbm, 216, rfl⟩
abbrev main_cst_42 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x3080 : Shape := ⟨2, ![1024, 3080]⟩
abbrev S8192x3080 : Shape := ⟨2, ![8192, 3080]⟩
abbrev S_ : Shape := ⟨0, ![]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x128 : Shape := ⟨2, ![1024, 128]⟩
abbrev S512x128 : Shape := ⟨2, ![512, 128]⟩
abbrev S1024 : Shape := ⟨1, ![1024]⟩

abbrev nBuf : Space → Nat
  | .hbm => 22
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3080, .f32⟩
  | .hbm, ⟨3, _⟩ => ⟨S8192x1024, .f32⟩
  | .hbm, ⟨4, _⟩ => ⟨S8192x3080, .f32⟩
  | .hbm, ⟨5, _⟩ => ⟨S1024x3080, .bf16⟩
  | .hbm, ⟨6, _⟩ => ⟨S_, .i32⟩
  | .hbm, ⟨7, _⟩ => ⟨S_, .bf16⟩
  | .hbm, ⟨8, _⟩ => ⟨S1024x3200, .bf16⟩
  | .hbm, ⟨9, _⟩ => ⟨S8192x3080, .bf16⟩
  | .hbm, ⟨10, _⟩ => ⟨S_, .i32⟩
  | .hbm, ⟨11, _⟩ => ⟨S_, .bf16⟩
  | .hbm, ⟨12, _⟩ => ⟨S8192x3200, .bf16⟩
  | .hbm, ⟨13, _⟩ => ⟨S8192x3200, .f32⟩
  | .hbm, ⟨14, _⟩ => ⟨S8192x1024, .bf16⟩
  | .hbm, ⟨15, _⟩ => ⟨S1024x3200, .f32⟩
  | .hbm, ⟨16, _⟩ => ⟨S1024x3080, .f32⟩
  | .hbm, ⟨17, _⟩ => ⟨S8192x1024, .f32⟩
  | .hbm, ⟨18, _⟩ => ⟨S1x1024, .f32⟩
  | .hbm, ⟨19, _⟩ => ⟨S8192x1024, .bf16⟩
  | .hbm, ⟨20, _⟩ => ⟨S8192x3080, .f32⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x3200, .bf16⟩
  | .local _ .vmem, ⟨11, _⟩ => ⟨S512x3200, .bf16⟩
  | .local _ .vmem, ⟨12, _⟩ => ⟨S1024x3200, .f32⟩
  | .local _ .vmem, ⟨13, _⟩ => ⟨S512x3200, .bf16⟩
  | .local _ .vmem, ⟨14, _⟩ => ⟨S512x3200, .bf16⟩
  | .local _ .vmem, ⟨15, _⟩ => ⟨S1024x3200, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x3200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x3200 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x3200 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== Reference3Ideal.lean ====
abbrev S8192x1024 : Shape := ⟨2, ![8192, 1024]⟩
abbrev S1x1024 : Shape := ⟨2, ![1, 1024]⟩
abbrev S1024x3080 : Shape := ⟨2, ![1024, 3080]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S3080x1024 : Shape := ⟨2, ![3080, 1024]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3080, .f32⟩
  | .hbm, ⟨3, _⟩ => ⟨S8192x1024, .f32⟩
  | .hbm, ⟨4, _⟩ => ⟨S8192x3080, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x3080, .f32⟩
  | .hbm, ⟨25, _⟩ => ⟨S3080x1024, .f32⟩
  | .hbm, ⟨26, _⟩ => ⟨S1024x3080, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩
abbrev S256x1024 : Shape := ⟨2, ![256, 1024]⟩
abbrev S256x2816 : Shape := ⟨2, ![256, 2816]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1024 : Shape := ⟨1, ![1024]⟩
abbrev S512x1408 : Shape := ⟨2, ![512, 1408]⟩
abbrev S1408x1024 : Shape := ⟨2, ![1408, 1024]⟩
abbrev S384x1024 : Shape := ⟨2, ![384, 1024]⟩
abbrev S512x384 : Shape := ⟨2, ![512, 384]⟩

abbrev nBuf : Space → Nat
  | .hbm => 26
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x1024, .bf16⟩
  | .hbm, ⟨19, _⟩ => ⟨S1x1024, .f32⟩
  | .hbm, ⟨20, _⟩ => ⟨S2816x1024, .f32⟩
  | .hbm, ⟨21, _⟩ => ⟨S2816x1024, .f32⟩
  | .hbm, ⟨22, _⟩ => ⟨S2816x1024, .f32⟩
  | .hbm, ⟨23, _⟩ => ⟨S8192x1024, .f32⟩
  | .hbm, ⟨24, _⟩ => ⟨S1024x2816, .f32⟩
  | .hbm, ⟨25, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S2816x1024, .bf16⟩
  | .local _ .vmem, ⟨23, _⟩ => ⟨S2816x1024, .bf16⟩
  | .local _ .vmem, ⟨24, _⟩ => ⟨S2816x1024, .bf16⟩
  | .local _ .vmem, ⟨25, _⟩ => ⟨S256x1024, .f32⟩
  | .local _ .vmem, ⟨26, _⟩ => ⟨S256x1024, .f32⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S256x1024, .f32⟩
  | .local _ .vmem, ⟨35, _⟩ => ⟨S512x1408, .bf16⟩
  | .local _ .vmem, ⟨36, _⟩ => ⟨S512x1408, .bf16⟩
  | .local _ .vmem, ⟨37, _⟩ => ⟨S512x1408, .bf16⟩
  | .local _ .vmem, ⟨38, _⟩ => ⟨S512x1408, .bf16⟩
  | .local _ .vmem, ⟨39, _⟩ => ⟨S512x1024, .bf16⟩
  | .local _ .vmem, ⟨40, _⟩ => ⟨S512x1024, .bf16⟩
  | .local _ .vmem, ⟨41, _⟩ => ⟨S1408x1024, .f32⟩
  | .local _ .vmem, ⟨42, _⟩ => ⟨S1408x1024, .f32⟩
  | .local _ .vmem, ⟨43, _⟩ => ⟨S1408x1024, .f32⟩
  | .local _ .vmem, ⟨44, _⟩ => ⟨S1408x1024, .f32⟩
  | .local _ .vmem, ⟨45, _⟩ => ⟨S512x1408, .bf16⟩
  | .local _ .vmem, ⟨46, _⟩ => ⟨S512x1408, .bf16⟩
  | .local _ .vmem, ⟨47, _⟩ => ⟨S512x1024, .bf16⟩
  | .local _ .vmem, ⟨48, _⟩ => ⟨S512x1024, .bf16⟩
  | .local _ .vmem, ⟨49, _⟩ => ⟨S1408x1024, .f32⟩
  | .local _ .vmem, ⟨50, _⟩ => ⟨S1408x1024, .f32⟩
  | .local _ .vmem, ⟨51, _⟩ => ⟨S512x1024, .f32⟩
  | .local _ .vmem, ⟨52, _⟩ => ⟨S512x1024, .f32⟩
  | .local _ .vmem, ⟨53, _⟩ => ⟨S512x2816, .bf16⟩
  | .local _ .vmem, ⟨54, _⟩ => ⟨S512x2816, .bf16⟩
  | .local _ .vmem, ⟨55, _⟩ => ⟨S2816x1024, .bf16⟩
  | .local _ .vmem, ⟨56, _⟩ => ⟨S512x1024, .f32⟩
  | .local _ .vmem, ⟨57, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_scratch0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem3_1 : DmaSem sig := 56

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1408x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1408x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1408x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x2816 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2816x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== Proof.KernelRun.lean ====
/- The whole run of the kernel's program: every result buffer ends at what the last boundary holds there, and the
   arguments end unchanged. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run ends with each result at the last boundary's contents. -/
theorem run_values : θ_run defs (onTc (τ := τ) (main (F := F))) ⟨m, fun _ => 0, ρ⟩ (fun r => ∀ c : Dev nD,
      r.2.mem ((c.tc : Thread nD τ).loc main_v5_0) = W5 m ρ c (Proc.devRef .tc main_v5_0)
      ∧ r.2.mem ((c.tc : Thread nD τ).loc main_v6_0) = W5 m ρ c (Proc.devRef .tc main_v6_0)
      ∧ r.2.mem ((c.tc : Thread nD τ).loc main_v6_4) = W5 m ρ c (Proc.devRef .tc main_v6_4)
      ∧ r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_v7_2) = W5 m ρ c (Proc.devRef .tc main_v7_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v5_0 (by decide)),
       h c _ (mem_uc main_v6_0 (by decide)),
       h c _ (mem_uc main_v6_4 (by decide)),
       h c _ (mem_uc main_v8 (by decide)),
       h c _ (mem_uc main_v9 (by decide)),
       h c _ (mem_uc main_v7_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Val
-- ==== Proof.RealArrays.lean ====
/- Arrays of real numbers at the ideal values.  `Rd2 v f` says that the rank-2 array `v` of extended reals reads, at
   row `r` and column `c`, the real number `f r c`; `Rd1 v f` is the same for a rank-1 array, `Rd0 x a` for one number.
   Every operation of the programs has one lemma: where its operands are real, so is its result, and at the formula
   the operation's name says. -/
module

public import Idealize.ShloMosaic.Lib.Pipeline.Value
public import Idealize.ShloMosaic.Lib.VecWindow
public import Idealize.ShloMosaic.Lib.Pipeline.ValueKit.Geometry
public import Idealize.ShloMosaic.Lib.ValueIdx
public import Idealize.ShloMosaic.PureOps.Ideal.Laws

@[expose] public section

noncomputable section

namespace Cert.RealArrays

open Idealize.ShloMosaic Idealize.ShloMosaic.ValueIdx

/-- The rank-2 shape of `a` rows and `b` columns. -/
abbrev M2 (a b : ℕ) : Shape := ⟨2, ![a, b]⟩
/-- The rank-1 shape of `a` entries. -/
abbrev M1 (a : ℕ) : Shape := ⟨1, ![a]⟩

/-- The extended real `x` is the real number `a`. -/
def Rd0 (x : EReal) (a : ℝ) : Prop := x = (a : EReal)
/-- The vector `v` reads the real number `f c` at `c`. -/
def Rd1 {a : ℕ} (v : (M1 a).Idx → EReal) (f : ℕ → ℝ) : Prop := ∀ i, v i = ((f (i 0).val : ℝ) : EReal)
/-- The array `v` reads the real number `f r c` at row `r`, column `c`. -/
def Rd2 {a b : ℕ} (v : (M2 a b).Idx → EReal) (f : ℕ → ℕ → ℝ) : Prop :=
  ∀ i, v i = ((f (i 0).val (i 1).val : ℝ) : EReal)

theorem coe_congr₂ (G : ℕ → ℕ → ℝ) {a b a' b' : ℕ} (ha : a = a') (hb : b = b') :
    ((G a b : ℝ) : EReal) = ((G a' b' : ℝ) : EReal) := by rw [ha, hb]

theorem coe_sum {n : ℕ} (f : ℕ → ℝ) : ∑ k : Fin n, ((f k.val : ℝ) : EReal) = ((∑ k ∈ Finset.range n, f k : ℝ) : EReal) := by
  rw [← Fin.sum_univ_eq_sum_range]
  exact (map_sum (⟨⟨fun x : ℝ => (x : EReal), EReal.coe_zero⟩, fun x y => EReal.coe_add x y⟩ : ℝ →+ EReal) (fun k : Fin n => f k.val) Finset.univ).symm

theorem ideal_div_coe (x y : ℝ) (h : y ≠ 0) : Ideal.div (x : EReal) (y : EReal) = ((x / y : ℝ) : EReal) := by
  rw [Ideal.div_coe h, ← EReal.coe_mul]; congr 1; field_simp

theorem ideal_rsqrt_coe (x : ℝ) (h : 0 < x) : Ideal.rsqrt (x : EReal) = (((Real.sqrt x)⁻¹ : ℝ) : EReal) := by
  rw [Ideal.rsqrt_coe, if_neg (not_lt.mpr h.le), if_neg h.ne']

/-- The logistic function on the reals. -/
def sig (x : ℝ) : ℝ := (1 + Real.exp (-x))⁻¹

theorem sig_den_pos (x : ℝ) : 0 < 1 + Real.exp (-x) := by positivity

/-! ## Literals -/

theorem lit_one : Rd0 (Ideal.ofBits .f32 0x3F800000#32) 1 := by
  unfold Rd0; simp [Ideal.ofBits, Ideal.ieee, -EReal.coe_mul]; norm_num
theorem lit_half : Rd0 (Ideal.ofBits .f32 0x3F000000#32) (1 / 2) := by
  unfold Rd0; simp [Ideal.ofBits, Ideal.ieee, -EReal.coe_mul]; norm_num
theorem lit_neg_half : Rd0 (Ideal.ofBits .f32 0xBF000000#32) (-(1 / 2)) := by
  unfold Rd0; simp [Ideal.ofBits, Ideal.ieee, -EReal.coe_mul]; norm_num
theorem lit_two : Rd0 (Ideal.ofBits .f32 0x40000000#32) 2 := by
  unfold Rd0; simp [Ideal.ofBits, Ideal.ieee, -EReal.coe_mul]; norm_num
theorem lit_1024 : Rd0 (Ideal.ofBits .f32 0x44800000#32) 1024 := by
  unfold Rd0; simp [Ideal.ofBits, Ideal.ieee, -EReal.coe_mul]; norm_num
theorem lit_zero : Rd0 (Ideal.ofBits .f32 0x00000000#32) 0 := by
  unfold Rd0; simp [Ideal.ofBits, Ideal.ieee, -EReal.coe_mul]
/-- The small number the normalisations add. -/
def eps : ℝ := (2 ^ 23 + 407485 : ℕ) * (2 : ℝ) ^ (-43 : ℤ)
theorem eps_pos : 0 < eps := by unfold eps; positivity
theorem lit_eps : Rd0 (Ideal.ofBits .f32 0x358637BD#32) eps := by
  unfold Rd0 eps; simp [Ideal.ofBits, Ideal.ieee, -EReal.coe_mul]

/-! ## Elementwise operations of rank-2 arrays -/

section Elementwise
variable {a b : ℕ} {φ : FTy} {v w : FVec Ideal (M2 a b) φ} {f g : ℕ → ℕ → ℝ}

theorem Rd2.congr {v : (M2 a b).Idx → EReal} (hv : Rd2 v f) (h : ∀ r c, r < a → c < b → f r c = g r c) : Rd2 v g :=
  fun i => (hv i).trans (by rw [h _ _ (idx2_lt0 i) (idx2_lt1 i)])
theorem Rd2.mul (hv : Rd2 v f) (hw : Rd2 w g) : Rd2 (mulf v w) (fun r c => f r c * g r c) :=
  fun i => by rw [mulf_apply, hv i, hw i, ← EReal.coe_mul]
theorem Rd2.add (hv : Rd2 v f) (hw : Rd2 w g) : Rd2 (addf v w) (fun r c => f r c + g r c) :=
  fun i => by rw [addf_apply, hv i, hw i, ← EReal.coe_add]
theorem Rd2.sub (hv : Rd2 v f) (hw : Rd2 w g) : Rd2 (subf v w) (fun r c => f r c - g r c) :=
  fun i => by rw [subf_apply, hv i, hw i, ← EReal.coe_sub]
theorem Rd2.neg (hv : Rd2 v f) : Rd2 (negf v) (fun r c => -f r c) :=
  fun i => by rw [negf_apply, hv i, ← EReal.coe_neg]
theorem Rd2.hostNegf (hv : Rd2 v f) : Rd2 (Host.negf v) (fun r c => -f r c) :=
  fun i => by show FloatOps.hostNegf (v i) = _; rw [Ideal.hostNegf_def, Ideal.negf_def, hv i, ← EReal.coe_neg]
theorem Rd2.div (hv : Rd2 v f) (hw : Rd2 w g) (h : ∀ r c, r < a → c < b → g r c ≠ 0) : Rd2 (divf v w) (fun r c => f r c / g r c) :=
  fun i => by rw [divf_apply, hv i, hw i, ideal_div_coe _ _ (h _ _ (idx2_lt0 i) (idx2_lt1 i))]
theorem Rd2.hostDivf (hv : Rd2 v f) (hw : Rd2 w g) (h : ∀ r c, r < a → c < b → g r c ≠ 0) : Rd2 (Host.divf v w) (fun r c => f r c / g r c) :=
  fun i => by show FloatOps.hostDivf (v i) (w i) = _; rw [Ideal.hostDivf_def, hv i, hw i, ideal_div_coe _ _ (h _ _ (idx2_lt0 i) (idx2_lt1 i))]
theorem Rd2.rsq (hv : Rd2 v f) (h : ∀ r c, r < a → c < b → 0 < f r c) : Rd2 (rsqrt v) (fun r c => (Real.sqrt (f r c))⁻¹) :=
  fun i => by show FloatOps.rsqrt (v i) = _; rw [Ideal.rsqrt_def, hv i, ideal_rsqrt_coe _ (h _ _ (idx2_lt0 i) (idx2_lt1 i))]
theorem Rd2.hostRsqrt (hv : Rd2 v f) (h : ∀ r c, r < a → c < b → 0 < f r c) : Rd2 (Host.rsqrt v) (fun r c => (Real.sqrt (f r c))⁻¹) :=
  fun i => by show FloatOps.hostUnary .rsqrt (v i) = _; rw [Ideal.hostUnary_rsqrt_def, hv i, ideal_rsqrt_coe _ (h _ _ (idx2_lt0 i) (idx2_lt1 i))]
theorem Rd2.lgst (hv : Rd2 v f) : Rd2 (logistic v) (fun r c => sig (f r c)) :=
  fun i => by show FloatOps.logistic (v i) = _; rw [Ideal.logistic_def, hv i, Ideal.logistic_coe]; rfl
theorem Rd2.ex (hv : Rd2 v f) : Rd2 (exp v) (fun r c => Real.exp (f r c)) :=
  fun i => by show FloatOps.exp (v i) = _; rw [Ideal.exp_def, hv i, Ideal.exp_coe]
theorem Rd2.hostExp (hv : Rd2 v f) : Rd2 (Host.exp v) (fun r c => Real.exp (f r c)) :=
  fun i => by show FloatOps.hostUnary .exp (v i) = _; rw [Ideal.hostUnary_exp_def, hv i, Ideal.exp_coe]
theorem Rd2.trunc {ψ : FTy} (hv : Rd2 v f) (h : ψ.bits < φ.bits) : Rd2 (truncf ψ v h : FVec Ideal (M2 a b) ψ) f := hv
theorem Rd2.ext {ψ : FTy} (hv : Rd2 v f) (h : φ.bits < ψ.bits) : Rd2 (extf ψ v h : FVec Ideal (M2 a b) ψ) f := hv

theorem Rd2.bcast {x : EReal} {y : ℝ} (h : Rd0 x y) : Rd2 (broadcast (M2 a b) x) (fun _ _ => y) := fun _ => h
theorem Rd2.const {bt : BitVec φ.bits} {y : ℝ} (h : Rd0 (Ideal.ofBits φ bt) y) :
    Rd2 (constant (F := Ideal) (M2 a b) φ bt) (fun _ _ => y) := fun _ => h

theorem Rd2.shapeCast_self {v : (M2 a b).Idx → EReal} (hv : Rd2 v f) (h : (M2 a b).ShapeCasts (M2 a b)) : Rd2 (shapeCast (M2 a b) v h) f := by
  rw [Idealize.ShloMosaic.shapeCast_self]; exact hv
end Elementwise

/-! ## Layout operations -/

theorem Rd1.shapeCast_col {a : ℕ} {v : (M1 a).Idx → EReal} {f : ℕ → ℝ} (hv : Rd1 v f) (h : (M1 a).ShapeCasts (M2 a 1)) :
    Rd2 (shapeCast (M2 a 1) v h) (fun r _ => f r) := fun i => by
  have h1 : (i 1).val < 1 := idx2_lt1 i
  rw [shapeCast_apply v h i (ix1 ⟨(i 0).val, idx2_lt0 i⟩) (by
    rw [Shape.rowMajor_val_one, Shape.rowMajor_val_two]
    show (i 0).val = (i 0).val * 1 + (i 1).val
    omega), hv]
  rfl
theorem Rd1.shapeCast_row {a : ℕ} {v : (M1 a).Idx → EReal} {f : ℕ → ℝ} (hv : Rd1 v f) (h : (M1 a).ShapeCasts (M2 1 a)) :
    Rd2 (shapeCast (M2 1 a) v h) (fun _ c => f c) := fun i => by
  have h1 : (i 0).val < 1 := idx2_lt0 i
  rw [shapeCast_apply v h i (ix1 ⟨(i 1).val, idx2_lt1 i⟩) (by
    rw [Shape.rowMajor_val_one, Shape.rowMajor_val_two]
    show (i 1).val = (i 0).val * a + (i 1).val
    have : (i 0).val = 0 := by omega
    rw [this]; omega), hv]
  rfl
theorem Rd2.broadcastTo_col {a b : ℕ} {v : (M2 a 1).Idx → EReal} {f : ℕ → ℕ → ℝ} (hv : Rd2 v f) (h : (M2 a 1).Broadcasts (M2 a b)) :
    Rd2 (broadcastTo (M2 a b) v h) (fun r _ => f r 0) := fun i => by
  rw [broadcastTo_apply v h i (ix2 ⟨(i 0).val, idx2_lt0 i⟩ ⟨0, Nat.one_pos⟩) (fun x => match x with
    | ⟨0, _⟩ => by
      show (i 0).val = if a = 1 then 0 else (i 0).val
      have := idx2_lt0 i
      split <;> omega
    | ⟨1, _⟩ => by show 0 = if 1 = 1 then 0 else _; rfl), hv]
  rfl
theorem Rd2.broadcastTo_row {a b : ℕ} {v : (M2 1 b).Idx → EReal} {f : ℕ → ℕ → ℝ} (hv : Rd2 v f) (h : (M2 1 b).Broadcasts (M2 a b)) :
    Rd2 (broadcastTo (M2 a b) v h) (fun _ c => f 0 c) := fun i => by
  rw [broadcastTo_apply v h i (ix2 ⟨0, Nat.one_pos⟩ ⟨(i 1).val, idx2_lt1 i⟩) (fun x => match x with
    | ⟨0, _⟩ => by show 0 = if 1 = 1 then 0 else _; rfl
    | ⟨1, _⟩ => by
      show (i 1).val = if b = 1 then 0 else (i 1).val
      have := idx2_lt1 i
      split <;> omega), hv]
  rfl
theorem Rd1.broadcastInDim_col {a b : ℕ} {v : (M1 a).Idx → EReal} {f : ℕ → ℝ} (hv : Rd1 v f) (h : (M1 a).BroadcastsInDim (M2 a b) ![0]) :
    Rd2 (broadcastInDim (M2 a b) ![0] h v) (fun r _ => f r) := fun i => by
  rw [broadcastInDim_apply ![0] h v i (ix1 ⟨(i 0).val, idx2_lt0 i⟩) (fun x => match x with
    | ⟨0, _⟩ => by
      show (i 0).val = if a = 1 then 0 else (i 0).val
      have := idx2_lt0 i
      split <;> omega), hv]
  rfl
theorem Rd1.broadcastInDim_row {a b : ℕ} {v : (M1 b).Idx → EReal} {f : ℕ → ℝ} (hv : Rd1 v f) (h : (M1 b).BroadcastsInDim (M2 a b) ![1]) :
    Rd2 (broadcastInDim (M2 a b) ![1] h v) (fun _ c => f c) := fun i => by
  rw [broadcastInDim_apply ![1] h v i (ix1 ⟨(i 1).val, idx2_lt1 i⟩) (fun x => match x with
    | ⟨0, _⟩ => by
      show (i 1).val = if b = 1 then 0 else (i 1).val
      have := idx2_lt1 i
      split <;> omega), hv]
  rfl
theorem Rd2.broadcastInDim_col {a b : ℕ} {v : (M2 a 1).Idx → EReal} {f : ℕ → ℕ → ℝ} (hv : Rd2 v f) (h : (M2 a 1).BroadcastsInDim (M2 a b) ![0, 1]) :
    Rd2 (broadcastInDim (M2 a b) ![0, 1] h v) (fun r _ => f r 0) := fun i => by
  rw [broadcastInDim_apply ![0, 1] h v i (ix2 ⟨(i 0).val, idx2_lt0 i⟩ ⟨0, Nat.one_pos⟩) (fun x => match x with
    | ⟨0, _⟩ => by
      show (i 0).val = if a = 1 then 0 else (i 0).val
      have := idx2_lt0 i
      split <;> omega
    | ⟨1, _⟩ => by show 0 = if 1 = 1 then 0 else _; rfl), hv]
  rfl
theorem Rd2.broadcastInDim_row {a b : ℕ} {v : (M2 1 b).Idx → EReal} {f : ℕ → ℕ → ℝ} (hv : Rd2 v f) (h : (M2 1 b).BroadcastsInDim (M2 a b) ![0, 1]) :
    Rd2 (broadcastInDim (M2 a b) ![0, 1] h v) (fun _ c => f 0 c) := fun i => by
  rw [broadcastInDim_apply ![0, 1] h v i (ix2 ⟨0, Nat.one_pos⟩ ⟨(i 1).val, idx2_lt1 i⟩) (fun x => match x with
    | ⟨0, _⟩ => by show 0 = if 1 = 1 then 0 else _; rfl
    | ⟨1, _⟩ => by
      show (i 1).val = if b = 1 then 0 else (i 1).val
      have := idx2_lt1 i
      split <;> omega), hv]
  rfl
/-- A scalar literal spread over an array. -/
theorem Rd2.splat {a b : ℕ} {φ : FTy} {bt : BitVec φ.bits} {y : ℝ} (hy : Rd0 (Ideal.ofBits φ bt) y) (h : (⟨0, ![]⟩ : Shape).BroadcastsInDim (M2 a b) ![]) :
    Rd2 (broadcastInDim (M2 a b) ![] h (constant (F := Ideal) ⟨0, ![]⟩ φ bt)) (fun _ _ => y) := fun i => by
  rw [broadcastInDim_apply ![] h _ i ix0 (fun x => x.elim0)]; exact hy

theorem Rd2.transp {a b : ℕ} {v : (M2 a b).Idx → EReal} {f : ℕ → ℕ → ℝ} (hv : Rd2 v f) (h : (M2 a b).Transposes [1, 0] (M2 b a)) :
    Rd2 (transpose (M2 b a) [1, 0] v h) (fun r c => f c r) := fun i => by
  rw [transpose_apply [1, 0] v h i (ix2 ⟨(i 1).val, idx2_lt1 i⟩ ⟨(i 0).val, idx2_lt0 i⟩) (fun x => match x with
    | ⟨0, _⟩ => rfl
    | ⟨1, _⟩ => rfl), hv]
  rfl

/-- A load of rows `p …` and columns `q …`, read at an index. -/
theorem ld_apply {a b : ℕ} {Val : EltTy → Type} {e : EltTy} (v : (M2 a b).Idx → Val e) {p q n m : ℕ}
    (inb : ∀ x, (![p, q] : Fin 2 → ℕ) x + (M2 n m).size x ≤ (M2 a b).size x) (i : (M2 n m).Idx) :
    View.ld v (Rect.unit (s := M2 a b) ![p, q] (M2 n m).size inb) i
      = v (ix2 ⟨p + (i 0).val, (Nat.add_lt_add_left (idx2_lt0 i) p).trans_le (inb 0)⟩ ⟨q + (i 1).val, (Nat.add_lt_add_left (idx2_lt1 i) q).trans_le (inb 1)⟩) := by
  show v _ = v _
  refine congrArg v (funext fun x => Fin.ext ?_)
  match x with
  | ⟨0, _⟩ => show p + 1 * (i 0).val = p + (i 0).val; omega
  | ⟨1, _⟩ => show q + 1 * (i 1).val = q + (i 1).val; omega
/-- So a load of a real array is real. -/
theorem Rd2.ldf {a b : ℕ} {v : Vec Ideal (M2 a b) .f32} {f : ℕ → ℕ → ℝ} (hv : Rd2 v f) {p q n m : ℕ}
    (inb : ∀ x, (![p, q] : Fin 2 → ℕ) x + (M2 n m).size x ≤ (M2 a b).size x) :
    Rd2 (a := n) (b := m) (View.ld (Val := Elt Ideal) (e' := .f32) v (Rect.unit (s := M2 a b) ![p, q] (M2 n m).size inb)) (fun r c => f (p + r) (q + c)) :=
  fun i => (ld_apply (Val := Elt Ideal) (e := .f32) v inb i).trans (hv _)
theorem Rd2.ldb {a b : ℕ} {v : Vec Ideal (M2 a b) .bf16} {f : ℕ → ℕ → ℝ} (hv : Rd2 v f) {p q n m : ℕ}
    (inb : ∀ x, (![p, q] : Fin 2 → ℕ) x + (M2 n m).size x ≤ (M2 a b).size x) :
    Rd2 (a := n) (b := m) (View.ld (Val := Elt Ideal) (e' := .bf16) v (Rect.unit (s := M2 a b) ![p, q] (M2 n m).size inb)) (fun r c => f (p + r) (q + c)) :=
  fun i => (ld_apply (Val := Elt Ideal) (e := .bf16) v inb i).trans (hv _)

/-! ## Sums -/

theorem Rd2.sum_cols {a b : ℕ} {φ : FTy} {v : FVec Ideal (M2 a b) φ} {f : ℕ → ℕ → ℝ} (hv : Rd2 v f) {acc : BitVec φ.bits} (h : (M2 a b).Reduces [1] (M1 a))
    (hφ : FKind.Formats φ) (hacc : acc = FKind.add.neutral φ hφ) :
    Rd1 (multiReduction .add [1] (M1 a) v acc h hφ hacc) (fun r => ∑ c ∈ Finset.range b, f r c) := fun i => by
  rw [Ideal.multiReduction_add_single, ← coe_sum]
  refine Finset.sum_congr rfl fun k _ => ?_
  rw [hv]; simp only [Shape.Reduces.lift_val]; rfl
theorem Rd2.sum_rows {a b : ℕ} {φ : FTy} {v : FVec Ideal (M2 a b) φ} {f : ℕ → ℕ → ℝ} (hv : Rd2 v f) {acc : BitVec φ.bits} (h : (M2 a b).Reduces [0] (M1 b))
    (hφ : FKind.Formats φ) (hacc : acc = FKind.add.neutral φ hφ) :
    Rd1 (multiReduction .add [0] (M1 b) v acc h hφ hacc) (fun c => ∑ r ∈ Finset.range a, f r c) := fun i => by
  rw [Ideal.multiReduction_add_single, ← coe_sum]
  refine Finset.sum_congr rfl fun k _ => ?_
  rw [hv]; simp only [Shape.Reduces.lift_val]; rfl

theorem Rd2.hostSum_cols {a b : ℕ} {φ : FTy} {v : FVec Ideal (M2 a b) φ} {f : ℕ → ℕ → ℝ} (hv : Rd2 v f)
    {z : FVec Ideal ⟨0, ![]⟩ φ} (hz : ∀ i, z i = 0) (h' : (M2 a b).ReducesTo [1] (M1 a)) (h : (M2 a b).Reduces [1] (M1 a)) (h0 : 0 < (⟨0, ![]⟩ : Shape).numel) :
    Rd1 (Host.reduceAdd v z h' h0) (fun r => ∑ c ∈ Finset.range b, f r c) := fun i => by
  simp only [Host.reduceAdd, Ideal.hostReduceAdd_def]
  rw [Ideal.hostReduceAdd_single h' h, hz, zero_add, ← coe_sum]
  refine Finset.sum_congr rfl fun k _ => ?_
  rw [hv]; simp only [Shape.Reduces.lift_val]; rfl
theorem Rd2.hostSum_rows {a b : ℕ} {φ : FTy} {v : FVec Ideal (M2 a b) φ} {f : ℕ → ℕ → ℝ} (hv : Rd2 v f)
    {z : FVec Ideal ⟨0, ![]⟩ φ} (hz : ∀ i, z i = 0) (h' : (M2 a b).ReducesTo [0] (M1 b)) (h : (M2 a b).Reduces [0] (M1 b)) (h0 : 0 < (⟨0, ![]⟩ : Shape).numel) :
    Rd1 (Host.reduceAdd v z h' h0) (fun c => ∑ r ∈ Finset.range a, f r c) := fun i => by
  simp only [Host.reduceAdd, Ideal.hostReduceAdd_def]
  rw [Ideal.hostReduceAdd_single h' h, hz, zero_add, ← coe_sum]
  refine Finset.sum_congr rfl fun k _ => ?_
  rw [hv]; simp only [Shape.Reduces.lift_val]; rfl

/-! ## Products -/

section Products
variable {m n k : ℕ}

/-- The sum a product takes, rows by columns. -/
theorem contr_nn {v : (M2 m k).Idx → EReal} {w : (M2 k n).Idx → EReal} {f g : ℕ → ℕ → ℝ}
    (wf : DotDims.WF (M2 m k) (M2 k n) (M2 m n) [1] [0] [0] [1] [] [])
    (hv : Rd2 v f) (hw : Rd2 w g) (j : (M2 m n).Idx) :
    (∑ q : (DotDims.mk [1] [0] [0] [1] [] [] wf).contr.Idx, v ((DotDims.mk [1] [0] [0] [1] [] [] wf).lhsIdx j q) * w ((DotDims.mk [1] [0] [0] [1] [] [] wf).rhsIdx j q))
      = ((∑ x ∈ Finset.range k, f (j 0).val x * g x (j 1).val : ℝ) : EReal) := by
  rw [← coe_sum, ← Equiv.sum_comp (contrEquiv1 (DotDims.mk [1] [0] [0] [1] [] [] wf) k rfl rfl).symm]
  refine Finset.sum_congr rfl fun x _ => ?_
  rw [hv, hw, EReal.coe_mul]; rfl
theorem contr_nt {v : (M2 m k).Idx → EReal} {w : (M2 n k).Idx → EReal} {f g : ℕ → ℕ → ℝ}
    (wf : DotDims.WF (M2 m k) (M2 n k) (M2 m n) [1] [1] [0] [0] [] [])
    (hv : Rd2 v f) (hw : Rd2 w g) (j : (M2 m n).Idx) :
    (∑ q : (DotDims.mk [1] [1] [0] [0] [] [] wf).contr.Idx, v ((DotDims.mk [1] [1] [0] [0] [] [] wf).lhsIdx j q) * w ((DotDims.mk [1] [1] [0] [0] [] [] wf).rhsIdx j q))
      = ((∑ x ∈ Finset.range k, f (j 0).val x * g (j 1).val x : ℝ) : EReal) := by
  rw [← coe_sum, ← Equiv.sum_comp (contrEquiv1 (DotDims.mk [1] [1] [0] [0] [] [] wf) k rfl rfl).symm]
  refine Finset.sum_congr rfl fun x _ => ?_
  rw [hv, hw, EReal.coe_mul]; rfl
theorem contr_tn {v : (M2 k m).Idx → EReal} {w : (M2 k n).Idx → EReal} {f g : ℕ → ℕ → ℝ}
    (wf : DotDims.WF (M2 k m) (M2 k n) (M2 m n) [0] [0] [1] [1] [] [])
    (hv : Rd2 v f) (hw : Rd2 w g) (j : (M2 m n).Idx) :
    (∑ q : (DotDims.mk [0] [0] [1] [1] [] [] wf).contr.Idx, v ((DotDims.mk [0] [0] [1] [1] [] [] wf).lhsIdx j q) * w ((DotDims.mk [0] [0] [1] [1] [] [] wf).rhsIdx j q))
      = ((∑ x ∈ Finset.range k, f x (j 0).val * g x (j 1).val : ℝ) : EReal) := by
  rw [← coe_sum, ← Equiv.sum_comp (contrEquiv1 (DotDims.mk [0] [0] [1] [1] [] [] wf) k rfl rfl).symm]
  refine Finset.sum_congr rfl fun x _ => ?_
  rw [hv, hw, EReal.coe_mul]; rfl

variable {φ₁ φ₂ : FTy} {f g : ℕ → ℕ → ℝ}

/-- A product of the matrix unit into a zero block, rows by columns. -/
theorem Rd2.matmul_nn {v : FVec Ideal (M2 m k) φ₁} {w : FVec Ideal (M2 k n) φ₂} (hv : Rd2 v f) (hw : Rd2 w g)
    (wf : DotDims.WF (M2 m k) (M2 k n) (M2 m n) [1] [0] [0] [1] [] []) (p : Option ContractPrecision) :
    Rd2 (matmul (F := Ideal) (DotDims.mk [1] [0] [0] [1] [] [] wf) p v w (constant (M2 m n) .f32 0x00000000#32)) (fun r c => ∑ x ∈ Finset.range k, f r x * g x c) :=
  fun j => (Ideal.matmul_constant_zero_apply _ p v w j).trans (contr_nn wf hv hw j)
/-- … rows by rows … -/
theorem Rd2.matmul_nt {v : FVec Ideal (M2 m k) φ₁} {w : FVec Ideal (M2 n k) φ₂} (hv : Rd2 v f) (hw : Rd2 w g)
    (wf : DotDims.WF (M2 m k) (M2 n k) (M2 m n) [1] [1] [0] [0] [] []) (p : Option ContractPrecision) :
    Rd2 (matmul (F := Ideal) (DotDims.mk [1] [1] [0] [0] [] [] wf) p v w (constant (M2 m n) .f32 0x00000000#32)) (fun r c => ∑ x ∈ Finset.range k, f r x * g c x) :=
  fun j => (Ideal.matmul_constant_zero_apply _ p v w j).trans (contr_nt wf hv hw j)
/-- … and columns by columns. -/
theorem Rd2.matmul_tn {v : FVec Ideal (M2 k m) φ₁} {w : FVec Ideal (M2 k n) φ₂} (hv : Rd2 v f) (hw : Rd2 w g)
    (wf : DotDims.WF (M2 k m) (M2 k n) (M2 m n) [0] [0] [1] [1] [] []) (p : Option ContractPrecision) :
    Rd2 (matmul (F := Ideal) (DotDims.mk [0] [0] [1] [1] [] [] wf) p v w (constant (M2 m n) .f32 0x00000000#32)) (fun r c => ∑ x ∈ Finset.range k, f x r * g x c) :=
  fun j => (Ideal.matmul_constant_zero_apply _ p v w j).trans (contr_tn wf hv hw j)

/-- The host's products: rows by columns … -/
theorem Rd2.dot_nn {v : FVec Ideal (M2 m k) φ₁} {w : FVec Ideal (M2 k n) φ₂} (hv : Rd2 v f) (hw : Rd2 w g)
    (wf : DotDims.WF (M2 m k) (M2 k n) (M2 m n) [1] [0] [0] [1] [] []) (p : Option ContractPrecision) (s : HostSchedule) :
    Rd2 (FloatOps.dotGeneral (F := Ideal) (DotDims.mk [1] [0] [0] [1] [] [] wf) p s v w) (fun r c => ∑ x ∈ Finset.range k, f r x * g x c) :=
  fun j => (Ideal.dotGeneral_apply _ p s v w j).trans (contr_nn wf hv hw j)
/-- … rows by rows … -/
theorem Rd2.dot_nt {v : FVec Ideal (M2 m k) φ₁} {w : FVec Ideal (M2 n k) φ₂} (hv : Rd2 v f) (hw : Rd2 w g)
    (wf : DotDims.WF (M2 m k) (M2 n k) (M2 m n) [1] [1] [0] [0] [] []) (p : Option ContractPrecision) (s : HostSchedule) :
    Rd2 (FloatOps.dotGeneral (F := Ideal) (DotDims.mk [1] [1] [0] [0] [] [] wf) p s v w) (fun r c => ∑ x ∈ Finset.range k, f r x * g c x) :=
  fun j => (Ideal.dotGeneral_apply _ p s v w j).trans (contr_nt wf hv hw j)
/-- … and columns by columns. -/
theorem Rd2.dot_tn {v : FVec Ideal (M2 k m) φ₁} {w : FVec Ideal (M2 k n) φ₂} (hv : Rd2 v f) (hw : Rd2 w g)
    (wf : DotDims.WF (M2 k m) (M2 k n) (M2 m n) [0] [0] [1] [1] [] []) (p : Option ContractPrecision) (s : HostSchedule) :
    Rd2 (FloatOps.dotGeneral (F := Ideal) (DotDims.mk [0] [0] [1] [1] [] [] wf) p s v w) (fun r c => ∑ x ∈ Finset.range k, f x r * g x c) :=
  fun j => (Ideal.dotGeneral_apply _ p s v w j).trans (contr_tn wf hv hw j)
end Products

/-! ## Blocks written piece by piece -/

/-- A load of whole rows, from row `p` on. -/
theorem Rd2.ldb_rows {a b : ℕ} {v : Vec Ideal (M2 a b) .bf16} {f : ℕ → ℕ → ℝ} (hv : Rd2 v f) {p n m : ℕ}
    (inb : ∀ x, (![p, 0] : Fin 2 → ℕ) x + (M2 n m).size x ≤ (M2 a b).size x) :
    Rd2 (a := n) (b := m) (View.ld (Val := Elt Ideal) (e' := .bf16) v (Rect.unit (s := M2 a b) ![p, 0] (M2 n m).size inb)) (fun r c => f (p + r) c) :=
  (hv.ldb inb).congr fun r c _ _ => by rw [Nat.zero_add]
/-- A load of whole columns, from column `q` on. -/
theorem Rd2.ldb_cols {a b : ℕ} {v : Vec Ideal (M2 a b) .bf16} {f : ℕ → ℕ → ℝ} (hv : Rd2 v f) {q n m : ℕ}
    (inb : ∀ x, (![0, q] : Fin 2 → ℕ) x + (M2 n m).size x ≤ (M2 a b).size x) :
    Rd2 (a := n) (b := m) (View.ld (Val := Elt Ideal) (e' := .bf16) v (Rect.unit (s := M2 a b) ![0, q] (M2 n m).size inb)) (fun r c => f r (q + c)) :=
  (hv.ldb inb).congr fun r c _ _ => by rw [Nat.zero_add]
/-- A load of the whole. -/
theorem Rd2.ldf_all {a b : ℕ} {v : Vec Ideal (M2 a b) .f32} {f : ℕ → ℕ → ℝ} (hv : Rd2 v f) {n m : ℕ}
    (inb : ∀ x, (![0, 0] : Fin 2 → ℕ) x + (M2 n m).size x ≤ (M2 a b).size x) :
    Rd2 (a := n) (b := m) (View.ld (Val := Elt Ideal) (e' := .f32) v (Rect.unit (s := M2 a b) ![0, 0] (M2 n m).size inb)) f :=
  (hv.ldf inb).congr fun r c _ _ => by rw [Nat.zero_add, Nat.zero_add]

/-- A load of the whole after a store of the whole reads what was stored. -/
theorem readCov_whole {sig : RefSig} {κ : Kind} {sp : Space} {e : EltTy} {Val : EltTy → Type} [∀ e, Nonempty (Val e)] {a b : ℕ}
    (v : View sig κ sp (M2 a b) e) (inb inb' : ∀ x, (![0, 0] : Fin 2 → ℕ) x + (![a, b] : Fin 2 → ℕ) x ≤ (M2 a b).size x)
    (w : (Rect.unit (s := M2 a b) ![0, 0] ![a, b] inb').shape.Idx → Val e) (L : List (View.Piece Val (M2 a b) e)) :
    v.readCov (⟨Rect.unit ![0, 0] ![a, b] inb', w⟩ :: L) (Rect.unit ![0, 0] ![a, b] inb).toLoadRect = w :=
  View.readCov_full v inb inb' w L

/-- A block whose last store is of the whole holds what was stored. -/
theorem canon_whole {e : EltTy} {Val : EltTy → Type} [∀ e, Nonempty (Val e)] {a b : ℕ}
    (inb' : ∀ x, (![0, 0] : Fin 2 → ℕ) x + (![a, b] : Fin 2 → ℕ) x ≤ (M2 a b).size x)
    (w : (Rect.unit (s := M2 a b) ![0, 0] ![a, b] inb').shape.Idx → Val e) (L : List (View.Piece Val (M2 a b) e)) :
    View.canon (⟨Rect.unit ![0, 0] ![a, b] inb', w⟩ :: L) = w :=
  View.canon_cons_unit_zero (by funext x; match x with | ⟨0, _⟩ => rfl | ⟨1, _⟩ => rfl) inb' w L

theorem emb_unit_fst {a b n m p q : ℕ} (inb : ∀ x, (![p, q] : Fin 2 → ℕ) x + (M2 n m).size x ≤ (M2 a b).size x)
    (x : (M2 n m).Idx) : ((Rect.unit (s := M2 a b) ![p, q] (M2 n m).size inb).emb x 0).val = p + (x 0).val := by
  show p + 1 * (x 0).val = _; omega
theorem emb_unit_snd {a b n m p q : ℕ} (inb : ∀ x, (![p, q] : Fin 2 → ℕ) x + (M2 n m).size x ≤ (M2 a b).size x)
    (x : (M2 n m).Idx) : ((Rect.unit (s := M2 a b) ![p, q] (M2 n m).size inb).emb x 1).val = q + (x 1).val := by
  show q + 1 * (x 1).val = _; omega

/-- A store of an array that reads `f`, at rows `p …` and columns `q …`, reads `g` there when `f` is `g` shifted. -/
theorem Rd2.piece {a b n m p q : ℕ} {f g : ℕ → ℕ → ℝ} (inb : ∀ x, (![p, q] : Fin 2 → ℕ) x + (M2 n m).size x ≤ (M2 a b).size x)
    {w : (M2 n m).Idx → EReal} (hw : Rd2 w f) (h : ∀ r c, r < n → c < m → f r c = g (p + r) (q + c)) (x : (M2 n m).Idx) :
    w x = ((g ((Rect.unit (s := M2 a b) ![p, q] (M2 n m).size inb).emb x 0).val ((Rect.unit (s := M2 a b) ![p, q] (M2 n m).size inb).emb x 1).val : ℝ) : EReal) := by
  rw [emb_unit_fst, emb_unit_snd, hw, h _ _ (idx2_lt0 x) (idx2_lt1 x)]

/-- A block all of whose stores read `g` where they lie, and which they cover, reads `g`. -/
theorem Rd2.canonf {a b : ℕ} {L : List (View.Piece (Elt Ideal) (M2 a b) .f32)} {g : ℕ → ℕ → ℝ}
    (hc : ∀ y, ∃ p ∈ L, y ∈ p.1.set)
    (hp : ∀ p ∈ L, ∀ x, (p.2 x : EReal) = ((g (p.1.emb x 0).val (p.1.emb x 1).val : ℝ) : EReal)) : Rd2 (View.canon L) g :=
  fun i => View.canon_apply_of_pieces (Val := Elt Ideal) (e := .f32) (fun i => ((g (i 0).val (i 1).val : ℝ) : EReal)) L hp i (hc i)
theorem Rd2.canonb {a b : ℕ} {L : List (View.Piece (Elt Ideal) (M2 a b) .bf16)} {g : ℕ → ℕ → ℝ}
    (hc : ∀ y, ∃ p ∈ L, y ∈ p.1.set)
    (hp : ∀ p ∈ L, ∀ x, (p.2 x : EReal) = ((g (p.1.emb x 0).val (p.1.emb x 1).val : ℝ) : EReal)) : Rd2 (View.canon L) g :=
  fun i => View.canon_apply_of_pieces (Val := Elt Ideal) (e := .bf16) (fun i => ((g (i 0).val (i 1).val : ℝ) : EReal)) L hp i (hc i)

end Cert.RealArrays
-- ==== Proof.Formulas.lean ====
/- The formulas of the feed-forward half step and of its gradient, over the real numbers. -/
module

public import proofs.«01_k».proof.Proof.RealArrays

@[expose] public section

noncomputable section

namespace Cert.Formulas

open Cert.RealArrays

/-- The normalisation's scale of row `r`: one over the root of the row's mean square. -/
def rs (x : ℕ → ℕ → ℝ) (r : ℕ) : ℝ := (Real.sqrt ((∑ c ∈ Finset.range 1024, x r c * x r c) / 1024 + eps))⁻¹
/-- The normalised row. -/
def xn (x : ℕ → ℕ → ℝ) (r c : ℕ) : ℝ := x r c * rs x r
/-- The normalised row, weighted by `g`. -/
def hid (x g : ℕ → ℕ → ℝ) (r c : ℕ) : ℝ := xn x r c * g 0 c
/-- A row of `h` times a row of `w`, over `n` columns. -/
def lin (n : ℕ) (h w : ℕ → ℕ → ℝ) (r f : ℕ) : ℝ := ∑ k ∈ Finset.range n, h r k * w f k
/-- A row of `h` times a column of `w`, over `n` columns. -/
def lin' (n : ℕ) (h w : ℕ → ℕ → ℝ) (r c : ℕ) : ℝ := ∑ k ∈ Finset.range n, h r k * w k c
/-- A column of `h` times a column of `w`, over `n` rows. -/
def linT (n : ℕ) (h w : ℕ → ℕ → ℝ) (r c : ℕ) : ℝ := ∑ k ∈ Finset.range n, h k r * w k c
/-- The gated activation. -/
def act (gt up : ℕ → ℕ → ℝ) (r f : ℕ) : ℝ := gt r f * sig (gt r f) * up r f
/-- The half step. -/
def outp (x ac wd : ℕ → ℕ → ℝ) (r c : ℕ) : ℝ := x r c + 1 / 2 * lin' 2816 ac wd r c

/-- Half the output's gradient. -/
def dyh (dy : ℕ → ℕ → ℝ) (r c : ℕ) : ℝ := 1 / 2 * dy r c
/-- The gradient of the up projection's result, from the activation's gradient `p`. -/
def dUp (p gt : ℕ → ℕ → ℝ) (r f : ℕ) : ℝ := p r f * (gt r f * sig (gt r f))
/-- The gradient of the gate projection's result, from the activation's gradient `p`. -/
def dGate (p gt up : ℕ → ℕ → ℝ) (r f : ℕ) : ℝ := p r f * up r f * (sig (gt r f) * (1 + gt r f * (1 - sig (gt r f))))
/-- What `n` hidden columns bring to the gradient of the normalised row. -/
def dAcc (n : ℕ) (dg du wg wu : ℕ → ℕ → ℝ) (r c : ℕ) : ℝ := lin' n dg wg r c + lin' n du wu r c
/-- The mean of `a * g * xn` over a row. -/
def mrow (x g a : ℕ → ℕ → ℝ) (r : ℕ) : ℝ := (∑ c ∈ Finset.range 1024, a r c * g 0 c * xn x r c) / 1024
/-- The gradient of the input row: the residual's and the normalisation's. -/
def dX (dy x g a : ℕ → ℕ → ℝ) (r c : ℕ) : ℝ := dy r c + rs x r * (a r c * g 0 c - xn x r c * mrow x g a r)
/-- The gradient of the weight `g`, summed over `n` rows. -/
def dG (n : ℕ) (x a : ℕ → ℕ → ℝ) (_r c : ℕ) : ℝ := ∑ r ∈ Finset.range n, a r c * xn x r c

/-- A sum taken in two runs. -/
theorem sum_split (f : ℕ → ℝ) (n m : ℕ) :
    ∑ k ∈ Finset.range n, f k + ∑ k ∈ Finset.range m, f (n + k) = ∑ k ∈ Finset.range (n + m), f k :=
  (Finset.sum_range_add f n m).symm

end Cert.Formulas
-- ==== Proof.Region0.lean ====
/- The values of the forward call: what each grid point leaves in the five output blocks, and the five arrays after
   the call, where the inputs are real. -/
module

public import proofs.«01_k».proof.Proof.Gen.KernelIdeal.Frame.Region0
public import proofs.«01_k».proof.Proof.Formulas

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

/-! ## The body's arithmetic -/

section Payloads
variable {x g w u d : ℕ → ℕ → ℝ} {h gt up ac a : ℕ → ℕ → ℝ}

/-- The mean square of a row and the small number: positive. -/
theorem ms_pos (x : ℕ → ℕ → ℝ) (r : ℕ) : 0 < (∑ c ∈ Finset.range 1024, x r c * x r c) / 1024 + eps :=
  add_pos_of_nonneg_of_pos (div_nonneg (Finset.sum_nonneg fun c _ => mul_self_nonneg _) (by norm_num)) eps_pos

theorem r0_hid {v0 : Vec Ideal S512x1024 .f32} {v11 : Vec Ideal S1x1024 .f32} (h0 : Rd2 v0 x) (h1 : Rd2 v11 g) :
    Rd2 (k0_pay4 v0 v11) (hid x g) := by
  unfold k0_pay4
  exact (((h0.mul ((((((h0.mul h0).sum_cols _ _ _).shapeCast_col _).div (Rd2.bcast lit_1024) (fun _ _ _ _ => by norm_num)).add (Rd2.bcast lit_eps)).rsq
    (fun r _ _ _ => ms_pos x r) |>.broadcastTo_col _)).mul (h1.broadcastTo_row _)).trunc _)

theorem r0_p5 {v0 : Vec Ideal S512x1024 .f32} {v11 : Vec Ideal S1x1024 .f32} {v16 : Vec Ideal S768x1024 .bf16}
    (h0 : Rd2 v0 x) (h1 : Rd2 v11 g) (h2 : Rd2 v16 w) : Rd2 (k0_pay5 v0 v11 v16) (lin 1024 (hid x g) w) := by
  unfold k0_pay5
  exact (r0_hid h0 h1).matmul_nt (h2.shapeCast_self _) _ _
theorem r0_p6 {v0 : Vec Ideal S512x1024 .f32} {v11 : Vec Ideal S1x1024 .f32} {v16 : Vec Ideal S768x1024 .bf16}
    (h0 : Rd2 v0 x) (h1 : Rd2 v11 g) (h2 : Rd2 v16 w) : Rd2 (k0_pay6 v0 v11 v16) (lin 1024 (hid x g) w) := by
  unfold k0_pay6
  exact (r0_hid h0 h1).matmul_nt (h2.shapeCast_self _) _ _
theorem r0_p7 {v0 : Vec Ideal S512x1024 .f32} {v11 : Vec Ideal S1x1024 .f32} {v16 : Vec Ideal S768x1024 .bf16}
    (h0 : Rd2 v0 x) (h1 : Rd2 v11 g) (h2 : Rd2 v16 w) : Rd2 (k0_pay7 v0 v11 v16) (lin 1024 (hid x g) w) := by
  unfold k0_pay7
  exact (r0_hid h0 h1).matmul_nt (h2.shapeCast_self _) _ _
theorem r0_p8 {v0 : Vec Ideal S512x1024 .f32} {v11 : Vec Ideal S1x1024 .f32} {v16 : Vec Ideal S768x1024 .bf16}
    (h0 : Rd2 v0 x) (h1 : Rd2 v11 g) (h2 : Rd2 v16 w) : Rd2 (k0_pay8 v0 v11 v16) (lin 1024 (hid x g) w) := by
  unfold k0_pay8
  exact (r0_hid h0 h1).matmul_nt (h2.shapeCast_self _) _ _
theorem r0_p9 {v0 : Vec Ideal S512x1024 .f32} {v11 : Vec Ideal S1x1024 .f32} {v16 v19 : Vec Ideal S768x1024 .bf16}
    (h0 : Rd2 v0 x) (h1 : Rd2 v11 g) (h2 : Rd2 v16 w) (h3 : Rd2 v19 u) :
    Rd2 (k0_pay9 v0 v11 v16 v19) (act (lin 1024 (hid x g) w) (lin 1024 (hid x g) u)) := by
  unfold k0_pay9
  exact (((r0_p5 h0 h1 h2).mul (r0_p5 h0 h1 h2).lgst).mul (r0_p6 h0 h1 h3)).trunc _
theorem r0_p10 {v0 : Vec Ideal S512x1024 .f32} {v11 : Vec Ideal S1x1024 .f32} {v16 : Vec Ideal S768x1024 .bf16}
    (h0 : Rd2 v0 x) (h1 : Rd2 v11 g) (h2 : Rd2 v16 w) : Rd2 (k0_pay10 v0 v11 v16) (lin 1024 (hid x g) w) := by
  unfold k0_pay10
  exact (r0_p5 h0 h1 h2).trunc _
theorem r0_p11 {v : FVec Ideal S512x768 .f32} (hv : Rd2 v h) : Rd2 (k0_pay11 v) h := by
  unfold k0_pay11; exact hv.trunc _
theorem r0_p12 {v31 : FVec Ideal S512x768 .bf16} {v37 : Vec Ideal S768x1024 .bf16} (hv : Rd2 v31 ac) (hd : Rd2 v37 d) :
    Rd2 (k0_pay12 v31 v37) (lin' 768 ac d) := by
  unfold k0_pay12; exact (hv.matmul_nn (hd.shapeCast_self _) _ _).shapeCast_self _
theorem r0_p13 {v14 : FVec Ideal S512x1024 .bf16} {v43 : Vec Ideal S768x1024 .bf16} (hv : Rd2 v14 h) (hw : Rd2 v43 w) :
    Rd2 (k0_pay13 v14 v43) (lin 1024 h w) := by
  unfold k0_pay13; exact hv.matmul_nt (hw.shapeCast_self _) _ _
theorem r0_p14 {v14 : FVec Ideal S512x1024 .bf16} {v43 : Vec Ideal S768x1024 .bf16} (hv : Rd2 v14 h) (hw : Rd2 v43 w) :
    Rd2 (k0_pay14 v14 v43) (lin 1024 h w) := by
  unfold k0_pay14; exact hv.matmul_nt (hw.shapeCast_self _) _ _
theorem r0_p15 {v w : FVec Ideal S512x768 .f32} (hv : Rd2 v gt) (hw : Rd2 w up) : Rd2 (k0_pay15 v w) (act gt up) := by
  unfold k0_pay15; exact ((hv.mul hv.lgst).mul hw).trunc _
theorem r0_p16 {v : FVec Ideal S512x768 .f32} (hv : Rd2 v h) : Rd2 (k0_pay16 v) h := by
  unfold k0_pay16; exact hv.trunc _
theorem r0_p17 {v : FVec Ideal S512x768 .f32} (hv : Rd2 v h) : Rd2 (k0_pay17 v) h := by
  unfold k0_pay17; exact hv.trunc _
theorem r0_p18 {v w : FVec Ideal S512x768 .f32} {v58 : Vec Ideal S768x1024 .bf16} (hv : Rd2 v gt) (hw : Rd2 w up) (hd : Rd2 v58 d) :
    Rd2 (k0_pay18 v w v58) (lin' 768 (act gt up) d) := by
  unfold k0_pay18; exact (r0_p15 hv hw).matmul_nn (hd.shapeCast_self _) _ _
theorem r0_p19 {v w : FVec Ideal S512x1024 .f32} (hv : Rd2 v h) (hw : Rd2 w a) : Rd2 (k0_pay19 v w) (fun r c => a r c + h r c) := by
  unfold k0_pay19; exact (hw.add hv).shapeCast_self _
theorem r0_p20 {v14 : FVec Ideal S512x1024 .bf16} {v43 : Vec Ideal S512x1024 .bf16} (hv : Rd2 v14 h) (hw : Rd2 v43 w) :
    Rd2 (k0_pay20 v14 v43) (lin 1024 h w) := by
  unfold k0_pay20; exact hv.matmul_nt (hw.shapeCast_self _) _ _
theorem r0_p21 {v14 : FVec Ideal S512x1024 .bf16} {v43 : Vec Ideal S512x1024 .bf16} (hv : Rd2 v14 h) (hw : Rd2 v43 w) :
    Rd2 (k0_pay21 v14 v43) (lin 1024 h w) := by
  unfold k0_pay21; exact hv.matmul_nt (hw.shapeCast_self _) _ _
theorem r0_p22 {v w : FVec Ideal S512x768 .f32} (hv : Rd2 v gt) (hw : Rd2 w up) : Rd2 (k0_pay22 v w) (act gt up) := by
  unfold k0_pay22; exact ((hv.mul hv.lgst).mul hw).trunc _
theorem r0_p23 {v : FVec Ideal S512x768 .f32} (hv : Rd2 v h) : Rd2 (k0_pay23 v) h := by
  unfold k0_pay23; exact hv.trunc _
theorem r0_p24 {v : FVec Ideal S512x768 .f32} (hv : Rd2 v h) : Rd2 (k0_pay24 v) h := by
  unfold k0_pay24; exact hv.trunc _
theorem r0_p25 {v w : FVec Ideal S512x768 .f32} {v81 : Vec Ideal S768x1024 .bf16} {v84 : Vec Ideal S512x1024 .f32}
    (hv : Rd2 v gt) (hw : Rd2 w up) (hd : Rd2 v81 d) (ha : Rd2 v84 a) :
    Rd2 (k0_pay25 v w v81 v84) (fun r c => a r c + lin' 768 (act gt up) d r c) := by
  unfold k0_pay25; exact (ha.add ((r0_p22 hv hw).matmul_nn (hd.shapeCast_self _) _ _)).shapeCast_self _
theorem r0_p26 {v14 : FVec Ideal S512x1024 .bf16} {v66 v69 : Vec Ideal S512x1024 .bf16} (hv : Rd2 v14 h) (hw : Rd2 v66 w) (hu : Rd2 v69 u) :
    Rd2 (k0_pay26 v14 v66 v69) (act (lin 1024 h w) (lin 1024 h u)) := by
  unfold k0_pay26; exact (((r0_p20 hv hw).mul (r0_p20 hv hw).lgst).mul (r0_p21 hv hu)).trunc _
theorem r0_p27 {v14 : FVec Ideal S512x1024 .bf16} {v66 : Vec Ideal S512x1024 .bf16} (hv : Rd2 v14 h) (hw : Rd2 v66 w) :
    Rd2 (k0_pay27 v14 v66) (lin 1024 h w) := by
  unfold k0_pay27; exact (r0_p20 hv hw).trunc _
theorem r0_p1 {v : FVec Ideal S512x512 .f32} (hv : Rd2 v h) : Rd2 (k0_pay1 v) h := by
  unfold k0_pay1; exact hv.trunc _
theorem r0_p2 {v92 : FVec Ideal S512x512 .bf16} {v98 : Vec Ideal S512x1024 .bf16} {v101 : Vec Ideal S512x1024 .f32}
    (hv : Rd2 v92 ac) (hd : Rd2 v98 d) (ha : Rd2 v101 a) : Rd2 (k0_pay2 v92 v98 v101) (fun r c => a r c + lin' 512 ac d r c) := by
  unfold k0_pay2; exact (ha.add (hv.matmul_nn (hd.shapeCast_self _) _ _)).shapeCast_self _
theorem r0_p3 {v0 v106 : Vec Ideal S512x1024 .f32} (h0 : Rd2 v0 x) (ha : Rd2 v106 a) : Rd2 (k0_pay3 v0 v106) (fun r c => x r c + 1 / 2 * a r c) := by
  unfold k0_pay3; exact h0.add ((Rd2.bcast lit_half).mul ha)
end Payloads

end Cert.KernelIdeal.Val
-- ==== Proof.Region0Blocks.lean ====
/- What each grid point of the forward call leaves in its five output blocks, where the input blocks are real. -/
module

public import proofs.«01_k».proof.Proof.Region0

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

section Blocks
variable {x g wg wu wd : ℕ → ℕ → ℝ}
variable (c : Dev nD) (i : grid0.Coords) {a1 h1 a2 h2 a3 h3 a4 h4 a5 h5 a6 h6 a7 h7 a8 h8 a9 h9 a10 h10 a11 h11}
variable {x0 : Vec Ideal S512x1024 .f32} {x1 : Vec Ideal S1x1024 .f32} {x2 x3 x4 : Vec Ideal S2816x1024 .bf16}

theorem r0_out6 (r0 : Rd2 x0 x) (r1 : Rd2 x1 g) :
    Rd2 (out0_A_6 c i a1 h1 a2 h2 a3 h3 a4 h4 a5 h5 a6 h6 a7 h7 a8 h8 a9 h9 a10 h10 a11 h11 x0 x1 x2 x3 x4) (hid x g) := by
  unfold out0_A_6
  rw [View.read_writes_eq_canon _ _ _ (cover0_A_6 c i a1 h1 a2 h2 a3 h3 a4 h4 a5 h5 a6 h6 a7 h7 a8 h8 a9 h9 a10 h10 a11 h11 x0 x1 x2 x3 x4)]
  refine Rd2.canonb (cover0_A_6 c i a1 h1 a2 h2 a3 h3 a4 h4 a5 h5 a6 h6 a7 h7 a8 h8 a9 h9 a10 h10 a11 h11 x0 x1 x2 x3 x4) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 1024) (p := 0) (q := 0) inb_S512x1024_S512x1024_0_0 (r0_hid (r0.ldf_all inb_S512x1024_S512x1024_0_0) (r1.ldf_all inb_S1x1024_S1x1024_0_0)) (fun r c _ _ => by rw [Nat.zero_add, Nat.zero_add]), ?_⟩
  exact fun p hp => absurd hp (List.not_mem_nil)

theorem r0_out7 (r0 : Rd2 x0 x) (r1 : Rd2 x1 g) (r2 : Rd2 x2 wg) :
    Rd2 (out0_A_7 c i a1 h1 a2 h2 a3 h3 a4 h4 a5 h5 a6 h6 a7 h7 a8 h8 a9 h9 a10 h10 a11 h11 x0 x1 x2 x3 x4) (lin 1024 (hid x g) wg) := by
  unfold out0_A_7
  rw [View.read_writes_eq_canon _ _ _ (cover0_A_7 c i a1 h1 a2 h2 a3 h3 a4 h4 a5 h5 a6 h6 a7 h7 a8 h8 a9 h9 a10 h10 a11 h11 x0 x1 x2 x3 x4)]
  refine Rd2.canonb (cover0_A_7 c i a1 h1 a2 h2 a3 h3 a4 h4 a5 h5 a6 h6 a7 h7 a8 h8 a9 h9 a10 h10 a11 h11 x0 x1 x2 x3 x4) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_p27 (r0_hid (r0.ldf_all inb_S512x1024_S512x1024_0_0) (r1.ldf_all inb_S1x1024_S1x1024_0_0)) (r2.ldb_rows inb_S2816x1024_S512x1024_2304_0)) (fun r c _ _ => by rw [Nat.zero_add]; rfl), ?_⟩
  refine List.forall_mem_cons.2 ⟨Rd2.piece (n := 512) (m := 768) (p := 0) (q := 1536) inb_S512x2816_S512x768_0_1536 (r0_p23 (r0_p13 (r0_hid (r0.ldf_all inb_S512x1024_S512x1024_0_0) (r1.ldf_all inb_S1x1024_S1x1024_0_0)) (r2.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p16 (r0_p7 (r0.ldf_all inb_S512x1024_S512x1024_0_0) (r1.ldf_all inb_S1x1024_S1x1024_0_0) (r2.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p10 (r0.ldf_all inb_S512x1024_S512x1024_0_0) (r1.ldf_all inb_S1x1024_S1x1024_0_0) (r2.ldb_rows inb_S2816x1024_S768x1024_0_0)) (fun r c _ _ => by rw [Nat.zero_add]; rfl), ?_⟩
  exact fun p hp => absurd hp (List.not_mem_nil)

theorem r0_out8 (r0 : Rd2 x0 x) (r1 : Rd2 x1 g) (r3 : Rd2 x3 wu) :
    Rd2 (out0_A_8 c i a1 h1 a2 h2 a3 h3 a4 h4 a5 h5 a6 h6 a7 h7 a8 h8 a9 h9 a10 h10 a11 h11 x0 x1 x2 x3 x4) (lin 1024 (hid x g) wu) := by
  unfold out0_A_8
  rw [View.read_writes_eq_canon _ _ _ (cover0_A_8 c i a1 h1 a2 h2 a3 h3 a4 h4 a5 h5 a6 h6 a7 h7 a8 h8 a9 h9 a10 h10 a11 h11 x0 x1 x2 x3 x4)]
  refine Rd2.canonb (cover0_A_8 c i a1 h1 a2 h2 a3 h3 a4 h4 a5 h5 a6 h6 a7 h7 a8 h8 a9 h9 a10 h10 a11 h11 x0 x1 x2 x3 x4) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_p1 (r0_p21 (r0_hid (r0.ldf_all inb_S512x1024_S512x1024_0_0) (r1.ldf_all inb_S1x1024_S1x1024_0_0)) (r3.ldb_rows inb_S2816x1024_S512x1024_2304_0))) (fun r c _ _ => by rw [Nat.zero_add]; rfl), ?_⟩
  refine List.forall_mem_cons.2 ⟨Rd2.piece (n := 512) (m := 768) (p := 0) (q := 1536) inb_S512x2816_S512x768_0_1536 (r0_p24 (r0_p14 (r0_hid (r0.ldf_all inb_S512x1024_S512x1024_0_0) (r1.ldf_all inb_S1x1024_S1x1024_0_0)) (r3.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p17 (r0_p8 (r0.ldf_all inb_S512x1024_S512x1024_0_0) (r1.ldf_all inb_S1x1024_S1x1024_0_0) (r3.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p11 (r0_p6 (r0.ldf_all inb_S512x1024_S512x1024_0_0) (r1.ldf_all inb_S1x1024_S1x1024_0_0) (r3.ldb_rows inb_S2816x1024_S768x1024_0_0))) (fun r c _ _ => by rw [Nat.zero_add]; rfl), ?_⟩
  exact fun p hp => absurd hp (List.not_mem_nil)

theorem r0_out9 (r0 : Rd2 x0 x) (r1 : Rd2 x1 g) (r2 : Rd2 x2 wg) (r3 : Rd2 x3 wu) :
    Rd2 (out0_A_9 c i a1 h1 a2 h2 a3 h3 a4 h4 a5 h5 a6 h6 a7 h7 a8 h8 a9 h9 a10 h10 a11 h11 x0 x1 x2 x3 x4) (act (lin 1024 (hid x g) wg) (lin 1024 (hid x g) wu)) := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4)]
  refine Rd2.canonb (cover0_A_9 c i a1 h1 a2 h2 a3 h3 a4 h4 a5 h5 a6 h6 a7 h7 a8 h8 a9 h9 a10 h10 a11 h11 x0 x1 x2 x3 x4) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_p26 (r0_hid (r0.ldf_all inb_S512x1024_S512x1024_0_0) (r1.ldf_all inb_S1x1024_S1x1024_0_0)) (r2.ldb_rows inb_S2816x1024_S512x1024_2304_0) (r3.ldb_rows inb_S2816x1024_S512x1024_2304_0)) (fun r c _ _ => by rw [Nat.zero_add]; rfl), ?_⟩
  refine List.forall_mem_cons.2 ⟨Rd2.piece (n := 512) (m := 768) (p := 0) (q := 1536) inb_S512x2816_S512x768_0_1536 (r0_p22 (r0_p13 (r0_hid (r0.ldf_all inb_S512x1024_S512x1024_0_0) (r1.ldf_all inb_S1x1024_S1x1024_0_0)) (r2.ldb_rows inb_S2816x1024_S768x1024_1536_0)) (r0_p14 (r0_hid (r0.ldf_all inb_S512x1024_S512x1024_0_0) (r1.ldf_all inb_S1x1024_S1x1024_0_0)) (r3.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p15 (r0_p7 (r0.ldf_all inb_S512x1024_S512x1024_0_0) (r1.ldf_all inb_S1x1024_S1x1024_0_0) (r2.ldb_rows inb_S2816x1024_S768x1024_768_0)) (r0_p8 (r0.ldf_all inb_S512x1024_S512x1024_0_0) (r1.ldf_all inb_S1x1024_S1x1024_0_0) (r3.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p9 (r0.ldf_all inb_S512x1024_S512x1024_0_0) (r1.ldf_all inb_S1x1024_S1x1024_0_0) (r2.ldb_rows inb_S2816x1024_S768x1024_0_0) (r3.ldb_rows inb_S2816x1024_S768x1024_0_0)) (fun r c _ _ => by rw [Nat.zero_add]; rfl), ?_⟩
  exact fun p hp => absurd hp (List.not_mem_nil)

theorem r0_out5 (r0 : Rd2 x0 x) (r1 : Rd2 x1 g) (r2 : Rd2 x2 wg) (r3 : Rd2 x3 wu) (r4 : Rd2 x4 wd) :
    Rd2 (out0_A_5 c i a1 h1 a2 h2 a3 h3 a4 h4 a5 h5 a6 h6 a7 h7 a8 h8 a9 h9 a10 h10 a11 h11 x0 x1 x2 x3 x4) (outp x (act (lin 1024 (hid x g) wg) (lin 1024 (hid x g) wu)) wd) := by
  unfold out0_A_5
  rw [View.read_writes_eq_canon _ _ _ (cover0_A_5 c i a1 h1 a2 h2 a3 h3 a4 h4 a5 h5 a6 h6 a7 h7 a8 h8 a9 h9 a10 h10 a11 h11 x0 x1 x2 x3 x4)]
  refine Rd2.canonf (cover0_A_5 c i a1 h1 a2 h2 a3 h3 a4 h4 a5 h5 a6 h6 a7 h7 a8 h8 a9 h9 a10 h10 a11 h11 x0 x1 x2 x3 x4) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 1024) (p := 0) (q := 0) inb_S512x1024_S512x1024_0_0 (r0_p3 (r0.ldf_all inb_S512x1024_S512x1024_0_0)
    (r0_p2 (r0_p26 (r0_hid (r0.ldf_all inb_S512x1024_S512x1024_0_0) (r1.ldf_all inb_S1x1024_S1x1024_0_0)) (r2.ldb_rows inb_S2816x1024_S512x1024_2304_0) (r3.ldb_rows inb_S2816x1024_S512x1024_2304_0)) (r4.ldb_rows inb_S2816x1024_S512x1024_2304_0) (r0_p25 (r0_p13 (r0_hid (r0.ldf_all inb_S512x1024_S512x1024_0_0) (r1.ldf_all inb_S1x1024_S1x1024_0_0)) (r2.ldb_rows inb_S2816x1024_S768x1024_1536_0)) (r0_p14 (r0_hid (r0.ldf_all inb_S512x1024_S512x1024_0_0) (r1.ldf_all inb_S1x1024_S1x1024_0_0)) (r3.ldb_rows inb_S2816x1024_S768x1024_1536_0)) (r4.ldb_rows inb_S2816x1024_S768x1024_1536_0) (r0_p19 (r0_p18 (r0_p7 (r0.ldf_all inb_S512x1024_S512x1024_0_0) (r1.ldf_all inb_S1x1024_S1x1024_0_0) (r2.ldb_rows inb_S2816x1024_S768x1024_768_0)) (r0_p8 (r0.ldf_all inb_S512x1024_S512x1024_0_0) (r1.ldf_all inb_S1x1024_S1x1024_0_0) (r3.ldb_rows inb_S2816x1024_S768x1024_768_0)) (r4.ldb_rows inb_S2816x1024_S768x1024_768_0)) (r0_p12 (r0_p9 (r0.ldf_all inb_S512x1024_S512x1024_0_0) (r1.ldf_all inb_S1x1024_S1x1024_0_0) (r2.ldb_rows inb_S2816x1024_S768x1024_0_0) (r3.ldb_rows inb_S2816x1024_S768x1024_0_0)) (r4.ldb_rows inb_S2816x1024_S768x1024_0_0)))))) (fun r c _ _ => ?_), ?_⟩
  · rw [Nat.zero_add, Nat.zero_add]
    show x r c + 1 / 2 * _ = x r c + 1 / 2 * _
    congr 2
    unfold lin'
    rw [show (2816 : ℕ) = 768 + 768 + 768 + 512 from rfl, ← sum_split _ (768 + 768 + 768) 512, ← sum_split _ (768 + 768) 768, ← sum_split _ 768 768]
    simp only [act, lin, Nat.zero_add]
  · exact fun p hp => absurd hp (List.not_mem_nil)

end Blocks

end Cert.KernelIdeal.Val
-- ==== Proof.Region0Arrays.lean ====
/- The blocks of the forward call's windows, and its five result arrays after the call. -/
module

public import proofs.«01_k».proof.Proof.Region0Blocks

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The input blocks -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem blk0_0 {X : ℕ → ℕ → ℝ} (hX : Rd2 (a := 8192) (b := 1024) (V c main_arg0) X) (t : Fin cfg0.N) :
    Rd2 (a := 512) (b := 1024) (iblk0 V c 0 t) (fun r d => X ((t.val) * 512 + r) ((0) * 1024 + d)) := fun j => by
  unfold iblk0
  rw [View.read_apply]
  show V c main_arg0 _ = _
  refine (hX _).trans (coe_congr₂ X ?_ ?_)
  · show win0_0.index t 0 * 512 + 1 * (j 0).val = _; rw [(idx0_0 t).1]; omega
  · show win0_0.index t 1 * 1024 + 1 * (j 1).val = _; rw [(idx0_0 t).2]; omega
theorem idx0_1 : ∀ t : Fin cfg0.N, win0_1.index t 0 = 0 ∧ win0_1.index t 1 = 0 :=
  (by decide +kernel : ∀ t : Fin grid0.N, win0_1.index t 0 = 0 ∧ win0_1.index t 1 = 0)
theorem blk0_1 {X : ℕ → ℕ → ℝ} (hX : Rd2 (a := 1) (b := 1024) (V c main_arg1) X) (t : Fin cfg0.N) :
    Rd2 (a := 1) (b := 1024) (iblk0 V c 1 t) (fun r d => X ((0) * 1 + r) ((0) * 1024 + d)) := fun j => by
  unfold iblk0
  rw [View.read_apply]
  show V c main_arg1 _ = _
  refine (hX _).trans (coe_congr₂ X ?_ ?_)
  · show win0_1.index t 0 * 1 + 1 * (j 0).val = _; rw [(idx0_1 t).1]; omega
  · show win0_1.index t 1 * 1024 + 1 * (j 1).val = _; rw [(idx0_1 t).2]; omega
theorem idx0_2 : ∀ t : Fin cfg0.N, win0_2.index t 0 = 0 ∧ win0_2.index t 1 = 0 :=
  (by decide +kernel : ∀ t : Fin grid0.N, win0_2.index t 0 = 0 ∧ win0_2.index t 1 = 0)
theorem blk0_2 {X : ℕ → ℕ → ℝ} (hX : Rd2 (a := 2816) (b := 1024) (V c main_v1) X) (t : Fin cfg0.N) :
    Rd2 (a := 2816) (b := 1024) (iblk0 V c 2 t) (fun r d => X ((0) * 2816 + r) ((0) * 1024 + d)) := fun j => by
  unfold iblk0
  rw [View.read_apply]
  show V c main_v1 _ = _
  refine (hX _).trans (coe_congr₂ X ?_ ?_)
  · show win0_2.index t 0 * 2816 + 1 * (j 0).val = _; rw [(idx0_2 t).1]; omega
  · show win0_2.index t 1 * 1024 + 1 * (j 1).val = _; rw [(idx0_2 t).2]; omega
theorem idx0_3 : ∀ t : Fin cfg0.N, win0_3.index t 0 = 0 ∧ win0_3.index t 1 = 0 :=
  (by decide +kernel : ∀ t : Fin grid0.N, win0_3.index t 0 = 0 ∧ win0_3.index t 1 = 0)
theorem blk0_3 {X : ℕ → ℕ → ℝ} (hX : Rd2 (a := 2816) (b := 1024) (V c main_v3) X) (t : Fin cfg0.N) :
    Rd2 (a := 2816) (b := 1024) (iblk0 V c 3 t) (fun r d => X ((0) * 2816 + r) ((0) * 1024 + d)) := fun j => by
  unfold iblk0
  rw [View.read_apply]
  show V c main_v3 _ = _
  refine (hX _).trans (coe_congr₂ X ?_ ?_)
  · show win0_3.index t 0 * 2816 + 1 * (j 0).val = _; rw [(idx0_3 t).1]; omega
  · show win0_3.index t 1 * 1024 + 1 * (j 1).val = _; rw [(idx0_3 t).2]; omega
theorem idx0_4 : ∀ t : Fin cfg0.N, win0_4.index t 0 = 0 ∧ win0_4.index t 1 = 0 :=
  (by decide +kernel : ∀ t : Fin grid0.N, win0_4.index t 0 = 0 ∧ win0_4.index t 1 = 0)
theorem blk0_4 {X : ℕ → ℕ → ℝ} (hX : Rd2 (a := 2816) (b := 1024) (V c main_v4) X) (t : Fin cfg0.N) :
    Rd2 (a := 2816) (b := 1024) (iblk0 V c 4 t) (fun r d => X ((0) * 2816 + r) ((0) * 1024 + d)) := fun j => by
  unfold iblk0
  rw [View.read_apply]
  show V c main_v4 _ = _
  refine (hX _).trans (coe_congr₂ X ?_ ?_)
  · show win0_4.index t 0 * 2816 + 1 * (j 0).val = _; rw [(idx0_4 t).1]; omega
  · show win0_4.index t 1 * 1024 + 1 * (j 1).val = _; rw [(idx0_4 t).2]; omega

/-! ## The result arrays -/

theorem idx0_5 : ∀ t : Fin cfg0.N, win0_5.index t 0 = t.val ∧ win0_5.index t 1 = 0 :=
  (by decide +kernel : ∀ t : Fin grid0.N, win0_5.index t 0 = t.val ∧ win0_5.index t 1 = 0)
theorem arr0_5 {G : ℕ → ℕ → ℝ} (hG : ∀ t : Fin cfg0.N, (cfg0.win 5).flush t = true →
      Rd2 (a := 512) (b := 1024) (outsAt0 V c t).1 (fun r d => G ((t.val) * 512 + r) ((0) * 1024 + d))) :
    Rd2 (a := 8192) (b := 1024) ((dat0 V c).arrAt 5 cfg0.N) G := fun i => by
  refine (dat0 V c).arrAt_forall_of_covers 5 (fun i v => v = ((G (i 0).val (i 1).val : ℝ) : EReal)) (by decide +kernel) (fun t hf y => ?_) i
  rw [after0_5]
  refine (hG t hf _).trans (coe_congr₂ G ?_ ?_)
  · show (t.val) * 512 + (y 0).val = win0_5.index t 0 * 512 + 1 * (y 0).val; rw [(idx0_5 t).1]; omega
  · show (0) * 1024 + (y 1).val = win0_5.index t 1 * 1024 + 1 * (y 1).val; rw [(idx0_5 t).2]; omega
theorem idx0_6 : ∀ t : Fin cfg0.N, win0_6.index t 0 = t.val ∧ win0_6.index t 1 = 0 :=
  (by decide +kernel : ∀ t : Fin grid0.N, win0_6.index t 0 = t.val ∧ win0_6.index t 1 = 0)
theorem arr0_6 {G : ℕ → ℕ → ℝ} (hG : ∀ t : Fin cfg0.N, (cfg0.win 6).flush t = true →
      Rd2 (a := 512) (b := 1024) (outsAt0 V c t).2.1 (fun r d => G ((t.val) * 512 + r) ((0) * 1024 + d))) :
    Rd2 (a := 8192) (b := 1024) ((dat0 V c).arrAt 6 cfg0.N) G := fun i => by
  refine (dat0 V c).arrAt_forall_of_covers 6 (fun i v => v = ((G (i 0).val (i 1).val : ℝ) : EReal)) (by decide +kernel) (fun t hf y => ?_) i
  rw [after0_6]
  refine (hG t hf _).trans (coe_congr₂ G ?_ ?_)
  · show (t.val) * 512 + (y 0).val = win0_6.index t 0 * 512 + 1 * (y 0).val; rw [(idx0_6 t).1]; omega
  · show (0) * 1024 + (y 1).val = win0_6.index t 1 * 1024 + 1 * (y 1).val; rw [(idx0_6 t).2]; omega
theorem idx0_7 : ∀ t : Fin cfg0.N, win0_7.index t 0 = t.val ∧ win0_7.index t 1 = 0 :=
  (by decide +kernel : ∀ t : Fin grid0.N, win0_7.index t 0 = t.val ∧ win0_7.index t 1 = 0)
theorem arr0_7 {G : ℕ → ℕ → ℝ} (hG : ∀ t : Fin cfg0.N, (cfg0.win 7).flush t = true →
      Rd2 (a := 512) (b := 2816) (outsAt0 V c t).2.2.1 (fun r d => G ((t.val) * 512 + r) ((0) * 2816 + d))) :
    Rd2 (a := 8192) (b := 2816) ((dat0 V c).arrAt 7 cfg0.N) G := fun i => by
  refine (dat0 V c).arrAt_forall_of_covers 7 (fun i v => v = ((G (i 0).val (i 1).val : ℝ) : EReal)) (by decide +kernel) (fun t hf y => ?_) i
  rw [after0_7]
  refine (hG t hf _).trans (coe_congr₂ G ?_ ?_)
  · show (t.val) * 512 + (y 0).val = win0_7.index t 0 * 512 + 1 * (y 0).val; rw [(idx0_7 t).1]; omega
  · show (0) * 2816 + (y 1).val = win0_7.index t 1 * 2816 + 1 * (y 1).val; rw [(idx0_7 t).2]; omega
theorem idx0_8 : ∀ t : Fin cfg0.N, win0_8.index t 0 = t.val ∧ win0_8.index t 1 = 0 :=
  (by decide +kernel : ∀ t : Fin grid0.N, win0_8.index t 0 = t.val ∧ win0_8.index t 1 = 0)
theorem arr0_8 {G : ℕ → ℕ → ℝ} (hG : ∀ t : Fin cfg0.N, (cfg0.win 8).flush t = true →
      Rd2 (a := 512) (b := 2816) (outsAt0 V c t).2.2.2.1 (fun r d => G ((t.val) * 512 + r) ((0) * 2816 + d))) :
    Rd2 (a := 8192) (b := 2816) ((dat0 V c).arrAt 8 cfg0.N) G := fun i => by
  refine (dat0 V c).arrAt_forall_of_covers 8 (fun i v => v = ((G (i 0).val (i 1).val : ℝ) : EReal)) (by decide +kernel) (fun t hf y => ?_) i
  rw [after0_8]
  refine (hG t hf _).trans (coe_congr₂ G ?_ ?_)
  · show (t.val) * 512 + (y 0).val = win0_8.index t 0 * 512 + 1 * (y 0).val; rw [(idx0_8 t).1]; omega
  · show (0) * 2816 + (y 1).val = win0_8.index t 1 * 2816 + 1 * (y 1).val; rw [(idx0_8 t).2]; omega
theorem idx0_9 : ∀ t : Fin cfg0.N, win0_9.index t 0 = t.val ∧ win0_9.index t 1 = 0 :=
  (by decide +kernel : ∀ t : Fin grid0.N, win0_9.index t 0 = t.val ∧ win0_9.index t 1 = 0)
theorem arr0_9 {G : ℕ → ℕ → ℝ} (hG : ∀ t : Fin cfg0.N, (cfg0.win 9).flush t = true →
      Rd2 (a := 512) (b := 2816) (outsAt0 V c t).2.2.2.2 (fun r d => G ((t.val) * 512 + r) ((0) * 2816 + d))) :
    Rd2 (a := 8192) (b := 2816) ((dat0 V c).arrAt 9 cfg0.N) G := fun i => by
  refine (dat0 V c).arrAt_forall_of_covers 9 (fun i v => v = ((G (i 0).val (i 1).val : ℝ) : EReal)) (by decide +kernel) (fun t hf y => ?_) i
  rw [after0_9]
  refine (hG t hf _).trans (coe_congr₂ G ?_ ?_)
  · show (t.val) * 512 + (y 0).val = win0_9.index t 0 * 512 + 1 * (y 0).val; rw [(idx0_9 t).1]; omega
  · show (0) * 2816 + (y 1).val = win0_9.index t 1 * 2816 + 1 * (y 1).val; rw [(idx0_9 t).2]; omega

/-! ## The call -/

variable {V c} {x g wg wu wd : ℕ → ℕ → ℝ}
  (hx : Rd2 (a := 8192) (b := 1024) (V c main_arg0) x) (hg : Rd2 (a := 1) (b := 1024) (V c main_arg1) g)
  (hwg : Rd2 (a := 2816) (b := 1024) (V c main_v1) wg) (hwu : Rd2 (a := 2816) (b := 1024) (V c main_v3) wu)
  (hwd : Rd2 (a := 2816) (b := 1024) (V c main_v4) wd)

include hx hg
theorem call0_h : Rd2 (a := 8192) (b := 1024) ((dat0 V c).arrAt 6 cfg0.N) (hid x g) := arr0_6 V c fun t _ => by
  unfold outsAt0; dsimp only
  refine (r0_out6 c _ (blk0_0 V c hx t) (blk0_1 V c hg t)).congr fun r d _ _ => ?_
  simp only [Nat.zero_mul, Nat.zero_add]; rfl
theorem call0_gate (hwg : Rd2 (a := 2816) (b := 1024) (V c main_v1) wg) :
    Rd2 (a := 8192) (b := 2816) ((dat0 V c).arrAt 7 cfg0.N) (lin 1024 (hid x g) wg) := arr0_7 V c fun t _ => by
  unfold outsAt0; dsimp only
  refine (r0_out7 c _ (blk0_0 V c hx t) (blk0_1 V c hg t) (blk0_2 V c hwg t)).congr fun r d _ _ => ?_
  simp only [Nat.zero_mul, Nat.zero_add]; rfl
theorem call0_up (hwu : Rd2 (a := 2816) (b := 1024) (V c main_v3) wu) :
    Rd2 (a := 8192) (b := 2816) ((dat0 V c).arrAt 8 cfg0.N) (lin 1024 (hid x g) wu) := arr0_8 V c fun t _ => by
  unfold outsAt0; dsimp only
  refine (r0_out8 c _ (blk0_0 V c hx t) (blk0_1 V c hg t) (blk0_3 V c hwu t)).congr fun r d _ _ => ?_
  simp only [Nat.zero_mul, Nat.zero_add]; rfl
include hwg hwu
theorem call0_act : Rd2 (a := 8192) (b := 2816) ((dat0 V c).arrAt 9 cfg0.N) (act (lin 1024 (hid x g) wg) (lin 1024 (hid x g) wu)) := arr0_9 V c fun t _ => by
  unfold outsAt0; dsimp only
  refine (r0_out9 c _ (blk0_0 V c hx t) (blk0_1 V c hg t) (blk0_2 V c hwg t) (blk0_3 V c hwu t)).congr fun r d _ _ => ?_
  simp only [Nat.zero_mul, Nat.zero_add]; rfl
include hwd
theorem call0_y : Rd2 (a := 8192) (b := 1024) ((dat0 V c).arrAt 5 cfg0.N) (outp x (act (lin 1024 (hid x g) wg) (lin 1024 (hid x g) wu)) wd) := arr0_5 V c fun t _ => by
  unfold outsAt0; dsimp only
  refine (r0_out5 c _ (blk0_0 V c hx t) (blk0_1 V c hg t) (blk0_2 V c hwg t) (blk0_3 V c hwu t) (blk0_4 V c hwd t)).congr fun r d _ _ => ?_
  simp only [Nat.zero_mul, Nat.zero_add]; rfl

end Cert.KernelIdeal.Val
-- ==== Proof.Region1.lean ====
/- The arithmetic of the activation gradient's body, payload by payload, on real arrays. -/
module

public import proofs.«01_k».proof.Proof.Gen.KernelIdeal.Frame.Region1
public import proofs.«01_k».proof.Proof.Region0

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

section Payloads
variable {x g dy : ℕ → ℕ → ℝ} {h gt up p q s a w u dg du : ℕ → ℕ → ℝ}

theorem r1_p4 {v3 : Vec Ideal S256x1024 .f32} (h0 : Rd2 v3 dy) : Rd2 (k1_pay4 v3) (dyh dy) := by
  unfold k1_pay4; exact ((Rd2.bcast lit_half).mul h0).trunc _
theorem r1_p5 {v3 : Vec Ideal S256x1024 .f32} {v8 : Vec Ideal S512x1024 .bf16} (h0 : Rd2 v3 dy) (h1 : Rd2 v8 w) :
    Rd2 (k1_pay5 v3 v8) (lin 1024 (dyh dy) w) := by
  unfold k1_pay5; exact (r1_p4 h0).matmul_nt (h1.shapeCast_self _) _ _
theorem r1_p6 {v3 : Vec Ideal S256x1024 .f32} {v8 : Vec Ideal S512x1024 .bf16} (h0 : Rd2 v3 dy) (h1 : Rd2 v8 w) :
    Rd2 (k1_pay6 v3 v8) (lin 1024 (dyh dy) w) := by
  unfold k1_pay6; exact (r1_p4 h0).matmul_nt (h1.shapeCast_self _) _ _
theorem r1_p7 {v3 : Vec Ideal S256x1024 .f32} {v8 : Vec Ideal S512x1024 .bf16} (h0 : Rd2 v3 dy) (h1 : Rd2 v8 w) :
    Rd2 (k1_pay7 v3 v8) (lin 1024 (dyh dy) w) := by
  unfold k1_pay7; exact (r1_p4 h0).matmul_nt (h1.shapeCast_self _) _ _
theorem r1_p14 {v6 : FVec Ideal S256x1024 .bf16} {v8 : Vec Ideal S512x1024 .bf16} (h0 : Rd2 v6 h) (h1 : Rd2 v8 w) :
    Rd2 (k1_pay14 v6 v8) (lin 1024 h w) := by
  unfold k1_pay14; exact h0.matmul_nt (h1.shapeCast_self _) _ _
theorem r1_p20 {v6 : FVec Ideal S256x1024 .bf16} {v8 : Vec Ideal S512x1024 .bf16} (h0 : Rd2 v6 h) (h1 : Rd2 v8 w) :
    Rd2 (k1_pay20 v6 v8) (lin 1024 h w) := by
  unfold k1_pay20; exact h0.matmul_nt (h1.shapeCast_self _) _ _
theorem r1_p27 {v6 : FVec Ideal S256x1024 .bf16} {v8 : Vec Ideal S256x1024 .bf16} (h0 : Rd2 v6 h) (h1 : Rd2 v8 w) :
    Rd2 (k1_pay27 v6 v8) (lin 1024 h w) := by
  unfold k1_pay27; exact h0.matmul_nt (h1.shapeCast_self _) _ _
theorem r1_p8 {v : Vec Ideal S256x512 .bf16} (hv : Rd2 v gt) : Rd2 (k1_pay8 v) gt := by
  unfold k1_pay8; exact (hv.shapeCast_self _).ext _
theorem r1_p9 {v : Vec Ideal S256x512 .bf16} (hv : Rd2 v gt) : Rd2 (k1_pay9 v) (fun r c => RealArrays.sig (gt r c)) := by
  unfold k1_pay9; exact (r1_p8 hv).lgst
theorem r1_p10 {v3 : Vec Ideal S256x1024 .f32} {v8 : Vec Ideal S512x1024 .bf16} {v17 : Vec Ideal S256x512 .bf16} (h0 : Rd2 v3 dy) (h1 : Rd2 v8 w)
    (hv : Rd2 v17 gt) : Rd2 (k1_pay10 v3 v8 v17) (dUp (lin 1024 (dyh dy) w) gt) := by
  unfold k1_pay10; exact ((r1_p5 h0 h1).mul ((r1_p8 hv).mul (r1_p9 hv))).trunc _
theorem r1_p11 {v3 : Vec Ideal S256x1024 .f32} {v8 : Vec Ideal S512x1024 .bf16} {v17 v20 : Vec Ideal S256x512 .bf16} (h0 : Rd2 v3 dy) (h1 : Rd2 v8 w)
    (hv : Rd2 v17 gt) (hu : Rd2 v20 up) : Rd2 (k1_pay11 v3 v8 v17 v20) (dGate (lin 1024 (dyh dy) w) gt up) := by
  unfold k1_pay11
  exact ((r1_p5 h0 h1).mul ((hu.shapeCast_self _).ext _)).mul ((r1_p9 hv).mul ((Rd2.bcast lit_one).add ((r1_p8 hv).mul ((Rd2.bcast lit_one).sub (r1_p9 hv)))))
theorem r1_p15 {v : Vec Ideal S256x512 .bf16} (hv : Rd2 v gt) : Rd2 (k1_pay15 v) gt := by
  unfold k1_pay15; exact (hv.shapeCast_self _).ext _
theorem r1_p16 {v : Vec Ideal S256x512 .bf16} (hv : Rd2 v gt) : Rd2 (k1_pay16 v) (fun r c => RealArrays.sig (gt r c)) := by
  unfold k1_pay16; exact (r1_p15 hv).lgst
theorem r1_p17 {v13 : FVec Ideal S256x512 .f32} {v : Vec Ideal S256x512 .bf16} (hp : Rd2 v13 p) (hv : Rd2 v gt) :
    Rd2 (k1_pay17 v13 v) (dUp p gt) := by
  unfold k1_pay17; exact (hp.mul ((r1_p15 hv).mul (r1_p16 hv))).trunc _
theorem r1_p18 {v13 : FVec Ideal S256x512 .f32} {v v' : Vec Ideal S256x512 .bf16} (hp : Rd2 v13 p) (hv : Rd2 v gt) (hu : Rd2 v' up) :
    Rd2 (k1_pay18 v13 v v') (dGate p gt up) := by
  unfold k1_pay18
  exact ((hp.mul ((hu.shapeCast_self _).ext _)).mul ((r1_p16 hv).mul ((Rd2.bcast lit_one).add ((r1_p15 hv).mul ((Rd2.bcast lit_one).sub (r1_p16 hv)))))).trunc _
theorem r1_p21 {v : Vec Ideal S256x512 .bf16} (hv : Rd2 v gt) : Rd2 (k1_pay21 v) gt := by
  unfold k1_pay21; exact (hv.shapeCast_self _).ext _
theorem r1_p22 {v : Vec Ideal S256x512 .bf16} (hv : Rd2 v gt) : Rd2 (k1_pay22 v) (fun r c => RealArrays.sig (gt r c)) := by
  unfold k1_pay22; exact (r1_p21 hv).lgst
theorem r1_p23 {v13 : FVec Ideal S256x512 .f32} {v : Vec Ideal S256x512 .bf16} (hp : Rd2 v13 p) (hv : Rd2 v gt) :
    Rd2 (k1_pay23 v13 v) (dUp p gt) := by
  unfold k1_pay23; exact (hp.mul ((r1_p21 hv).mul (r1_p22 hv))).trunc _
theorem r1_p24 {v13 : FVec Ideal S256x512 .f32} {v v' : Vec Ideal S256x512 .bf16} (hp : Rd2 v13 p) (hv : Rd2 v gt) (hu : Rd2 v' up) :
    Rd2 (k1_pay24 v13 v v') (dGate p gt up) := by
  unfold k1_pay24
  exact ((hp.mul ((hu.shapeCast_self _).ext _)).mul ((r1_p22 hv).mul ((Rd2.bcast lit_one).add ((r1_p21 hv).mul ((Rd2.bcast lit_one).sub (r1_p22 hv))))))
theorem r1_p28 {v : Vec Ideal S256x512 .bf16} (hv : Rd2 v gt) : Rd2 (k1_pay28 v) gt := by
  unfold k1_pay28; exact (hv.shapeCast_self _).ext _
theorem r1_p29 {v : Vec Ideal S256x512 .bf16} (hv : Rd2 v gt) : Rd2 (k1_pay29 v) (fun r c => RealArrays.sig (gt r c)) := by
  unfold k1_pay29; exact (r1_p28 hv).lgst
theorem r1_p30 {v13 : FVec Ideal S256x512 .f32} {v : Vec Ideal S256x512 .bf16} (hp : Rd2 v13 p) (hv : Rd2 v gt) :
    Rd2 (k1_pay30 v13 v) (dUp p gt) := by
  unfold k1_pay30; exact (hp.mul ((r1_p28 hv).mul (r1_p29 hv))).trunc _
theorem r1_p35 {v : Vec Ideal S256x512 .bf16} (hv : Rd2 v gt) : Rd2 (k1_pay35 v) gt := by
  unfold k1_pay35; exact (hv.shapeCast_self _).ext _
theorem r1_p36 {v : Vec Ideal S256x512 .bf16} (hv : Rd2 v gt) : Rd2 (k1_pay36 v) (fun r c => RealArrays.sig (gt r c)) := by
  unfold k1_pay36; exact (r1_p35 hv).lgst
theorem r1_p37 {v13 : FVec Ideal S256x512 .f32} {v : Vec Ideal S256x512 .bf16} (hp : Rd2 v13 p) (hv : Rd2 v gt) :
    Rd2 (k1_pay37 v13 v) (dUp p gt) := by
  unfold k1_pay37; exact (hp.mul ((r1_p35 hv).mul (r1_p36 hv))).trunc _
theorem r1_p38 {v13 : FVec Ideal S256x512 .f32} {v v' : Vec Ideal S256x512 .bf16} (hp : Rd2 v13 p) (hv : Rd2 v gt) (hu : Rd2 v' up) :
    Rd2 (k1_pay38 v13 v v') (dGate p gt up) := by
  unfold k1_pay38
  exact ((hp.mul ((hu.shapeCast_self _).ext _)).mul ((r1_p36 hv).mul ((Rd2.bcast lit_one).add ((r1_p35 hv).mul ((Rd2.bcast lit_one).sub (r1_p36 hv)))))).trunc _
theorem r1_p40 {v : Vec Ideal S256x256 .bf16} (hv : Rd2 v gt) : Rd2 (k1_pay40 v) gt := by
  unfold k1_pay40; exact (hv.shapeCast_self _).ext _
theorem r1_p41 {v : Vec Ideal S256x256 .bf16} (hv : Rd2 v gt) : Rd2 (k1_pay41 v) (fun r c => RealArrays.sig (gt r c)) := by
  unfold k1_pay41; exact (r1_p40 hv).lgst
theorem r1_p42 {v13 : FVec Ideal S256x256 .f32} {v : Vec Ideal S256x256 .bf16} (hp : Rd2 v13 p) (hv : Rd2 v gt) :
    Rd2 (k1_pay42 v13 v) (dUp p gt) := by
  unfold k1_pay42; exact (hp.mul ((r1_p40 hv).mul (r1_p41 hv))).trunc _
theorem r1_p43 {v13 : FVec Ideal S256x256 .f32} {v v' : Vec Ideal S256x256 .bf16} (hp : Rd2 v13 p) (hv : Rd2 v gt) (hu : Rd2 v' up) :
    Rd2 (k1_pay43 v13 v v') (dGate p gt up) := by
  unfold k1_pay43
  exact ((hp.mul ((hu.shapeCast_self _).ext _)).mul ((r1_p41 hv).mul ((Rd2.bcast lit_one).add ((r1_p40 hv).mul ((Rd2.bcast lit_one).sub (r1_p41 hv)))))).trunc _
theorem r1_p12 {v : FVec Ideal S256x512 .f32} (hv : Rd2 v h) : Rd2 (k1_pay12 v) h := by
  unfold k1_pay12; exact hv.trunc _
theorem r1_p25 {v : FVec Ideal S256x512 .f32} (hv : Rd2 v h) : Rd2 (k1_pay25 v) h := by
  unfold k1_pay25; exact hv.trunc _
theorem r1_p13 {v26 : FVec Ideal S256x512 .bf16} {v34 : FVec Ideal S256x512 .f32} {v38 v41 : Vec Ideal S512x1024 .bf16}
    (h0 : Rd2 v26 du) (h1 : Rd2 v34 dg) (hw : Rd2 v38 w) (hu : Rd2 v41 u) : Rd2 (k1_pay13 v26 v34 v38 v41) (dAcc 512 dg du w u) := by
  unfold k1_pay13
  exact (((r1_p12 h1).matmul_nn (hw.shapeCast_self _) _ _).add (h0.matmul_nn (hu.shapeCast_self _) _ _)).shapeCast_self _
theorem r1_p19 {v26 : FVec Ideal S256x512 .bf16} {v34 : FVec Ideal S256x512 .bf16} {v38 v41 : Vec Ideal S512x1024 .bf16} {v5 : Vec Ideal S256x1024 .f32}
    (h0 : Rd2 v26 du) (h1 : Rd2 v34 dg) (hw : Rd2 v38 w) (hu : Rd2 v41 u) (ha : Rd2 v5 a) :
    Rd2 (k1_pay19 v26 v34 v38 v41 v5) (fun r c => a r c + dAcc 512 dg du w u r c) := by
  unfold k1_pay19
  exact (ha.add ((h1.matmul_nn (hw.shapeCast_self _) _ _).add (h0.matmul_nn (hu.shapeCast_self _) _ _))).shapeCast_self _
theorem r1_p26 {v26 : FVec Ideal S256x512 .bf16} {v34 : FVec Ideal S256x512 .f32} {v38 v41 : Vec Ideal S512x1024 .bf16} {v5 : Vec Ideal S256x1024 .f32}
    (h0 : Rd2 v26 du) (h1 : Rd2 v34 dg) (hw : Rd2 v38 w) (hu : Rd2 v41 u) (ha : Rd2 v5 a) :
    Rd2 (k1_pay26 v26 v34 v38 v41 v5) (fun r c => a r c + dAcc 512 dg du w u r c) := by
  unfold k1_pay26
  exact (ha.add (((r1_p25 h1).matmul_nn (hw.shapeCast_self _) _ _).add (h0.matmul_nn (hu.shapeCast_self _) _ _))).shapeCast_self _
theorem r1_p39 {v26 : FVec Ideal S256x512 .bf16} {v34 : FVec Ideal S256x512 .bf16} {v38 v41 : Vec Ideal S512x1024 .bf16} {v5 : Vec Ideal S256x1024 .f32}
    (h0 : Rd2 v26 du) (h1 : Rd2 v34 dg) (hw : Rd2 v38 w) (hu : Rd2 v41 u) (ha : Rd2 v5 a) :
    Rd2 (k1_pay39 v26 v34 v38 v41 v5) (fun r c => a r c + dAcc 512 dg du w u r c) := by
  unfold k1_pay39
  exact (ha.add ((h1.matmul_nn (hw.shapeCast_self _) _ _).add (h0.matmul_nn (hu.shapeCast_self _) _ _))).shapeCast_self _
theorem r1_p44 {v26 : FVec Ideal S256x256 .bf16} {v34 : FVec Ideal S256x256 .bf16} {v38 v41 : Vec Ideal S256x1024 .bf16} {v5 : Vec Ideal S256x1024 .f32}
    (h0 : Rd2 v26 du) (h1 : Rd2 v34 dg) (hw : Rd2 v38 w) (hu : Rd2 v41 u) (ha : Rd2 v5 a) :
    Rd2 (k1_pay44 v26 v34 v38 v41 v5) (fun r c => a r c + dAcc 256 dg du w u r c) := by
  unfold k1_pay44
  exact (ha.add ((h1.matmul_nn (hw.shapeCast_self _) _ _).add (h0.matmul_nn (hu.shapeCast_self _) _ _))).shapeCast_self _
theorem r1_p31 {v50 : FVec Ideal S256x512 .f32} {v : Vec Ideal S256x512 .bf16} (hp : Rd2 v50 p) (hu : Rd2 v up) :
    Rd2 (k1_pay31 v50 v) (fun r c => p r c * up r c) := by
  unfold k1_pay31; exact hp.mul ((hu.shapeCast_self _).ext _)
theorem r1_p32 {v : Vec Ideal S256x512 .bf16} (hv : Rd2 v gt) : Rd2 (k1_pay32 v) (fun r c => 1 + gt r c * (1 - RealArrays.sig (gt r c))) := by
  unfold k1_pay32; exact (Rd2.bcast lit_one).add ((r1_p28 hv).mul ((Rd2.bcast lit_one).sub (r1_p29 hv)))
theorem r1_p33 {v129 v133 v138 : FVec Ideal S256x512 .f32} (hs : Rd2 v129 s) (hp : Rd2 v133 p) (hq : Rd2 v138 q) :
    Rd2 (k1_pay33 v129 v133 v138) (fun r c => p r c * (s r c * q r c)) := by
  unfold k1_pay33; exact (hp.mul (hs.mul hq)).trunc _
theorem r1_p34 {v129 v133 v138 : FVec Ideal S256x512 .f32} {v132 : FVec Ideal S256x512 .bf16} {v144 v147 : Vec Ideal S512x1024 .bf16} {v151 : Vec Ideal S256x1024 .f32}
    (hs : Rd2 v129 s) (h0 : Rd2 v132 du) (hp : Rd2 v133 p) (hq : Rd2 v138 q) (hw : Rd2 v144 w) (hu : Rd2 v147 u) (ha : Rd2 v151 a) :
    Rd2 (k1_pay34 v129 v132 v133 v138 v144 v147 v151) (fun r c => a r c + dAcc 512 (fun r c => p r c * (s r c * q r c)) du w u r c) := by
  unfold k1_pay34
  exact (ha.add (((r1_p33 hs hp hq).matmul_nn (hw.shapeCast_self _) _ _).add (h0.matmul_nn (hu.shapeCast_self _) _ _))).shapeCast_self _
theorem r1_p45 {v : Vec Ideal S256x1024 .f32} (hv : Rd2 v x) : Rd2 (k1_pay45 v) (fun r _ => rs x r) := by
  unfold k1_pay45
  exact (((((hv.mul hv).sum_cols _ _ _).shapeCast_col _).div (Rd2.bcast lit_1024) (fun _ _ _ _ => by norm_num)).add (Rd2.bcast lit_eps)).rsq (fun r _ _ _ => ms_pos x r)
theorem r1_p46 {v : Vec Ideal S256x1024 .f32} (hv : Rd2 v x) : Rd2 (k1_pay46 v) (xn x) := by
  unfold k1_pay46; exact hv.mul ((r1_p45 hv).broadcastTo_col _)
theorem r1_p47 {v222 v223 : Vec Ideal S256x1024 .f32} (ha : Rd2 v222 a) (hv : Rd2 v223 x) : Rd2 (k1_pay47 v222 v223) (dG 256 x a) := by
  unfold k1_pay47; exact ((ha.mul (r1_p46 hv)).sum_rows _ _ _).shapeCast_row _
theorem r1_p48 {v222 : Vec Ideal S256x1024 .f32} {v224 : Vec Ideal S1x1024 .f32} (ha : Rd2 v222 a) (hg : Rd2 v224 g) :
    Rd2 (k1_pay48 v222 v224) (fun r c => a r c * g 0 c) := by
  unfold k1_pay48; exact ha.mul (hg.broadcastTo_row _)
theorem r1_p49 {v222 v223 : Vec Ideal S256x1024 .f32} {v224 : Vec Ideal S1x1024 .f32} (ha : Rd2 v222 a) (hv : Rd2 v223 x) (hg : Rd2 v224 g) :
    Rd2 (k1_pay49 v222 v223 v224) (fun r _ => ∑ c ∈ Finset.range 1024, a r c * g 0 c * xn x r c) := by
  unfold k1_pay49; exact (((r1_p48 ha hg).mul (r1_p46 hv)).sum_cols _ _ _).shapeCast_col _
theorem r1_p50 : Rd2 (a := 256) (b := 1) (k1_pay50 (F := Ideal)) (fun _ _ => 1024) := by
  unfold k1_pay50; exact Rd2.bcast lit_1024
theorem r1_p1 {v232 v242 v243 : FVec Ideal S256x1 .f32} {v234 v239 : FVec Ideal S256x1024 .f32} {v250 : Vec Ideal S256x1024 .f32} {k z : ℕ → ℕ → ℝ}
    (h0 : Rd2 v232 k) (h1 : Rd2 v234 h) (h2 : Rd2 v239 q) (h3 : Rd2 v242 z) (h4 : Rd2 v243 (fun _ _ => 1024)) (h5 : Rd2 v250 dy) :
    Rd2 (k1_pay1 v232 v234 v239 v242 v243 v250) (fun r c => dy r c + k r 0 * (q r c - h r c * (z r 0 / 1024))) := by
  unfold k1_pay1
  exact h5.add ((h0.broadcastTo_col _).mul (h2.sub (h1.mul ((h3.div h4 (fun _ _ _ _ => by norm_num)).broadcastTo_col _))))
theorem r1_p2 {v237 : FVec Ideal S1x1024 .f32} {v253 : Vec Ideal S1x1024 .f32} (h0 : Rd2 v237 h) (ha : Rd2 v253 a) :
    Rd2 (k1_pay2 v237 v253) (fun r c => a r c + h r c) := by
  unfold k1_pay2; exact (ha.shapeCast_self _).add h0
theorem r1_p3 : Rd2 (a := 1) (b := 1024) (k1_pay3 (F := Ideal)) (fun _ _ => 0) := by
  unfold k1_pay3; exact Rd2.bcast lit_zero
end Payloads

end Cert.KernelIdeal.Val
-- ==== Proof.Region1Arrays.lean ====
/- The blocks of the activation gradient's windows, and its five result arrays after the call. -/
module

public import proofs.«01_k».proof.Proof.Region1Blocks
public import proofs.«01_k».proof.Proof.Region0Arrays

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The input blocks -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem blk1_0 {X : ℕ → ℕ → ℝ} (hX : Rd2 (a := 8192) (b := 1024) (V c main_arg5) X) (t : Fin cfg1.N) :
    Rd2 (a := 256) (b := 1024) (iblk1 V c 0 t) (fun r d => X ((t.val) * 256 + r) ((0) * 1024 + d)) := fun j => by
  unfold iblk1
  rw [View.read_apply]
  show V c main_arg5 _ = _
  refine (hX _).trans (coe_congr₂ X ?_ ?_)
  · show win1_0.index t 0 * 256 + 1 * (j 0).val = _; rw [(idx1_0 t).1]; omega
  · show win1_0.index t 1 * 1024 + 1 * (j 1).val = _; rw [(idx1_0 t).2]; omega
theorem idx1_1 : ∀ t : Fin cfg1.N, win1_1.index t 0 = t.val ∧ win1_1.index t 1 = 0 :=
  (by decide +kernel : ∀ t : Fin grid1.N, win1_1.index t 0 = t.val ∧ win1_1.index t 1 = 0)
theorem blk1_1 {X : ℕ → ℕ → ℝ} (hX : Rd2 (a := 8192) (b := 1024) (V c main_arg0) X) (t : Fin cfg1.N) :
    Rd2 (a := 256) (b := 1024) (iblk1 V c 1 t) (fun r d => X ((t.val) * 256 + r) ((0) * 1024 + d)) := fun j => by
  unfold iblk1
  rw [View.read_apply]
  show V c main_arg0 _ = _
  refine (hX _).trans (coe_congr₂ X ?_ ?_)
  · show win1_1.index t 0 * 256 + 1 * (j 0).val = _; rw [(idx1_1 t).1]; omega
  · show win1_1.index t 1 * 1024 + 1 * (j 1).val = _; rw [(idx1_1 t).2]; omega
theorem idx1_2 : ∀ t : Fin cfg1.N, win1_2.index t 0 = 0 ∧ win1_2.index t 1 = 0 :=
  (by decide +kernel : ∀ t : Fin grid1.N, win1_2.index t 0 = 0 ∧ win1_2.index t 1 = 0)
theorem blk1_2 {X : ℕ → ℕ → ℝ} (hX : Rd2 (a := 1) (b := 1024) (V c main_arg1) X) (t : Fin cfg1.N) :
    Rd2 (a := 1) (b := 1024) (iblk1 V c 2 t) (fun r d => X ((0) * 1 + r) ((0) * 1024 + d)) := fun j => by
  unfold iblk1
  rw [View.read_apply]
  show V c main_arg1 _ = _
  refine (hX _).trans (coe_congr₂ X ?_ ?_)
  · show win1_2.index t 0 * 1 + 1 * (j 0).val = _; rw [(idx1_2 t).1]; omega
  · show win1_2.index t 1 * 1024 + 1 * (j 1).val = _; rw [(idx1_2 t).2]; omega
theorem idx1_3 : ∀ t : Fin cfg1.N, win1_3.index t 0 = t.val ∧ win1_3.index t 1 = 0 :=
  (by decide +kernel : ∀ t : Fin grid1.N, win1_3.index t 0 = t.val ∧ win1_3.index t 1 = 0)
theorem blk1_3 {X : ℕ → ℕ → ℝ} (hX : Rd2 (a := 8192) (b := 2816) (V c main_v5_2) X) (t : Fin cfg1.N) :
    Rd2 (a := 256) (b := 2816) (iblk1 V c 3 t) (fun r d => X ((t.val) * 256 + r) ((0) * 2816 + d)) := fun j => by
  unfold iblk1
  rw [View.read_apply]
  show V c main_v5_2 _ = _
  refine (hX _).trans (coe_congr₂ X ?_ ?_)
  · show win1_3.index t 0 * 256 + 1 * (j 0).val = _; rw [(idx1_3 t).1]; omega
  · show win1_3.index t 1 * 2816 + 1 * (j 1).val = _; rw [(idx1_3 t).2]; omega
theorem idx1_4 : ∀ t : Fin cfg1.N, win1_4.index t 0 = t.val ∧ win1_4.index t 1 = 0 :=
  (by decide +kernel : ∀ t : Fin grid1.N, win1_4.index t 0 = t.val ∧ win1_4.index t 1 = 0)
theorem blk1_4 {X : ℕ → ℕ → ℝ} (hX : Rd2 (a := 8192) (b := 2816) (V c main_v5_3) X) (t : Fin cfg1.N) :
    Rd2 (a := 256) (b := 2816) (iblk1 V c 4 t) (fun r d => X ((t.val) * 256 + r) ((0) * 2816 + d)) := fun j => by
  unfold iblk1
  rw [View.read_apply]
  show V c main_v5_3 _ = _
  refine (hX _).trans (coe_congr₂ X ?_ ?_)
  · show win1_4.index t 0 * 256 + 1 * (j 0).val = _; rw [(idx1_4 t).1]; omega
  · show win1_4.index t 1 * 2816 + 1 * (j 1).val = _; rw [(idx1_4 t).2]; omega
theorem idx1_5 : ∀ t : Fin cfg1.N, win1_5.index t 0 = 0 ∧ win1_5.index t 1 = 0 :=
  (by decide +kernel : ∀ t : Fin grid1.N, win1_5.index t 0 = 0 ∧ win1_5.index t 1 = 0)
theorem blk1_5 {X : ℕ → ℕ → ℝ} (hX : Rd2 (a := 2816) (b := 1024) (V c main_v1) X) (t : Fin cfg1.N) :
    Rd2 (a := 2816) (b := 1024) (iblk1 V c 5 t) (fun r d => X ((0) * 2816 + r) ((0) * 1024 + d)) := fun j => by
  unfold iblk1
  rw [View.read_apply]
  show V c main_v1 _ = _
  refine (hX _).trans (coe_congr₂ X ?_ ?_)
  · show win1_5.index t 0 * 2816 + 1 * (j 0).val = _; rw [(idx1_5 t).1]; omega
  · show win1_5.index t 1 * 1024 + 1 * (j 1).val = _; rw [(idx1_5 t).2]; omega
theorem idx1_6 : ∀ t : Fin cfg1.N, win1_6.index t 0 = 0 ∧ win1_6.index t 1 = 0 :=
  (by decide +kernel : ∀ t : Fin grid1.N, win1_6.index t 0 = 0 ∧ win1_6.index t 1 = 0)
theorem blk1_6 {X : ℕ → ℕ → ℝ} (hX : Rd2 (a := 2816) (b := 1024) (V c main_v3) X) (t : Fin cfg1.N) :
    Rd2 (a := 2816) (b := 1024) (iblk1 V c 6 t) (fun r d => X ((0) * 2816 + r) ((0) * 1024 + d)) := fun j => by
  unfold iblk1
  rw [View.read_apply]
  show V c main_v3 _ = _
  refine (hX _).trans (coe_congr₂ X ?_ ?_)
  · show win1_6.index t 0 * 2816 + 1 * (j 0).val = _; rw [(idx1_6 t).1]; omega
  · show win1_6.index t 1 * 1024 + 1 * (j 1).val = _; rw [(idx1_6 t).2]; omega
theorem idx1_7 : ∀ t : Fin cfg1.N, win1_7.index t 0 = 0 ∧ win1_7.index t 1 = 0 :=
  (by decide +kernel : ∀ t : Fin grid1.N, win1_7.index t 0 = 0 ∧ win1_7.index t 1 = 0)
theorem blk1_7 {X : ℕ → ℕ → ℝ} (hX : Rd2 (a := 2816) (b := 1024) (V c main_v4) X) (t : Fin cfg1.N) :
    Rd2 (a := 2816) (b := 1024) (iblk1 V c 7 t) (fun r d => X ((0) * 2816 + r) ((0) * 1024 + d)) := fun j => by
  unfold iblk1
  rw [View.read_apply]
  show V c main_v4 _ = _
  refine (hX _).trans (coe_congr₂ X ?_ ?_)
  · show win1_7.index t 0 * 2816 + 1 * (j 0).val = _; rw [(idx1_7 t).1]; omega
  · show win1_7.index t 1 * 1024 + 1 * (j 1).val = _; rw [(idx1_7 t).2]; omega

/-! ## The result arrays -/

theorem idx1_8 : ∀ t : Fin cfg1.N, win1_8.index t 0 = t.val ∧ win1_8.index t 1 = 0 :=
  (by decide +kernel : ∀ t : Fin grid1.N, win1_8.index t 0 = t.val ∧ win1_8.index t 1 = 0)
theorem arr1_8 {G : ℕ → ℕ → ℝ} (hG : ∀ t : Fin cfg1.N, (cfg1.win 8).flush t = true →
      Rd2 (a := 256) (b := 1024) (outsAt1 V c t.val t.isLt).1 (fun r d => G ((t.val) * 256 + r) ((0) * 1024 + d))) :
    Rd2 (a := 8192) (b := 1024) ((dat1 V c).arrAt 8 cfg1.N) G := fun i => by
  refine (dat1 V c).arrAt_forall_of_covers 8 (fun i v => v = ((G (i 0).val (i 1).val : ℝ) : EReal)) (by decide +kernel) (fun t hf y => ?_) i
  rw [after1_8]
  refine (hG t hf _).trans (coe_congr₂ G ?_ ?_)
  · show (t.val) * 256 + (y 0).val = win1_8.index t 0 * 256 + 1 * (y 0).val; rw [(idx1_8 t).1]; omega
  · show (0) * 1024 + (y 1).val = win1_8.index t 1 * 1024 + 1 * (y 1).val; rw [(idx1_8 t).2]; omega
theorem idx1_11 : ∀ t : Fin cfg1.N, win1_11.index t 0 = t.val ∧ win1_11.index t 1 = 0 :=
  (by decide +kernel : ∀ t : Fin grid1.N, win1_11.index t 0 = t.val ∧ win1_11.index t 1 = 0)
theorem arr1_11 {G : ℕ → ℕ → ℝ} (hG : ∀ t : Fin cfg1.N, (cfg1.win 11).flush t = true →
      Rd2 (a := 256) (b := 1024) (outsAt1 V c t.val t.isLt).2.2.2.1 (fun r d => G ((t.val) * 256 + r) ((0) * 1024 + d))) :
    Rd2 (a := 8192) (b := 1024) ((dat1 V c).arrAt 11 cfg1.N) G := fun i => by
  refine (dat1 V c).arrAt_forall_of_covers 11 (fun i v => v = ((G (i 0).val (i 1).val : ℝ) : EReal)) (by decide +kernel) (fun t hf y => ?_) i
  rw [after1_11]
  refine (hG t hf _).trans (coe_congr₂ G ?_ ?_)
  · show (t.val) * 256 + (y 0).val = win1_11.index t 0 * 256 + 1 * (y 0).val; rw [(idx1_11 t).1]; omega
  · show (0) * 1024 + (y 1).val = win1_11.index t 1 * 1024 + 1 * (y 1).val; rw [(idx1_11 t).2]; omega
theorem idx1_9 : ∀ t : Fin cfg1.N, win1_9.index t 0 = t.val ∧ win1_9.index t 1 = 0 :=
  (by decide +kernel : ∀ t : Fin grid1.N, win1_9.index t 0 = t.val ∧ win1_9.index t 1 = 0)
theorem arr1_9 {G : ℕ → ℕ → ℝ} (hG : ∀ t : Fin cfg1.N, (cfg1.win 9).flush t = true →
      Rd2 (a := 256) (b := 2816) (outsAt1 V c t.val t.isLt).2.1 (fun r d => G ((t.val) * 256 + r) ((0) * 2816 + d))) :
    Rd2 (a := 8192) (b := 2816) ((dat1 V c).arrAt 9 cfg1.N) G := fun i => by
  refine (dat1 V c).arrAt_forall_of_covers 9 (fun i v => v = ((G (i 0).val (i 1).val : ℝ) : EReal)) (by decide +kernel) (fun t hf y => ?_) i
  rw [after1_9]
  refine (hG t hf _).trans (coe_congr₂ G ?_ ?_)
  · show (t.val) * 256 + (y 0).val = win1_9.index t 0 * 256 + 1 * (y 0).val; rw [(idx1_9 t).1]; omega
  · show (0) * 2816 + (y 1).val = win1_9.index t 1 * 2816 + 1 * (y 1).val; rw [(idx1_9 t).2]; omega
theorem idx1_10 : ∀ t : Fin cfg1.N, win1_10.index t 0 = t.val ∧ win1_10.index t 1 = 0 :=
  (by decide +kernel : ∀ t : Fin grid1.N, win1_10.index t 0 = t.val ∧ win1_10.index t 1 = 0)
theorem arr1_10 {G : ℕ → ℕ → ℝ} (hG : ∀ t : Fin cfg1.N, (cfg1.win 10).flush t = true →
      Rd2 (a := 256) (b := 2816) (outsAt1 V c t.val t.isLt).2.2.1 (fun r d => G ((t.val) * 256 + r) ((0) * 2816 + d))) :
    Rd2 (a := 8192) (b := 2816) ((dat1 V c).arrAt 10 cfg1.N) G := fun i => by
  refine (dat1 V c).arrAt_forall_of_covers 10 (fun i v => v = ((G (i 0).val (i 1).val : ℝ) : EReal)) (by decide +kernel) (fun t hf y => ?_) i
  rw [after1_10]
  refine (hG t hf _).trans (coe_congr₂ G ?_ ?_)
  · show (t.val) * 256 + (y 0).val = win1_10.index t 0 * 256 + 1 * (y 0).val; rw [(idx1_10 t).1]; omega
  · show (0) * 2816 + (y 1).val = win1_10.index t 1 * 2816 + 1 * (y 1).val; rw [(idx1_10 t).2]; omega
theorem idx1_12 : ∀ t : Fin cfg1.N, win1_12.index t 0 = 0 ∧ win1_12.index t 1 = 0 :=
  (by decide +kernel : ∀ t : Fin grid1.N, win1_12.index t 0 = 0 ∧ win1_12.index t 1 = 0)
theorem arr1_12 {G : ℕ → ℕ → ℝ} (hG : ∀ t : Fin cfg1.N, (cfg1.win 12).flush t = true →
      Rd2 (a := 1) (b := 1024) (outsAt1 V c t.val t.isLt).2.2.2.2 (fun r d => G ((0) * 1 + r) ((0) * 1024 + d))) :
    Rd2 (a := 1) (b := 1024) ((dat1 V c).arrAt 12 cfg1.N) G := fun i => by
  refine (dat1 V c).arrAt_forall_of_covers 12 (fun i v => v = ((G (i 0).val (i 1).val : ℝ) : EReal)) (by decide +kernel) (fun t hf y => ?_) i
  rw [after1_12]
  refine (hG t hf _).trans (coe_congr₂ G ?_ ?_)
  · show (0) * 1 + (y 0).val = win1_12.index t 0 * 1 + 1 * (y 0).val; rw [(idx1_12 t).1]; omega
  · show (0) * 1024 + (y 1).val = win1_12.index t 1 * 1024 + 1 * (y 1).val; rw [(idx1_12 t).2]; omega

/-! ## The call -/

variable {V c} {dy x g gt up wg wu wd : ℕ → ℕ → ℝ}
  (hdy : Rd2 (a := 8192) (b := 1024) (V c main_arg5) dy)
  (hx : Rd2 (a := 8192) (b := 1024) (V c main_arg0) x) (hg : Rd2 (a := 1) (b := 1024) (V c main_arg1) g)
  (hgt : Rd2 (a := 8192) (b := 2816) (V c main_v5_2) gt) (hup : Rd2 (a := 8192) (b := 2816) (V c main_v5_3) up)
  (hwg : Rd2 (a := 2816) (b := 1024) (V c main_v1) wg) (hwu : Rd2 (a := 2816) (b := 1024) (V c main_v3) wu)
  (hwd : Rd2 (a := 2816) (b := 1024) (V c main_v4) wd)

include hdy
theorem call1_dyh : Rd2 (a := 8192) (b := 1024) ((dat1 V c).arrAt 11 cfg1.N) (dyh dy) := arr1_11 V c fun t _ => by
  by_cases h0 : t.val % 32 = 0
  · rw [outsAt1_A V c t h0]; dsimp only
    refine (r1_outA11 c _ (blk1_0 V c hdy t)).congr fun r d _ _ => ?_
    simp only [Nat.zero_mul, Nat.zero_add]; rfl
  · rw [outsAt1_B V c t h0]; dsimp only
    refine (r1_outB11 c _ (blk1_0 V c hdy t)).congr fun r d _ _ => ?_
    simp only [Nat.zero_mul, Nat.zero_add]; rfl
include hgt hwd
theorem call1_dup : Rd2 (a := 8192) (b := 2816) ((dat1 V c).arrAt 10 cfg1.N) (dUp (lin 1024 (dyh dy) wd) gt) := arr1_10 V c fun t _ => by
  by_cases h0 : t.val % 32 = 0
  · rw [outsAt1_A V c t h0]; dsimp only
    refine (r1_outA10 c _ (blk1_0 V c hdy t) (blk1_3 V c hgt t) (blk1_7 V c hwd t)).congr fun r d _ _ => ?_
    simp only [Nat.zero_mul, Nat.zero_add]; rfl
  · rw [outsAt1_B V c t h0]; dsimp only
    refine (r1_outB10 c _ (blk1_0 V c hdy t) (blk1_3 V c hgt t) (blk1_7 V c hwd t)).congr fun r d _ _ => ?_
    simp only [Nat.zero_mul, Nat.zero_add]; rfl
include hup
theorem call1_dgate : Rd2 (a := 8192) (b := 2816) ((dat1 V c).arrAt 9 cfg1.N) (dGate (lin 1024 (dyh dy) wd) gt up) := arr1_9 V c fun t _ => by
  by_cases h0 : t.val % 32 = 0
  · rw [outsAt1_A V c t h0]; dsimp only
    refine (r1_outA9 c _ (blk1_0 V c hdy t) (blk1_3 V c hgt t) (blk1_4 V c hup t) (blk1_7 V c hwd t)).congr fun r d _ _ => ?_
    simp only [Nat.zero_mul, Nat.zero_add]; rfl
  · rw [outsAt1_B V c t h0]; dsimp only
    refine (r1_outB9 c _ (blk1_0 V c hdy t) (blk1_3 V c hgt t) (blk1_4 V c hup t) (blk1_7 V c hwd t)).congr fun r d _ _ => ?_
    simp only [Nat.zero_mul, Nat.zero_add]; rfl
include hx hg hwg hwu
theorem call1_dx : Rd2 (a := 8192) (b := 1024) ((dat1 V c).arrAt 8 cfg1.N) (dX dy x g (dAcc 2816 (dGate (lin 1024 (dyh dy) wd) gt up) (dUp (lin 1024 (dyh dy) wd) gt) wg wu)) := arr1_8 V c fun t _ => by
  by_cases h0 : t.val % 32 = 0
  · rw [outsAt1_A V c t h0]; dsimp only
    refine (r1_outA8 c _ (blk1_0 V c hdy t) (blk1_1 V c hx t) (blk1_2 V c hg t) (blk1_3 V c hgt t) (blk1_4 V c hup t) (blk1_5 V c hwg t) (blk1_6 V c hwu t) (blk1_7 V c hwd t)).congr fun r d _ _ => ?_
    simp only [Nat.zero_mul, Nat.zero_add]; rfl
  · rw [outsAt1_B V c t h0]; dsimp only
    refine (r1_outB8 c _ (blk1_0 V c hdy t) (blk1_1 V c hx t) (blk1_2 V c hg t) (blk1_3 V c hgt t) (blk1_4 V c hup t) (blk1_5 V c hwg t) (blk1_6 V c hwu t) (blk1_7 V c hwd t)).congr fun r d _ _ => ?_
    simp only [Nat.zero_mul, Nat.zero_add]; rfl
omit hg
/-- After point `t` the weight's gradient is the sum over the rows of the points so far. -/
theorem call1_dg_acc : ∀ (n : ℕ) (t : Fin cfg1.N), t.val = n → Rd2 (a := 1) (b := 1024) (outsAt1 V c t.val t.isLt).2.2.2.2
    (dG (256 * (n + 1)) x (dAcc 2816 (dGate (lin 1024 (dyh dy) wd) gt up) (dUp (lin 1024 (dyh dy) wd) gt) wg wu)) := by
  intro n
  induction n with
  | zero =>
    intro t ht0
    rw [outsAt1_A V c t (by omega)]; dsimp only
    refine (r1_outA12 c _ (blk1_0 V c hdy t) (blk1_1 V c hx t) (blk1_3 V c hgt t) (blk1_4 V c hup t) (blk1_5 V c hwg t) (blk1_6 V c hwu t) (blk1_7 V c hwd t)).congr fun r d _ _ => ?_
    simp only [ht0, Nat.zero_mul, Nat.zero_add]
  | succ n ih =>
    intro t htv
    have hlt : t.val < 32 := t.isLt
    have ho := ih ⟨t.val - 1, Nat.lt_of_le_of_lt (Nat.sub_le _ _) t.isLt⟩ (by show t.val - 1 = n; omega)
    rw [outsAt1_B V c t (by omega)]; dsimp only
    refine (r1_outB12 c _ (blk1_0 V c hdy t) (blk1_1 V c hx t) (blk1_3 V c hgt t) (blk1_4 V c hup t) (blk1_5 V c hwg t) (blk1_6 V c hwu t) (blk1_7 V c hwd t) ho).congr fun r d _ _ => ?_
    simp only [Nat.zero_mul, Nat.zero_add]
    rw [htv]
    unfold dG
    rw [show 256 * (n + 1 + 1) = 256 * (n + 1) + 256 from by ring, ← sum_split]
    refine congrArg (_ + ·) (Finset.sum_congr rfl fun k _ => ?_)
    rw [Nat.mul_comm 256 (n + 1)]; rfl
theorem call1_dg : Rd2 (a := 1) (b := 1024) ((dat1 V c).arrAt 12 cfg1.N) (dG 8192 x (dAcc 2816 (dGate (lin 1024 (dyh dy) wd) gt up) (dUp (lin 1024 (dyh dy) wd) gt) wg wu)) := arr1_12 V c fun t hf => by
  have h31 : t.val = 31 := (by decide +kernel : ∀ t : Fin grid1.N, win1_12.flush t = true → t.val = 31) t hf
  refine (call1_dg_acc hdy hx hgt hup hwg hwu hwd t.val t rfl).congr fun r d _ _ => ?_
  rw [h31, Nat.zero_mul, Nat.zero_add, Nat.zero_add]

end Cert.KernelIdeal.Val
-- ==== Proof.Region2.lean ====
/- The arithmetic of the weight gradient's body, payload by payload, on real arrays. -/
module

public import proofs.«01_k».proof.Proof.Gen.KernelIdeal.Frame.Region2
public import proofs.«01_k».proof.Proof.Formulas

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

section Payloads
variable {h a w : ℕ → ℕ → ℝ}

theorem r2_p6 {v : Vec Ideal S512x1024 .bf16} (hv : Rd2 v h) : Rd2 (k2_pay6 v) h := by
  unfold k2_pay6; exact hv.shapeCast_self _
theorem r2_p7 {v : Vec Ideal S512x1024 .bf16} (hv : Rd2 v h) : Rd2 (k2_pay7 v) h := by
  unfold k2_pay7; exact hv.shapeCast_self _
theorem r2_p8 {v : Vec Ideal S512x1024 .bf16} {o : Vec Ideal S512x1024 .f32} {u : Vec Ideal S512x512 .bf16} (hv : Rd2 v h) (ho : Rd2 o a) (hw : Rd2 u w) :
    Rd2 (k2_pay8 v o u) (fun r c => a r c + linT 512 w h r c) := by
  unfold k2_pay8; exact (ho.shapeCast_self _).add ((hw.shapeCast_self _).matmul_tn (r2_p6 hv) _ _)
theorem r2_p9 {v : Vec Ideal S512x1024 .bf16} {o : Vec Ideal S512x1024 .f32} {u : Vec Ideal S512x512 .bf16} (hv : Rd2 v h) (ho : Rd2 o a) (hw : Rd2 u w) :
    Rd2 (k2_pay9 v o u) (fun r c => a r c + linT 512 w h r c) := by
  unfold k2_pay9; exact (ho.shapeCast_self _).add ((hw.shapeCast_self _).matmul_tn (r2_p6 hv) _ _)
theorem r2_p10 {v : Vec Ideal S512x1024 .bf16} {o : Vec Ideal S512x1024 .f32} {u : Vec Ideal S512x512 .bf16} (hv : Rd2 v h) (ho : Rd2 o a) (hw : Rd2 u w) :
    Rd2 (k2_pay10 v o u) (fun r c => a r c + linT 512 w h r c) := by
  unfold k2_pay10; exact (ho.shapeCast_self _).add ((hw.shapeCast_self _).matmul_tn (r2_p7 hv) _ _)
theorem r2_p11 {v : FVec Ideal S512x1024 .bf16} {o : Vec Ideal S512x1024 .f32} {u : Vec Ideal S512x512 .bf16} (hv : Rd2 v h) (ho : Rd2 o a) (hw : Rd2 u w) :
    Rd2 (k2_pay11 v o u) (fun r c => a r c + linT 512 w h r c) := by
  unfold k2_pay11; exact (ho.shapeCast_self _).add ((hw.shapeCast_self _).matmul_tn hv _ _)
theorem r2_p12 {v : FVec Ideal S512x1024 .bf16} {o : Vec Ideal S512x1024 .f32} {u : Vec Ideal S512x512 .bf16} (hv : Rd2 v h) (ho : Rd2 o a) (hw : Rd2 u w) :
    Rd2 (k2_pay12 v o u) (fun r c => a r c + linT 512 w h r c) := by
  unfold k2_pay12; exact (ho.shapeCast_self _).add ((hw.shapeCast_self _).matmul_tn hv _ _)
theorem r2_p13 {v : FVec Ideal S512x1024 .bf16} {o : Vec Ideal S512x1024 .f32} {u : Vec Ideal S512x512 .bf16} (hv : Rd2 v h) (ho : Rd2 o a) (hw : Rd2 u w) :
    Rd2 (k2_pay13 v o u) (fun r c => a r c + linT 512 w h r c) := by
  unfold k2_pay13; exact (ho.shapeCast_self _).add ((hw.shapeCast_self _).matmul_tn hv _ _)
theorem r2_p14 {v : FVec Ideal S512x1024 .bf16} {o : Vec Ideal S384x1024 .f32} {u : Vec Ideal S512x384 .bf16} (hv : Rd2 v h) (ho : Rd2 o a) (hw : Rd2 u w) :
    Rd2 (k2_pay14 v o u) (fun r c => a r c + linT 512 w h r c) := by
  unfold k2_pay14; exact (ho.shapeCast_self _).add ((hw.shapeCast_self _).matmul_tn hv _ _)
theorem r2_p1 {v : FVec Ideal S512x1024 .bf16} {o : Vec Ideal S384x1024 .f32} {u : Vec Ideal S512x384 .bf16} (hv : Rd2 v h) (ho : Rd2 o a) (hw : Rd2 u w) :
    Rd2 (k2_pay1 v o u) (fun r c => a r c + linT 512 w h r c) := by
  unfold k2_pay1; exact (ho.shapeCast_self _).add ((hw.shapeCast_self _).matmul_tn hv _ _)
theorem r2_p2 {v : FVec Ideal S512x1024 .bf16} {o : Vec Ideal S384x1024 .f32} {u : Vec Ideal S512x384 .bf16} (hv : Rd2 v h) (ho : Rd2 o a) (hw : Rd2 u w) :
    Rd2 (k2_pay2 v o u) (fun r c => a r c + linT 512 w h r c) := by
  unfold k2_pay2; exact (ho.shapeCast_self _).add ((hw.shapeCast_self _).matmul_tn hv _ _)
theorem r2_p3 : Rd2 (a := 1408) (b := 1024) (k2_pay3 (F := Ideal)) (fun _ _ => 0) := by
  unfold k2_pay3; exact Rd2.bcast lit_zero
theorem r2_p4 : Rd2 (a := 1408) (b := 1024) (k2_pay4 (F := Ideal)) (fun _ _ => 0) := by
  unfold k2_pay4; exact Rd2.bcast lit_zero
theorem r2_p5 : Rd2 (a := 1408) (b := 1024) (k2_pay5 (F := Ideal)) (fun _ _ => 0) := by
  unfold k2_pay5; exact Rd2.bcast lit_zero
end Payloads

end Cert.KernelIdeal.Val
-- ==== Proof.RowStores.lean ====
/- Blocks stored row range by row range, and read back while they are being filled. -/
module

public import proofs.«01_k».proof.Proof.RealArrays

@[expose] public section

noncomputable section

namespace Cert.RealArrays

open Idealize.ShloMosaic Idealize.ShloMosaic.ValueIdx

/-- A load of whole rows, from row `p` on. -/
theorem Rd2.ldf_rows {a b : ℕ} {v : Vec Ideal (M2 a b) .f32} {f : ℕ → ℕ → ℝ} (hv : Rd2 v f) {p n m : ℕ}
    (inb : ∀ x, (![p, 0] : Fin 2 → ℕ) x + (M2 n m).size x ≤ (M2 a b).size x) :
    Rd2 (a := n) (b := m) (View.ld (Val := Elt Ideal) (e' := .f32) v (Rect.unit (s := M2 a b) ![p, 0] (M2 n m).size inb)) (fun r c => f (p + r) c) :=
  (hv.ldf inb).congr fun r c _ _ => by rw [Nat.zero_add]
/-- A load from a block being filled reads what its stores so far leave. -/
theorem readCov_ld {κ : Kind} {sp : Space} {s : Shape} {e : EltTy} {sig : RefSig} (v : View sig κ sp s e) (L : List (View.Piece (Elt Ideal) s e)) (r : Rect s) :
    v.readCov L r.toLoadRect = View.ld (View.canon L) r := View.readCov_eq_canon' v L r.toLoadRect
/-- A block whose last store is of rows `p … p + n` reads the store there and the earlier stores elsewhere. -/
theorem Rd2.canon_rows {a b n p : ℕ} {f g g' : ℕ → ℕ → ℝ} {L : List (View.Piece (Elt Ideal) (M2 a b) .f32)}
    (hL : Rd2 (View.canon L) g) (inb : ∀ x, (![p, 0] : Fin 2 → ℕ) x + (M2 n b).size x ≤ (M2 a b).size x)
    {w : (M2 n b).Idx → EReal} (hw : Rd2 w f) (h1 : ∀ r c, r < n → c < b → f r c = g' (p + r) c)
    (h2 : ∀ r c, ¬(p ≤ r ∧ r < p + n) → g r c = g' r c) :
    Rd2 (a := a) (b := b) (View.canon ((⟨Rect.unit (s := M2 a b) ![p, 0] (M2 n b).size inb, w⟩ : View.Piece (Elt Ideal) (M2 a b) .f32) :: L)) g' := by
  intro i
  by_cases hi : i ∈ (Rect.unit (s := M2 a b) ![p, 0] (M2 n b).size inb).set
  · obtain ⟨x, rfl⟩ : ∃ x, (Rect.unit (s := M2 a b) ![p, 0] (M2 n b).size inb).emb x = i := (Rect.unit (s := M2 a b) ![p, 0] (M2 n b).size inb).exists_idx_of_mem hi
    refine (View.canon_cons_emb (Val := Elt Ideal) (e := .f32) _ w L x).trans ?_
    exact Rd2.piece inb hw (fun r c hr hc => by rw [h1 r c hr hc, Nat.zero_add]) x
  · refine (View.canon_cons_of_not_mem (Val := Elt Ideal) (e := .f32) _ L hi).trans ?_
    refine (hL i).trans ?_
    refine congrArg _ (h2 _ _ fun hp => hi ?_)
    have hx : (Rect.unit (s := M2 a b) ![p, 0] (M2 n b).size inb).emb (ix2 ⟨(i 0).val - p, by omega⟩ (i 1)) = i :=
      funext fun x => Fin.ext (match x with
        | ⟨0, _⟩ => by show p + 1 * ((i 0).val - p) = (i 0).val; omega
        | ⟨1, _⟩ => by show 0 + 1 * (i 1).val = (i 1).val; omega)
    rw [← hx]; exact (Rect.unit (s := M2 a b) ![p, 0] (M2 n b).size inb).idx_mem _

end Cert.RealArrays
-- ==== Proof.Region2Blocks.lean ====
/- What a grid point of the weight gradient leaves in its three output blocks. -/
module

public import proofs.«01_k».proof.Proof.Region2
public import proofs.«01_k».proof.Proof.RowStores

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

section Blocks
variable {w h o : ℕ → ℕ → ℝ}
variable (c : Dev nD) (i : grid2.Coords) {a2 h2 a3 h3 a4 h4 a5 h5 a6 h6 a7 h7 a8 h8 a9 h9}
variable {x0 x1 x2 : Vec Ideal S512x1408 .bf16} {x3 x4 : Vec Ideal S512x1024 .bf16} {xo5 xo6 xo7 : Vec Ideal S1408x1024 .f32}

theorem r2_outA5 {hc} (rx : Rd2 x0 w) (rh : Rd2 x3 h) :
    Rd2 (out2_A_5 c i a2 h2 a3 h3 a4 h4 a5 h5 a6 h6 a7 h7 a8 h8 a9 h9 hc x0 x1 x2 x3 x4) (linT 512 w h) := by
  unfold out2_A_5
  rw [View.read_writes_eq_canon _ _ _ (cover2_A_5 c i a2 h2 a3 h3 a4 h4 a5 h5 a6 h6 a7 h7 a8 h8 a9 h9 hc x0 x1 x2 x3 x4)]
  unfold kernelRun2_A
  dsimp only
  sl_unfold_words
  simp only [View.readAt_eq_ld, h2.read_unread, h3.read_unread, h4.read_unread, h5.read_unread, h6.read_unread, h7.read_unread, h8.read_unread, h9.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k2_pay3 (F := Ideal)⟩ : View.Piece (Elt Ideal) S1408x1024 .f32)]) (fun _ _ => 0) := by
    rw [canon_whole]; exact r2_p3
  have s1 := s0.canon_rows (g' := fun r c => if r < 512 then linT 512 w h r c else 0) inb_S1408x1024_S512x1024_0_0 (r2_p8 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p11 (r2_p6 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p14 (r2_p6 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r2_outA6 {hc} (rx : Rd2 x1 w) (rh : Rd2 x3 h) :
    Rd2 (out2_A_6 c i a2 h2 a3 h3 a4 h4 a5 h5 a6 h6 a7 h7 a8 h8 a9 h9 hc x0 x1 x2 x3 x4) (linT 512 w h) := by
  unfold out2_A_6
  rw [View.read_writes_eq_canon _ _ _ (cover2_A_6 c i a2 h2 a3 h3 a4 h4 a5 h5 a6 h6 a7 h7 a8 h8 a9 h9 hc x0 x1 x2 x3 x4)]
  unfold kernelRun2_A
  dsimp only
  sl_unfold_words
  simp only [View.readAt_eq_ld, h2.read_unread, h3.read_unread, h4.read_unread, h5.read_unread, h6.read_unread, h7.read_unread, h8.read_unread, h9.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k2_pay4 (F := Ideal)⟩ : View.Piece (Elt Ideal) S1408x1024 .f32)]) (fun _ _ => 0) := by
    rw [canon_whole]; exact r2_p4
  have s1 := s0.canon_rows (g' := fun r c => if r < 512 then linT 512 w h r c else 0) inb_S1408x1024_S512x1024_0_0 (r2_p9 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p12 (r2_p6 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p1 (r2_p6 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r2_outA7 {hc} (rx : Rd2 x2 w) (rh : Rd2 x4 h) :
    Rd2 (out2_A_7 c i a2 h2 a3 h3 a4 h4 a5 h5 a6 h6 a7 h7 a8 h8 a9 h9 hc x0 x1 x2 x3 x4) (linT 512 w h) := by
  unfold out2_A_7
  rw [View.read_writes_eq_canon _ _ _ (cover2_A_7 c i a2 h2 a3 h3 a4 h4 a5 h5 a6 h6 a7 h7 a8 h8 a9 h9 hc x0 x1 x2 x3 x4)]
  unfold kernelRun2_A
  dsimp only
  sl_unfold_words
  simp only [View.readAt_eq_ld, h2.read_unread, h3.read_unread, h4.read_unread, h5.read_unread, h6.read_unread, h7.read_unread, h8.read_unread, h9.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k2_pay5 (F := Ideal)⟩ : View.Piece (Elt Ideal) S1408x1024 .f32)]) (fun _ _ => 0) := by
    rw [canon_whole]; exact r2_p5
  have s1 := s0.canon_rows (g' := fun r c => if r < 512 then linT 512 w h r c else 0) inb_S1408x1024_S512x1024_0_0 (r2_p10 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p13 (r2_p7 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p2 (r2_p7 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r2_outB5 {hc} (rx : Rd2 x0 w) (rh : Rd2 x3 h) (ro : Rd2 xo5 o) :
    Rd2 (out2_B_5 c i a2 h2 a3 h3 a4 h4 a5 h5 a6 h6 a7 h7 a8 h8 a9 h9 hc x0 x1 x2 x3 x4 xo5 xo6 xo7) (fun r c => o r c + linT 512 w h r c) := by
  unfold out2_B_5
  rw [View.read_writes_eq_canon _ _ _ (cover2_B_5 c i a2 h2 a3 h3 a4 h4 a5 h5 a6 h6 a7 h7 a8 h8 a9 h9 hc x0 x1 x2 x3 x4 xo5 xo6 xo7)]
  refine Rd2.canonf (cover2_B_5 c i a2 h2 a3 h3 a4 h4 a5 h5 a6 h6 a7 h7 a8 h8 a9 h9 hc x0 x1 x2 x3 x4 xo5 xo6 xo7) ?_
  unfold kernelRun2_B
  dsimp only
  sl_unfold_words
  simp only [View.readAt_eq_ld, h2.read_unread, h3.read_unread, h4.read_unread, h5.read_unread, h6.read_unread, h7.read_unread, h8.read_unread, h9.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p14 (r2_p6 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p11 (r2_p6 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p8 hh (ro.ldf_rows inb_S1408x1024_S512x1024_0_0) (rx.ldb_cols inb_S512x1408_S512x512_0_0)) (fun r c _ _ => by simp only [Nat.zero_add]), ?_⟩
  exact fun p hp => absurd hp List.not_mem_nil

theorem r2_outB6 {hc} (rx : Rd2 x1 w) (rh : Rd2 x3 h) (ro : Rd2 xo6 o) :
    Rd2 (out2_B_6 c i a2 h2 a3 h3 a4 h4 a5 h5 a6 h6 a7 h7 a8 h8 a9 h9 hc x0 x1 x2 x3 x4 xo5 xo6 xo7) (fun r c => o r c + linT 512 w h r c) := by
  unfold out2_B_6
  rw [View.read_writes_eq_canon _ _ _ (cover2_B_6 c i a2 h2 a3 h3 a4 h4 a5 h5 a6 h6 a7 h7 a8 h8 a9 h9 hc x0 x1 x2 x3 x4 xo5 xo6 xo7)]
  refine Rd2.canonf (cover2_B_6 c i a2 h2 a3 h3 a4 h4 a5 h5 a6 h6 a7 h7 a8 h8 a9 h9 hc x0 x1 x2 x3 x4 xo5 xo6 xo7) ?_
  unfold kernelRun2_B
  dsimp only
  sl_unfold_words
  simp only [View.readAt_eq_ld, h2.read_unread, h3.read_unread, h4.read_unread, h5.read_unread, h6.read_unread, h7.read_unread, h8.read_unread, h9.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p1 (r2_p6 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p12 (r2_p6 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p9 hh (ro.ldf_rows inb_S1408x1024_S512x1024_0_0) (rx.ldb_cols inb_S512x1408_S512x512_0_0)) (fun r c _ _ => by simp only [Nat.zero_add]), ?_⟩
  exact fun p hp => absurd hp List.not_mem_nil

theorem r2_outB7 {hc} (rx : Rd2 x2 w) (rh : Rd2 x4 h) (ro : Rd2 xo7 o) :
    Rd2 (out2_B_7 c i a2 h2 a3 h3 a4 h4 a5 h5 a6 h6 a7 h7 a8 h8 a9 h9 hc x0 x1 x2 x3 x4 xo5 xo6 xo7) (fun r c => o r c + linT 512 w h r c) := by
  unfold out2_B_7
  rw [View.read_writes_eq_canon _ _ _ (cover2_B_7 c i a2 h2 a3 h3 a4 h4 a5 h5 a6 h6 a7 h7 a8 h8 a9 h9 hc x0 x1 x2 x3 x4 xo5 xo6 xo7)]
  refine Rd2.canonf (cover2_B_7 c i a2 h2 a3 h3 a4 h4 a5 h5 a6 h6 a7 h7 a8 h8 a9 h9 hc x0 x1 x2 x3 x4 xo5 xo6 xo7) ?_
  unfold kernelRun2_B
  dsimp only
  sl_unfold_words
  simp only [View.readAt_eq_ld, h2.read_unread, h3.read_unread, h4.read_unread, h5.read_unread, h6.read_unread, h7.read_unread, h8.read_unread, h9.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p2 (r2_p7 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p13 (r2_p7 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p10 hh (ro.ldf_rows inb_S1408x1024_S512x1024_0_0) (rx.ldb_cols inb_S512x1408_S512x512_0_0)) (fun r c _ _ => by simp only [Nat.zero_add]), ?_⟩
  exact fun p hp => absurd hp List.not_mem_nil

end Blocks

end Cert.KernelIdeal.Val
-- ==== Proof.Region2Arrays.lean ====
/- The blocks of the weight gradient's windows, and its three result arrays after the call. -/
module

public import proofs.«01_k».proof.Proof.Region2Blocks
public import proofs.«01_k».proof.Proof.Region0Arrays

@[expose] public section

noncomputable section

namespace Cert.KernelIdeal.Val

open Cert.KernelIdeal Cert.KernelIdeal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The input blocks -/

theorem idx2_0 : ∀ t : Fin cfg2.N, win2_0.index t 0 = t.val % 16 ∧ win2_0.index t 1 = t.val / 16 :=
  (by decide +kernel : ∀ t : Fin grid2.N, win2_0.index t 0 = t.val % 16 ∧ win2_0.index t 1 = t.val / 16)
theorem blk2_0 {X : ℕ → ℕ → ℝ} (hX : Rd2 (a := 8192) (b := 2816) (V c main_v6_1) X) (t : Fin cfg2.N) :
    Rd2 (a := 512) (b := 1408) (iblk2 V c 0 t) (fun r d => X ((t.val % 16) * 512 + r) ((t.val / 16) * 1408 + d)) := fun j => by
  unfold iblk2
  rw [View.read_apply]
  show V c main_v6_1 _ = _
  refine (hX _).trans (coe_congr₂ X ?_ ?_)
  · show win2_0.index t 0 * 512 + 1 * (j 0).val = _; rw [(idx2_0 t).1]; omega
  · show win2_0.index t 1 * 1408 + 1 * (j 1).val = _; rw [(idx2_0 t).2]; omega
theorem idx2_1 : ∀ t : Fin cfg2.N, win2_1.index t 0 = t.val % 16 ∧ win2_1.index t 1 = t.val / 16 :=
  (by decide +kernel : ∀ t : Fin grid2.N, win2_1.index t 0 = t.val % 16 ∧ win2_1.index t 1 = t.val / 16)
theorem blk2_1 {X : ℕ → ℕ → ℝ} (hX : Rd2 (a := 8192) (b := 2816) (V c main_v6_2) X) (t : Fin cfg2.N) :
    Rd2 (a := 512) (b := 1408) (iblk2 V c 1 t) (fun r d => X ((t.val % 16) * 512 + r) ((t.val / 16) * 1408 + d)) := fun j => by
  unfold iblk2
  rw [View.read_apply]
  show V c main_v6_2 _ = _
  refine (hX _).trans (coe_congr₂ X ?_ ?_)
  · show win2_1.index t 0 * 512 + 1 * (j 0).val = _; rw [(idx2_1 t).1]; omega
  · show win2_1.index t 1 * 1408 + 1 * (j 1).val = _; rw [(idx2_1 t).2]; omega
theorem idx2_2 : ∀ t : Fin cfg2.N, win2_2.index t 0 = t.val % 16 ∧ win2_2.index t 1 = t.val / 16 :=
  (by decide +kernel : ∀ t : Fin grid2.N, win2_2.index t 0 = t.val % 16 ∧ win2_2.index t 1 = t.val / 16)
theorem blk2_2 {X : ℕ → ℕ → ℝ} (hX : Rd2 (a := 8192) (b := 2816) (V c main_v5_4) X) (t : Fin cfg2.N) :
    Rd2 (a := 512) (b := 1408) (iblk2 V c 2 t) (fun r d => X ((t.val % 16) * 512 + r) ((t.val / 16) * 1408 + d)) := fun j => by
  unfold iblk2
  rw [View.read_apply]
  show V c main_v5_4 _ = _
  refine (hX _).trans (coe_congr₂ X ?_ ?_)
  · show win2_2.index t 0 * 512 + 1 * (j 0).val = _; rw [(idx2_2 t).1]; omega
  · show win2_2.index t 1 * 1408 + 1 * (j 1).val = _; rw [(idx2_2 t).2]; omega
theorem idx2_3 : ∀ t : Fin cfg2.N, win2_3.index t 0 = t.val % 16 ∧ win2_3.index t 1 = 0 :=
  (by decide +kernel : ∀ t : Fin grid2.N, win2_3.index t 0 = t.val % 16 ∧ win2_3.index t 1 = 0)
theorem blk2_3 {X : ℕ → ℕ → ℝ} (hX : Rd2 (a := 8192) (b := 1024) (V c main_v5_1) X) (t : Fin cfg2.N) :
    Rd2 (a := 512) (b := 1024) (iblk2 V c 3 t) (fun r d => X ((t.val % 16) * 512 + r) ((0) * 1024 + d)) := fun j => by
  unfold iblk2
  rw [View.read_apply]
  show V c main_v5_1 _ = _
  refine (hX _).trans (coe_congr₂ X ?_ ?_)
  · show win2_3.index t 0 * 512 + 1 * (j 0).val = _; rw [(idx2_3 t).1]; omega
  · show win2_3.index t 1 * 1024 + 1 * (j 1).val = _; rw [(idx2_3 t).2]; omega
theorem idx2_4 : ∀ t : Fin cfg2.N, win2_4.index t 0 = t.val % 16 ∧ win2_4.index t 1 = 0 :=
  (by decide +kernel : ∀ t : Fin grid2.N, win2_4.index t 0 = t.val % 16 ∧ win2_4.index t 1 = 0)
theorem blk2_4 {X : ℕ → ℕ → ℝ} (hX : Rd2 (a := 8192) (b := 1024) (V c main_v6_3) X) (t : Fin cfg2.N) :
    Rd2 (a := 512) (b := 1024) (iblk2 V c 4 t) (fun r d => X ((t.val % 16) * 512 + r) ((0) * 1024 + d)) := fun j => by
  unfold iblk2
  rw [View.read_apply]
  show V c main_v6_3 _ = _
  refine (hX _).trans (coe_congr₂ X ?_ ?_)
  · show win2_4.index t 0 * 512 + 1 * (j 0).val = _; rw [(idx2_4 t).1]; omega
  · show win2_4.index t 1 * 1024 + 1 * (j 1).val = _; rw [(idx2_4 t).2]; omega

/-! ## The result arrays -/

theorem idx2_5 : ∀ t : Fin cfg2.N, win2_5.index t 0 = t.val / 16 ∧ win2_5.index t 1 = 0 :=
  (by decide +kernel : ∀ t : Fin grid2.N, win2_5.index t 0 = t.val / 16 ∧ win2_5.index t 1 = 0)
theorem arr2_5 {G : ℕ → ℕ → ℝ} (hG : ∀ t : Fin cfg2.N, (cfg2.win 5).flush t = true →
      Rd2 (a := 1408) (b := 1024) (outsAt2 V c t.val t.isLt).1 (fun r d => G ((t.val / 16) * 1408 + r) ((0) * 1024 + d))) :
    Rd2 (a := 2816) (b := 1024) ((dat2 V c).arrAt 5 cfg2.N) G := fun i => by
  refine (dat2 V c).arrAt_forall_of_covers 5 (fun i v => v = ((G (i 0).val (i 1).val : ℝ) : EReal)) (by decide +kernel) (fun t hf y => ?_) i
  rw [after2_5]
  refine (hG t hf _).trans (coe_congr₂ G ?_ ?_)
  · show (t.val / 16) * 1408 + (y 0).val = win2_5.index t 0 * 1408 + 1 * (y 0).val; rw [(idx2_5 t).1]; omega
  · show (0) * 1024 + (y 1).val = win2_5.index t 1 * 1024 + 1 * (y 1).val; rw [(idx2_5 t).2]; omega
theorem idx2_6 : ∀ t : Fin cfg2.N, win2_6.index t 0 = t.val / 16 ∧ win2_6.index t 1 = 0 :=
  (by decide +kernel : ∀ t : Fin grid2.N, win2_6.index t 0 = t.val / 16 ∧ win2_6.index t 1 = 0)
theorem arr2_6 {G : ℕ → ℕ → ℝ} (hG : ∀ t : Fin cfg2.N, (cfg2.win 6).flush t = true →
      Rd2 (a := 1408) (b := 1024) (outsAt2 V c t.val t.isLt).2.1 (fun r d => G ((t.val / 16) * 1408 + r) ((0) * 1024 + d))) :
    Rd2 (a := 2816) (b := 1024) ((dat2 V c).arrAt 6 cfg2.N) G := fun i => by
  refine (dat2 V c).arrAt_forall_of_covers 6 (fun i v => v = ((G (i 0).val (i 1).val : ℝ) : EReal)) (by decide +kernel) (fun t hf y => ?_) i
  rw [after2_6]
  refine (hG t hf _).trans (coe_congr₂ G ?_ ?_)
  · show (t.val / 16) * 1408 + (y 0).val = win2_6.index t 0 * 1408 + 1 * (y 0).val; rw [(idx2_6 t).1]; omega
  · show (0) * 1024 + (y 1).val = win2_6.index t 1 * 1024 + 1 * (y 1).val; rw [(idx2_6 t).2]; omega
theorem idx2_7 : ∀ t : Fin cfg2.N, win2_7.index t 0 = t.val / 16 ∧ win2_7.index t 1 = 0 :=
  (by decide +kernel : ∀ t : Fin grid2.N, win2_7.index t 0 = t.val / 16 ∧ win2_7.index t 1 = 0)
theorem arr2_7 {G : ℕ → ℕ → ℝ} (hG : ∀ t : Fin cfg2.N, (cfg2.win 7).flush t = true →
      Rd2 (a := 1408) (b := 1024) (outsAt2 V c t.val t.isLt).2.2 (fun r d => G ((t.val / 16) * 1408 + r) ((0) * 1024 + d))) :
    Rd2 (a := 2816) (b := 1024) ((dat2 V c).arrAt 7 cfg2.N) G := fun i => by
  refine (dat2 V c).arrAt_forall_of_covers 7 (fun i v => v = ((G (i 0).val (i 1).val : ℝ) : EReal)) (by decide +kernel) (fun t hf y => ?_) i
  rw [after2_7]
  refine (hG t hf _).trans (coe_congr₂ G ?_ ?_)
  · show (t.val / 16) * 1408 + (y 0).val = win2_7.index t 0 * 1408 + 1 * (y 0).val; rw [(idx2_7 t).1]; omega
  · show (0) * 1024 + (y 1).val = win2_7.index t 1 * 1024 + 1 * (y 1).val; rw [(idx2_7 t).2]; omega

/-! ## The call -/

variable {V c} {u v : ℕ → ℕ → ℝ}

/-- The rows of a half of a weight gradient, over the rows of tokens seen by point `t`. -/
def wacc (u v : ℕ → ℕ → ℝ) (n r d : ℕ) : ℝ := linT (512 * (n % 16 + 1)) u v (n / 16 * 1408 + r) d

theorem wacc_start (u v : ℕ → ℕ → ℝ) (n r d : ℕ) (h : n % 16 = 0) :
    linT 512 (fun r d => u (n % 16 * 512 + r) (n / 16 * 1408 + d)) (fun r d => v (n % 16 * 512 + r) (0 * 1024 + d)) r d = wacc u v n r d := by
  unfold wacc linT; rw [h]; simp only [Nat.zero_mul, Nat.zero_add, Nat.mul_one]
theorem wacc_step (u v : ℕ → ℕ → ℝ) (n r d : ℕ) (h : ¬n % 16 = 0) :
    wacc u v (n - 1) r d + linT 512 (fun r d => u (n % 16 * 512 + r) (n / 16 * 1408 + d)) (fun r d => v (n % 16 * 512 + r) (0 * 1024 + d)) r d = wacc u v n r d := by
  obtain ⟨m, rfl⟩ : ∃ m, n = m + 1 := ⟨n - 1, by omega⟩
  rw [Nat.add_sub_cancel]
  unfold wacc linT
  have h1 : (m + 1) / 16 = m / 16 := by omega
  have h2 : (m + 1) % 16 = m % 16 + 1 := by omega
  rw [h1, h2, show 512 * (m % 16 + 1 + 1) = 512 * (m % 16 + 1) + 512 from by ring, ← sum_split]
  refine congrArg (_ + ·) (Finset.sum_congr rfl fun k _ => ?_)
  rw [Nat.mul_comm 512 (m % 16 + 1), Nat.zero_mul]; simp only [Nat.zero_add]

theorem call2_dwg_acc (hu : Rd2 (a := 8192) (b := 2816) (V c main_v6_1) u) (hv : Rd2 (a := 8192) (b := 1024) (V c main_v5_1) v) :
    ∀ (n : ℕ) (t : Fin cfg2.N), t.val = n → Rd2 (a := 1408) (b := 1024) (outsAt2 V c t.val t.isLt).1 (wacc u v t.val) := by
  intro n
  induction n with
  | zero =>
    intro t ht0
    have h0 : t.val % 16 = 0 := by omega
    rw [outsAt2_A V c t h0]; dsimp only
    exact (r2_outA5 c _ (blk2_0 V c hu t) (blk2_3 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt2_A V c t h0]; dsimp only
      exact (r2_outA5 c _ (blk2_0 V c hu t) (blk2_3 V c hv t)).congr fun r d _ _ => wacc_start u v t.val r d h0
    · rw [outsAt2_B V c t h0]; dsimp only
      exact (r2_outB5 c _ (blk2_0 V c hu t) (blk2_3 V c hv t) ho).congr fun r d _ _ => wacc_step u v t.val r d h0
theorem call2_dwg (hu : Rd2 (a := 8192) (b := 2816) (V c main_v6_1) u) (hv : Rd2 (a := 8192) (b := 1024) (V c main_v5_1) v) :
    Rd2 (a := 2816) (b := 1024) ((dat2 V c).arrAt 5 cfg2.N) (linT 8192 u v) := arr2_5 V c fun t hf => by
  have h15 : t.val % 16 = 15 := (by decide +kernel : ∀ t : Fin grid2.N, win2_5.flush t = true → t.val % 16 = 15) t hf
  refine (call2_dwg_acc hu hv t.val t rfl).congr fun r d _ _ => ?_
  unfold wacc; rw [h15, Nat.zero_mul, Nat.zero_add]
theorem call2_dwu_acc (hu : Rd2 (a := 8192) (b := 2816) (V c main_v6_2) u) (hv : Rd2 (a := 8192) (b := 1024) (V c main_v5_1) v) :
    ∀ (n : ℕ) (t : Fin cfg2.N), t.val = n → Rd2 (a := 1408) (b := 1024) (outsAt2 V c t.val t.isLt).2.1 (wacc u v t.val) := by
  intro n
  induction n with
  | zero =>
    intro t ht0
    have h0 : t.val % 16 = 0 := by omega
    rw [outsAt2_A V c t h0]; dsimp only
    exact (r2_outA6 c _ (blk2_1 V c hu t) (blk2_3 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt2_A V c t h0]; dsimp only
      exact (r2_outA6 c _ (blk2_1 V c hu t) (blk2_3 V c hv t)).congr fun r d _ _ => wacc_start u v t.val r d h0
    · rw [outsAt2_B V c t h0]; dsimp only
      exact (r2_outB6 c _ (blk2_1 V c hu t) (blk2_3 V c hv t) ho).congr fun r d _ _ => wacc_step u v t.val r d h0
theorem call2_dwu (hu : Rd2 (a := 8192) (b := 2816) (V c main_v6_2) u) (hv : Rd2 (a := 8192) (b := 1024) (V c main_v5_1) v) :
    Rd2 (a := 2816) (b := 1024) ((dat2 V c).arrAt 6 cfg2.N) (linT 8192 u v) := arr2_6 V c fun t hf => by
  have h15 : t.val % 16 = 15 := (by decide +kernel : ∀ t : Fin grid2.N, win2_6.flush t = true → t.val % 16 = 15) t hf
  refine (call2_dwu_acc hu hv t.val t rfl).congr fun r d _ _ => ?_
  unfold wacc; rw [h15, Nat.zero_mul, Nat.zero_add]
theorem call2_dwd_acc (hu : Rd2 (a := 8192) (b := 2816) (V c main_v5_4) u) (hv : Rd2 (a := 8192) (b := 1024) (V c main_v6_3) v) :
    ∀ (n : ℕ) (t : Fin cfg2.N), t.val = n → Rd2 (a := 1408) (b := 1024) (outsAt2 V c t.val t.isLt).2.2 (wacc u v t.val) := by
  intro n
  induction n with
  | zero =>
    intro t ht0
    have h0 : t.val % 16 = 0 := by omega
    rw [outsAt2_A V c t h0]; dsimp only
    exact (r2_outA7 c _ (blk2_2 V c hu t) (blk2_4 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt2_A V c t h0]; dsimp only
      exact (r2_outA7 c _ (blk2_2 V c hu t) (blk2_4 V c hv t)).congr fun r d _ _ => wacc_start u v t.val r d h0
    · rw [outsAt2_B V c t h0]; dsimp only
      exact (r2_outB7 c _ (blk2_2 V c hu t) (blk2_4 V c hv t) ho).congr fun r d _ _ => wacc_step u v t.val r d h0
theorem call2_dwd (hu : Rd2 (a := 8192) (b := 2816) (V c main_v5_4) u) (hv : Rd2 (a := 8192) (b := 1024) (V c main_v6_3) v) :
    Rd2 (a := 2816) (b := 1024) ((dat2 V c).arrAt 7 cfg2.N) (linT 8192 u v) := arr2_7 V c fun t hf => by
  have h15 : t.val % 16 = 15 := (by decide +kernel : ∀ t : Fin grid2.N, win2_7.flush t = true → t.val % 16 = 15) t hf
  refine (call2_dwd_acc hu hv t.val t rfl).congr fun r d _ _ => ?_
  unfold wacc; rw [h15, Nat.zero_mul, Nat.zero_add]

end Cert.KernelIdeal.Val
-- ==== Proof.Reference.lean ====
/- The reference program's values: each operation's result as a formula of the arguments, over the real numbers. -/
module

public import proofs.«01_k».proof.Proof.Gen.ReferenceIdeal.Read
public import proofs.«01_k».proof.Proof.Formulas

@[expose] public section

noncomputable section

namespace Cert.ReferenceIdeal.Val

open Cert.ReferenceIdeal Cert.ReferenceIdeal.Gen Cert.ReferenceIdeal.Read Cert.Formulas
open Cert.RealArrays
open Idealize.ShloMosaic Idealize.ShloMosaic.TcCoe Idealize.SL.Sem

/-- The transposed matrix. -/
def tr (w : ℕ → ℕ → ℝ) (r c : ℕ) : ℝ := w c r
/-- A row's mean square. -/
def ms (x : ℕ → ℕ → ℝ) (r : ℕ) : ℝ := (∑ c ∈ Finset.range 1024, x r c * x r c) / 1024
theorem ms_pos (x : ℕ → ℕ → ℝ) (r : ℕ) : 0 < ms x r + eps :=
  add_pos_of_nonneg_of_pos (div_nonneg (Finset.sum_nonneg fun c _ => mul_self_nonneg _) (by norm_num)) eps_pos
theorem zc (i : (⟨0, ![]⟩ : Shape).Idx) : constant (F := Ideal) ⟨0, ![]⟩ .f32 0x00000000#32 i = 0 := lit_zero.trans EReal.coe_zero
theorem linT_comm (n : ℕ) (h w : ℕ → ℕ → ℝ) (r c : ℕ) : linT n h w c r = linT n w h r c :=
  Finset.sum_congr rfl fun _ _ => mul_comm _ _
theorem _root_.Cert.RealArrays.Rd1.congr1 {a : ℕ} {v : (M1 a).Idx → EReal} {f f' : ℕ → ℝ} (hv : Rd1 v f) (h : ∀ r, r < a → f r = f' r) : Rd1 v f' :=
  fun i => (hv i).trans (by rw [h _ (i 0).isLt])
/-- The gradient of the input row, as differentiating the normalisation term by term gives it. -/
theorem dX_alt (dy x g a : ℕ → ℕ → ℝ) (r c : ℕ) :
    dy r c + a r c * g 0 c * rs x r + x r c * ((∑ c ∈ Finset.range 1024, x r c * (a r c * g 0 c)) * (-(1 / 2) * (rs x r / (ms x r + eps))) / 1024)
      + (∑ c ∈ Finset.range 1024, x r c * (a r c * g 0 c)) * (-(1 / 2) * (rs x r / (ms x r + eps))) / 1024 * x r c = dX dy x g a r c := by
  have hp := ms_pos x r
  have hs : rs x r * rs x r * (ms x r + eps) = 1 := by
    unfold rs; rw [← mul_inv, show (∑ c ∈ Finset.range 1024, x r c * x r c) / 1024 = ms x r from rfl, Real.mul_self_sqrt hp.le]
    exact inv_mul_cancel₀ hp.ne'
  have hm : mrow x g a r = (∑ c ∈ Finset.range 1024, x r c * (a r c * g 0 c)) * rs x r / 1024 := by
    unfold mrow; rw [Finset.sum_mul]
    refine congrArg (· / 1024) (Finset.sum_congr rfl fun k _ => ?_)
    unfold xn; ring
  have hd : rs x r / (ms x r + eps) = rs x r * (rs x r * rs x r) := by
    rw [div_eq_iff hp.ne', mul_assoc, hs, mul_one]
  unfold dX; rw [hm, hd]; unfold xn; ring

section Values
variable {x g wg wu wd dy : ℕ → ℕ → ℝ}
  {X0 : FVec Ideal S8192x1024 .f32} {X1 : FVec Ideal S1x1024 .f32} {X2 X3 : FVec Ideal S1024x2816 .f32} {X4 : FVec Ideal S2816x1024 .f32} {X5 : FVec Ideal S8192x1024 .f32}

theorem r_v0 (hx : Rd2 X0 x) :
    Rd2 (a := 8192) (b := 1024) (val_main_v0 (F := Ideal) X0) (fun r c => x r c * x r c) := by
  unfold val_main_v0; exact hx.mul hx

theorem r_v1 (hx : Rd2 X0 x) :
    Rd1 (a := 8192) (val_main_v1 (F := Ideal) X0) (fun r => ∑ c ∈ Finset.range 1024, x r c * x r c) := by
  unfold val_main_v1; exact (r_v0 hx).hostSum_cols zc _ (by decide) _

theorem r_v2 (hx : Rd2 X0 x) :
    Rd2 (a := 8192) (b := 1) (val_main_v2 (F := Ideal) X0) (fun r _ => ∑ c ∈ Finset.range 1024, x r c * x r c) := by
  unfold val_main_v2; exact (r_v1 hx).broadcastInDim_col _

theorem r_v3  :
    Rd2 (a := 8192) (b := 1) (val_main_v3 (F := Ideal) ) (fun _ _ => 1024) := by
  unfold val_main_v3; exact Rd2.splat lit_1024 _

theorem r_v4 (hx : Rd2 X0 x) :
    Rd2 (a := 8192) (b := 1) (val_main_v4 (F := Ideal) X0) (fun r _ => ms x r) := by
  unfold val_main_v4; exact (r_v2 hx).hostDivf (r_v3) (fun _ _ _ _ => by norm_num)

theorem r_v5  :
    Rd2 (a := 8192) (b := 1) (val_main_v5 (F := Ideal) ) (fun _ _ => eps) := by
  unfold val_main_v5; exact Rd2.splat lit_eps _

theorem r_v6 (hx : Rd2 X0 x) :
    Rd2 (a := 8192) (b := 1) (val_main_v6 (F := Ideal) X0) (fun r _ => ms x r + eps) := by
  unfold val_main_v6; exact (r_v4 hx).add (r_v5)

theorem r_v7 (hx : Rd2 X0 x) :
    Rd2 (a := 8192) (b := 1) (val_main_v7 (F := Ideal) X0) (fun r _ => rs x r) := by
  unfold val_main_v7; exact (r_v6 hx).hostRsqrt (fun r _ _ _ => ms_pos x r)

theorem r_v8 (hx : Rd2 X0 x) :
    Rd2 (a := 8192) (b := 1) (val_main_v8 (F := Ideal) X0) (fun r _ => rs x r / (ms x r + eps)) := by
  unfold val_main_v8; exact (r_v7 hx).hostDivf (r_v6 hx) (fun r _ _ _ => (ms_pos x r).ne')

theorem r_v9  :
    Rd2 (a := 8192) (b := 1) (val_main_v9 (F := Ideal) ) (fun _ _ => -(1 / 2)) := by
  unfold val_main_v9; exact Rd2.splat lit_neg_half _

theorem r_v10 (hx : Rd2 X0 x) :
    Rd2 (a := 8192) (b := 1) (val_main_v10 (F := Ideal) X0) (fun r _ => -(1 / 2) * (rs x r / (ms x r + eps))) := by
  unfold val_main_v10; exact (r_v9).mul (r_v8 hx)

theorem r_v11 (hx : Rd2 X0 x) :
    Rd2 (a := 8192) (b := 1024) (val_main_v11 (F := Ideal) X0) (fun r _ => rs x r) := by
  unfold val_main_v11; exact (r_v7 hx).broadcastInDim_col _

theorem r_v12 (hx : Rd2 X0 x) :
    Rd2 (a := 8192) (b := 1024) (val_main_v12 (F := Ideal) X0) (xn x) := by
  unfold val_main_v12; exact hx.mul (r_v11 hx)

theorem r_v13 (hg : Rd2 X1 g) :
    Rd2 (a := 8192) (b := 1024) (val_main_v13 (F := Ideal) X1) (fun _ c => g 0 c) := by
  unfold val_main_v13; exact hg.broadcastInDim_row _

theorem r_v14 (hx : Rd2 X0 x) (hg : Rd2 X1 g) :
    Rd2 (a := 8192) (b := 1024) (val_main_v14 (F := Ideal) X0 X1) (hid x g) := by
  unfold val_main_v14; exact (r_v12 hx).mul (r_v13 hg)

theorem r_v15 (hx : Rd2 X0 x) (hg : Rd2 X1 g) (hwg : Rd2 X2 wg) :
    Rd2 (a := 8192) (b := 2816) (val_main_v15 (F := Ideal) X0 X1 X2) (lin 1024 (hid x g) (tr wg)) := by
  unfold val_main_v15; exact (r_v14 hx hg).dot_nn hwg _ _ _

theorem r_call0_v0 (hx : Rd2 X0 x) (hg : Rd2 X1 g) (hwg : Rd2 X2 wg) :
    Rd2 (a := 8192) (b := 2816) (val_main_call0_v0 (F := Ideal) X0 X1 X2) (fun r c => -(lin 1024 (hid x g) (tr wg)) r c) := by
  unfold val_main_call0_v0; exact (r_v15 hx hg hwg).hostNegf

theorem r_call0_v1 (hx : Rd2 X0 x) (hg : Rd2 X1 g) (hwg : Rd2 X2 wg) :
    Rd2 (a := 8192) (b := 2816) (val_main_call0_v1 (F := Ideal) X0 X1 X2) (fun r c => Real.exp (-(lin 1024 (hid x g) (tr wg)) r c)) := by
  unfold val_main_call0_v1; exact (r_call0_v0 hx hg hwg).hostExp

theorem r_call0_v2  :
    Rd2 (a := 8192) (b := 2816) (val_main_call0_v2 (F := Ideal) ) (fun _ _ => 1) := by
  unfold val_main_call0_v2; exact Rd2.splat lit_one _

theorem r_call0_v3 (hx : Rd2 X0 x) (hg : Rd2 X1 g) (hwg : Rd2 X2 wg) :
    Rd2 (a := 8192) (b := 2816) (val_main_call0_v3 (F := Ideal) X0 X1 X2) (fun r c => 1 + Real.exp (-(lin 1024 (hid x g) (tr wg)) r c)) := by
  unfold val_main_call0_v3; exact (r_call0_v2).add (r_call0_v1 hx hg hwg)

theorem r_call0_v4  :
    Rd2 (a := 8192) (b := 2816) (val_main_call0_v4 (F := Ideal) ) (fun _ _ => 1) := by
  unfold val_main_call0_v4; exact Rd2.splat lit_one _

theorem r_v16_2 (hx : Rd2 X0 x) (hg : Rd2 X1 g) (hwg : Rd2 X2 wg) :
    Rd2 (a := 8192) (b := 2816) (val_main_v16_2 (F := Ideal) X0 X1 X2) (fun r c => RealArrays.sig ((lin 1024 (hid x g) (tr wg)) r c)) := by
  unfold val_main_v16_2; exact ((r_call0_v4).hostDivf (r_call0_v3 hx hg hwg) (fun _ _ _ _ => (sig_den_pos _).ne')).congr fun _ _ _ _ => one_div _

theorem r_call0_v6  :
    Rd2 (a := 8192) (b := 2816) (val_main_call0_v6 (F := Ideal) ) (fun _ _ => 1) := by
  unfold val_main_call0_v6; exact Rd2.splat lit_one _

theorem r_call0_v7 (hx : Rd2 X0 x) (hg : Rd2 X1 g) (hwg : Rd2 X2 wg) :
    Rd2 (a := 8192) (b := 2816) (val_main_call0_v7 (F := Ideal) X0 X1 X2) (fun r c => 1 - RealArrays.sig ((lin 1024 (hid x g) (tr wg)) r c)) := by
  unfold val_main_call0_v7; exact (r_call0_v6).sub (r_v16_2 hx hg hwg)

theorem r_v16_1 (hx : Rd2 X0 x) (hg : Rd2 X1 g) (hwg : Rd2 X2 wg) :
    Rd2 (a := 8192) (b := 2816) (val_main_v16_1 (F := Ideal) X0 X1 X2) (fun r c => RealArrays.sig ((lin 1024 (hid x g) (tr wg)) r c) * (1 - RealArrays.sig ((lin 1024 (hid x g) (tr wg)) r c))) := by
  unfold val_main_v16_1; exact (r_v16_2 hx hg hwg).mul (r_call0_v7 hx hg hwg)

theorem r_v16_0 (hx : Rd2 X0 x) (hg : Rd2 X1 g) (hwg : Rd2 X2 wg) :
    Rd2 (a := 8192) (b := 2816) (val_main_v16_0 (F := Ideal) X0 X1 X2) (fun r c => (lin 1024 (hid x g) (tr wg)) r c * RealArrays.sig ((lin 1024 (hid x g) (tr wg)) r c)) := by
  unfold val_main_v16_0; exact (r_v15 hx hg hwg).mul (r_v16_2 hx hg hwg)

theorem r_v17 (hx : Rd2 X0 x) (hg : Rd2 X1 g) (hwu : Rd2 X3 wu) :
    Rd2 (a := 8192) (b := 2816) (val_main_v17 (F := Ideal) X0 X1 X3) (lin 1024 (hid x g) (tr wu)) := by
  unfold val_main_v17; exact (r_v14 hx hg).dot_nn hwu _ _ _

theorem r_v18 (hx : Rd2 X0 x) (hg : Rd2 X1 g) (hwg : Rd2 X2 wg) (hwu : Rd2 X3 wu) :
    Rd2 (a := 8192) (b := 2816) (val_main_v18 (F := Ideal) X0 X1 X2 X3) (act (lin 1024 (hid x g) (tr wg)) (lin 1024 (hid x g) (tr wu))) := by
  unfold val_main_v18; exact (r_v16_0 hx hg hwg).mul (r_v17 hx hg hwu)

theorem r_v19 (hx : Rd2 X0 x) (hg : Rd2 X1 g) (hwg : Rd2 X2 wg) (hwu : Rd2 X3 wu) (hwd : Rd2 X4 wd) :
    Rd2 (a := 8192) (b := 1024) (val_main_v19 (F := Ideal) X0 X1 X2 X3 X4) (lin' 2816 (act (lin 1024 (hid x g) (tr wg)) (lin 1024 (hid x g) (tr wu))) wd) := by
  unfold val_main_v19; exact (r_v18 hx hg hwg hwu).dot_nn hwd _ _ _

theorem r_v20  :
    Rd2 (a := 8192) (b := 1024) (val_main_v20 (F := Ideal) ) (fun _ _ => 1 / 2) := by
  unfold val_main_v20; exact Rd2.splat lit_half _

theorem r_v21 (hx : Rd2 X0 x) (hg : Rd2 X1 g) (hwg : Rd2 X2 wg) (hwu : Rd2 X3 wu) (hwd : Rd2 X4 wd) :
    Rd2 (a := 8192) (b := 1024) (val_main_v21 (F := Ideal) X0 X1 X2 X3 X4) (fun r c => 1 / 2 * lin' 2816 (act (lin 1024 (hid x g) (tr wg)) (lin 1024 (hid x g) (tr wu))) wd r c) := by
  unfold val_main_v21; exact (r_v20).mul (r_v19 hx hg hwg hwu hwd)

theorem r_v22 (hx : Rd2 X0 x) (hg : Rd2 X1 g) (hwg : Rd2 X2 wg) (hwu : Rd2 X3 wu) (hwd : Rd2 X4 wd) :
    Rd2 (a := 8192) (b := 1024) (val_main_v22 (F := Ideal) X0 X1 X2 X3 X4) (outp x (act (lin 1024 (hid x g) (tr wg)) (lin 1024 (hid x g) (tr wu))) wd) := by
  unfold val_main_v22; exact hx.add (r_v21 hx hg hwg hwu hwd)

theorem r_v23 (hdy : Rd2 X5 dy) :
    Rd2 (a := 8192) (b := 1024) (val_main_v23 (F := Ideal) X5) dy := by
  unfold val_main_v23; exact hdy.shapeCast_self _

theorem r_v24  :
    Rd2 (a := 8192) (b := 1024) (val_main_v24 (F := Ideal) ) (fun _ _ => 1 / 2) := by
  unfold val_main_v24; exact Rd2.splat lit_half _

theorem r_v25 (hdy : Rd2 X5 dy) :
    Rd2 (a := 8192) (b := 1024) (val_main_v25 (F := Ideal) X5) (dyh dy) := by
  unfold val_main_v25; exact (r_v24).mul (r_v23 hdy)

theorem r_v26 (hx : Rd2 X0 x) (hg : Rd2 X1 g) (hwg : Rd2 X2 wg) (hwu : Rd2 X3 wu) (hdy : Rd2 X5 dy) :
    Rd2 (a := 1024) (b := 2816) (val_main_v26 (F := Ideal) X0 X1 X2 X3 X5) (linT 8192 (dyh dy) (act (lin 1024 (hid x g) (tr wg)) (lin 1024 (hid x g) (tr wu)))) := by
  unfold val_main_v26; exact (r_v25 hdy).dot_tn (r_v18 hx hg hwg hwu) _ _ _

theorem r_v27 (hx : Rd2 X0 x) (hg : Rd2 X1 g) (hwg : Rd2 X2 wg) (hwu : Rd2 X3 wu) (hdy : Rd2 X5 dy) :
    Rd2 (a := 2816) (b := 1024) (val_main_v27 (F := Ideal) X0 X1 X2 X3 X5) (linT 8192 (act (lin 1024 (hid x g) (tr wg)) (lin 1024 (hid x g) (tr wu))) (dyh dy)) := by
  unfold val_main_v27; exact ((r_v26 hx hg hwg hwu hdy).transp _).congr fun r c _ _ => linT_comm _ _ _ _ _

theorem r_v28 (hwd : Rd2 X4 wd) (hdy : Rd2 X5 dy) :
    Rd2 (a := 8192) (b := 2816) (val_main_v28 (F := Ideal) X4 X5) (lin 1024 (dyh dy) wd) := by
  unfold val_main_v28; exact (r_v25 hdy).dot_nt hwd _ _ _

theorem r_v29 (hx : Rd2 X0 x) (hg : Rd2 X1 g) (hwg : Rd2 X2 wg) (hwd : Rd2 X4 wd) (hdy : Rd2 X5 dy) :
    Rd2 (a := 8192) (b := 2816) (val_main_v29 (F := Ideal) X0 X1 X2 X4 X5) (dUp (lin 1024 (dyh dy) wd) (lin 1024 (hid x g) (tr wg))) := by
  unfold val_main_v29; exact ((r_v16_0 hx hg hwg).mul (r_v28 hwd hdy)).congr fun _ _ _ _ => mul_comm _ _

theorem r_v30 (hx : Rd2 X0 x) (hg : Rd2 X1 g) (hwu : Rd2 X3 wu) (hwd : Rd2 X4 wd) (hdy : Rd2 X5 dy) :
    Rd2 (a := 8192) (b := 2816) (val_main_v30 (F := Ideal) X0 X1 X3 X4 X5) (fun r c => (lin 1024 (dyh dy) wd) r c * (lin 1024 (hid x g) (tr wu)) r c) := by
  unfold val_main_v30; exact (r_v28 hwd hdy).mul (r_v17 hx hg hwu)

theorem r_v31 (hx : Rd2 X0 x) (hg : Rd2 X1 g) (hwg : Rd2 X2 wg) (hwd : Rd2 X4 wd) (hdy : Rd2 X5 dy) :
    Rd2 (a := 2816) (b := 1024) (val_main_v31 (F := Ideal) X0 X1 X2 X4 X5) (linT 8192 (dUp (lin 1024 (dyh dy) wd) (lin 1024 (hid x g) (tr wg))) (hid x g)) := by
  unfold val_main_v31; exact (r_v29 hx hg hwg hwd hdy).dot_tn (r_v14 hx hg) _ _ _

theorem r_v32 (hx : Rd2 X0 x) (hg : Rd2 X1 g) (hwg : Rd2 X2 wg) (hwd : Rd2 X4 wd) (hdy : Rd2 X5 dy) :
    Rd2 (a := 1024) (b := 2816) (val_main_v32 (F := Ideal) X0 X1 X2 X4 X5) (tr (linT 8192 (dUp (lin 1024 (dyh dy) wd) (lin 1024 (hid x g) (tr wg))) (hid x g))) := by
  unfold val_main_v32; exact ((r_v31 hx hg hwg hwd hdy).transp _).congr fun _ _ _ _ => by rw [tr]

theorem r_v33 (hx : Rd2 X0 x) (hg : Rd2 X1 g) (hwg : Rd2 X2 wg) (hwu : Rd2 X3 wu) (hwd : Rd2 X4 wd) (hdy : Rd2 X5 dy) :
    Rd2 (a := 8192) (b := 1024) (val_main_v33 (F := Ideal) X0 X1 X2 X3 X4 X5) (lin' 2816 (dUp (lin 1024 (dyh dy) wd) (lin 1024 (hid x g) (tr wg))) (tr wu)) := by
  unfold val_main_v33; exact (r_v29 hx hg hwg hwd hdy).dot_nt hwu _ _ _

theorem r_call1_v0 (hx : Rd2 X0 x) (hg : Rd2 X1 g) (hwg : Rd2 X2 wg) (hwu : Rd2 X3 wu) (hwd : Rd2 X4 wd) (hdy : Rd2 X5 dy) :
    Rd2 (a := 8192) (b := 2816) (val_main_call1_v0 (F := Ideal) X0 X1 X2 X3 X4 X5) (fun r c => (lin 1024 (hid x g) (tr wg)) r c * ((lin 1024 (dyh dy) wd) r c * (lin 1024 (hid x g) (tr wu)) r c)) := by
  unfold val_main_call1_v0; exact (r_v15 hx hg hwg).mul (r_v30 hx hg hwu hwd hdy)

theorem r_call1_v1 (hx : Rd2 X0 x) (hg : Rd2 X1 g) (hwg : Rd2 X2 wg) (hwu : Rd2 X3 wu) (hwd : Rd2 X4 wd) (hdy : Rd2 X5 dy) :
    Rd2 (a := 8192) (b := 2816) (val_main_call1_v1 (F := Ideal) X0 X1 X2 X3 X4 X5) (fun r c => (lin 1024 (dyh dy) wd) r c * (lin 1024 (hid x g) (tr wu)) r c * RealArrays.sig ((lin 1024 (hid x g) (tr wg)) r c)) := by
  unfold val_main_call1_v1; exact (r_v30 hx hg hwu hwd hdy).mul (r_v16_2 hx hg hwg)

theorem r_call1_v2 (hx : Rd2 X0 x) (hg : Rd2 X1 g) (hwg : Rd2 X2 wg) (hwu : Rd2 X3 wu) (hwd : Rd2 X4 wd) (hdy : Rd2 X5 dy) :
    Rd2 (a := 8192) (b := 2816) (val_main_call1_v2 (F := Ideal) X0 X1 X2 X3 X4 X5) (fun r c => (lin 1024 (hid x g) (tr wg)) r c * ((lin 1024 (dyh dy) wd) r c * (lin 1024 (hid x g) (tr wu)) r c) * (RealArrays.sig ((lin 1024 (hid x g) (tr wg)) r c) * (1 - RealArrays.sig ((lin 1024 (hid x g) (tr wg)) r c)))) := by
  unfold val_main_call1_v2; exact (r_call1_v0 hx hg hwg hwu hwd hdy).mul (r_v16_1 hx hg hwg)

theorem r_v34 (hx : Rd2 X0 x) (hg : Rd2 X1 g) (hwg : Rd2 X2 wg) (hwu : Rd2 X3 wu) (hwd : Rd2 X4 wd) (hdy : Rd2 X5 dy) :
    Rd2 (a := 8192) (b := 2816) (val_main_v34 (F := Ideal) X0 X1 X2 X3 X4 X5) (dGate (lin 1024 (dyh dy) wd) (lin 1024 (hid x g) (tr wg)) (lin 1024 (hid x g) (tr wu))) := by
  unfold val_main_v34; exact ((r_call1_v1 hx hg hwg hwu hwd hdy).add (r_call1_v2 hx hg hwg hwu hwd hdy)).congr fun _ _ _ _ => by unfold dGate; ring

theorem r_v35 (hx : Rd2 X0 x) (hg : Rd2 X1 g) (hwg : Rd2 X2 wg) (hwu : Rd2 X3 wu) (hwd : Rd2 X4 wd) (hdy : Rd2 X5 dy) :
    Rd2 (a := 2816) (b := 1024) (val_main_v35 (F := Ideal) X0 X1 X2 X3 X4 X5) (linT 8192 (dGate (lin 1024 (dyh dy) wd) (lin 1024 (hid x g) (tr wg)) (lin 1024 (hid x g) (tr wu))) (hid x g)) := by
  unfold val_main_v35; exact (r_v34 hx hg hwg hwu hwd hdy).dot_tn (r_v14 hx hg) _ _ _

theorem r_v36 (hx : Rd2 X0 x) (hg : Rd2 X1 g) (hwg : Rd2 X2 wg) (hwu : Rd2 X3 wu) (hwd : Rd2 X4 wd) (hdy : Rd2 X5 dy) :
    Rd2 (a := 1024) (b := 2816) (val_main_v36 (F := Ideal) X0 X1 X2 X3 X4 X5) (tr (linT 8192 (dGate (lin 1024 (dyh dy) wd) (lin 1024 (hid x g) (tr wg)) (lin 1024 (hid x g) (tr wu))) (hid x g))) := by
  unfold val_main_v36; exact ((r_v35 hx hg hwg hwu hwd hdy).transp _).congr fun _ _ _ _ => by rw [tr]

theorem r_v37 (hx : Rd2 X0 x) (hg : Rd2 X1 g) (hwg : Rd2 X2 wg) (hwu : Rd2 X3 wu) (hwd : Rd2 X4 wd) (hdy : Rd2 X5 dy) :
    Rd2 (a := 8192) (b := 1024) (val_main_v37 (F := Ideal) X0 X1 X2 X3 X4 X5) (lin' 2816 (dGate (lin 1024 (dyh dy) wd) (lin 1024 (hid x g) (tr wg)) (lin 1024 (hid x g) (tr wu))) (tr wg)) := by
  unfold val_main_v37; exact (r_v34 hx hg hwg hwu hwd hdy).dot_nt hwg _ _ _

theorem r_v38 (hx : Rd2 X0 x) (hg : Rd2 X1 g) (hwg : Rd2 X2 wg) (hwu : Rd2 X3 wu) (hwd : Rd2 X4 wd) (hdy : Rd2 X5 dy) :
    Rd2 (a := 8192) (b := 1024) (val_main_v38 (F := Ideal) X0 X1 X2 X3 X4 X5) (dAcc 2816 (dGate (lin 1024 (dyh dy) wd) (lin 1024 (hid x g) (tr wg)) (lin 1024 (hid x g) (tr wu))) (dUp (lin 1024 (dyh dy) wd) (lin 1024 (hid x g) (tr wg))) (tr wg) (tr wu)) := by
  unfold val_main_v38; exact ((r_v33 hx hg hwg hwu hwd hdy).add (r_v37 hx hg hwg hwu hwd hdy)).congr fun _ _ _ _ => add_comm _ _

theorem r_v39 (hx : Rd2 X0 x) (hg : Rd2 X1 g) (hwg : Rd2 X2 wg) (hwu : Rd2 X3 wu) (hwd : Rd2 X4 wd) (hdy : Rd2 X5 dy) :
    Rd2 (a := 8192) (b := 1024) (val_main_v39 (F := Ideal) X0 X1 X2 X3 X4 X5) (fun r c => (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * xn x r c) := by
  unfold val_main_v39; exact ((r_v12 hx).mul (r_v38 hx hg hwg hwu hwd hdy)).congr fun _ _ _ _ => mul_comm _ _

theorem r_v40 (hx : Rd2 X0 x) (hg : Rd2 X1 g) (hwg : Rd2 X2 wg) (hwu : Rd2 X3 wu) (hwd : Rd2 X4 wd) (hdy : Rd2 X5 dy) :
    Rd1 (a := 1024) (val_main_v40 (F := Ideal) X0 X1 X2 X3 X4 X5) (fun c => ∑ r ∈ Finset.range 8192, (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * xn x r c) := by
  unfold val_main_v40; exact (r_v39 hx hg hwg hwu hwd hdy).hostSum_rows zc _ (by decide) _

theorem r_v41 (hx : Rd2 X0 x) (hg : Rd2 X1 g) (hwg : Rd2 X2 wg) (hwu : Rd2 X3 wu) (hwd : Rd2 X4 wd) (hdy : Rd2 X5 dy) :
    Rd2 (a := 1) (b := 1024) (val_main_v41 (F := Ideal) X0 X1 X2 X3 X4 X5) (dG 8192 x (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := by
  unfold val_main_v41; exact (r_v40 hx hg hwg hwu hwd hdy).shapeCast_row _

theorem r_v42 (hg : Rd2 X1 g) :
    Rd2 (a := 8192) (b := 1024) (val_main_v42 (F := Ideal) X1) (fun _ c => g 0 c) := by
  unfold val_main_v42; exact hg.broadcastInDim_row _

theorem r_v43 (hx : Rd2 X0 x) (hg : Rd2 X1 g) (hwg : Rd2 X2 wg) (hwu : Rd2 X3 wu) (hwd : Rd2 X4 wd) (hdy : Rd2 X5 dy) :
    Rd2 (a := 8192) (b := 1024) (val_main_v43 (F := Ideal) X0 X1 X2 X3 X4 X5) (fun r c => (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c) := by
  unfold val_main_v43; exact (r_v38 hx hg hwg hwu hwd hdy).mul (r_v42 hg)

theorem r_v44 (hx : Rd2 X0 x) (hg : Rd2 X1 g) (hwg : Rd2 X2 wg) (hwu : Rd2 X3 wu) (hwd : Rd2 X4 wd) (hdy : Rd2 X5 dy) :
    Rd2 (a := 8192) (b := 1024) (val_main_v44 (F := Ideal) X0 X1 X2 X3 X4 X5) (fun r c => x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) := by
  unfold val_main_v44; exact hx.mul (r_v43 hx hg hwg hwu hwd hdy)

theorem r_v45 (hx : Rd2 X0 x) (hg : Rd2 X1 g) (hwg : Rd2 X2 wg) (hwu : Rd2 X3 wu) (hwd : Rd2 X4 wd) (hdy : Rd2 X5 dy) :
    Rd1 (a := 8192) (val_main_v45 (F := Ideal) X0 X1 X2 X3 X4 X5) (fun r => ∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) := by
  unfold val_main_v45; exact (r_v44 hx hg hwg hwu hwd hdy).hostSum_cols zc _ (by decide) _

theorem r_v46 (hx : Rd2 X0 x) (hg : Rd2 X1 g) (hwg : Rd2 X2 wg) (hwu : Rd2 X3 wu) (hwd : Rd2 X4 wd) (hdy : Rd2 X5 dy) :
    Rd2 (a := 8192) (b := 1) (val_main_v46 (F := Ideal) X0 X1 X2 X3 X4 X5) (fun r _ => ∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) := by
  unfold val_main_v46; exact (r_v45 hx hg hwg hwu hwd hdy).shapeCast_col _

theorem r_v47 (hx : Rd2 X0 x) :
    Rd2 (a := 8192) (b := 1024) (val_main_v47 (F := Ideal) X0) (fun r _ => rs x r) := by
  unfold val_main_v47; exact (r_v7 hx).broadcastInDim_col _

theorem r_v48 (hx : Rd2 X0 x) (hg : Rd2 X1 g) (hwg : Rd2 X2 wg) (hwu : Rd2 X3 wu) (hwd : Rd2 X4 wd) (hdy : Rd2 X5 dy) :
    Rd2 (a := 8192) (b := 1024) (val_main_v48 (F := Ideal) X0 X1 X2 X3 X4 X5) (fun r c => (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c * rs x r) := by
  unfold val_main_v48; exact (r_v43 hx hg hwg hwu hwd hdy).mul (r_v47 hx)

theorem r_v49 (hx : Rd2 X0 x) (hg : Rd2 X1 g) (hwg : Rd2 X2 wg) (hwu : Rd2 X3 wu) (hwd : Rd2 X4 wd) (hdy : Rd2 X5 dy) :
    Rd2 (a := 8192) (b := 1024) (val_main_v49 (F := Ideal) X0 X1 X2 X3 X4 X5) (fun r c => dy r c + (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c * rs x r) := by
  unfold val_main_v49; exact hdy.add (r_v48 hx hg hwg hwu hwd hdy)

theorem r_v50 (hx : Rd2 X0 x) (hg : Rd2 X1 g) (hwg : Rd2 X2 wg) (hwu : Rd2 X3 wu) (hwd : Rd2 X4 wd) (hdy : Rd2 X5 dy) :
    Rd2 (a := 8192) (b := 1) (val_main_v50 (F := Ideal) X0 X1 X2 X3 X4 X5) (fun r _ => (∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps)))) := by
  unfold val_main_v50; exact (r_v46 hx hg hwg hwu hwd hdy).mul (r_v10 hx)

theorem r_v51  :
    Rd2 (a := 8192) (b := 1) (val_main_v51 (F := Ideal) ) (fun _ _ => 1024) := by
  unfold val_main_v51; exact Rd2.splat lit_1024 _

theorem r_v52 (hx : Rd2 X0 x) (hg : Rd2 X1 g) (hwg : Rd2 X2 wg) (hwu : Rd2 X3 wu) (hwd : Rd2 X4 wd) (hdy : Rd2 X5 dy) :
    Rd2 (a := 8192) (b := 1) (val_main_v52 (F := Ideal) X0 X1 X2 X3 X4 X5) (fun r _ => (∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024) := by
  unfold val_main_v52; exact (r_v50 hx hg hwg hwu hwd hdy).hostDivf (r_v51) (fun _ _ _ _ => by norm_num)

theorem r_v53 (hx : Rd2 X0 x) (hg : Rd2 X1 g) (hwg : Rd2 X2 wg) (hwu : Rd2 X3 wu) (hwd : Rd2 X4 wd) (hdy : Rd2 X5 dy) :
    Rd1 (a := 8192) (val_main_v53 (F := Ideal) X0 X1 X2 X3 X4 X5) (fun r => (∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024) := by
  unfold val_main_v53; exact ((r_v52 hx hg hwg hwu hwd hdy).hostSum_cols zc _ (by decide) _).congr1 fun _ _ => Finset.sum_range_one _

theorem r_v54 (hx : Rd2 X0 x) (hg : Rd2 X1 g) (hwg : Rd2 X2 wg) (hwu : Rd2 X3 wu) (hwd : Rd2 X4 wd) (hdy : Rd2 X5 dy) :
    Rd2 (a := 8192) (b := 1024) (val_main_v54 (F := Ideal) X0 X1 X2 X3 X4 X5) (fun r _ => (∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024) := by
  unfold val_main_v54; exact (r_v53 hx hg hwg hwu hwd hdy).broadcastInDim_col _

theorem r_v55 (hx : Rd2 X0 x) (hg : Rd2 X1 g) (hwg : Rd2 X2 wg) (hwu : Rd2 X3 wu) (hwd : Rd2 X4 wd) (hdy : Rd2 X5 dy) :
    Rd2 (a := 8192) (b := 1024) (val_main_v55 (F := Ideal) X0 X1 X2 X3 X4 X5) (fun r c => x r c * ((∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024)) := by
  unfold val_main_v55; exact hx.mul (r_v54 hx hg hwg hwu hwd hdy)

theorem r_v56 (hx : Rd2 X0 x) (hg : Rd2 X1 g) (hwg : Rd2 X2 wg) (hwu : Rd2 X3 wu) (hwd : Rd2 X4 wd) (hdy : Rd2 X5 dy) :
    Rd2 (a := 8192) (b := 1024) (val_main_v56 (F := Ideal) X0 X1 X2 X3 X4 X5) (fun r c => dy r c + (dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c * rs x r + x r c * ((∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024)) := by
  unfold val_main_v56; exact (r_v49 hx hg hwg hwu hwd hdy).add (r_v55 hx hg hwg hwu hwd hdy)

theorem r_v57 (hx : Rd2 X0 x) (hg : Rd2 X1 g) (hwg : Rd2 X2 wg) (hwu : Rd2 X3 wu) (hwd : Rd2 X4 wd) (hdy : Rd2 X5 dy) :
    Rd2 (a := 8192) (b := 1024) (val_main_v57 (F := Ideal) X0 X1 X2 X3 X4 X5) (fun r c => ((∑ c ∈ Finset.range 1024, x r c * ((dAcc 2816 (dGate (lin 1024 (dyh dy) wd) (lin 1024 (hid x g) (tr wg)) (lin 1024 (hid x g) (tr wu))) (dUp (lin 1024 (dyh dy) wd) (lin 1024 (hid x g) (tr wg))) (tr wg) (tr wu)) r c * g 0 c)) * (-(1 / 2) * (rs x r / (ms x r + eps))) / 1024) * x r c) := by
  unfold val_main_v57; exact (r_v54 hx hg hwg hwu hwd hdy).mul hx

theorem r_v58 (hx : Rd2 X0 x) (hg : Rd2 X1 g) (hwg : Rd2 X2 wg) (hwu : Rd2 X3 wu) (hwd : Rd2 X4 wd) (hdy : Rd2 X5 dy) :
    Rd2 (a := 8192) (b := 1024) (val_main_v58 (F := Ideal) X0 X1 X2 X3 X4 X5) (dX dy x g (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := by
  unfold val_main_v58; exact ((r_v56 hx hg hwg hwu hwd hdy).add (r_v57 hx hg hwg hwu hwd hdy)).congr fun r c _ _ => dX_alt dy x g _ r c

end Values

end Cert.ReferenceIdeal.Val
-- ==== Proof.KernelChain.lean ====
/- From the arguments to the results: what each call leaves, read through the whole program. -/
module

public import proofs.«01_k».proof.Proof.KernelRun
public import proofs.«01_k».proof.Proof.Region0Arrays
public import proofs.«01_k».proof.Proof.Region1Arrays
public import proofs.«01_k».proof.Proof.Region2Arrays
public import proofs.«01_k».proof.Proof.Reference

@[expose] public section

noncomputable section

namespace Cert.KernelIdeal.Val

open Cert.KernelIdeal Cert.KernelIdeal.Gen Cert.RealArrays Cert.Formulas
open Cert.ReferenceIdeal.Val (tr)
open Idealize.ShloMosaic Idealize.ShloMosaic.TcCoe Idealize.ShloMosaic.Tactic Idealize.ShloMosaic.ValueIdx
open Idealize.SL.Sem

theorem rd_eq {a b : ℕ} {v v' : (M2 a b).Idx → EReal} {f : ℕ → ℕ → ℝ} (h : v = v') (hv : Rd2 v' f) : Rd2 v f := h ▸ hv

variable (m : (ℓ : Loc nD τ sig) → Buf (Elt Ideal) ℓ) (ρ : Dev nD → PrngReg) (c : Dev nD)
variable {x g wg wu wd dy : ℕ → ℕ → ℝ}

/-! ## Before the first call -/

theorem e1_arg0 (hx : Rd2 (a := 8192) (b := 1024) (m ((c.tc : Thread nD τ).loc main_arg0)) x) :
    Rd2 (a := 8192) (b := 1024) (V1 m ρ c main_arg0) x := rd_eq (W1_args m ρ c main_arg0 (by decide)) hx
theorem e1_arg1 (hg : Rd2 (a := 1) (b := 1024) (m ((c.tc : Thread nD τ).loc main_arg1)) g) :
    Rd2 (a := 1) (b := 1024) (V1 m ρ c main_arg1) g := rd_eq (W1_args m ρ c main_arg1 (by decide)) hg
theorem e1_arg5 (hdy : Rd2 (a := 8192) (b := 1024) (m ((c.tc : Thread nD τ).loc main_arg5)) dy) :
    Rd2 (a := 8192) (b := 1024) (V1 m ρ c main_arg5) dy := rd_eq (W1_args m ρ c main_arg5 (by decide)) hdy
theorem e1_v1 (hwg : Rd2 (a := 1024) (b := 2816) (m ((c.tc : Thread nD τ).loc main_arg2)) wg) :
    Rd2 (a := 2816) (b := 1024) (V1 m ρ c main_v1) (tr wg) := by
  refine rd_eq (v' := truncf (F := Ideal) .bf16 (transpose S2816x1024 [1, 0] (m ((c.tc : Thread nD τ).loc main_arg2)) transposes_S1024x2816_S2816x1024_1_0) bitsLt_bf16_f32) ?_ ?_
  · show StableHlo.after hostOps0 (W0 m ρ c) (Proc.devRef .tc main_v1) = _
    simp only [hostOps0]; after_results_simp <;> rfl
  · exact (hwg.transp _).trunc _
theorem e1_v3 (hwu : Rd2 (a := 1024) (b := 2816) (m ((c.tc : Thread nD τ).loc main_arg3)) wu) :
    Rd2 (a := 2816) (b := 1024) (V1 m ρ c main_v3) (tr wu) := by
  refine rd_eq (v' := truncf (F := Ideal) .bf16 (transpose S2816x1024 [1, 0] (m ((c.tc : Thread nD τ).loc main_arg3)) transposes_S1024x2816_S2816x1024_1_0) bitsLt_bf16_f32) ?_ ?_
  · show StableHlo.after hostOps0 (W0 m ρ c) (Proc.devRef .tc main_v3) = _
    simp only [hostOps0]; after_results_simp <;> rfl
  · exact (hwu.transp _).trunc _
theorem e1_v4 (hwd : Rd2 (a := 2816) (b := 1024) (m ((c.tc : Thread nD τ).loc main_arg4)) wd) :
    Rd2 (a := 2816) (b := 1024) (V1 m ρ c main_v4) wd := by
  refine rd_eq (v' := truncf (F := Ideal) .bf16 (m ((c.tc : Thread nD τ).loc main_arg4)) bitsLt_bf16_f32) ?_ ?_
  · show StableHlo.after hostOps0 (W0 m ρ c) (Proc.devRef .tc main_v4) = _
    simp only [hostOps0]; after_results_simp <;> rfl
  · exact hwd.trunc _

/-! ## After the forward call -/

theorem e2_v5_1 (hx : Rd2 (a := 8192) (b := 1024) (m ((c.tc : Thread nD τ).loc main_arg0)) x) (hg : Rd2 (a := 1) (b := 1024) (m ((c.tc : Thread nD τ).loc main_arg1)) g) :
    Rd2 (a := 8192) (b := 1024) (V2 m ρ c main_v5_1) (hid x g) := rd_eq (W2_arr m ρ c 6) (call0_h (e1_arg0 m ρ c hx) (e1_arg1 m ρ c hg))
theorem e2_v5_2 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) :
    Rd2 (a := 8192) (b := 2816) (V2 m ρ c main_v5_2) (lin 1024 (hid x g) (tr wg)) := rd_eq (W2_arr m ρ c 7) (call0_gate (e1_arg0 m ρ c hx) (e1_arg1 m ρ c hg) (e1_v1 m ρ c hwg))
theorem e2_v5_3 (hx : Rd2 (a := 8192) (b := 1024) (m ((c.tc : Thread nD τ).loc main_arg0)) x) (hg : Rd2 (a := 1) (b := 1024) (m ((c.tc : Thread nD τ).loc main_arg1)) g) (hwu : Rd2 (a := 1024) (b := 2816) (m ((c.tc : Thread nD τ).loc main_arg3)) wu) :
    Rd2 (a := 8192) (b := 2816) (V2 m ρ c main_v5_3) (lin 1024 (hid x g) (tr wu)) := rd_eq (W2_arr m ρ c 8) (call0_up (e1_arg0 m ρ c hx) (e1_arg1 m ρ c hg) (e1_v3 m ρ c hwu))
theorem e2_v5_4 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) :
    Rd2 (a := 8192) (b := 2816) (V2 m ρ c main_v5_4) (act (lin 1024 (hid x g) (tr wg)) (lin 1024 (hid x g) (tr wu))) := rd_eq (W2_arr m ρ c 9) (call0_act (e1_arg0 m ρ c hx) (e1_arg1 m ρ c hg) (e1_v1 m ρ c hwg) (e1_v3 m ρ c hwu))
theorem e2_v5_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) :
    Rd2 (a := 8192) (b := 1024) (V2 m ρ c main_v5_0) (outp x (act (lin 1024 (hid x g) (tr wg)) (lin 1024 (hid x g) (tr wu))) wd) := rd_eq (W2_arr m ρ c 5) (call0_y (e1_arg0 m ρ c hx) (e1_arg1 m ρ c hg) (e1_v1 m ρ c hwg) (e1_v3 m ρ c hwu) (e1_v4 m ρ c hwd))
theorem e2_arg0 (hx : Rd2 (a := 8192) (b := 1024) (m ((c.tc : Thread nD τ).loc main_arg0)) x) :
    Rd2 (a := 8192) (b := 1024) (V2 m ρ c main_arg0) x := rd_eq (W2_of m ρ c main_arg0 (by decide +kernel)) (e1_arg0 m ρ c hx)
theorem e2_arg1 (hg : Rd2 (a := 1) (b := 1024) (m ((c.tc : Thread nD τ).loc main_arg1)) g) :
    Rd2 (a := 1) (b := 1024) (V2 m ρ c main_arg1) g := rd_eq (W2_of m ρ c main_arg1 (by decide +kernel)) (e1_arg1 m ρ c hg)
theorem e2_arg5 (hdy : Rd2 (a := 8192) (b := 1024) (m ((c.tc : Thread nD τ).loc main_arg5)) dy) :
    Rd2 (a := 8192) (b := 1024) (V2 m ρ c main_arg5) dy := rd_eq (W2_of m ρ c main_arg5 (by decide +kernel)) (e1_arg5 m ρ c hdy)
theorem e2_v1 (hwg : Rd2 (a := 1024) (b := 2816) (m ((c.tc : Thread nD τ).loc main_arg2)) wg) :
    Rd2 (a := 2816) (b := 1024) (V2 m ρ c main_v1) (tr wg) := rd_eq (W2_of m ρ c main_v1 (by decide +kernel)) (e1_v1 m ρ c hwg)
theorem e2_v3 (hwu : Rd2 (a := 1024) (b := 2816) (m ((c.tc : Thread nD τ).loc main_arg3)) wu) :
    Rd2 (a := 2816) (b := 1024) (V2 m ρ c main_v3) (tr wu) := rd_eq (W2_of m ρ c main_v3 (by decide +kernel)) (e1_v3 m ρ c hwu)
theorem e2_v4 (hwd : Rd2 (a := 2816) (b := 1024) (m ((c.tc : Thread nD τ).loc main_arg4)) wd) :
    Rd2 (a := 2816) (b := 1024) (V2 m ρ c main_v4) wd := rd_eq (W2_of m ρ c main_v4 (by decide +kernel)) (e1_v4 m ρ c hwd)

/-! ## After the activation gradient -/

theorem e3_v6_3 (hdy : Rd2 (a := 8192) (b := 1024) (m ((c.tc : Thread nD τ).loc main_arg5)) dy) :
    Rd2 (a := 8192) (b := 1024) (V3 m ρ c main_v6_3) (dyh dy) := rd_eq (W3_arr m ρ c 11) (call1_dyh (e2_arg5 m ρ c hdy))
theorem e3_v6_2 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwd : Rd2 (a := 2816) (b := 1024) (m ((c.tc : Thread nD τ).loc main_arg4)) wd) (hdy : Rd2 (a := 8192) (b := 1024) (m ((c.tc : Thread nD τ).loc main_arg5)) dy) :
    Rd2 (a := 8192) (b := 2816) (V3 m ρ c main_v6_2) (dUp (lin 1024 (dyh dy) wd) (lin 1024 (hid x g) (tr wg))) := rd_eq (W3_arr m ρ c 10) (call1_dup (e2_arg5 m ρ c hdy) (e2_v5_2 m ρ c hx hg hwg) (e2_v4 m ρ c hwd))
theorem e3_v6_1 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 8192) (b := 2816) (V3 m ρ c main_v6_1) (dGate (lin 1024 (dyh dy) wd) (lin 1024 (hid x g) (tr wg)) (lin 1024 (hid x g) (tr wu))) := rd_eq (W3_arr m ρ c 9) (call1_dgate (e2_arg5 m ρ c hdy) (e2_v5_2 m ρ c hx hg hwg) (e2_v5_3 m ρ c hx hg hwu) (e2_v4 m ρ c hwd))
theorem e3_v6_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 8192) (b := 1024) (V3 m ρ c main_v6_0) (dX dy x g (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W3_arr m ρ c 8) (call1_dx (e2_arg5 m ρ c hdy) (e2_arg0 m ρ c hx) (e2_arg1 m ρ c hg) (e2_v5_2 m ρ c hx hg hwg) (e2_v5_3 m ρ c hx hg hwu) (e2_v1 m ρ c hwg) (e2_v3 m ρ c hwu) (e2_v4 m ρ c hwd))
theorem e3_v6_4 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 1) (b := 1024) (V3 m ρ c main_v6_4) (dG 8192 x (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W3_arr m ρ c 12) (call1_dg (e2_arg5 m ρ c hdy) (e2_arg0 m ρ c hx) (e2_v5_2 m ρ c hx hg hwg) (e2_v5_3 m ρ c hx hg hwu) (e2_v1 m ρ c hwg) (e2_v3 m ρ c hwu) (e2_v4 m ρ c hwd))
theorem e3_v5_4 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) :
    Rd2 (a := 8192) (b := 2816) (V3 m ρ c main_v5_4) (act (lin 1024 (hid x g) (tr wg)) (lin 1024 (hid x g) (tr wu))) := rd_eq (W3_of m ρ c main_v5_4 (by decide +kernel)) (e2_v5_4 m ρ c hx hg hwg hwu)
theorem e3_v5_1 (hx : Rd2 (a := 8192) (b := 1024) (m ((c.tc : Thread nD τ).loc main_arg0)) x) (hg : Rd2 (a := 1) (b := 1024) (m ((c.tc : Thread nD τ).loc main_arg1)) g) :
    Rd2 (a := 8192) (b := 1024) (V3 m ρ c main_v5_1) (hid x g) := rd_eq (W3_of m ρ c main_v5_1 (by decide +kernel)) (e2_v5_1 m ρ c hx hg)
theorem e3_v5_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) :
    Rd2 (a := 8192) (b := 1024) (V3 m ρ c main_v5_0) (outp x (act (lin 1024 (hid x g) (tr wg)) (lin 1024 (hid x g) (tr wu))) wd) := rd_eq (W3_of m ρ c main_v5_0 (by decide +kernel)) (e2_v5_0 m ρ c hx hg hwg hwu hwd)

/-! ## After the weight gradient -/

theorem e4_v7_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 2816) (b := 1024) (V4 m ρ c main_v7_0) (linT 8192 (dGate (lin 1024 (dyh dy) wd) (lin 1024 (hid x g) (tr wg)) (lin 1024 (hid x g) (tr wu))) (hid x g)) := rd_eq (W4_arr m ρ c 5) (call2_dwg (e3_v6_1 m ρ c hx hg hwg hwu hwd hdy) (e3_v5_1 m ρ c hx hg))
theorem e4_v7_1 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwd : Rd2 (a := 2816) (b := 1024) (m ((c.tc : Thread nD τ).loc main_arg4)) wd) (hdy : Rd2 (a := 8192) (b := 1024) (m ((c.tc : Thread nD τ).loc main_arg5)) dy) :
    Rd2 (a := 2816) (b := 1024) (V4 m ρ c main_v7_1) (linT 8192 (dUp (lin 1024 (dyh dy) wd) (lin 1024 (hid x g) (tr wg))) (hid x g)) := rd_eq (W4_arr m ρ c 6) (call2_dwu (e3_v6_2 m ρ c hx hg hwg hwd hdy) (e3_v5_1 m ρ c hx hg))
theorem e4_v7_2 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hdy : Rd2 (a := 8192) (b := 1024) (m ((c.tc : Thread nD τ).loc main_arg5)) dy) :
    Rd2 (a := 2816) (b := 1024) (V4 m ρ c main_v7_2) (linT 8192 (act (lin 1024 (hid x g) (tr wg)) (lin 1024 (hid x g) (tr wu))) (dyh dy)) := rd_eq (W4_arr m ρ c 7) (call2_dwd (e3_v5_4 m ρ c hx hg hwg hwu) (e3_v6_3 m ρ c hdy))
theorem e4_v5_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) :
    Rd2 (a := 8192) (b := 1024) (V4 m ρ c main_v5_0) (outp x (act (lin 1024 (hid x g) (tr wg)) (lin 1024 (hid x g) (tr wu))) wd) := rd_eq (W4_of m ρ c main_v5_0 (by decide +kernel)) (e3_v5_0 m ρ c hx hg hwg hwu hwd)
theorem e4_v6_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 8192) (b := 1024) (V4 m ρ c main_v6_0) (dX dy x g (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W4_of m ρ c main_v6_0 (by decide +kernel)) (e3_v6_0 m ρ c hx hg hwg hwu hwd hdy)
theorem e4_v6_4 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 1) (b := 1024) (V4 m ρ c main_v6_4) (dG 8192 x (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W4_of m ρ c main_v6_4 (by decide +kernel)) (e3_v6_4 m ρ c hx hg hwg hwu hwd hdy)

/-! ## The results -/

/-- Core `c`'s buffers at the end. -/
abbrev V5 : (c : Dev nD) → (b : Ref sig .tc) → Buf (Elt Ideal) ((c : Thread nD τ).loc b) := fun c b => W5 m ρ c b
theorem e5_v5_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) :
    Rd2 (a := 8192) (b := 1024) (V5 m ρ c main_v5_0) (outp x (act (lin 1024 (hid x g) (tr wg)) (lin 1024 (hid x g) (tr wu))) wd) := rd_eq (W5_of m ρ c main_v5_0 (by decide +kernel)) (e4_v5_0 m ρ c hx hg hwg hwu hwd)
theorem e5_v6_0 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 8192) (b := 1024) (V5 m ρ c main_v6_0) (dX dy x g (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W5_of m ρ c main_v6_0 (by decide +kernel)) (e4_v6_0 m ρ c hx hg hwg hwu hwd hdy)
theorem e5_v6_4 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 1) (b := 1024) (V5 m ρ c main_v6_4) (dG 8192 x (dAcc 2816 (dGate (lin 1024 (dyh dy) wd) (lin 1024 (hid x g) (tr wg)) (lin 1024 (hid x g) (tr wu))) (dUp (lin 1024 (dyh dy) wd) (lin 1024 (hid x g) (tr wg))) (tr wg) (tr wu))) := rd_eq (W5_of m ρ c main_v6_4 (by decide +kernel)) (e4_v6_4 m ρ c hx hg hwg hwu hwd hdy)
theorem e5_v7_2 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hdy : Rd2 (a := 8192) (b := 1024) (m ((c.tc : Thread nD τ).loc main_arg5)) dy) :
    Rd2 (a := 2816) (b := 1024) (V5 m ρ c main_v7_2) (linT 8192 (act (lin 1024 (hid x g) (tr wg)) (lin 1024 (hid x g) (tr wu))) (dyh dy)) := rd_eq (W5_of m ρ c main_v7_2 (by decide +kernel)) (e4_v7_2 m ρ c hx hg hwg hwu hdy)
theorem e5_v8 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwu : Rd2 (a := 1024) (b := 2816) (m ((c.tc : Thread nD τ).loc main_arg3)) wu) (hwd : Rd2 (a := 2816) (b := 1024) (m ((c.tc : Thread nD τ).loc main_arg4)) wd) (hdy : Rd2 (a := 8192) (b := 1024) (m ((c.tc : Thread nD τ).loc main_arg5)) dy) :
    Rd2 (a := 1024) (b := 2816) (V5 m ρ c main_v8) (tr (linT 8192 (dGate (lin 1024 (dyh dy) wd) (lin 1024 (hid x g) (tr wg)) (lin 1024 (hid x g) (tr wu))) (hid x g))) := by
  refine rd_eq (v' := transpose S1024x2816 [1, 0] (W4 m ρ c (Proc.devRef .tc main_v7_0)) transposes_S2816x1024_S1024x2816_1_0) ?_ ?_
  · show StableHlo.after hostOps3 (W4 m ρ c) (Proc.devRef .tc main_v8) = _
    simp only [hostOps3]; after_results_simp <;> rfl
  · exact (Rd2.transp (e4_v7_0 m ρ c hx hg hwg hwu hwd hdy) _).congr fun _ _ _ _ => by rw [tr]
theorem e5_v9 (hx : Rd2 (a := 8192) (b := 1024) (m ((c.tc : Thread nD τ).loc main_arg0)) x) (hg : Rd2 (a := 1) (b := 1024) (m ((c.tc : Thread nD τ).loc main_arg1)) g) (hwg : Rd2 (a := 1024) (b := 2816) (m ((c.tc : Thread nD τ).loc main_arg2)) wg) (hwd : Rd2 (a := 2816) (b := 1024) (m ((c.tc : Thread nD τ).loc main_arg4)) wd) (hdy : Rd2 (a := 8192) (b := 1024) (m ((c.tc : Thread nD τ).loc main_arg5)) dy) :
    Rd2 (a := 1024) (b := 2816) (V5 m ρ c main_v9) (tr (linT 8192 (dUp (lin 1024 (dyh dy) wd) (lin 1024 (hid x g) (tr wg))) (hid x g))) := by
  refine rd_eq (v' := transpose S1024x2816 [1, 0] (W4 m ρ c (Proc.devRef .tc main_v7_1)) transposes_S2816x1024_S1024x2816_1_0) ?_ ?_
  · show StableHlo.after hostOps3 (W4 m ρ c) (Proc.devRef .tc main_v9) = _
    simp only [hostOps3]; after_results_simp <;> rfl
  · exact (Rd2.transp (e4_v7_1 m ρ c hx hg hwg hwd hdy) _).congr fun _ _ _ _ => by rw [tr]

end Cert.KernelIdeal.Val
-- ==== Proof.Finite.lean ====
/- The precondition says that every argument entry is a real number. -/
module

public import proofs.«01_k».proof.Pre_finite
public import proofs.«01_k».proof.Proof.RealArrays
public import Idealize.ShloMosaic.Lib.ReduceAll

@[expose] public section

noncomputable section

namespace Cert.Finite

open Cert.RealArrays Cert.Pre_finite
open Idealize.ShloMosaic Idealize.ShloMosaic.ValueIdx

theorem inf_top : Ideal.ofBits .f32 0x7F800000#32 = (⊤ : EReal) := by
  simp [Ideal.ofBits, Ideal.ieee]

/-- An extended real whose absolute value is below infinity is a real number. -/
theorem real_of_lt (x : EReal) (h : Ideal.cmp .olt (max x (-x)) ⊤ = 1#1) : ∃ y : ℝ, x = (y : EReal) := by
  induction x with
  | bot => exact absurd h (by simp [Ideal.cmp])
  | coe y => exact ⟨y, rfl⟩
  | top => exact absurd h (by simp [Ideal.cmp])

/-- An array of extended reals that are real numbers reads some real array. -/
theorem rd2_of_real {a b : ℕ} {v : (M2 a b).Idx → EReal} (h : ∀ i, ∃ y : ℝ, v i = (y : EReal)) : ∃ f, Rd2 v f := by
  choose y hy using h
  refine ⟨fun r c => if h : r < a ∧ c < b then y (ix2 ⟨r, h.1⟩ ⟨c, h.2⟩) else 0, fun i => ?_⟩
  have hi : (i 0).val < a ∧ (i 1).val < b := ⟨idx2_lt0 i, idx2_lt1 i⟩
  show v i = ((if h : (i 0).val < a ∧ (i 1).val < b then y (ix2 ⟨(i 0).val, h.1⟩ ⟨(i 1).val, h.2⟩) else 0 : ℝ) : EReal)
  rw [dif_pos hi, hy i]
  refine congrArg (fun j => ((y j : ℝ) : EReal)) (funext fun x => ?_)
  match x with
  | ⟨0, _⟩ => rfl
  | ⟨1, _⟩ => rfl

/-- One argument's test: all its entries have an absolute value below infinity. -/
theorem all_real {a b : ℕ} (v : FVec Ideal (M2 a b) .f32) (hb : (⟨0, ![]⟩ : Shape).BroadcastsInDim (M2 a b) (![] : Fin 0 → Fin 2))
    (hr : (M2 a b).ReducesTo [0, 1] ⟨0, ![]⟩) (h0 : 0 < (⟨0, ![]⟩ : Shape).numel) (j : (⟨0, ![]⟩ : Shape).Idx)
    (e : Host.reduce IntOp.andi (cmpf .olt (Host.absf v) (broadcastInDim (M2 a b) ![] hb (constant (F := Ideal) ⟨0, ![]⟩ .f32 0x7F800000#32))) (constantI ⟨0, ![]⟩ 1 1#1) hr h0 j = 1#1) :
    ∃ f, Rd2 v f := by
  haveI : Subsingleton (⟨0, ![]⟩ : Shape).Idx := ⟨fun p q => funext fun x => x.elim0⟩
  refine rd2_of_real fun i => real_of_lt _ ?_
  have hi := Host.reduce_andi_all _ _ hr h0 j e i
  have hb' : broadcastInDim (M2 a b) ![] hb (constant (F := Ideal) ⟨0, ![]⟩ .f32 0x7F800000#32) i = (⊤ : EReal) := by
    rw [broadcastInDim_apply ![] hb _ i ix0 (fun x => x.elim0)]; exact inf_top
  have hi' : Ideal.cmp .olt (max (v i) (-(v i))) (broadcastInDim (M2 a b) ![] hb (constant (F := Ideal) ⟨0, ![]⟩ .f32 0x7F800000#32) i) = 1#1 := hi
  rwa [hb'] at hi'

theorem bit_and {p q : BitVec 1} (h : IntOp.andi p q = 1#1) : p = 1#1 ∧ q = 1#1 := by
  revert p q; decide

variable [Facts]

/-- Under the precondition all six arguments are real arrays. -/
theorem reals {A0 : FVec Ideal S8192x1024 .f32} {A1 : FVec Ideal S1x1024 .f32} {A2 A3 : FVec Ideal S1024x2816 .f32} {A4 : FVec Ideal S2816x1024 .f32} {A5 : FVec Ideal S8192x1024 .f32}
    (h : fn (F := Ideal) A0 A1 A2 A3 A4 A5 = fun _ => 1#1) :
    (∃ f, Rd2 (a := 8192) (b := 1024) A0 f) ∧ (∃ f, Rd2 (a := 1) (b := 1024) A1 f) ∧ (∃ f, Rd2 (a := 1024) (b := 2816) A2 f)
      ∧ (∃ f, Rd2 (a := 1024) (b := 2816) A3 f) ∧ (∃ f, Rd2 (a := 2816) (b := 1024) A4 f) ∧ (∃ f, Rd2 (a := 8192) (b := 1024) A5 f) := by
  have h := congrFun h ix0
  unfold fn fn_part1 at h
  dsimp only at h
  obtain ⟨h, h5⟩ := bit_and h
  obtain ⟨h, h4⟩ := bit_and h
  obtain ⟨h, h3⟩ := bit_and h
  obtain ⟨h, h2⟩ := bit_and h
  obtain ⟨h0, h1⟩ := bit_and h
  exact ⟨all_real A0 _ _ _ _ h0, all_real A1 _ _ _ _ h1, all_real A2 _ _ _ _ h2, all_real A3 _ _ _ _ h3, all_real A4 _ _ _ _ h4, all_real A5 _ _ _ _ h5⟩

end Cert.Finite
-- ==== Proof.Agree.lean ====
/- The two programs agree: under the precondition each result of the kernel and its counterpart of the reference read
   one and the same real array. -/
module

public import proofs.«01_k».proof.Proof.KernelChain
public import proofs.«01_k».proof.Proof.Finite
public import proofs.«01_k».proof.Proof.Gen.ReferenceIdeal.Run
public import proofs.«01_k».proof.Proof.Gen.Pre_finite
public import proofs.«01_k».proof.Defs

@[expose] public section

noncomputable section

namespace Cert.Agree

open Cert.RealArrays Cert.Formulas
open Idealize.ShloMosaic Idealize.ShloMosaic.TcCoe Idealize.ShloMosaic.ValueIdx
open Idealize.SL.Sem

/-- Two arrays that read one real array are equal. -/
theorem rd_unique {a b : ℕ} {v w : (M2 a b).Idx → EReal} {f : ℕ → ℕ → ℝ} (hv : Rd2 v f) (hw : Rd2 w f) : v = w :=
  funext fun i => (hv i).trans (hw i).symm

theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hagree
  refine ⟨fun c => Cert.KernelIdeal.Gen.W5 m g c (Proc.devRef .tc Cert.KernelIdeal.main_v5_0), fun c => Cert.KernelIdeal.Gen.W5 m g c (Proc.devRef .tc Cert.KernelIdeal.main_v6_0), fun c => Cert.KernelIdeal.Gen.W5 m g c (Proc.devRef .tc Cert.KernelIdeal.main_v6_4), fun c => Cert.KernelIdeal.Gen.W5 m g c (Proc.devRef .tc Cert.KernelIdeal.main_v8), fun c => Cert.KernelIdeal.Gen.W5 m g c (Proc.devRef .tc Cert.KernelIdeal.main_v9), fun c => Cert.KernelIdeal.Gen.W5 m g c (Proc.devRef .tc Cert.KernelIdeal.main_v7_2),
    Cert.KernelIdeal.Val.run_values m g, ?_⟩
  refine (θ_run Cert.ReferenceIdeal.defs _ _).mono (fun r h c => ?_) (Cert.ReferenceIdeal.Value.run (F := Ideal) m' g')
  obtain ⟨a0, a1, a2, a3, a4, a5⟩ := hagree c
  obtain ⟨⟨x, hx⟩, ⟨gn, hg⟩, ⟨wg, hwg⟩, ⟨wu, hwu⟩, ⟨wd, hwd⟩, ⟨dy, hdy⟩⟩ := Cert.Finite.reals (hpre c)
  have hx' : Rd2 (a := 8192) (b := 1024) (m' ((c.tc : Thread Cert.ReferenceIdeal.nD Cert.ReferenceIdeal.τ).loc Cert.ReferenceIdeal.main_arg0)) x := Cert.KernelIdeal.Val.rd_eq a0 hx
  have hg' : Rd2 (a := 1) (b := 1024) (m' ((c.tc : Thread Cert.ReferenceIdeal.nD Cert.ReferenceIdeal.τ).loc Cert.ReferenceIdeal.main_arg1)) gn := Cert.KernelIdeal.Val.rd_eq a1 hg
  have hwg' : Rd2 (a := 1024) (b := 2816) (m' ((c.tc : Thread Cert.ReferenceIdeal.nD Cert.ReferenceIdeal.τ).loc Cert.ReferenceIdeal.main_arg2)) wg := Cert.KernelIdeal.Val.rd_eq a2 hwg
  have hwu' : Rd2 (a := 1024) (b := 2816) (m' ((c.tc : Thread Cert.ReferenceIdeal.nD Cert.ReferenceIdeal.τ).loc Cert.ReferenceIdeal.main_arg3)) wu := Cert.KernelIdeal.Val.rd_eq a3 hwu
  have hwd' : Rd2 (a := 2816) (b := 1024) (m' ((c.tc : Thread Cert.ReferenceIdeal.nD Cert.ReferenceIdeal.τ).loc Cert.ReferenceIdeal.main_arg4)) wd := Cert.KernelIdeal.Val.rd_eq a4 hwd
  have hdy' : Rd2 (a := 8192) (b := 1024) (m' ((c.tc : Thread Cert.ReferenceIdeal.nD Cert.ReferenceIdeal.τ).loc Cert.ReferenceIdeal.main_arg5)) dy := Cert.KernelIdeal.Val.rd_eq a5 hdy
  obtain ⟨h0, h1, h2, h3, h4, h5, hargs⟩ := h c
  refine ⟨h0.trans ?_, h1.trans ?_, h2.trans ?_, h3.trans ?_, h4.trans ?_, h5.trans ?_, hargs⟩
  · refine (Cert.ReferenceIdeal.Read.val_main_v22_eq (F := Ideal) _ _ _ _ _).trans ?_
    exact rd_unique (a := 8192) (b := 1024) (Cert.ReferenceIdeal.Val.r_v22 hx' hg' hwg' hwu' hwd') (Cert.KernelIdeal.Val.e5_v5_0 m g c hx hg hwg hwu hwd)
  · refine (Cert.ReferenceIdeal.Read.val_main_v58_eq (F := Ideal) m' c).trans ?_
    exact rd_unique (a := 8192) (b := 1024) (Cert.ReferenceIdeal.Val.r_v58 hx' hg' hwg' hwu' hwd' hdy') (Cert.KernelIdeal.Val.e5_v6_0 m g c hx hg hwg hwu hwd hdy)
  · refine (Cert.ReferenceIdeal.Read.val_main_v41_eq (F := Ideal) m' c).trans ?_
    exact rd_unique (a := 1) (b := 1024) (Cert.ReferenceIdeal.Val.r_v41 hx' hg' hwg' hwu' hwd' hdy') (Cert.KernelIdeal.Val.e5_v6_4 m g c hx hg hwg hwu hwd hdy)
  · refine (Cert.ReferenceIdeal.Read.val_main_v36_eq (F := Ideal) m' c).trans ?_
    exact rd_unique (a := 1024) (b := 2816) (Cert.ReferenceIdeal.Val.r_v36 hx' hg' hwg' hwu' hwd' hdy') (Cert.KernelIdeal.Val.e5_v8 m g c hx hg hwg hwu hwd hdy)
  · refine (Cert.ReferenceIdeal.Read.val_main_v32_eq (F := Ideal) _ _ _ _ _).trans ?_
    exact rd_unique (a := 1024) (b := 2816) (Cert.ReferenceIdeal.Val.r_v32 hx' hg' hwg' hwd' hdy') (Cert.KernelIdeal.Val.e5_v9 m g c hx hg hwg hwd hdy)
  · refine (Cert.ReferenceIdeal.Read.val_main_v27_eq (F := Ideal) _ _ _ _ _).trans ?_
    exact rd_unique (a := 2816) (b := 1024) (Cert.ReferenceIdeal.Val.r_v27 hx' hg' hwg' hwu' hdy') (Cert.KernelIdeal.Val.e5_v7_2 m g c hx hg hwg hwu hdy)

end Cert.Agree
-- ==== Proof.GateArrays.lean ====
/- Further operations on arrays of reals: the hyperbolic tangent, masks and selections, column slices and their
   concatenation, and arrays of three axes. -/
module

public import proofs.«01_k».proof.Proof.RowStores

@[expose] public section

noncomputable section

namespace Cert.RealArrays

open Idealize.ShloMosaic Idealize.ShloMosaic.ValueIdx

/-! ## Literals -/

theorem lit_512 : Rd0 (Ideal.ofBits .f32 0x44000000#32) 512 := by
  unfold Rd0; simp [Ideal.ofBits, Ideal.ieee, -EReal.coe_mul]; norm_num
theorem lit_three : Rd0 (Ideal.ofBits .f32 0x40400000#32) 3 := by
  unfold Rd0; simp [Ideal.ofBits, Ideal.ieee, -EReal.coe_mul]; norm_num
/-- The single-precision number next to `√(2/π)`. -/
def geluC : ℝ := (2 ^ 23 + 4997674 : ℕ) * (2 : ℝ) ^ (-24 : ℤ)
theorem lit_geluC : Rd0 (Ideal.ofBits .f32 0x3F4C422A#32) geluC := by
  unfold Rd0 geluC; simp [Ideal.ofBits, Ideal.ieee, -EReal.coe_mul]
theorem lit_zero_b : Rd0 (Ideal.ofBits .bf16 0x0000#16) 0 := by
  unfold Rd0; simp [Ideal.ofBits, Ideal.ieee]

/-! ## Elementwise -/

section Elementwise
variable {a b : ℕ} {φ : FTy} {v w : FVec Ideal (M2 a b) φ} {f g : ℕ → ℕ → ℝ}

theorem Rd2.tnh (hv : Rd2 v f) : Rd2 (tanh v) (fun r c => Real.tanh (f r c)) :=
  fun i => by show FloatOps.tanh (v i) = _; rw [Ideal.tanh_def, hv i, Ideal.tanh_coe]
theorem Rd2.hostTanh (hv : Rd2 v f) : Rd2 (Host.tanh v) (fun r c => Real.tanh (f r c)) :=
  fun i => by show FloatOps.hostUnary .tanh (v i) = _; rw [Ideal.hostUnary_tanh_def, hv i, Ideal.tanh_coe]

/-- The mask `m` holds where `p` does. -/
def Msk {a b : ℕ} (m : IVec (M2 a b) 1) (p : ℕ → ℕ → Prop) : Prop := ∀ i, m i = 1 ↔ p (i 0).val (i 1).val

theorem bv_int {z : ℕ} (h : z < 2 ^ 31) : (BitVec.ofNat 32 z).toInt = (z : ℤ) := by
  have e : (BitVec.ofNat 32 z).toNat = z := by rw [BitVec.toNat_ofNat]; exact Nat.mod_eq_of_lt (by omega)
  rw [BitVec.toInt_eq_toNat_of_lt (by rw [e]; omega), e]
theorem bv_le {x y : ℕ} (hx : x < 2 ^ 31) (hy : y < 2 ^ 31) : (BitVec.ofNat 32 y).sle (BitVec.ofNat 32 x) = decide (y ≤ x) := by
  unfold BitVec.sle; rw [bv_int hx, bv_int hy]; exact decide_eq_decide.mpr Int.ofNat_le
theorem bv_lt {x y : ℕ} (hx : x < 2 ^ 31) (hy : y < 2 ^ 31) : (BitVec.ofNat 32 x).slt (BitVec.ofNat 32 y) = decide (x < y) := by
  unfold BitVec.slt; rw [bv_int hx, bv_int hy]; exact decide_eq_decide.mpr Int.ofNat_lt

/-- The mask of a row number at least the column number. -/
theorem msk_causal {a b : ℕ} {κ : Kind} (ha : a < 2 ^ 31) (hb : b < 2 ^ 31) (h0 : (M2 a b).Iotas κ 32 [0]) (h1 : (M2 a b).Iotas κ 32 [1]) :
    Msk (cmpi .sge (iota κ (M2 a b) 32 [0] h0) (iota κ (M2 a b) 32 [1] h1)) (fun r c => c ≤ r) := fun i => by
  have i0 := idx2_lt0 i
  have i1 := idx2_lt1 i
  show BitVec.ofBool ((iota κ (M2 a b) 32 [1] h1 i).sle (iota κ (M2 a b) 32 [0] h0 i)) = 1 ↔ _
  rw [iota_single_apply, iota_single_apply, bv_le (by omega) (by omega)]
  by_cases h : (i 1).val ≤ (i 0).val <;> simp [h]
/-- The mask of a column number below `k`. -/
theorem msk_low {a b k : ℕ} {κ : Kind} (hb : b < 2 ^ 31) (hk : k < 2 ^ 31) (h1 : (M2 a b).Iotas κ 32 [1]) :
    Msk (cmpi .slt (iota κ (M2 a b) 32 [1] h1) (broadcast (M2 a b) (BitVec.ofNat 32 k))) (fun _ c => c < k) := fun i => by
  have i1 := idx2_lt1 i
  show BitVec.ofBool ((iota κ (M2 a b) 32 [1] h1 i).slt (BitVec.ofNat 32 k)) = 1 ↔ _
  rw [iota_single_apply, bv_lt (by omega) (by omega)]
  by_cases h : (i 1).val < k <;> simp [h]

theorem Rd2.sel {v w : (M2 a b).Idx → EReal} {m : IVec (M2 a b) 1} {p : ℕ → ℕ → Prop} (hm : Msk m p) (hv : Rd2 v f) (hw : Rd2 w g) {h : ℕ → ℕ → ℝ}
    (h1 : ∀ r c, r < a → c < b → p r c → f r c = h r c) (h2 : ∀ r c, r < a → c < b → ¬p r c → g r c = h r c) : Rd2 (select m v w) h := fun i => by
  show (if m i = 1 then v i else w i) = _
  by_cases hp : p (i 0).val (i 1).val
  · rw [if_pos ((hm i).mpr hp), hv i, h1 _ _ (idx2_lt0 i) (idx2_lt1 i) hp]
  · rw [if_neg (fun e => hp ((hm i).mp e)), hw i, h2 _ _ (idx2_lt0 i) (idx2_lt1 i) hp]
end Elementwise

/-! ## Columns cut out and put together -/

theorem Rd2.cols {a b n : ℕ} {v : (M2 a b).Idx → EReal} {f : ℕ → ℕ → ℝ} (hv : Rd2 v f) {q : ℕ} (h : (M2 a b).Slices ![0, q] (M2 a n)) :
    Rd2 (extractStridedSlice (M2 a n) ![0, q] v h) (fun r c => f r (q + c)) := fun i => by
  refine (hv _).trans (coe_congr₂ f ?_ rfl)
  exact Nat.zero_add _

/-- Four column blocks side by side. -/
theorem Rd2.concat4 {a n : ℕ} {x0 x1 x2 x3 : (M2 a n).Idx → EReal} {f : ℕ → ℕ → ℝ}
    (h : Shape.Concatenates [M2 a n, M2 a n, M2 a n, M2 a n] (M2 a (4 * n)) 1)
    (h0 : Rd2 x0 f) (h1 : Rd2 x1 (fun r c => f r (n + c))) (h2 : Rd2 x2 (fun r c => f r (2 * n + c))) (h3 : Rd2 x3 (fun r c => f r (3 * n + c))) :
    Rd2 (concatenate (M2 a (4 * n)) 1 [⟨M2 a n, x0⟩, ⟨M2 a n, x1⟩, ⟨M2 a n, x2⟩, ⟨M2 a n, x3⟩] h) f := by
  intro j
  have j1 : (j 1).val < 4 * n := idx2_lt1 j
  have key : ∀ (k : ℕ) (hk : k < 4) (x : (M2 a n).Idx → EReal)
      (hx : ([⟨M2 a n, x0⟩, ⟨M2 a n, x1⟩, ⟨M2 a n, x2⟩, ⟨M2 a n, x3⟩] : List ((s : Shape) × (s.Idx → EReal)))[k]'hk = ⟨M2 a n, x⟩)
      (hp : (((([⟨M2 a n, x0⟩, ⟨M2 a n, x1⟩, ⟨M2 a n, x2⟩, ⟨M2 a n, x3⟩] : List ((s : Shape) × (s.Idx → EReal))).take k).map (·.1)).map
        fun s => if h : s.rank = (M2 a (4 * n)).rank then s.size ((1 : Fin (M2 a (4 * n)).rank).cast h.symm) else 0).sum = k * n)
      (hr : Rd2 x (fun r c => f r (k * n + c))), k * n ≤ (j 1).val → (j 1).val < k * n + n →
      concatenate (M2 a (4 * n)) 1 [⟨M2 a n, x0⟩, ⟨M2 a n, x1⟩, ⟨M2 a n, x2⟩, ⟨M2 a n, x3⟩] h j = ((f (j 0).val (j 1).val : ℝ) : EReal) := by
    intro k hk x hx hp hr hlo hhi
    rw [concatenate_apply_piece (1 : Fin (M2 a (4 * n)).rank) [⟨M2 a n, x0⟩, ⟨M2 a n, x1⟩, ⟨M2 a n, x2⟩, ⟨M2 a n, x3⟩] h j k hk (M2 a n) x hx rfl (k * n) hp (ix2 (j 0) ⟨(j 1).val - k * n, by omega⟩)
      (fun b hb => match b with
        | ⟨0, _⟩ => rfl
        | ⟨1, _⟩ => absurd rfl hb) (by show k * n + ((j 1).val - k * n) = (j 1).val; omega), hr]
    exact coe_congr₂ f rfl (by show k * n + ((j 1).val - k * n) = (j 1).val; omega)
  rcases Nat.lt_or_ge (j 1).val n with c0 | c0
  · exact key 0 (by omega) x0 rfl (by simp) (h0.congr fun r c _ _ => by simp) (by omega) (by omega)
  rcases Nat.lt_or_ge (j 1).val (2 * n) with c1 | c1
  · exact key 1 (by omega) x1 rfl (by simp) (h1.congr fun r c _ _ => by simp) (by omega) (by omega)
  rcases Nat.lt_or_ge (j 1).val (3 * n) with c2 | c2
  · exact key 2 (by omega) x2 rfl (by simp; omega) h2 (by omega) (by omega)
  · exact key 3 (by omega) x3 rfl (by simp; omega) h3 (by omega) (by omega)

/-! ## Arrays of three axes -/

/-- The rank-3 shape. -/
abbrev M3 (a b c : ℕ) : Shape := ⟨3, ![a, b, c]⟩
/-- The array `v` reads the real number `f p r c` at `p, r, c`. -/
def Rd3 {a b c : ℕ} (v : (M3 a b c).Idx → EReal) (f : ℕ → ℕ → ℕ → ℝ) : Prop :=
  ∀ i, v i = ((f (i 0).val (i 1).val (i 2).val : ℝ) : EReal)

theorem idx3_lt0 {a b c : ℕ} (i : (M3 a b c).Idx) : (i 0).val < a := (i 0).isLt
theorem idx3_lt1 {a b c : ℕ} (i : (M3 a b c).Idx) : (i 1).val < b := (i 1).isLt
theorem idx3_lt2 {a b c : ℕ} (i : (M3 a b c).Idx) : (i 2).val < c := (i 2).isLt

theorem coe_congr₃ (G : ℕ → ℕ → ℕ → ℝ) {a b c a' b' c' : ℕ} (ha : a = a') (hb : b = b') (hc : c = c') :
    ((G a b c : ℝ) : EReal) = ((G a' b' c' : ℝ) : EReal) := by rw [ha, hb, hc]

theorem Rd3.congr {a b c : ℕ} {v : (M3 a b c).Idx → EReal} {f g : ℕ → ℕ → ℕ → ℝ} (hv : Rd3 v f)
    (h : ∀ p r q, p < a → r < b → q < c → f p r q = g p r q) : Rd3 v g :=
  fun i => by rw [hv i, h _ _ _ (idx3_lt0 i) (idx3_lt1 i) (idx3_lt2 i)]

/-- A block of one plane read as an array of two axes. -/
theorem Rd3.plane {a b : ℕ} {v : (M3 1 a b).Idx → EReal} {f : ℕ → ℕ → ℕ → ℝ} (hv : Rd3 v f) (h : (M3 1 a b).ShapeCasts (M2 a b)) :
    Rd2 (shapeCast (M2 a b) v h) (f 0) := fun i => by
  rw [shapeCast_dropUnit_apply ![a, b] v h i, hv]; rfl
theorem Rd2.plane {a b : ℕ} {v : (M2 a b).Idx → EReal} {f : ℕ → ℕ → ℝ} (hv : Rd2 v f) (h : (M2 a b).ShapeCasts (M3 1 a b)) :
    Rd3 (shapeCast (M3 1 a b) v h) (fun _ r c => f r c) := fun i => by
  exact (shapeCast_addUnit_apply ![a, b] v h i).trans (hv _)

/-- Where a block of whole planes lies. -/
theorem emb_plane {a b c p : ℕ} (inb : ∀ x, (![p, 0, 0] : Fin 3 → ℕ) x + (M3 1 b c).size x ≤ (M3 a b c).size x) (x : (M3 1 b c).Idx) :
    ((Rect.unit (s := M3 a b c) ![p, 0, 0] (M3 1 b c).size inb).emb x 0).val = p + (x 0).val
      ∧ ((Rect.unit (s := M3 a b c) ![p, 0, 0] (M3 1 b c).size inb).emb x 1).val = (x 1).val
      ∧ ((Rect.unit (s := M3 a b c) ![p, 0, 0] (M3 1 b c).size inb).emb x 2).val = (x 2).val :=
  ⟨by show p + 1 * (x 0).val = _; omega, by show 0 + 1 * (x 1).val = _; omega, by show 0 + 1 * (x 2).val = _; omega⟩

/-- A load of plane `p`. -/
theorem Rd3.ldp {a b c : ℕ} {v : Vec Ideal (M3 a b c) .f32} {f : ℕ → ℕ → ℕ → ℝ} (hv : Rd3 v f) {p : ℕ}
    (inb : ∀ x, (![p, 0, 0] : Fin 3 → ℕ) x + (M3 1 b c).size x ≤ (M3 a b c).size x) :
    Rd3 (a := 1) (b := b) (c := c) (View.ld (Val := Elt Ideal) (e' := .f32) v (Rect.unit (s := M3 a b c) ![p, 0, 0] (M3 1 b c).size inb)) (fun _ r q => f p r q) := fun i => by
  have i0 : (i 0).val = 0 := by have := idx3_lt0 i; omega
  obtain ⟨e0, e1, e2⟩ := emb_plane inb i
  refine (hv ((Rect.unit (s := M3 a b c) ![p, 0, 0] (M3 1 b c).size inb).emb i)).trans (coe_congr₃ f ?_ e1 e2)
  rw [e0, i0, Nat.add_zero]

/-- A load of plane `p` of a block being filled: what the last store left there, if it is of plane `p` … -/
theorem ld_canon_same {a b c p : ℕ} {L : List (View.Piece (Elt Ideal) (M3 a b c) .f32)}
    (inb inb' : ∀ x, (![p, 0, 0] : Fin 3 → ℕ) x + (![1, b, c] : Fin 3 → ℕ) x ≤ (M3 a b c).size x) (w : (Rect.unit (s := M3 a b c) ![p, 0, 0] ![1, b, c] inb).shape.Idx → EReal) :
    View.ld (Val := Elt Ideal) (View.canon ((⟨Rect.unit (s := M3 a b c) ![p, 0, 0] ![1, b, c] inb, w⟩ : View.Piece (Elt Ideal) (M3 a b c) .f32) :: L))
      (Rect.unit (s := M3 a b c) ![p, 0, 0] ![1, b, c] inb') = w :=
  funext fun x => View.canon_cons_emb (Val := Elt Ideal) (e := .f32) _ w L x
theorem not_mem_plane {a b c p : ℕ} (inb : ∀ x, (![p, 0, 0] : Fin 3 → ℕ) x + (M3 1 b c).size x ≤ (M3 a b c).size x) (i : (M3 a b c).Idx)
    (h : (i 0).val ≠ p) : i ∉ (Rect.unit (s := M3 a b c) ![p, 0, 0] (M3 1 b c).size inb).set := fun hi => by
  obtain ⟨x, rfl⟩ := (Rect.unit (s := M3 a b c) ![p, 0, 0] (M3 1 b c).size inb).exists_idx_of_mem hi
  have x0 : (x 0).val = 0 := by have := idx3_lt0 x; omega
  exact h ((emb_plane inb x).1.trans (by rw [x0, Nat.add_zero]))
/-- … and what the earlier stores left, if it is of another plane. -/
theorem ld_canon_other {a b c p q : ℕ} {L : List (View.Piece (Elt Ideal) (M3 a b c) .f32)}
    (inb : ∀ x, (![p, 0, 0] : Fin 3 → ℕ) x + (![1, b, c] : Fin 3 → ℕ) x ≤ (M3 a b c).size x)
    (inb' : ∀ x, (![q, 0, 0] : Fin 3 → ℕ) x + (![1, b, c] : Fin 3 → ℕ) x ≤ (M3 a b c).size x) (w : (Rect.unit (s := M3 a b c) ![p, 0, 0] ![1, b, c] inb).shape.Idx → EReal) (h : q ≠ p) :
    View.ld (Val := Elt Ideal) (View.canon ((⟨Rect.unit (s := M3 a b c) ![p, 0, 0] ![1, b, c] inb, w⟩ : View.Piece (Elt Ideal) (M3 a b c) .f32) :: L))
      (Rect.unit (s := M3 a b c) ![q, 0, 0] ![1, b, c] inb')
      = View.ld (Val := Elt Ideal) (View.canon L) (Rect.unit (s := M3 a b c) ![q, 0, 0] ![1, b, c] inb') :=
  funext fun x => View.canon_cons_of_not_mem (Val := Elt Ideal) (e := .f32) _ L (not_mem_plane inb _ (by
    have x0 : (x 0).val = 0 := by have := idx3_lt0 x; omega
    exact fun e => h (((emb_plane inb' x).1.trans (by rw [x0, Nat.add_zero])).symm.trans e)))

/-- The array `v` reads `f` on the planes `S` holds of. -/
def Rd3on {a b c : ℕ} (S : ℕ → Prop) (v : (M3 a b c).Idx → EReal) (f : ℕ → ℕ → ℕ → ℝ) : Prop :=
  ∀ i, S (i 0).val → v i = ((f (i 0).val (i 1).val (i 2).val : ℝ) : EReal)
theorem Rd3on.store {a b c p : ℕ} {S : ℕ → Prop} {g : ℕ → ℕ → ℕ → ℝ} {L : List (View.Piece (Elt Ideal) (M3 a b c) .f32)}
    (inb : ∀ x, (![p, 0, 0] : Fin 3 → ℕ) x + (M3 1 b c).size x ≤ (M3 a b c).size x) {w : (M3 1 b c).Idx → EReal} (hw : Rd3 w (fun _ r q => g p r q))
    (hL : Rd3on (fun k => S k ∧ k ≠ p) (View.canon L) g) :
    Rd3on (a := a) (b := b) (c := c) S (View.canon ((⟨Rect.unit (s := M3 a b c) ![p, 0, 0] (M3 1 b c).size inb, w⟩ : View.Piece (Elt Ideal) (M3 a b c) .f32) :: L)) g := by
  intro i hS
  by_cases h0 : (i 0).val = p
  · have hi : i ∈ (Rect.unit (s := M3 a b c) ![p, 0, 0] (M3 1 b c).size inb).set := by
      have hx : (Rect.unit (s := M3 a b c) ![p, 0, 0] (M3 1 b c).size inb).emb (fun z => match z with
          | ⟨0, _⟩ => (⟨0, Nat.one_pos⟩ : Fin 1)
          | ⟨1, _⟩ => i 1
          | ⟨2, _⟩ => i 2) = i :=
        funext fun x => Fin.ext (match x with
          | ⟨0, _⟩ => by show p + 1 * 0 = (i 0).val; omega
          | ⟨1, _⟩ => by show 0 + 1 * (i 1).val = (i 1).val; omega
          | ⟨2, _⟩ => by show 0 + 1 * (i 2).val = (i 2).val; omega)
      rw [← hx]; exact (Rect.unit (s := M3 a b c) ![p, 0, 0] (M3 1 b c).size inb).idx_mem _
    obtain ⟨x, rfl⟩ : ∃ x, (Rect.unit (s := M3 a b c) ![p, 0, 0] (M3 1 b c).size inb).emb x = i := (Rect.unit (s := M3 a b c) ![p, 0, 0] (M3 1 b c).size inb).exists_idx_of_mem hi
    refine (View.canon_cons_emb (Val := Elt Ideal) (e := .f32) _ w L x).trans ?_
    obtain ⟨e0, e1, e2⟩ := emb_plane inb x
    exact (hw x).trans (coe_congr₃ g h0.symm e1.symm e2.symm)
  · have hn := not_mem_plane inb i h0
    refine (View.canon_cons_of_not_mem (Val := Elt Ideal) (e := .f32) _ L hn).trans ?_
    exact hL i ⟨hS, h0⟩

/-- A block whose last store is of the whole holds what was stored. -/
theorem canon_whole3 {e : EltTy} {Val : EltTy → Type} [∀ e, Nonempty (Val e)] {a b c : ℕ}
    (inb' : ∀ x, (![0, 0, 0] : Fin 3 → ℕ) x + (![a, b, c] : Fin 3 → ℕ) x ≤ (M3 a b c).size x)
    (w : (Rect.unit (s := M3 a b c) ![0, 0, 0] ![a, b, c] inb').shape.Idx → Val e) (L : List (View.Piece Val (M3 a b c) e)) :
    View.canon (⟨Rect.unit ![0, 0, 0] ![a, b, c] inb', w⟩ :: L) = w :=
  View.canon_cons_unit_zero (by funext x; match x with | ⟨0, _⟩ => rfl | ⟨1, _⟩ => rfl | ⟨2, _⟩ => rfl) inb' w L

end Cert.RealArrays
-- ==== Proof.GateFormulas.lean ====
/- The spatial gating unit's gradient over the reals, chunk by chunk.  A chunk is 128 rows of 512 columns; the columns
   lie in eight groups of 64, and each group has its own causal 128 × 128 mixing matrix. -/
module

public import proofs.«01_k».proof.Proof.GateArrays

@[expose] public section

noncomputable section

namespace Cert.Gate

open Cert.RealArrays

/-- The cubic coefficient of the `tanh` form of GELU, and three times it. -/
def ga : ℝ := 8943 / 200000
def g3a : ℝ := 26829 / 200000

/-- The inner hyperbolic tangent of GELU. -/
def th (x : ℝ) : ℝ := Real.tanh (geluC * (x + ga * x * x * x))
/-- GELU and its derivative. -/
def act (x : ℝ) : ℝ := 1 / 2 * x * (1 + th x)
def dact (x : ℝ) : ℝ := 1 / 2 * (1 + th x) + 1 / 2 * x * (1 - th x * th x) * geluC * (1 + g3a * x * x)

/-- The mean of a row, the row with its mean taken off, and the reciprocal root of its variance. -/
def mean (f : ℕ → ℕ → ℝ) (t : ℕ) : ℝ := (∑ k ∈ Finset.range 512, f t k) / 512
def cen (f : ℕ → ℕ → ℝ) (t j : ℕ) : ℝ := f t j - mean f t
def rsd (f : ℕ → ℕ → ℝ) (t : ℕ) : ℝ := (Real.sqrt (mean (fun r c => cen f r c * cen f r c) t + eps))⁻¹
def xhat (f : ℕ → ℕ → ℝ) (t j : ℕ) : ℝ := cen f t j * rsd f t

theorem rsd_pos (f : ℕ → ℕ → ℝ) (t : ℕ) : 0 < mean (fun r c => cen f r c * cen f r c) t + eps :=
  add_pos_of_nonneg_of_pos (div_nonneg (Finset.sum_nonneg fun k _ => mul_self_nonneg _) (by norm_num)) eps_pos

/-- The causal mixing matrices. -/
def wc (w : ℕ → ℕ → ℕ → ℝ) (p t s : ℕ) : ℝ := if s ≤ t then w p t s else 0
/-- Mixing the rows of a chunk, and the transposed mixing. -/
def mix (w : ℕ → ℕ → ℕ → ℝ) (x : ℕ → ℕ → ℝ) (t j : ℕ) : ℝ := ∑ s ∈ Finset.range 128, wc w (j / 64) t s * x s j
def tmix (w : ℕ → ℕ → ℕ → ℝ) (x : ℕ → ℕ → ℝ) (s j : ℕ) : ℝ := ∑ t ∈ Finset.range 128, wc w (j / 64) t s * x t j

/-- GELU of an array, and the gradient at the mixed rows. -/
def acts (v : ℕ → ℕ → ℝ) (t j : ℕ) : ℝ := act (v t j)
def dmix (d u : ℕ → ℕ → ℝ) (t j : ℕ) : ℝ := d t j * act (u t j)
/-- The normalised rows, scaled and shifted. -/
def vn (g b : ℕ → ℝ) (v : ℕ → ℕ → ℝ) (t j : ℕ) : ℝ := xhat (acts v) t j * g j + b j
/-- The gradient at the first half of the input. -/
def du (w : ℕ → ℕ → ℕ → ℝ) (g b : ℕ → ℝ) (bi d u v : ℕ → ℕ → ℝ) (t j : ℕ) : ℝ :=
  d t j * (bi t j + mix w (vn g b v) t j) * dact (u t j)
/-- The gradient at the normalised rows. -/
def dvn (w : ℕ → ℕ → ℕ → ℝ) (d u : ℕ → ℕ → ℝ) : ℕ → ℕ → ℝ := tmix w (dmix d u)
def dx (w : ℕ → ℕ → ℕ → ℝ) (g : ℕ → ℝ) (d u : ℕ → ℕ → ℝ) (t j : ℕ) : ℝ := dvn w d u t j * g j
/-- The gradient of the normalisation. -/
def dln (f x : ℕ → ℕ → ℝ) (t j : ℕ) : ℝ :=
  rsd f t * (x t j - mean x t - xhat f t j * mean (fun r c => x r c * xhat f r c) t)
/-- The gradient at the second half of the input. -/
def dv (w : ℕ → ℕ → ℕ → ℝ) (g : ℕ → ℝ) (d u v : ℕ → ℕ → ℝ) (t j : ℕ) : ℝ :=
  dln (acts v) (dx w g d u) t j * dact (v t j)
/-- One chunk's part of the gradients at the scale, the shift and the mixing matrices. -/
def dlg (w : ℕ → ℕ → ℕ → ℝ) (d u v : ℕ → ℕ → ℝ) (j : ℕ) : ℝ := ∑ t ∈ Finset.range 128, dvn w d u t j * xhat (acts v) t j
def dlb (w : ℕ → ℕ → ℕ → ℝ) (d u : ℕ → ℕ → ℝ) (j : ℕ) : ℝ := ∑ t ∈ Finset.range 128, dvn w d u t j
def dw (g b : ℕ → ℝ) (d u v : ℕ → ℕ → ℝ) (p t s : ℕ) : ℝ :=
  if s ≤ t then ∑ c ∈ Finset.range 64, dmix d u t (64 * p + c) * vn g b v s (64 * p + c) else 0

/-- The rows of chunk `n`. -/
def ck (n : ℕ) (f : ℕ → ℕ → ℝ) : ℕ → ℕ → ℝ := fun r c => f (128 * n + r) c

end Cert.Gate
-- ==== Proof.GateChunk.lean ====
/- The kernel's computation on one chunk, as functions of the chunk's rows, and the real arrays they read. -/
module

public import proofs.«01_k».proof.Proof.Gen.Kernel2Ideal.Skeleton
public import proofs.«01_k».proof.Proof.GateFormulas

@[expose] public section

noncomputable section

namespace Cert.Kernel2Ideal.Val

open Cert.Kernel2Ideal Cert.Kernel2Ideal.Gen Cert.RealArrays Cert.Gate
open Idealize.ShloMosaic Idealize.ShloMosaic.TcCoe Idealize.ShloMosaic.Tactic Idealize.ShloMosaic.ValueIdx

abbrev T := FVec Ideal S128x512 .f32
abbrev Tb := FVec Ideal S128x512 .bf16
abbrev R := FVec Ideal S1x512 .f32
abbrev W := FVec Ideal S128x128 .bf16

def kth (x : T) : T :=
  tanh (mulf (broadcast S128x512 (Scalar.ofBits .f32 0x3F4C422A#32)) (addf x (mulf (mulf (mulf (broadcast S128x512 (Named.named κ "gelu_a" 0x3D372713#32)) x) x) x)))
def kact (x : T) : T :=
  mulf (mulf (broadcast S128x512 (Scalar.ofBits .f32 0x3F000000#32)) x) (addf (broadcast S128x512 (Scalar.ofBits .f32 0x3F800000#32)) (kth x))
def kdact (x : T) : T :=
  addf (mulf (broadcast S128x512 (Scalar.ofBits .f32 0x3F000000#32)) (addf (broadcast S128x512 (Scalar.ofBits .f32 0x3F800000#32)) (kth x)))
    (mulf (mulf (mulf (mulf (broadcast S128x512 (Scalar.ofBits .f32 0x3F000000#32)) x) (subf (broadcast S128x512 (Scalar.ofBits .f32 0x3F800000#32)) (mulf (kth x) (kth x))))
        (broadcast S128x512 (Scalar.ofBits .f32 0x3F4C422A#32)))
      (addf (broadcast S128x512 (Scalar.ofBits .f32 0x3F800000#32)) (mulf (mulf (broadcast S128x512 (Named.named κ "gelu_3a" 0x3E095D4F#32)) x) x)))
/-- The mean of each row, in one column. -/
def kmean (x : T) : FVec Ideal S128x1 .f32 :=
  divf (shapeCast S128x1 (multiReduction .add [1] S128 x 0x00000000#32 reduces_S128x512_S128 (.inl rfl) rfl) shapeCasts_S128_S128x1) (broadcast S128x1 (Scalar.ofBits .f32 0x44000000#32))
def kcen (x : T) : T := subf x (broadcastTo S128x512 (kmean x) broadcasts_S128x1_S128x512)
def krsd (x : T) : FVec Ideal S128x1 .f32 :=
  rsqrt (addf (kmean (mulf (kcen x) (kcen x))) (broadcast S128x1 (Scalar.ofBits .f32 0x358637BD#32)))
def kxhat (x : T) : T := mulf (kcen x) (broadcastTo S128x512 (krsd x) broadcasts_S128x1_S128x512)
def kvn (g b : R) (v : T) : Tb :=
  truncf .bf16 (addf (mulf (kxhat (kact v)) (broadcastTo S128x512 g broadcasts_S1x512_S128x512)) (broadcastTo S128x512 b broadcasts_S1x512_S128x512)) bitsLt_bf16_f32
def kwc (w : FVec Ideal S1x128x128 .f32) : W :=
  truncf .bf16 (select (k0_pay6) (shapeCast S128x128 w shapeCasts_S1x128x128_S128x128) (broadcast S128x128 (Scalar.ofBits .f32 0x00000000#32))) bitsLt_bf16_f32
/-- The mixing of one band of 128 columns: two groups of 64. -/
def kband (q : ℕ) (h : S128x512.Slices ![0, q] S128x128) (w w' : W) (x : Tb) : FVec Ideal S128x128 .f32 :=
  select (k0_pay16)
    (matmul dot_S128x128_S128x128_S128x128_1_0_0_1_n_n none w (extractStridedSlice S128x128 ![0, q] x h) (constant S128x128 .f32 0x00000000#32))
    (matmul dot_S128x128_S128x128_S128x128_1_0_0_1_n_n none w' (extractStridedSlice S128x128 ![0, q] x h) (constant S128x128 .f32 0x00000000#32))
def kbandT (q : ℕ) (h : S128x512.Slices ![0, q] S128x128) (w w' : W) (x : Tb) : FVec Ideal S128x128 .f32 :=
  select (k0_pay16)
    (matmul dot_S128x128_S128x128_S128x128_0_0_1_1_n_n none w (extractStridedSlice S128x128 ![0, q] x h) (constant S128x128 .f32 0x00000000#32))
    (matmul dot_S128x128_S128x128_S128x128_0_0_1_1_n_n none w' (extractStridedSlice S128x128 ![0, q] x h) (constant S128x128 .f32 0x00000000#32))
def kcat (x0 x1 x2 x3 : FVec Ideal S128x128 .f32) : T :=
  concatenate S128x512 1 [⟨S128x128, x0⟩, ⟨S128x128, x1⟩, ⟨S128x128, x2⟩, ⟨S128x128, x3⟩] concatenates_S128x128_S128x128_S128x128_S128x128_S128x512_d1

section Chunk
variable (w0 w1 w2 w3 w4 w5 w6 w7 : FVec Ideal S1x128x128 .f32)

def kmix (x : Tb) : T :=
  kcat (kband 0 slices_S128x512_o0_0_S128x128 (kwc w0) (kwc w1) x) (kband 128 slices_S128x512_o0_128_S128x128 (kwc w2) (kwc w3) x)
    (kband 256 slices_S128x512_o0_256_S128x128 (kwc w4) (kwc w5) x) (kband 384 slices_S128x512_o0_384_S128x128 (kwc w6) (kwc w7) x)
def ktmix (x : Tb) : T :=
  kcat (kbandT 0 slices_S128x512_o0_0_S128x128 (kwc w0) (kwc w1) x) (kbandT 128 slices_S128x512_o0_128_S128x128 (kwc w2) (kwc w3) x)
    (kbandT 256 slices_S128x512_o0_256_S128x128 (kwc w4) (kwc w5) x) (kbandT 384 slices_S128x512_o0_384_S128x128 (kwc w6) (kwc w7) x)
def kdm (d u : T) : T := mulf d (kact u)
def kdu (g b : R) (bi d u v : T) : Tb :=
  truncf .bf16 (mulf (mulf d (addf (shapeCast S128x512 bi shapeCasts_S128x512_S128x512) (kmix w0 w1 w2 w3 w4 w5 w6 w7 (kvn g b v)))) (kdact u)) bitsLt_bf16_f32
def kdvn (d u : T) : T := ktmix w0 w1 w2 w3 w4 w5 w6 w7 (truncf .bf16 (kdm d u) bitsLt_bf16_f32)
def kdx (g : R) (d u : T) : T := mulf (kdvn w0 w1 w2 w3 w4 w5 w6 w7 d u) (broadcastTo S128x512 g broadcasts_S1x512_S128x512)
def kdv (g : R) (d u v : T) : Tb :=
  truncf .bf16 (mulf (mulf (broadcastTo S128x512 (krsd (kact v)) broadcasts_S128x1_S128x512)
    (subf (subf (kdx w0 w1 w2 w3 w4 w5 w6 w7 g d u) (broadcastTo S128x512 (kmean (kdx w0 w1 w2 w3 w4 w5 w6 w7 g d u)) broadcasts_S128x1_S128x512))
      (mulf (kxhat (kact v)) (broadcastTo S128x512 (kmean (mulf (kdx w0 w1 w2 w3 w4 w5 w6 w7 g d u) (kxhat (kact v)))) broadcasts_S128x1_S128x512)))) (kdact v)) bitsLt_bf16_f32
def kdb (acc d u : T) : T := addf (shapeCast S128x512 acc shapeCasts_S128x512_S128x512) (kdm d u)
def kdlg (acc : R) (d u v : T) : R :=
  addf (shapeCast S1x512 acc shapeCasts_S1x512_S1x512) (shapeCast S1x512 (multiReduction .add [0] S512 (mulf (kdvn w0 w1 w2 w3 w4 w5 w6 w7 d u) (kxhat (kact v))) 0x00000000#32 reduces_S128x512_S512 (.inl rfl) rfl) shapeCasts_S512_S1x512)
def kdlb (acc : R) (d u : T) : R :=
  addf (shapeCast S1x512 acc shapeCasts_S1x512_S1x512) (shapeCast S1x512 (multiReduction .add [0] S512 (kdvn w0 w1 w2 w3 w4 w5 w6 w7 d u) 0x00000000#32 reduces_S128x512_S512 (.inl rfl) rfl) shapeCasts_S512_S1x512)
end Chunk

/-- The two groups of a band: the gradient's columns of the group kept, the others zero. -/
def klo (x : W) : W := select (k0_pay16) x (broadcast S128x128 (Scalar.ofBits .bf16 0x0000#16))
def khi (x : W) : W := select (k0_pay16) (broadcast S128x128 (Scalar.ofBits .bf16 0x0000#16)) x
/-- One group's part of the gradient at its mixing matrix, added to what is there. -/
def kdw (sel : W → W) (q : ℕ) (h : S128x512.Slices ![0, q] S128x128) (acc : FVec Ideal S1x128x128 .f32) (g b : R) (d u v : T) : FVec Ideal S1x128x128 .f32 :=
  shapeCast S1x128x128 (addf (shapeCast S128x128 acc shapeCasts_S1x128x128_S128x128)
    (select (k0_pay6) (matmul dot_S128x128_S128x128_S128x128_1_1_0_0_n_n none (sel (extractStridedSlice S128x128 ![0, q] (truncf .bf16 (kdm d u) bitsLt_bf16_f32) h))
        (extractStridedSlice S128x128 ![0, q] (kvn g b v) h) (constant S128x128 .f32 0x00000000#32))
      (broadcast S128x128 (Scalar.ofBits .f32 0x00000000#32)))) shapeCasts_S128x128_S1x128x128

/-! ## What they read -/

theorem lit_ga : Rd0 (Named.named (F := Ideal) κ "gelu_a" (φ := .f32) 0x3D372713#32) ga := rfl
theorem lit_g3a : Rd0 (Named.named (F := Ideal) κ "gelu_3a" (φ := .f32) 0x3E095D4F#32) g3a := rfl

section Reads
variable {x d u v bi acc : T} {f D U V B A : ℕ → ℕ → ℝ} {g b : R} {G Bt : ℕ → ℝ}

theorem r_th (hx : Rd2 x f) : Rd2 (kth x) (fun t j => th (f t j)) :=
  ((Rd2.bcast lit_geluC).mul (hx.add ((((Rd2.bcast lit_ga).mul hx).mul hx).mul hx))).tnh
theorem r_act (hx : Rd2 x f) : Rd2 (kact x) (acts f) :=
  ((Rd2.bcast lit_half).mul hx).mul ((Rd2.bcast lit_one).add (r_th hx))
theorem r_dact (hx : Rd2 x f) : Rd2 (kdact x) (fun t j => dact (f t j)) :=
  ((Rd2.bcast lit_half).mul ((Rd2.bcast lit_one).add (r_th hx))).add
    (((((Rd2.bcast lit_half).mul hx).mul ((Rd2.bcast lit_one).sub ((r_th hx).mul (r_th hx)))).mul (Rd2.bcast lit_geluC)).mul
      ((Rd2.bcast lit_one).add (((Rd2.bcast lit_g3a).mul hx).mul hx)))
theorem r_mean (hx : Rd2 x f) : Rd2 (kmean x) (fun t _ => mean f t) :=
  ((hx.sum_cols reduces_S128x512_S128 _ _).shapeCast_col _).div (Rd2.bcast lit_512) (fun _ _ _ _ => by norm_num)
theorem r_cen (hx : Rd2 x f) : Rd2 (kcen x) (cen f) := hx.sub ((r_mean hx).broadcastTo_col _)
theorem r_rsd (hx : Rd2 x f) : Rd2 (krsd x) (fun t _ => rsd f t) :=
  ((r_mean ((r_cen hx).mul (r_cen hx))).add (Rd2.bcast lit_eps)).rsq (fun t _ _ _ => rsd_pos f t)
theorem r_xhat (hx : Rd2 x f) : Rd2 (kxhat x) (xhat f) := (r_cen hx).mul ((r_rsd hx).broadcastTo_col _)
theorem r_vn (hg : Rd2 g (fun _ j => G j)) (hb : Rd2 b (fun _ j => Bt j)) (hv : Rd2 v V) : Rd2 (kvn g b v) (vn G Bt V) :=
  (((r_xhat (r_act hv)).mul (hg.broadcastTo_row _)).add (hb.broadcastTo_row _)).trunc _
theorem r_dm (hd : Rd2 d D) (hu : Rd2 u U) : Rd2 (kdm d u) (dmix D U) := hd.mul (r_act hu)

theorem m_causal : Msk k0_pay6 (fun t s => s ≤ t) := msk_causal (by norm_num) (by norm_num) _ _
theorem m_low : Msk k0_pay16 (fun _ c => c < 64) := msk_low (by norm_num) (by norm_num) _

variable {w : ℕ → ℕ → ℕ → ℝ} {y : Tb}
theorem r_wc {z : FVec Ideal S1x128x128 .f32} {p : ℕ} (hz : Rd3 z (fun _ r c => w p r c)) : Rd2 (kwc z) (fun t s => wc w p t s) :=
  (Rd2.sel m_causal (hz.plane _) (Rd2.bcast lit_zero) (fun t s _ _ h => (if_pos h).symm) (fun t s _ _ h => (if_neg h).symm)).trunc _

theorem r_band {q p : ℕ} (hq : q = 64 * p) (h : S128x512.Slices ![0, q] S128x128) {z z' : FVec Ideal S1x128x128 .f32}
    (hz : Rd3 z (fun _ r c => w p r c)) (hz' : Rd3 z' (fun _ r c => w (p + 1) r c)) (hy : Rd2 y f) :
    Rd2 (kband q h (kwc z) (kwc z') y) (fun t j => mix w f t (q + j)) :=
  Rd2.sel m_low ((r_wc hz).matmul_nn (hy.cols h) _ _) ((r_wc hz').matmul_nn (hy.cols h) _ _)
    (fun t j _ hj hl => by rw [mix, show (q + j) / 64 = p by omega])
    (fun t j _ hj hl => by rw [mix, show (q + j) / 64 = p + 1 by omega])
theorem r_bandT {q p : ℕ} (hq : q = 64 * p) (h : S128x512.Slices ![0, q] S128x128) {z z' : FVec Ideal S1x128x128 .f32}
    (hz : Rd3 z (fun _ r c => w p r c)) (hz' : Rd3 z' (fun _ r c => w (p + 1) r c)) (hy : Rd2 y f) :
    Rd2 (kbandT q h (kwc z) (kwc z') y) (fun t j => tmix w f t (q + j)) :=
  Rd2.sel m_low ((r_wc hz).matmul_tn (hy.cols h) _ _) ((r_wc hz').matmul_tn (hy.cols h) _ _)
    (fun t j _ hj hl => by rw [tmix, show (q + j) / 64 = p by omega])
    (fun t j _ hj hl => by rw [tmix, show (q + j) / 64 = p + 1 by omega])
theorem r_cat {x0 x1 x2 x3 : FVec Ideal S128x128 .f32} (h0 : Rd2 x0 (fun t j => f t (0 + j))) (h1 : Rd2 x1 (fun t j => f t (128 + j)))
    (h2 : Rd2 x2 (fun t j => f t (256 + j))) (h3 : Rd2 x3 (fun t j => f t (384 + j))) : Rd2 (kcat x0 x1 x2 x3) f :=
  Rd2.concat4 (a := 128) (n := 128) _ (h0.congr fun t j _ _ => by rw [Nat.zero_add]) h1 h2 h3

variable {w0 w1 w2 w3 w4 w5 w6 w7 : FVec Ideal S1x128x128 .f32}
/-- The eight matrices are the planes of `w`. -/
structure Planes (w0 w1 w2 w3 w4 w5 w6 w7 : FVec Ideal S1x128x128 .f32) (w : ℕ → ℕ → ℕ → ℝ) : Prop where
  h0 : Rd3 w0 (fun _ r c => w 0 r c)
  h1 : Rd3 w1 (fun _ r c => w 1 r c)
  h2 : Rd3 w2 (fun _ r c => w 2 r c)
  h3 : Rd3 w3 (fun _ r c => w 3 r c)
  h4 : Rd3 w4 (fun _ r c => w 4 r c)
  h5 : Rd3 w5 (fun _ r c => w 5 r c)
  h6 : Rd3 w6 (fun _ r c => w 6 r c)
  h7 : Rd3 w7 (fun _ r c => w 7 r c)

theorem r_mix (hw : Planes w0 w1 w2 w3 w4 w5 w6 w7 w) (hy : Rd2 y f) : Rd2 (kmix w0 w1 w2 w3 w4 w5 w6 w7 y) (mix w f) :=
  r_cat (r_band (p := 0) rfl _ hw.h0 hw.h1 hy) (r_band (p := 2) rfl _ hw.h2 hw.h3 hy) (r_band (p := 4) rfl _ hw.h4 hw.h5 hy) (r_band (p := 6) rfl _ hw.h6 hw.h7 hy)
theorem r_tmix (hw : Planes w0 w1 w2 w3 w4 w5 w6 w7 w) (hy : Rd2 y f) : Rd2 (ktmix w0 w1 w2 w3 w4 w5 w6 w7 y) (tmix w f) :=
  r_cat (r_bandT (p := 0) rfl _ hw.h0 hw.h1 hy) (r_bandT (p := 2) rfl _ hw.h2 hw.h3 hy) (r_bandT (p := 4) rfl _ hw.h4 hw.h5 hy) (r_bandT (p := 6) rfl _ hw.h6 hw.h7 hy)
theorem r_du (hw : Planes w0 w1 w2 w3 w4 w5 w6 w7 w) (hg : Rd2 g (fun _ j => G j)) (hb : Rd2 b (fun _ j => Bt j)) (hbi : Rd2 bi B)
    (hd : Rd2 d D) (hu : Rd2 u U) (hv : Rd2 v V) : Rd2 (kdu w0 w1 w2 w3 w4 w5 w6 w7 g b bi d u v) (du w G Bt B D U V) :=
  ((hd.mul ((hbi.shapeCast_self _).add (r_mix hw (r_vn hg hb hv)))).mul (r_dact hu)).trunc _
theorem r_dvn (hw : Planes w0 w1 w2 w3 w4 w5 w6 w7 w) (hd : Rd2 d D) (hu : Rd2 u U) : Rd2 (kdvn w0 w1 w2 w3 w4 w5 w6 w7 d u) (dvn w D U) :=
  r_tmix hw ((r_dm hd hu).trunc _)
theorem r_dx (hw : Planes w0 w1 w2 w3 w4 w5 w6 w7 w) (hg : Rd2 g (fun _ j => G j)) (hd : Rd2 d D) (hu : Rd2 u U) :
    Rd2 (kdx w0 w1 w2 w3 w4 w5 w6 w7 g d u) (dx w G D U) :=
  (r_dvn hw hd hu).mul (hg.broadcastTo_row _)
theorem r_dv (hw : Planes w0 w1 w2 w3 w4 w5 w6 w7 w) (hg : Rd2 g (fun _ j => G j)) (hd : Rd2 d D) (hu : Rd2 u U) (hv : Rd2 v V) :
    Rd2 (kdv w0 w1 w2 w3 w4 w5 w6 w7 g d u v) (dv w G D U V) :=
  ((((r_rsd (r_act hv)).broadcastTo_col _).mul (((r_dx hw hg hd hu).sub ((r_mean (r_dx hw hg hd hu)).broadcastTo_col _)).sub
    ((r_xhat (r_act hv)).mul ((r_mean ((r_dx hw hg hd hu).mul (r_xhat (r_act hv)))).broadcastTo_col _)))).mul (r_dact hv)).trunc _
theorem r_db (ha : Rd2 acc A) (hd : Rd2 d D) (hu : Rd2 u U) : Rd2 (kdb acc d u) (fun t j => A t j + dmix D U t j) :=
  (ha.shapeCast_self _).add (r_dm hd hu)
theorem r_dlg {acc : R} {A : ℕ → ℝ} (ha : Rd2 acc (fun _ j => A j)) (hw : Planes w0 w1 w2 w3 w4 w5 w6 w7 w) (hd : Rd2 d D) (hu : Rd2 u U) (hv : Rd2 v V) :
    Rd2 (kdlg w0 w1 w2 w3 w4 w5 w6 w7 acc d u v) (fun _ j => A j + dlg w D U V j) :=
  (ha.shapeCast_self _).add ((((r_dvn hw hd hu).mul (r_xhat (r_act hv))).sum_rows reduces_S128x512_S512 _ _).shapeCast_row _)
theorem r_dlb {acc : R} {A : ℕ → ℝ} (ha : Rd2 acc (fun _ j => A j)) (hw : Planes w0 w1 w2 w3 w4 w5 w6 w7 w) (hd : Rd2 d D) (hu : Rd2 u U) :
    Rd2 (kdlb w0 w1 w2 w3 w4 w5 w6 w7 acc d u) (fun _ j => A j + dlb w D U j) :=
  (ha.shapeCast_self _).add (((r_dvn hw hd hu).sum_rows reduces_S128x512_S512 _ _).shapeCast_row _)

/-- Half of a band's columns, the others being zero. -/
theorem sum_lo (F : ℕ → ℝ) : ∑ k ∈ Finset.range 128, (if k < 64 then F k else 0) = ∑ k ∈ Finset.range 64, F k := by
  rw [show (128 : ℕ) = 64 + 64 from rfl, Finset.sum_range_add]
  rw [Finset.sum_congr rfl (fun k hk => if_pos (Finset.mem_range.mp hk)), Finset.sum_eq_zero (s := Finset.range 64) (f := fun k => if 64 + k < 64 then F (64 + k) else 0) (fun k _ => if_neg (by omega)), add_zero]
theorem sum_hi (F : ℕ → ℝ) : ∑ k ∈ Finset.range 128, (if k < 64 then 0 else F k) = ∑ k ∈ Finset.range 64, F (64 + k) := by
  rw [show (128 : ℕ) = 64 + 64 from rfl, Finset.sum_range_add]
  rw [Finset.sum_eq_zero (s := Finset.range 64) (f := fun k => if k < 64 then 0 else F k) (fun k hk => if_pos (Finset.mem_range.mp hk)), zero_add]
  exact Finset.sum_congr rfl (fun k _ => if_neg (by omega))

theorem r_dw_of {sel : W → W} {q p : ℕ} (h : S128x512.Slices ![0, q] S128x128) {S : (ℕ → ℕ → ℝ) → ℕ → ℕ → ℝ}
    (hs : ∀ {z : W} {F : ℕ → ℕ → ℝ}, Rd2 z F → Rd2 (sel z) (S F))
    (hS : ∀ F H : ℕ → ℕ → ℝ, ∀ t s, ∑ k ∈ Finset.range 128, S (fun t j => F t (q + j)) t k * H s (q + k) = ∑ k ∈ Finset.range 64, F t (64 * p + k) * H s (64 * p + k))
    {acc : FVec Ideal S1x128x128 .f32} {A : ℕ → ℕ → ℝ} (ha : Rd3 acc (fun _ r c => A r c))
    (hg : Rd2 g (fun _ j => G j)) (hb : Rd2 b (fun _ j => Bt j)) (hd : Rd2 d D) (hu : Rd2 u U) (hv : Rd2 v V) :
    Rd3 (kdw sel q h acc g b d u v) (fun _ t s => A t s + dw G Bt D U V p t s) :=
  ((ha.plane _).add (Rd2.sel m_causal ((hs (((r_dm hd hu).trunc _).cols h)).matmul_nt ((r_vn hg hb hv).cols h) _ _) (Rd2.bcast lit_zero)
    (fun t s _ _ hc => by rw [dw, if_pos hc]; exact hS _ _ t s) (fun t s _ _ hc => by rw [dw, if_neg hc]))).plane _
theorem r_lo {z : W} {F : ℕ → ℕ → ℝ} (hz : Rd2 z F) : Rd2 (klo z) (fun t j => if j < 64 then F t j else 0) :=
  Rd2.sel m_low hz (Rd2.bcast lit_zero_b) (fun _ _ _ _ h => (if_pos h).symm) (fun _ _ _ _ h => (if_neg h).symm)
theorem r_hi {z : W} {F : ℕ → ℕ → ℝ} (hz : Rd2 z F) : Rd2 (khi z) (fun t j => if j < 64 then 0 else F t j) :=
  Rd2.sel m_low (Rd2.bcast lit_zero_b) hz (fun _ _ _ _ h => (if_pos h).symm) (fun _ _ _ _ h => (if_neg h).symm)
theorem r_dwlo {q p : ℕ} (hq : q = 64 * p) (h : S128x512.Slices ![0, q] S128x128)
    {acc : FVec Ideal S1x128x128 .f32} {A : ℕ → ℕ → ℝ} (ha : Rd3 acc (fun _ r c => A r c))
    (hg : Rd2 g (fun _ j => G j)) (hb : Rd2 b (fun _ j => Bt j)) (hd : Rd2 d D) (hu : Rd2 u U) (hv : Rd2 v V) :
    Rd3 (kdw klo q h acc g b d u v) (fun _ t s => A t s + dw G Bt D U V p t s) :=
  r_dw_of (S := fun F t j => if j < 64 then F t j else 0) h r_lo (fun F H t s => by
    rw [← sum_lo (fun k => F t (64 * p + k) * H s (64 * p + k)), hq]
    exact Finset.sum_congr rfl fun k _ => by rw [ite_mul, zero_mul]) ha hg hb hd hu hv
theorem r_dwhi {q p : ℕ} (hq : q + 64 = 64 * p) (h : S128x512.Slices ![0, q] S128x128)
    {acc : FVec Ideal S1x128x128 .f32} {A : ℕ → ℕ → ℝ} (ha : Rd3 acc (fun _ r c => A r c))
    (hg : Rd2 g (fun _ j => G j)) (hb : Rd2 b (fun _ j => Bt j)) (hd : Rd2 d D) (hu : Rd2 u U) (hv : Rd2 v V) :
    Rd3 (kdw khi q h acc g b d u v) (fun _ t s => A t s + dw G Bt D U V p t s) :=
  r_dw_of (S := fun F t j => if j < 64 then 0 else F t j) h r_hi (fun F H t s => by
    rw [← hq]
    refine (Finset.sum_congr rfl fun k _ => by rw [ite_mul, zero_mul]).trans ((sum_hi (fun k => F t (q + k) * H s (q + k))).trans ?_)
    exact Finset.sum_congr rfl fun k _ => by rw [Nat.add_assoc]) ha hg hb hd hu hv
end Reads

end Cert.Kernel2Ideal.Val
-- ==== Proof.GateBlocks.lean ====
/- The blocks the kernel leaves after one grid point: four chunks, one after the other, the small gradients added up. -/
module

public import proofs.«01_k».proof.Proof.Gen.Kernel2Ideal.Frame
public import proofs.«01_k».proof.Proof.GateChunk

@[expose] public section

set_option maxRecDepth 16384
noncomputable section

namespace Cert.Kernel2Ideal.Val

open Cert.Kernel2Ideal Cert.Kernel2Ideal.Gen Cert.RealArrays Cert.Gate
open Idealize.ShloMosaic Idealize.ShloMosaic.TcCoe Idealize.ShloMosaic.Tactic Idealize.ShloMosaic.ValueIdx
open Idealize.SL.Sem
open Idealize.ShloMosaic.Pipeline (Dat)

/-- What a sum becomes after four chunks. -/
def four (a : ℝ) (f : ℕ → ℝ) : ℝ := a + f 0 + f 1 + f 2 + f 3

section Four
variable {d0 d1 d2 d3 u0 u1 u2 u3 v0 v1 v2 v3 acc : T} {D U V A : ℕ → ℕ → ℝ} {g b ac : R} {G Bt Ac : ℕ → ℝ} {w : ℕ → ℕ → ℕ → ℝ}
variable {w0 w1 w2 w3 w4 w5 w6 w7 : FVec Ideal S1x128x128 .f32}

theorem db4 (ha : Rd2 acc A) (hd0 : Rd2 d0 (ck 0 D)) (hd1 : Rd2 d1 (ck 1 D)) (hd2 : Rd2 d2 (ck 2 D)) (hd3 : Rd2 d3 (ck 3 D))
    (hu0 : Rd2 u0 (ck 0 U)) (hu1 : Rd2 u1 (ck 1 U)) (hu2 : Rd2 u2 (ck 2 U)) (hu3 : Rd2 u3 (ck 3 U)) :
    Rd2 (kdb (kdb (kdb (kdb acc d0 u0) d1 u1) d2 u2) d3 u3) (fun t j => four (A t j) fun n => dmix (ck n D) (ck n U) t j) :=
  r_db (r_db (r_db (r_db ha hd0 hu0) hd1 hu1) hd2 hu2) hd3 hu3
theorem dlb4 (ha : Rd2 ac (fun _ j => Ac j)) (hw : Planes w0 w1 w2 w3 w4 w5 w6 w7 w) (hd0 : Rd2 d0 (ck 0 D)) (hd1 : Rd2 d1 (ck 1 D)) (hd2 : Rd2 d2 (ck 2 D)) (hd3 : Rd2 d3 (ck 3 D))
    (hu0 : Rd2 u0 (ck 0 U)) (hu1 : Rd2 u1 (ck 1 U)) (hu2 : Rd2 u2 (ck 2 U)) (hu3 : Rd2 u3 (ck 3 U)) :
    Rd2 (kdlb w0 w1 w2 w3 w4 w5 w6 w7 (kdlb w0 w1 w2 w3 w4 w5 w6 w7 (kdlb w0 w1 w2 w3 w4 w5 w6 w7 (kdlb w0 w1 w2 w3 w4 w5 w6 w7 ac d0 u0) d1 u1) d2 u2) d3 u3)
      (fun _ j => four (Ac j) fun n => dlb w (ck n D) (ck n U) j) :=
  r_dlb (r_dlb (r_dlb (r_dlb ha hw hd0 hu0) hw hd1 hu1) hw hd2 hu2) hw hd3 hu3
theorem dlg4 (ha : Rd2 ac (fun _ j => Ac j)) (hw : Planes w0 w1 w2 w3 w4 w5 w6 w7 w) (hd0 : Rd2 d0 (ck 0 D)) (hd1 : Rd2 d1 (ck 1 D)) (hd2 : Rd2 d2 (ck 2 D)) (hd3 : Rd2 d3 (ck 3 D))
    (hu0 : Rd2 u0 (ck 0 U)) (hu1 : Rd2 u1 (ck 1 U)) (hu2 : Rd2 u2 (ck 2 U)) (hu3 : Rd2 u3 (ck 3 U))
    (hv0 : Rd2 v0 (ck 0 V)) (hv1 : Rd2 v1 (ck 1 V)) (hv2 : Rd2 v2 (ck 2 V)) (hv3 : Rd2 v3 (ck 3 V)) :
    Rd2 (kdlg w0 w1 w2 w3 w4 w5 w6 w7 (kdlg w0 w1 w2 w3 w4 w5 w6 w7 (kdlg w0 w1 w2 w3 w4 w5 w6 w7 (kdlg w0 w1 w2 w3 w4 w5 w6 w7 ac d0 u0 v0) d1 u1 v1) d2 u2 v2) d3 u3 v3)
      (fun _ j => four (Ac j) fun n => dlg w (ck n D) (ck n U) (ck n V) j) :=
  r_dlg (r_dlg (r_dlg (r_dlg ha hw hd0 hu0 hv0) hw hd1 hu1 hv1) hw hd2 hu2 hv2) hw hd3 hu3 hv3

theorem dw4lo {q p : ℕ} (hq : q = 64 * p) (h : S128x512.Slices ![0, q] S128x128) {ap : FVec Ideal S1x128x128 .f32} {Ap : ℕ → ℕ → ℝ} (ha : Rd3 ap (fun _ r c => Ap r c))
    (hg : Rd2 g (fun _ j => G j)) (hb : Rd2 b (fun _ j => Bt j)) (hd0 : Rd2 d0 (ck 0 D)) (hd1 : Rd2 d1 (ck 1 D)) (hd2 : Rd2 d2 (ck 2 D)) (hd3 : Rd2 d3 (ck 3 D))
    (hu0 : Rd2 u0 (ck 0 U)) (hu1 : Rd2 u1 (ck 1 U)) (hu2 : Rd2 u2 (ck 2 U)) (hu3 : Rd2 u3 (ck 3 U))
    (hv0 : Rd2 v0 (ck 0 V)) (hv1 : Rd2 v1 (ck 1 V)) (hv2 : Rd2 v2 (ck 2 V)) (hv3 : Rd2 v3 (ck 3 V)) :
    Rd3 (kdw klo q h (kdw klo q h (kdw klo q h (kdw klo q h ap g b d0 u0 v0) g b d1 u1 v1) g b d2 u2 v2) g b d3 u3 v3)
      (fun _ t s => four (Ap t s) fun n => dw G Bt (ck n D) (ck n U) (ck n V) p t s) :=
  r_dwlo hq h (r_dwlo hq h (r_dwlo hq h (r_dwlo hq h ha hg hb hd0 hu0 hv0) hg hb hd1 hu1 hv1) hg hb hd2 hu2 hv2) hg hb hd3 hu3 hv3
theorem dw4hi {q p : ℕ} (hq : q + 64 = 64 * p) (h : S128x512.Slices ![0, q] S128x128) {ap : FVec Ideal S1x128x128 .f32} {Ap : ℕ → ℕ → ℝ} (ha : Rd3 ap (fun _ r c => Ap r c))
    (hg : Rd2 g (fun _ j => G j)) (hb : Rd2 b (fun _ j => Bt j)) (hd0 : Rd2 d0 (ck 0 D)) (hd1 : Rd2 d1 (ck 1 D)) (hd2 : Rd2 d2 (ck 2 D)) (hd3 : Rd2 d3 (ck 3 D))
    (hu0 : Rd2 u0 (ck 0 U)) (hu1 : Rd2 u1 (ck 1 U)) (hu2 : Rd2 u2 (ck 2 U)) (hu3 : Rd2 u3 (ck 3 U))
    (hv0 : Rd2 v0 (ck 0 V)) (hv1 : Rd2 v1 (ck 1 V)) (hv2 : Rd2 v2 (ck 2 V)) (hv3 : Rd2 v3 (ck 3 V)) :
    Rd3 (kdw khi q h (kdw khi q h (kdw khi q h (kdw khi q h ap g b d0 u0 v0) g b d1 u1 v1) g b d2 u2 v2) g b d3 u3 v3)
      (fun _ t s => four (Ap t s) fun n => dw G Bt (ck n D) (ck n U) (ck n V) p t s) :=
  r_dwhi hq h (r_dwhi hq h (r_dwhi hq h (r_dwhi hq h ha hg hb hd0 hu0 hv0) hg hb hd1 hu1 hv1) hg hb hd2 hu2 hv2) hg hb hd3 hu3 hv3
end Four

/-- The two halves of the gradient at the input, side by side. -/
def g7 (w : ℕ → ℕ → ℕ → ℝ) (G Bt : ℕ → ℝ) (Bi D U V : ℕ → ℕ → ℝ) (r j : ℕ) : ℝ :=
  if j < 512 then du w G Bt Bi (ck (r / 128) D) (ck (r / 128) U) (ck (r / 128) V) (r % 128) j
  else dv w G (ck (r / 128) D) (ck (r / 128) U) (ck (r / 128) V) (r % 128) (j - 512)
theorem g7_lo (w : ℕ → ℕ → ℕ → ℝ) (G Bt : ℕ → ℝ) (Bi D U V : ℕ → ℕ → ℝ) (k r j : ℕ) (hr : r < 128) (hj : j < 512) :
    du w G Bt Bi (ck k D) (ck k U) (ck k V) r j = g7 w G Bt Bi D U V (128 * k + r) (0 + j) := by
  unfold g7; rw [Nat.zero_add, if_pos hj, show (128 * k + r) / 128 = k by omega, show (128 * k + r) % 128 = r by omega]
theorem g7_hi (w : ℕ → ℕ → ℕ → ℝ) (G Bt : ℕ → ℝ) (Bi D U V : ℕ → ℕ → ℝ) (k r j : ℕ) (hr : r < 128) :
    dv w G (ck k D) (ck k U) (ck k V) r j = g7 w G Bt Bi D U V (128 * k + r) (512 + j) := by
  unfold g7; rw [if_neg (by omega), show (128 * k + r) / 128 = k by omega, show (128 * k + r) % 128 = r by omega, Nat.add_sub_cancel_left]

section Blocks
variable (c : Dev nD) (i : grid0.Coords) {a1 h1 a2 h2 a3 h3 a4 h4 a5 h5 a6 h6 a7 h7 a8 h8 a9 h9 a10 h10 a11 h11 a12 h12}
variable {x0 x1 x2 : Vec Ideal S512x512 .f32} {x3 x4 : Vec Ideal S1x512 .f32} {x5 xo8 : Vec Ideal S8x128x128 .f32} {x6 xo9 : Vec Ideal S128x512 .f32} {xo10 xo11 : Vec Ideal S1x512 .f32}
variable {D U V Bi A : ℕ → ℕ → ℝ} {G Bt Ac : ℕ → ℝ} {w Aw : ℕ → ℕ → ℕ → ℝ}

theorem pl (h5 : Rd3 x5 w) : Planes (View.ld (Val := Elt Ideal) (e' := .f32) x5 (Rect.unit (s := S8x128x128) ![0, 0, 0] ![1, 128, 128] inb_S8x128x128_S1x128x128_0_0_0)) (View.ld (Val := Elt Ideal) (e' := .f32) x5 (Rect.unit (s := S8x128x128) ![1, 0, 0] ![1, 128, 128] inb_S8x128x128_S1x128x128_1_0_0))
    (View.ld (Val := Elt Ideal) (e' := .f32) x5 (Rect.unit (s := S8x128x128) ![2, 0, 0] ![1, 128, 128] inb_S8x128x128_S1x128x128_2_0_0)) (View.ld (Val := Elt Ideal) (e' := .f32) x5 (Rect.unit (s := S8x128x128) ![3, 0, 0] ![1, 128, 128] inb_S8x128x128_S1x128x128_3_0_0))
    (View.ld (Val := Elt Ideal) (e' := .f32) x5 (Rect.unit (s := S8x128x128) ![4, 0, 0] ![1, 128, 128] inb_S8x128x128_S1x128x128_4_0_0)) (View.ld (Val := Elt Ideal) (e' := .f32) x5 (Rect.unit (s := S8x128x128) ![5, 0, 0] ![1, 128, 128] inb_S8x128x128_S1x128x128_5_0_0))
    (View.ld (Val := Elt Ideal) (e' := .f32) x5 (Rect.unit (s := S8x128x128) ![6, 0, 0] ![1, 128, 128] inb_S8x128x128_S1x128x128_6_0_0)) (View.ld (Val := Elt Ideal) (e' := .f32) x5 (Rect.unit (s := S8x128x128) ![7, 0, 0] ![1, 128, 128] inb_S8x128x128_S1x128x128_7_0_0)) w :=
  ⟨h5.ldp _, h5.ldp _, h5.ldp _, h5.ldp _, h5.ldp _, h5.ldp _, h5.ldp _, h5.ldp _⟩

theorem z8 : Rd3 (k0_pay2 (F := Ideal)) (fun _ _ _ => 0) := fun _ => lit_zero
theorem z9 : Rd2 (k0_pay3 (F := Ideal)) (fun _ _ => 0) := Rd2.bcast lit_zero
theorem z10 : Rd2 (k0_pay4 (F := Ideal)) (fun _ _ => 0) := Rd2.bcast lit_zero
theorem z11 : Rd2 (k0_pay5 (F := Ideal)) (fun _ _ => 0) := Rd2.bcast lit_zero

theorem blkB_9 {hc} (ha : Rd2 xo9 A) (hD : Rd2 x0 D) (hU : Rd2 x1 U) :
    Rd2 (out0_B_9 c i a1 h1 a2 h2 a3 h3 a4 h4 a5 h5 a6 h6 a7 h7 a8 h8 a9 h9 a10 h10 a11 h11 a12 h12 hc x0 x1 x2 x3 x4 x5 x6 xo8 xo9 xo10 xo11)
      (fun t j => four (A t j) fun n => dmix (ck n D) (ck n U) t j) := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 xo8 xo9 xo10 xo11)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact db4 (ha.ldf_all _) (hD.ldf_rows _) (hD.ldf_rows _) (hD.ldf_rows _) (hD.ldf_rows _) (hU.ldf_rows _) (hU.ldf_rows _) (hU.ldf_rows _) (hU.ldf_rows _)

theorem blkB_11 {hc} (ha : Rd2 xo11 (fun _ j => Ac j)) (hw : Rd3 x5 w) (hD : Rd2 x0 D) (hU : Rd2 x1 U) :
    Rd2 (out0_B_11 c i a1 h1 a2 h2 a3 h3 a4 h4 a5 h5 a6 h6 a7 h7 a8 h8 a9 h9 a10 h10 a11 h11 a12 h12 hc x0 x1 x2 x3 x4 x5 x6 xo8 xo9 xo10 xo11)
      (fun _ j => four (Ac j) fun n => dlb w (ck n D) (ck n U) j) := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 xo8 xo9 xo10 xo11)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact dlb4 (ha.ldf_all _) (pl hw) (hD.ldf_rows _) (hD.ldf_rows _) (hD.ldf_rows _) (hD.ldf_rows _) (hU.ldf_rows _) (hU.ldf_rows _) (hU.ldf_rows _) (hU.ldf_rows _)

theorem blkB_10 {hc} (ha : Rd2 xo10 (fun _ j => Ac j)) (hw : Rd3 x5 w) (hD : Rd2 x0 D) (hU : Rd2 x1 U) (hV : Rd2 x2 V) :
    Rd2 (out0_B_10 c i a1 h1 a2 h2 a3 h3 a4 h4 a5 h5 a6 h6 a7 h7 a8 h8 a9 h9 a10 h10 a11 h11 a12 h12 hc x0 x1 x2 x3 x4 x5 x6 xo8 xo9 xo10 xo11)
      (fun _ j => four (Ac j) fun n => dlg w (ck n D) (ck n U) (ck n V) j) := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 xo8 xo9 xo10 xo11)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact dlg4 (ha.ldf_all _) (pl hw) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)

theorem blkA_9 {hc} (hD : Rd2 x0 D) (hU : Rd2 x1 U) :
    Rd2 (out0_A_9 c i a1 h1 a2 h2 a3 h3 a4 h4 a5 h5 a6 h6 a7 h7 a8 h8 a9 h9 a10 h10 a11 h11 a12 h12 hc x0 x1 x2 x3 x4 x5 x6)
      (fun t j => four (0) fun n => dmix (ck n D) (ck n U) t j) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact db4 (A := fun _ _ => 0) z9 (hD.ldf_rows _) (hD.ldf_rows _) (hD.ldf_rows _) (hD.ldf_rows _) (hU.ldf_rows _) (hU.ldf_rows _) (hU.ldf_rows _) (hU.ldf_rows _)

theorem blkA_11 {hc} (hw : Rd3 x5 w) (hD : Rd2 x0 D) (hU : Rd2 x1 U) :
    Rd2 (out0_A_11 c i a1 h1 a2 h2 a3 h3 a4 h4 a5 h5 a6 h6 a7 h7 a8 h8 a9 h9 a10 h10 a11 h11 a12 h12 hc x0 x1 x2 x3 x4 x5 x6)
      (fun _ j => four (0) fun n => dlb w (ck n D) (ck n U) j) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact dlb4 (Ac := fun _ => 0) z11 (pl hw) (hD.ldf_rows _) (hD.ldf_rows _) (hD.ldf_rows _) (hD.ldf_rows _) (hU.ldf_rows _) (hU.ldf_rows _) (hU.ldf_rows _) (hU.ldf_rows _)

theorem blkA_10 {hc} (hw : Rd3 x5 w) (hD : Rd2 x0 D) (hU : Rd2 x1 U) (hV : Rd2 x2 V) :
    Rd2 (out0_A_10 c i a1 h1 a2 h2 a3 h3 a4 h4 a5 h5 a6 h6 a7 h7 a8 h8 a9 h9 a10 h10 a11 h11 a12 h12 hc x0 x1 x2 x3 x4 x5 x6)
      (fun _ j => four (0) fun n => dlg w (ck n D) (ck n U) (ck n V) j) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_whole]
  rw [canon_whole]
  exact dlg4 (Ac := fun _ => 0) z10 (pl hw) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
theorem blkB_7 {hc} (hw : Rd3 x5 w) (hG : Rd2 x3 (fun _ j => G j)) (hB : Rd2 x4 (fun _ j => Bt j)) (hD : Rd2 x0 D) (hU : Rd2 x1 U) (hV : Rd2 x2 V) (hBi : Rd2 x6 Bi) :
    Rd2 (out0_B_7 c i a1 h1 a2 h2 a3 h3 a4 h4 a5 h5 a6 h6 a7 h7 a8 h8 a9 h9 a10 h10 a11 h11 a12 h12 hc x0 x1 x2 x3 x4 x5 x6 xo8 xo9 xo10 xo11)
      (g7 w G Bt Bi D U V) := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 x6 xo8 xo9 xo10 xo11)]
  refine Rd2.canonb (cover0_B_7 c i a1 h1 a2 h2 a3 h3 a4 h4 a5 h5 a6 h6 a7 h7 a8 h8 a9 h9 a10 h10 a11 h11 a12 h12 hc x0 x1 x2 x3 x4 x5 x6 xo8 xo9 xo10 xo11) ?_
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_ld]
  refine List.forall_mem_cons.mpr ⟨Rd2.piece (g := g7 w G Bt Bi D U V) (p := 384) (q := 512) inb_S512x1024_S128x512_384_512 (r_dv (pl hw) (hG.ldf_all inb_S1x512_S1x512_0_0) (hD.ldf_rows inb_S512x512_S128x512_384_0) (hU.ldf_rows inb_S512x512_S128x512_384_0) (hV.ldf_rows inb_S512x512_S128x512_384_0)) (fun r j hr _ => g7_hi w G Bt Bi D U V 3 r j hr), ?_⟩
  refine List.forall_mem_cons.mpr ⟨Rd2.piece (g := g7 w G Bt Bi D U V) (p := 384) (q := 0) inb_S512x1024_S128x512_384_0 (r_du (pl hw) (hG.ldf_all inb_S1x512_S1x512_0_0) (hB.ldf_all inb_S1x512_S1x512_0_0) (hBi.ldf_all inb_S128x512_S128x512_0_0) (hD.ldf_rows inb_S512x512_S128x512_384_0) (hU.ldf_rows inb_S512x512_S128x512_384_0) (hV.ldf_rows inb_S512x512_S128x512_384_0)) (fun r j hr hj => g7_lo w G Bt Bi D U V 3 r j hr hj), ?_⟩
  refine List.forall_mem_cons.mpr ⟨Rd2.piece (g := g7 w G Bt Bi D U V) (p := 256) (q := 512) inb_S512x1024_S128x512_256_512 (r_dv (pl hw) (hG.ldf_all inb_S1x512_S1x512_0_0) (hD.ldf_rows inb_S512x512_S128x512_256_0) (hU.ldf_rows inb_S512x512_S128x512_256_0) (hV.ldf_rows inb_S512x512_S128x512_256_0)) (fun r j hr _ => g7_hi w G Bt Bi D U V 2 r j hr), ?_⟩
  refine List.forall_mem_cons.mpr ⟨Rd2.piece (g := g7 w G Bt Bi D U V) (p := 256) (q := 0) inb_S512x1024_S128x512_256_0 (r_du (pl hw) (hG.ldf_all inb_S1x512_S1x512_0_0) (hB.ldf_all inb_S1x512_S1x512_0_0) (hBi.ldf_all inb_S128x512_S128x512_0_0) (hD.ldf_rows inb_S512x512_S128x512_256_0) (hU.ldf_rows inb_S512x512_S128x512_256_0) (hV.ldf_rows inb_S512x512_S128x512_256_0)) (fun r j hr hj => g7_lo w G Bt Bi D U V 2 r j hr hj), ?_⟩
  refine List.forall_mem_cons.mpr ⟨Rd2.piece (g := g7 w G Bt Bi D U V) (p := 128) (q := 512) inb_S512x1024_S128x512_128_512 (r_dv (pl hw) (hG.ldf_all inb_S1x512_S1x512_0_0) (hD.ldf_rows inb_S512x512_S128x512_128_0) (hU.ldf_rows inb_S512x512_S128x512_128_0) (hV.ldf_rows inb_S512x512_S128x512_128_0)) (fun r j hr _ => g7_hi w G Bt Bi D U V 1 r j hr), ?_⟩
  refine List.forall_mem_cons.mpr ⟨Rd2.piece (g := g7 w G Bt Bi D U V) (p := 128) (q := 0) inb_S512x1024_S128x512_128_0 (r_du (pl hw) (hG.ldf_all inb_S1x512_S1x512_0_0) (hB.ldf_all inb_S1x512_S1x512_0_0) (hBi.ldf_all inb_S128x512_S128x512_0_0) (hD.ldf_rows inb_S512x512_S128x512_128_0) (hU.ldf_rows inb_S512x512_S128x512_128_0) (hV.ldf_rows inb_S512x512_S128x512_128_0)) (fun r j hr hj => g7_lo w G Bt Bi D U V 1 r j hr hj), ?_⟩
  refine List.forall_mem_cons.mpr ⟨Rd2.piece (g := g7 w G Bt Bi D U V) (p := 0) (q := 512) inb_S512x1024_S128x512_0_512 (r_dv (pl hw) (hG.ldf_all inb_S1x512_S1x512_0_0) (hD.ldf_rows inb_S512x512_S128x512_0_0) (hU.ldf_rows inb_S512x512_S128x512_0_0) (hV.ldf_rows inb_S512x512_S128x512_0_0)) (fun r j hr _ => g7_hi w G Bt Bi D U V 0 r j hr), ?_⟩
  refine List.forall_mem_cons.mpr ⟨Rd2.piece (g := g7 w G Bt Bi D U V) (p := 0) (q := 0) inb_S512x1024_S128x512_0_0 (r_du (pl hw) (hG.ldf_all inb_S1x512_S1x512_0_0) (hB.ldf_all inb_S1x512_S1x512_0_0) (hBi.ldf_all inb_S128x512_S128x512_0_0) (hD.ldf_rows inb_S512x512_S128x512_0_0) (hU.ldf_rows inb_S512x512_S128x512_0_0) (hV.ldf_rows inb_S512x512_S128x512_0_0)) (fun r j hr hj => g7_lo w G Bt Bi D U V 0 r j hr hj), ?_⟩
  exact fun p hp => absurd hp List.not_mem_nil

theorem blkB_8 {hc} (ha : Rd3 xo8 Aw) (hw : Rd3 x5 w) (hG : Rd2 x3 (fun _ j => G j)) (hB : Rd2 x4 (fun _ j => Bt j)) (hD : Rd2 x0 D) (hU : Rd2 x1 U) (hV : Rd2 x2 V) :
    Rd3 (out0_B_8 c i a1 h1 a2 h2 a3 h3 a4 h4 a5 h5 a6 h6 a7 h7 a8 h8 a9 h9 a10 h10 a11 h11 a12 h12 hc x0 x1 x2 x3 x4 x5 x6 xo8 xo9 xo10 xo11)
      (fun p t s => four (Aw p t s) fun n => dw G Bt (ck n D) (ck n U) (ck n V) p t s) := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 xo8 xo9 xo10 xo11)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_ld]
  simp (disch := decide) only [ld_canon_same, ld_canon_other]
  refine fun i => Rd3on.store (S := fun _ => True) (g := fun p t s => four (Aw p t s) fun n => dw G Bt (ck n D) (ck n U) (ck n V) p t s) (p := 7) _ ?_ ?_ i trivial
  · exact dw4hi (p := 7) rfl slices_S128x512_o0_384_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 6) _ ?_ ?_
  · exact dw4lo (p := 6) rfl slices_S128x512_o0_384_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 5) _ ?_ ?_
  · exact dw4hi (p := 5) rfl slices_S128x512_o0_256_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 4) _ ?_ ?_
  · exact dw4lo (p := 4) rfl slices_S128x512_o0_256_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 3) _ ?_ ?_
  · exact dw4hi (p := 3) rfl slices_S128x512_o0_128_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 2) _ ?_ ?_
  · exact dw4lo (p := 2) rfl slices_S128x512_o0_128_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 1) _ ?_ ?_
  · exact dw4hi (p := 1) rfl slices_S128x512_o0_0_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 0) _ ?_ ?_
  · exact dw4lo (p := 0) rfl slices_S128x512_o0_0_S128x128 (ha.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  rintro i ⟨⟨⟨⟨⟨⟨⟨⟨_, h7⟩, h6⟩, h5⟩, h4⟩, h3⟩, h2⟩, h1⟩, h0⟩
  have := idx3_lt0 i
  omega

theorem blkA_7 {hc} (hw : Rd3 x5 w) (hG : Rd2 x3 (fun _ j => G j)) (hB : Rd2 x4 (fun _ j => Bt j)) (hD : Rd2 x0 D) (hU : Rd2 x1 U) (hV : Rd2 x2 V) (hBi : Rd2 x6 Bi) :
    Rd2 (out0_A_7 c i a1 h1 a2 h2 a3 h3 a4 h4 a5 h5 a6 h6 a7 h7 a8 h8 a9 h9 a10 h10 a11 h11 a12 h12 hc x0 x1 x2 x3 x4 x5 x6)
      (g7 w G Bt Bi D U V) := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5 x6)]
  refine Rd2.canonb (cover0_A_7 c i a1 h1 a2 h2 a3 h3 a4 h4 a5 h5 a6 h6 a7 h7 a8 h8 a9 h9 a10 h10 a11 h11 a12 h12 hc x0 x1 x2 x3 x4 x5 x6) ?_
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_ld]
  refine List.forall_mem_cons.mpr ⟨Rd2.piece (g := g7 w G Bt Bi D U V) (p := 384) (q := 512) inb_S512x1024_S128x512_384_512 (r_dv (pl hw) (hG.ldf_all inb_S1x512_S1x512_0_0) (hD.ldf_rows inb_S512x512_S128x512_384_0) (hU.ldf_rows inb_S512x512_S128x512_384_0) (hV.ldf_rows inb_S512x512_S128x512_384_0)) (fun r j hr _ => g7_hi w G Bt Bi D U V 3 r j hr), ?_⟩
  refine List.forall_mem_cons.mpr ⟨Rd2.piece (g := g7 w G Bt Bi D U V) (p := 384) (q := 0) inb_S512x1024_S128x512_384_0 (r_du (pl hw) (hG.ldf_all inb_S1x512_S1x512_0_0) (hB.ldf_all inb_S1x512_S1x512_0_0) (hBi.ldf_all inb_S128x512_S128x512_0_0) (hD.ldf_rows inb_S512x512_S128x512_384_0) (hU.ldf_rows inb_S512x512_S128x512_384_0) (hV.ldf_rows inb_S512x512_S128x512_384_0)) (fun r j hr hj => g7_lo w G Bt Bi D U V 3 r j hr hj), ?_⟩
  refine List.forall_mem_cons.mpr ⟨Rd2.piece (g := g7 w G Bt Bi D U V) (p := 256) (q := 512) inb_S512x1024_S128x512_256_512 (r_dv (pl hw) (hG.ldf_all inb_S1x512_S1x512_0_0) (hD.ldf_rows inb_S512x512_S128x512_256_0) (hU.ldf_rows inb_S512x512_S128x512_256_0) (hV.ldf_rows inb_S512x512_S128x512_256_0)) (fun r j hr _ => g7_hi w G Bt Bi D U V 2 r j hr), ?_⟩
  refine List.forall_mem_cons.mpr ⟨Rd2.piece (g := g7 w G Bt Bi D U V) (p := 256) (q := 0) inb_S512x1024_S128x512_256_0 (r_du (pl hw) (hG.ldf_all inb_S1x512_S1x512_0_0) (hB.ldf_all inb_S1x512_S1x512_0_0) (hBi.ldf_all inb_S128x512_S128x512_0_0) (hD.ldf_rows inb_S512x512_S128x512_256_0) (hU.ldf_rows inb_S512x512_S128x512_256_0) (hV.ldf_rows inb_S512x512_S128x512_256_0)) (fun r j hr hj => g7_lo w G Bt Bi D U V 2 r j hr hj), ?_⟩
  refine List.forall_mem_cons.mpr ⟨Rd2.piece (g := g7 w G Bt Bi D U V) (p := 128) (q := 512) inb_S512x1024_S128x512_128_512 (r_dv (pl hw) (hG.ldf_all inb_S1x512_S1x512_0_0) (hD.ldf_rows inb_S512x512_S128x512_128_0) (hU.ldf_rows inb_S512x512_S128x512_128_0) (hV.ldf_rows inb_S512x512_S128x512_128_0)) (fun r j hr _ => g7_hi w G Bt Bi D U V 1 r j hr), ?_⟩
  refine List.forall_mem_cons.mpr ⟨Rd2.piece (g := g7 w G Bt Bi D U V) (p := 128) (q := 0) inb_S512x1024_S128x512_128_0 (r_du (pl hw) (hG.ldf_all inb_S1x512_S1x512_0_0) (hB.ldf_all inb_S1x512_S1x512_0_0) (hBi.ldf_all inb_S128x512_S128x512_0_0) (hD.ldf_rows inb_S512x512_S128x512_128_0) (hU.ldf_rows inb_S512x512_S128x512_128_0) (hV.ldf_rows inb_S512x512_S128x512_128_0)) (fun r j hr hj => g7_lo w G Bt Bi D U V 1 r j hr hj), ?_⟩
  refine List.forall_mem_cons.mpr ⟨Rd2.piece (g := g7 w G Bt Bi D U V) (p := 0) (q := 512) inb_S512x1024_S128x512_0_512 (r_dv (pl hw) (hG.ldf_all inb_S1x512_S1x512_0_0) (hD.ldf_rows inb_S512x512_S128x512_0_0) (hU.ldf_rows inb_S512x512_S128x512_0_0) (hV.ldf_rows inb_S512x512_S128x512_0_0)) (fun r j hr _ => g7_hi w G Bt Bi D U V 0 r j hr), ?_⟩
  refine List.forall_mem_cons.mpr ⟨Rd2.piece (g := g7 w G Bt Bi D U V) (p := 0) (q := 0) inb_S512x1024_S128x512_0_0 (r_du (pl hw) (hG.ldf_all inb_S1x512_S1x512_0_0) (hB.ldf_all inb_S1x512_S1x512_0_0) (hBi.ldf_all inb_S128x512_S128x512_0_0) (hD.ldf_rows inb_S512x512_S128x512_0_0) (hU.ldf_rows inb_S512x512_S128x512_0_0) (hV.ldf_rows inb_S512x512_S128x512_0_0)) (fun r j hr hj => g7_lo w G Bt Bi D U V 0 r j hr hj), ?_⟩
  exact fun p hp => absurd hp List.not_mem_nil

theorem blkA_8 {hc} (hw : Rd3 x5 w) (hG : Rd2 x3 (fun _ j => G j)) (hB : Rd2 x4 (fun _ j => Bt j)) (hD : Rd2 x0 D) (hU : Rd2 x1 U) (hV : Rd2 x2 V) :
    Rd3 (out0_A_8 c i a1 h1 a2 h2 a3 h3 a4 h4 a5 h5 a6 h6 a7 h7 a8 h8 a9 h9 a10 h10 a11 h11 a12 h12 hc x0 x1 x2 x3 x4 x5 x6)
      (fun p t s => four (0) fun n => dw G Bt (ck n D) (ck n U) (ck n V) p t s) := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, readCov_ld]
  simp (disch := decide) only [ld_canon_same, ld_canon_other, canon_whole3]
  refine fun i => Rd3on.store (S := fun _ => True) (g := fun p t s => four (0) fun n => dw G Bt (ck n D) (ck n U) (ck n V) p t s) (p := 7) _ ?_ ?_ i trivial
  · exact dw4hi (p := 7) rfl slices_S128x512_o0_384_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 6) _ ?_ ?_
  · exact dw4lo (p := 6) rfl slices_S128x512_o0_384_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 5) _ ?_ ?_
  · exact dw4hi (p := 5) rfl slices_S128x512_o0_256_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 4) _ ?_ ?_
  · exact dw4lo (p := 4) rfl slices_S128x512_o0_256_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 3) _ ?_ ?_
  · exact dw4hi (p := 3) rfl slices_S128x512_o0_128_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 2) _ ?_ ?_
  · exact dw4lo (p := 2) rfl slices_S128x512_o0_128_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 1) _ ?_ ?_
  · exact dw4hi (p := 1) rfl slices_S128x512_o0_0_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  refine Rd3on.store (p := 0) _ ?_ ?_
  · exact dw4lo (p := 0) rfl slices_S128x512_o0_0_S128x128 (z8.ldp _) (hG.ldf_all _) (hB.ldf_all _) (hD.ldf_rows _) (hD.ldf_rows _) (hD.ldf_rows _) (hD.ldf_rows _) (hU.ldf_rows _) (hU.ldf_rows _) (hU.ldf_rows _) (hU.ldf_rows _) (hV.ldf_rows _) (hV.ldf_rows _) (hV.ldf_rows _) (hV.ldf_rows _)
  rintro i ⟨⟨⟨⟨⟨⟨⟨⟨_, h7⟩, h6⟩, h5⟩, h4⟩, h3⟩, h2⟩, h1⟩, h0⟩
  have := idx3_lt0 i
  omega
end Blocks

end Cert.Kernel2Ideal.Val
-- ==== Proof.GateGrid.lean ====
/- The gating gradient's call over its sixteen grid points: what each window reads, and the five result arrays. -/
module

public import proofs.«01_k».proof.Proof.GateBlocks
public import Idealize.ShloMosaic.Lib.Pipeline.ValueKit.Partial

@[expose] public section

noncomputable section

namespace Cert.Kernel2Ideal.Val

open Cert.Kernel2Ideal Cert.Kernel2Ideal.Gen Cert.RealArrays Cert.Gate
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ) (c : Dev nD)

/-! ## Rows of a block and rows of the array -/

/-- The rows the grid point `n` sees. -/
def bk (n : ℕ) (f : ℕ → ℕ → ℝ) : ℕ → ℕ → ℝ := fun r j => f (512 * n + r) j
theorem ck_bk (k n : ℕ) (f : ℕ → ℕ → ℝ) : ck k (bk n f) = ck (4 * n + k) f := by
  funext r j; show f _ _ = f _ _; rw [show 512 * n + (128 * k + r) = 128 * (4 * n + k) + r by ring]
theorem ck_bk_row (n r : ℕ) (f : ℕ → ℕ → ℝ) : ck (r / 128) (bk n f) = ck ((512 * n + r) / 128) f := by
  rw [ck_bk, show (512 * n + r) / 128 = 4 * n + r / 128 by omega]
theorem g7_bk (w : ℕ → ℕ → ℕ → ℝ) (G Bt : ℕ → ℝ) (Bi D U V : ℕ → ℕ → ℝ) (n r j : ℕ) :
    g7 w G Bt Bi (bk n D) (bk n U) (bk n V) r j = g7 w G Bt Bi D U V (512 * n + r) j := by
  unfold g7; rw [ck_bk_row, ck_bk_row, ck_bk_row, show (512 * n + r) % 128 = r % 128 by omega]

/-- A sum over the chunks seen by the points up to `n`. -/
def acc (f : ℕ → ℝ) (n : ℕ) : ℝ := ∑ k ∈ Finset.range (4 * (n + 1)), f k
theorem acc_start (f g : ℕ → ℝ) (n : ℕ) (hn : n = 0) (hg : ∀ k, g k = f (4 * n + k)) : four 0 g = acc f n := by
  subst hn; unfold acc four; simp only [hg]; simp [Finset.sum_range_succ]
theorem acc_step (f g : ℕ → ℝ) (n : ℕ) (hn : n ≠ 0) (hg : ∀ k, g k = f (4 * n + k)) : four (acc f (n - 1)) g = acc f n := by
  obtain ⟨k, rfl⟩ : ∃ k, n = k + 1 := ⟨n - 1, by omega⟩
  unfold acc four; simp only [hg, Nat.add_sub_cancel]
  rw [show 4 * (k + 1 + 1) = 4 * (k + 1) + 1 + 1 + 1 + 1 by ring]
  simp only [Finset.sum_range_succ, Nat.add_zero]

/-! ## The input blocks -/

theorem gidx_0 : ∀ t : Fin cfg0.N, win0_0.index t 0 = t.val ∧ win0_0.index t 1 = 0 :=
  (by decide +kernel : ∀ t : Fin grid0.N, win0_0.index t 0 = t.val ∧ win0_0.index t 1 = 0)
theorem gblk_0 {X : ℕ → ℕ → ℝ} (hX : Rd2 (a := 8192) (b := 512) (V m c main_arg0) X) (t : Fin cfg0.N) :
    Rd2 (a := 512) (b := 512) (iblk m c 0 t) (bk t.val X) := fun j => by
  unfold iblk
  rw [View.read_apply]
  show V m c main_arg0 _ = _
  refine (hX _).trans (coe_congr₂ X ?_ ?_)
  · show win0_0.index t 0 * 512 + 1 * (j 0).val = _; rw [(gidx_0 t).1]; omega
  · show win0_0.index t 1 * 512 + 1 * (j 1).val = _; rw [(gidx_0 t).2]; omega
theorem gidx_1 : ∀ t : Fin cfg0.N, win0_1.index t 0 = t.val ∧ win0_1.index t 1 = 0 :=
  (by decide +kernel : ∀ t : Fin grid0.N, win0_1.index t 0 = t.val ∧ win0_1.index t 1 = 0)
theorem gblk_1 {X : ℕ → ℕ → ℝ} (hX : Rd2 (a := 8192) (b := 3200) (V m c main_arg1) X) (t : Fin cfg0.N) :
    Rd2 (a := 512) (b := 512) (X0_1 m c t) (bk t.val fun r j => X r (0 + j)) := fun j => by
  unfold X0_1 Pipeline.Window.fill
  rw [dif_pos (moved0_1 t j)]
  unfold iblk
  rw [View.read_apply]
  show V m c main_arg1 _ = _
  refine (hX _).trans (coe_congr₂ X ?_ ?_)
  · show win0_1.index t 0 * 512 + 1 * (j 0).val = _; rw [(gidx_1 t).1]; omega
  · show win0_1.index t 1 * 512 + 1 * (j 1).val = _; rw [(gidx_1 t).2]; omega
theorem gidx_2 : ∀ t : Fin cfg0.N, win0_2.index t 0 = t.val ∧ win0_2.index t 1 = 1 :=
  (by decide +kernel : ∀ t : Fin grid0.N, win0_2.index t 0 = t.val ∧ win0_2.index t 1 = 1)
theorem gblk_2 {X : ℕ → ℕ → ℝ} (hX : Rd2 (a := 8192) (b := 3200) (V m c main_arg1) X) (t : Fin cfg0.N) :
    Rd2 (a := 512) (b := 512) (X0_2 m c t) (bk t.val fun r j => X r (512 + j)) := fun j => by
  unfold X0_2 Pipeline.Window.fill
  rw [dif_pos (moved0_2 t j)]
  unfold iblk
  rw [View.read_apply]
  show V m c main_arg1 _ = _
  refine (hX _).trans (coe_congr₂ X ?_ ?_)
  · show win0_2.index t 0 * 512 + 1 * (j 0).val = _; rw [(gidx_2 t).1]; omega
  · show win0_2.index t 1 * 512 + 1 * (j 1).val = _; rw [(gidx_2 t).2]; omega
theorem gidx_3 : ∀ t : Fin cfg0.N, win0_3.index t 0 = 0 ∧ win0_3.index t 1 = 0 :=
  (by decide +kernel : ∀ t : Fin grid0.N, win0_3.index t 0 = 0 ∧ win0_3.index t 1 = 0)
theorem gblk_3 {X : ℕ → ℕ → ℝ} (hX : Rd2 (a := 1) (b := 512) (V m c main_arg2) X) (t : Fin cfg0.N) :
    Rd2 (a := 1) (b := 512) (iblk m c 3 t) X := fun j => by
  unfold iblk
  rw [View.read_apply]
  show V m c main_arg2 _ = _
  refine (hX _).trans (coe_congr₂ X ?_ ?_)
  · show win0_3.index t 0 * 1 + 1 * (j 0).val = _; rw [(gidx_3 t).1]; omega
  · show win0_3.index t 1 * 512 + 1 * (j 1).val = _; rw [(gidx_3 t).2]; omega
theorem gidx_4 : ∀ t : Fin cfg0.N, win0_4.index t 0 = 0 ∧ win0_4.index t 1 = 0 :=
  (by decide +kernel : ∀ t : Fin grid0.N, win0_4.index t 0 = 0 ∧ win0_4.index t 1 = 0)
theorem gblk_4 {X : ℕ → ℕ → ℝ} (hX : Rd2 (a := 1) (b := 512) (V m c main_arg3) X) (t : Fin cfg0.N) :
    Rd2 (a := 1) (b := 512) (iblk m c 4 t) X := fun j => by
  unfold iblk
  rw [View.read_apply]
  show V m c main_arg3 _ = _
  refine (hX _).trans (coe_congr₂ X ?_ ?_)
  · show win0_4.index t 0 * 1 + 1 * (j 0).val = _; rw [(gidx_4 t).1]; omega
  · show win0_4.index t 1 * 512 + 1 * (j 1).val = _; rw [(gidx_4 t).2]; omega
theorem gidx_6 : ∀ t : Fin cfg0.N, win0_6.index t 0 = 0 ∧ win0_6.index t 1 = 0 :=
  (by decide +kernel : ∀ t : Fin grid0.N, win0_6.index t 0 = 0 ∧ win0_6.index t 1 = 0)
theorem gblk_6 {X : ℕ → ℕ → ℝ} (hX : Rd2 (a := 128) (b := 512) (V m c main_v2) X) (t : Fin cfg0.N) :
    Rd2 (a := 128) (b := 512) (iblk m c 6 t) X := fun j => by
  unfold iblk
  rw [View.read_apply]
  show V m c main_v2 _ = _
  refine (hX _).trans (coe_congr₂ X ?_ ?_)
  · show win0_6.index t 0 * 128 + 1 * (j 0).val = _; rw [(gidx_6 t).1]; omega
  · show win0_6.index t 1 * 512 + 1 * (j 1).val = _; rw [(gidx_6 t).2]; omega
theorem gidx_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem gblk_5 {X : ℕ → ℕ → ℕ → ℝ} (hX : Rd3 (a := 8) (b := 128) (c := 128) (V m c main_arg4) X) (t : Fin cfg0.N) :
    Rd3 (a := 8) (b := 128) (c := 128) (iblk m c 5 t) X := fun j => by
  unfold iblk
  rw [View.read_apply]
  show V m c main_arg4 _ = _
  refine (hX _).trans (coe_congr₃ X ?_ ?_ ?_)
  · show win0_5.index t 0 * 8 + 1 * (j 0).val = _; rw [(gidx_5 t).1]; omega
  · show win0_5.index t 1 * 128 + 1 * (j 1).val = _; rw [(gidx_5 t).2.1]; omega
  · show win0_5.index t 2 * 128 + 1 * (j 2).val = _; rw [(gidx_5 t).2.2]; omega

/-! ## The call -/

section Call
variable {c} {m}
variable {D X Bi : ℕ → ℕ → ℝ} {G Bt : ℕ → ℝ} {w : ℕ → ℕ → ℕ → ℝ}

/-- The halves of the columns the gating unit reads. -/
abbrev uu (X : ℕ → ℕ → ℝ) : ℕ → ℕ → ℝ := fun r j => X r (0 + j)
abbrev vv (X : ℕ → ℕ → ℝ) : ℕ → ℕ → ℝ := fun r j => X r (512 + j)

variable (hD : Rd2 (a := 8192) (b := 512) (V m c main_arg0) D) (hX : Rd2 (a := 8192) (b := 3200) (V m c main_arg1) X)
  (hG : Rd2 (a := 1) (b := 512) (V m c main_arg2) (fun _ j => G j)) (hB : Rd2 (a := 1) (b := 512) (V m c main_arg3) (fun _ j => Bt j))
  (hw : Rd3 (a := 8) (b := 128) (c := 128) (V m c main_arg4) w) (hBi : Rd2 (a := 128) (b := 512) (V m c main_v2) Bi)

include hD hX hG hB hw hBi in
theorem call_7 (t : Fin cfg0.N) : Rd2 (a := 512) (b := 1024) (outsAt0 m c t.val t.isLt).1 (fun r j => g7 w G Bt Bi D (uu X) (vv X) (512 * t.val + r) j) := by
  by_cases h0 : t.val % 16 = 0
  · rw [outsAt0_A m c t h0]; dsimp only
    exact (blkA_7 c _ (gblk_5 m c hw t) (gblk_3 m c hG t) (gblk_4 m c hB t) (gblk_0 m c hD t) (gblk_1 m c hX t) (gblk_2 m c hX t) (gblk_6 m c hBi t)).congr fun r j _ _ => g7_bk ..
  · rw [outsAt0_B m c t h0]; dsimp only
    exact (blkB_7 c _ (gblk_5 m c hw t) (gblk_3 m c hG t) (gblk_4 m c hB t) (gblk_0 m c hD t) (gblk_1 m c hX t) (gblk_2 m c hX t) (gblk_6 m c hBi t)).congr fun r j _ _ => g7_bk ..

include hD hX hG hB hw in
theorem call_8_acc : ∀ (n : ℕ) (t : Fin cfg0.N), t.val = n →
    Rd3 (a := 8) (b := 128) (c := 128) (outsAt0 m c t.val t.isLt).2.1 (fun p t s => acc (fun k => dw G Bt (ck k D) (ck k (uu X)) (ck k (vv X)) p t s) n) := by
  intro n
  induction n with
  | zero =>
    intro t ht0
    have h0 : t.val % 16 = 0 := by omega
    rw [outsAt0_A m c t h0]; dsimp only
    exact (blkA_8 c _ (gblk_5 m c hw t) (gblk_3 m c hG t) (gblk_4 m c hB t) (gblk_0 m c hD t) (gblk_1 m c hX t) (gblk_2 m c hX t)).congr fun p a s _ _ _ => acc_start _ _ _ rfl fun k => by simp only [ck_bk, ht0]
  | succ n ih =>
    intro t htv
    have hlt : t.val < 16 := t.isLt
    have h0 : ¬t.val % 16 = 0 := by omega
    have ho := ih ⟨t.val - 1, Nat.lt_of_le_of_lt (Nat.sub_le _ _) t.isLt⟩ (by show t.val - 1 = n; omega)
    rw [outsAt0_B m c t h0]; dsimp only
    exact (blkB_8 c _ ho (gblk_5 m c hw t) (gblk_3 m c hG t) (gblk_4 m c hB t) (gblk_0 m c hD t) (gblk_1 m c hX t) (gblk_2 m c hX t)).congr fun p a s _ _ _ => acc_step _ _ (n + 1) (by omega) fun k => by simp only [ck_bk, htv]
include hD hX in
theorem call_9_acc : ∀ (n : ℕ) (t : Fin cfg0.N), t.val = n →
    Rd2 (a := 128) (b := 512) (outsAt0 m c t.val t.isLt).2.2.1 (fun r j => acc (fun k => dmix (ck k D) (ck k (uu X)) r j) t.val) := by
  intro n
  induction n with
  | zero =>
    intro t ht0
    have h0 : t.val % 16 = 0 := by omega
    rw [outsAt0_A m c t h0]; dsimp only
    exact (blkA_9 c _ (gblk_0 m c hD t) (gblk_1 m c hX t)).congr fun r j _ _ => acc_start _ _ _ ht0 fun k => by simp only [ck_bk]
  | succ n ih =>
    intro t htv
    have hlt : t.val < 16 := t.isLt
    have h0 : ¬t.val % 16 = 0 := by omega
    have ho := ih ⟨t.val - 1, Nat.lt_of_le_of_lt (Nat.sub_le _ _) t.isLt⟩ (by show t.val - 1 = n; omega)
    rw [outsAt0_B m c t h0]; dsimp only
    exact (blkB_9 c _ ho (gblk_0 m c hD t) (gblk_1 m c hX t)).congr fun r j _ _ => acc_step _ _ _ (by omega) fun k => by simp only [ck_bk]
include hD hX hw in
theorem call_10_acc : ∀ (n : ℕ) (t : Fin cfg0.N), t.val = n →
    Rd2 (a := 1) (b := 512) (outsAt0 m c t.val t.isLt).2.2.2.1 (fun _ j => acc (fun k => dlg w (ck k D) (ck k (uu X)) (ck k (vv X)) j) t.val) := by
  intro n
  induction n with
  | zero =>
    intro t ht0
    have h0 : t.val % 16 = 0 := by omega
    rw [outsAt0_A m c t h0]; dsimp only
    exact (blkA_10 c _ (gblk_5 m c hw t) (gblk_0 m c hD t) (gblk_1 m c hX t) (gblk_2 m c hX t)).congr fun r j _ _ => acc_start _ _ _ ht0 fun k => by simp only [ck_bk]
  | succ n ih =>
    intro t htv
    have hlt : t.val < 16 := t.isLt
    have h0 : ¬t.val % 16 = 0 := by omega
    have ho := ih ⟨t.val - 1, Nat.lt_of_le_of_lt (Nat.sub_le _ _) t.isLt⟩ (by show t.val - 1 = n; omega)
    rw [outsAt0_B m c t h0]; dsimp only
    exact (blkB_10 c _ ho (gblk_5 m c hw t) (gblk_0 m c hD t) (gblk_1 m c hX t) (gblk_2 m c hX t)).congr fun r j _ _ => acc_step _ _ _ (by omega) fun k => by simp only [ck_bk]
include hD hX hw in
theorem call_11_acc : ∀ (n : ℕ) (t : Fin cfg0.N), t.val = n →
    Rd2 (a := 1) (b := 512) (outsAt0 m c t.val t.isLt).2.2.2.2 (fun _ j => acc (fun k => dlb w (ck k D) (ck k (uu X)) j) t.val) := by
  intro n
  induction n with
  | zero =>
    intro t ht0
    have h0 : t.val % 16 = 0 := by omega
    rw [outsAt0_A m c t h0]; dsimp only
    exact (blkA_11 c _ (gblk_5 m c hw t) (gblk_0 m c hD t) (gblk_1 m c hX t)).congr fun r j _ _ => acc_start _ _ _ ht0 fun k => by simp only [ck_bk]
  | succ n ih =>
    intro t htv
    have hlt : t.val < 16 := t.isLt
    have h0 : ¬t.val % 16 = 0 := by omega
    have ho := ih ⟨t.val - 1, Nat.lt_of_le_of_lt (Nat.sub_le _ _) t.isLt⟩ (by show t.val - 1 = n; omega)
    rw [outsAt0_B m c t h0]; dsimp only
    exact (blkB_11 c _ ho (gblk_5 m c hw t) (gblk_0 m c hD t) (gblk_1 m c hX t)).congr fun r j _ _ => acc_step _ _ _ (by omega) fun k => by simp only [ck_bk]
end Call

/-! ## The result arrays -/

theorem gidx_7 : ∀ t : Fin cfg0.N, win0_7.index t 0 = t.val ∧ win0_7.index t 1 = 0 :=
  (by decide +kernel : ∀ t : Fin grid0.N, win0_7.index t 0 = t.val ∧ win0_7.index t 1 = 0)
/-- Of the first result only the first 1024 columns are written. -/
theorem garr_7 {H : ℕ → ℕ → ℝ} (hH : ∀ t : Fin cfg0.N, Rd2 (a := 512) (b := 1024) (outsAt0 m c t.val t.isLt).1 (fun r j => H (512 * t.val + r) j))
    (i : (M2 8192 3200).Idx) (hi : (i 1).val < 1024) : (dats m 0 c).arrAt 7 cfg0.N i = ((H (i 0).val (i 1).val : ℝ) : EReal) := by
  refine (dats m 0 c).arrAt_forall_of_coversWhere 7 (fun i v => (i 1).val < 1024 → v = ((H (i 0).val (i 1).val : ℝ) : EReal))
    (fun β => β (1 : Fin 2) = 0) (by decide +kernel) (fun t hf y => ?_) (fun j hj => ?_) i (Memref.isWhole_whole _) hi
  · intro _
    rw [after0_7]
    refine (hH t _).trans (coe_congr₂ H ?_ ?_)
    · show 512 * t.val + (y 0).val = win0_7.index t 0 * 512 + 1 * (y 0).val; rw [(gidx_7 t).1]; omega
    · show (y 1).val = win0_7.index t 1 * 1024 + 1 * (y 1).val; rw [(gidx_7 t).2]; omega
  · intro h1
    exact absurd (show (j (1 : Fin 2)).val / 1024 = 0 from Nat.div_eq_of_lt h1) hj
theorem gidx_8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)
theorem garr_8 {H : ℕ → ℕ → ℕ → ℝ} (hH : ∀ t : Fin cfg0.N, t.val = 15 → Rd3 (a := 8) (b := 128) (c := 128) (outsAt0 m c t.val t.isLt).2.1 H) :
    Rd3 (a := 8) (b := 128) (c := 128) ((dats m 0 c).arrAt 8 cfg0.N) H := fun i => by
  refine (dats m 0 c).arrAt_forall_of_covers 8 (fun i v => v = ((H (i 0).val (i 1).val (i 2).val : ℝ) : EReal)) (by decide +kernel) (fun t hf y => ?_) i
  rw [after0_8]
  refine (hH t ((by decide +kernel : ∀ t : Fin grid0.N, win0_8.flush t = true → t.val = 15) t hf) _).trans (coe_congr₃ H ?_ ?_ ?_)
  · show (y 0).val = win0_8.index t 0 * 8 + 1 * (y 0).val; rw [(gidx_8 t).1]; omega
  · show (y 1).val = win0_8.index t 1 * 128 + 1 * (y 1).val; rw [(gidx_8 t).2.1]; omega
  · show (y 2).val = win0_8.index t 2 * 128 + 1 * (y 2).val; rw [(gidx_8 t).2.2]; omega
theorem gidx_9 : ∀ t : Fin cfg0.N, win0_9.index t 0 = 0 ∧ win0_9.index t 1 = 0 :=
  (by decide +kernel : ∀ t : Fin grid0.N, win0_9.index t 0 = 0 ∧ win0_9.index t 1 = 0)
theorem garr_9 {H : ℕ → ℕ → ℝ} (hH : ∀ t : Fin cfg0.N, t.val = 15 → Rd2 (a := 128) (b := 512) (outsAt0 m c t.val t.isLt).2.2.1 H) :
    Rd2 (a := 128) (b := 512) ((dats m 0 c).arrAt 9 cfg0.N) H := fun i => by
  refine (dats m 0 c).arrAt_forall_of_covers 9 (fun i v => v = ((H (i 0).val (i 1).val : ℝ) : EReal)) (by decide +kernel) (fun t hf y => ?_) i
  rw [after0_9]
  refine (hH t ((by decide +kernel : ∀ t : Fin grid0.N, win0_9.flush t = true → t.val = 15) t hf) _).trans (coe_congr₂ H ?_ ?_)
  · show (y 0).val = win0_9.index t 0 * 128 + 1 * (y 0).val; rw [(gidx_9 t).1]; omega
  · show (y 1).val = win0_9.index t 1 * 512 + 1 * (y 1).val; rw [(gidx_9 t).2]; omega
theorem gidx_10 : ∀ t : Fin cfg0.N, win0_10.index t 0 = 0 ∧ win0_10.index t 1 = 0 :=
  (by decide +kernel : ∀ t : Fin grid0.N, win0_10.index t 0 = 0 ∧ win0_10.index t 1 = 0)
theorem garr_10 {H : ℕ → ℕ → ℝ} (hH : ∀ t : Fin cfg0.N, t.val = 15 → Rd2 (a := 1) (b := 512) (outsAt0 m c t.val t.isLt).2.2.2.1 H) :
    Rd2 (a := 1) (b := 512) ((dats m 0 c).arrAt 10 cfg0.N) H := fun i => by
  refine (dats m 0 c).arrAt_forall_of_covers 10 (fun i v => v = ((H (i 0).val (i 1).val : ℝ) : EReal)) (by decide +kernel) (fun t hf y => ?_) i
  rw [after0_10]
  refine (hH t ((by decide +kernel : ∀ t : Fin grid0.N, win0_10.flush t = true → t.val = 15) t hf) _).trans (coe_congr₂ H ?_ ?_)
  · show (y 0).val = win0_10.index t 0 * 1 + 1 * (y 0).val; rw [(gidx_10 t).1]; omega
  · show (y 1).val = win0_10.index t 1 * 512 + 1 * (y 1).val; rw [(gidx_10 t).2]; omega
theorem gidx_11 : ∀ t : Fin cfg0.N, win0_11.index t 0 = 0 ∧ win0_11.index t 1 = 0 :=
  (by decide +kernel : ∀ t : Fin grid0.N, win0_11.index t 0 = 0 ∧ win0_11.index t 1 = 0)
theorem garr_11 {H : ℕ → ℕ → ℝ} (hH : ∀ t : Fin cfg0.N, t.val = 15 → Rd2 (a := 1) (b := 512) (outsAt0 m c t.val t.isLt).2.2.2.2 H) :
    Rd2 (a := 1) (b := 512) ((dats m 0 c).arrAt 11 cfg0.N) H := fun i => by
  refine (dats m 0 c).arrAt_forall_of_covers 11 (fun i v => v = ((H (i 0).val (i 1).val : ℝ) : EReal)) (by decide +kernel) (fun t hf y => ?_) i
  rw [after0_11]
  refine (hH t ((by decide +kernel : ∀ t : Fin grid0.N, win0_11.flush t = true → t.val = 15) t hf) _).trans (coe_congr₂ H ?_ ?_)
  · show (y 0).val = win0_11.index t 0 * 1 + 1 * (y 0).val; rw [(gidx_11 t).1]; omega
  · show (y 1).val = win0_11.index t 1 * 512 + 1 * (y 1).val; rw [(gidx_11 t).2]; omega

end Cert.Kernel2Ideal.Val
-- ==== Proof.GateHost.lean ====
/- Host operations on arrays of four axes, the two-axis sum, and GELU with its gradient as the reference spells them. -/
module

public import proofs.«01_k».proof.Proof.GateArrays
public import proofs.«01_k».proof.Proof.GateFormulas
public import Idealize.ShloMosaic.Lib.TwoAxisContraction

@[expose] public section

noncomputable section

namespace Cert.RealArrays

open Idealize.ShloMosaic Idealize.ShloMosaic.ValueIdx

/-! ## Arrays of four axes -/

/-- The rank-4 shape. -/
abbrev M4 (a b c d : ℕ) : Shape := ⟨4, ![a, b, c, d]⟩
/-- The array `v` reads the real number `f n t p c` at `n, t, p, c`. -/
def Rd4 {a b c d : ℕ} (v : (M4 a b c d).Idx → EReal) (f : ℕ → ℕ → ℕ → ℕ → ℝ) : Prop :=
  ∀ i, v i = ((f (i 0).val (i 1).val (i 2).val (i 3).val : ℝ) : EReal)

theorem idx4_lt0 {a b c d : ℕ} (i : (M4 a b c d).Idx) : (i 0).val < a := (i 0).isLt
theorem idx4_lt1 {a b c d : ℕ} (i : (M4 a b c d).Idx) : (i 1).val < b := (i 1).isLt
theorem idx4_lt2 {a b c d : ℕ} (i : (M4 a b c d).Idx) : (i 2).val < c := (i 2).isLt
theorem idx4_lt3 {a b c d : ℕ} (i : (M4 a b c d).Idx) : (i 3).val < d := (i 3).isLt
theorem coe_congr₄ (G : ℕ → ℕ → ℕ → ℕ → ℝ) {a b c d a' b' c' d' : ℕ} (ha : a = a') (hb : b = b') (hc : c = c') (hd : d = d') :
    ((G a b c d : ℝ) : EReal) = ((G a' b' c' d' : ℝ) : EReal) := by rw [ha, hb, hc, hd]
theorem Rd4.add {a b c d : ℕ} {φ : FTy} {v w : FVec Ideal (M4 a b c d) φ} {f g : ℕ → ℕ → ℕ → ℕ → ℝ} (hv : Rd4 v f) (hw : Rd4 w g) :
    Rd4 (addf v w) (fun n t p q => f n t p q + g n t p q) :=
  fun i => by rw [addf_apply, hv i, hw i, ← EReal.coe_add]

/-- The index of four coordinates. -/
def mk4 {a b c d : ℕ} (n : Fin a) (t : Fin b) (p : Fin c) (q : Fin d) : (M4 a b c d).Idx := fun x => match x with
  | ⟨0, _⟩ => n
  | ⟨1, _⟩ => t
  | ⟨2, _⟩ => p
  | ⟨3, _⟩ => q

/-- The host's sum over the first and the last of four axes. -/
theorem Rd4.hostSum03 {a b c d : ℕ} {φ : FTy} {v : FVec Ideal (M4 a b c d) φ} {f : ℕ → ℕ → ℕ → ℕ → ℝ} (hv : Rd4 v f)
    {z : FVec Ideal ⟨0, ![]⟩ φ} (hz : ∀ i, z i = 0) (h : (M4 a b c d).ReducesTo [0, 3] (M2 b c)) (h0 : 0 < (⟨0, ![]⟩ : Shape).numel) :
    Rd2 (a := b) (b := c) (Host.reduceAdd v z h h0) (fun t p => ∑ n ∈ Finset.range a, ∑ q ∈ Finset.range d, f n t p q) := fun j => by
  simp only [Host.reduceAdd, Ideal.hostReduceAdd_def]
  unfold Ideal.hostReduceAdd
  rw [hz, zero_add, ← coe_sum]
  have hd : ∀ i : (M4 a b c d).Idx, h.drop i = j ↔ i 1 = j 0 ∧ i 2 = j 1 := fun i => by
    have e0 : (h.drop i 0).val = (i 1).val := rfl
    have e1 : (h.drop i 1).val = (i 2).val := rfl
    constructor
    · rintro rfl; exact ⟨Fin.ext e0.symm, Fin.ext e1.symm⟩
    · rintro ⟨h1, h2⟩
      funext x
      match x with
      | ⟨0, _⟩ => exact Fin.ext (e0.trans (congrArg Fin.val h1))
      | ⟨1, _⟩ => exact Fin.ext (e1.trans (congrArg Fin.val h2))
  have e : ∀ n : Fin a, ((∑ q ∈ Finset.range d, f n.val (j 0).val (j 1).val q : ℝ) : EReal) = ∑ q : Fin d, v (mk4 n (j 0) (j 1) q) := fun n => by
    rw [← coe_sum]; exact Finset.sum_congr rfl fun q _ => (hv (mk4 n (j 0) (j 1) q)).symm
  rw [Finset.sum_congr rfl fun n _ => e n, ← Fintype.sum_prod_type' (f := fun n q => v (mk4 n (j 0) (j 1) q))]
  refine Finset.sum_bij' (fun i _ => ((⟨(i 0).val, idx4_lt0 i⟩ : Fin a), (⟨(i 3).val, idx4_lt3 i⟩ : Fin d))) (fun p _ => mk4 p.1 (j 0) (j 1) p.2) (fun _ _ => Finset.mem_univ _) (fun p _ => ?_) (fun i hi => ?_) (fun p _ => rfl) (fun i hi => ?_)
  · exact Finset.mem_filter.mpr ⟨Finset.mem_univ _, (hd _).mpr ⟨rfl, rfl⟩⟩
  all_goals
    obtain ⟨h1, h2⟩ := (hd i).mp (Finset.mem_filter.mp hi).2
    have hi' : mk4 (i 0) (j 0) (j 1) (i 3) = i := funext fun x => match x with
      | ⟨0, _⟩ => rfl
      | ⟨1, _⟩ => h1.symm
      | ⟨2, _⟩ => h2.symm
      | ⟨3, _⟩ => rfl
  · exact hi'
  · exact congrArg v hi'.symm

/-! ## GELU -/

theorem lit_8943 : Rd0 (Ideal.ofBits .f32 0x460BBC00#32) 8943 := by
  unfold Rd0; simp [Ideal.ofBits, Ideal.ieee, -EReal.coe_mul]; norm_num
theorem lit_200000 : Rd0 (Ideal.ofBits .f32 0x48435000#32) 200000 := by
  unfold Rd0; simp [Ideal.ofBits, Ideal.ieee, -EReal.coe_mul]; norm_num

open Cert.Gate

section Gelu
variable {a b : ℕ} {v t y : FVec Ideal (M2 a b) .f32} {f g : ℕ → ℕ → ℝ} (h : (⟨0, ![]⟩ : Shape).BroadcastsInDim (M2 a b) ![])

/-- A literal spread over an array. -/
abbrev spl (bt : BitVec 32) : FVec Ideal (M2 a b) .f32 := broadcastInDim (M2 a b) ![] h (constant (F := Ideal) ⟨0, ![]⟩ .f32 bt)

theorem gelu_th (hv : Rd2 v f) :
    Rd2 (Host.tanh (mulf (spl h 0x3F4C422A#32) (addf v (Host.divf (mulf (mulf (mulf v v) v) (spl h 0x460BBC00#32)) (spl h 0x48435000#32))))) (fun r c => th (f r c)) :=
  ((Rd2.splat lit_geluC h).mul (hv.add ((((hv.mul hv).mul hv).mul (Rd2.splat lit_8943 h)).hostDivf (Rd2.splat lit_200000 h) (fun _ _ _ _ => by norm_num)))).hostTanh.congr
    fun r c _ _ => by unfold th ga; congr 2; ring
theorem gelu_act (hv : Rd2 v f) (ht : Rd2 t (fun r c => th (f r c))) :
    Rd2 (mulf v (mulf (spl h 0x3F000000#32) (addf (spl h 0x3F800000#32) t))) (acts f) :=
  (hv.mul ((Rd2.splat lit_half h).mul ((Rd2.splat lit_one h).add ht))).congr fun r c _ _ => by unfold acts act; ring
theorem gelu_grad (hv : Rd2 v f) (ht : Rd2 t (fun r c => th (f r c))) (hy : Rd2 y g) :
    Rd2 (addf (addf (mulf y (mulf (spl h 0x3F000000#32) (addf (spl h 0x3F800000#32) t)))
        (mulf (spl h 0x3F4C422A#32) (mulf (mulf (spl h 0x3F000000#32) (mulf v y)) (mulf (addf (spl h 0x3F800000#32) t) (subf (spl h 0x3F800000#32) t)))))
      (mulf (mulf (Host.divf (mulf (spl h 0x3F4C422A#32) (mulf (mulf (spl h 0x3F000000#32) (mulf v y)) (mulf (addf (spl h 0x3F800000#32) t) (subf (spl h 0x3F800000#32) t)))) (spl h 0x48435000#32))
        (spl h 0x460BBC00#32)) (mulf (spl h 0x40400000#32) (mulf v v)))) (fun r c => g r c * dact (f r c)) := by
  have h1 := (Rd2.splat lit_one h).add ht
  have hi := (Rd2.splat lit_geluC h).mul (((Rd2.splat lit_half h).mul (hv.mul hy)).mul (h1.mul ((Rd2.splat lit_one h).sub ht)))
  refine (((hy.mul ((Rd2.splat lit_half h).mul h1)).add hi).add (((hi.hostDivf (Rd2.splat lit_200000 h) (fun _ _ _ _ => by norm_num)).mul (Rd2.splat lit_8943 h)).mul
    ((Rd2.splat lit_three h).mul (hv.mul hv)))).congr fun r c _ _ => ?_
  unfold dact g3a; ring
end Gelu

end Cert.RealArrays

namespace Cert.Gate

open Cert.RealArrays

/-! ## The normalisation's gradient -/

theorem sum_cen (f : ℕ → ℕ → ℝ) (r : ℕ) : ∑ k ∈ Finset.range 512, cen f r k = 0 := by
  unfold cen mean
  rw [Finset.sum_sub_distrib, Finset.sum_const, Finset.card_range, nsmul_eq_mul]; push_cast; ring

/-- The gradient of the normalisation, as differentiating it term by term gives it. -/
theorem dln_alt (f x : ℕ → ℕ → ℝ) (r c : ℕ) :
    x r c * rsd f r + (∑ k ∈ Finset.range 512, cen f r k * x r k) * (-(1 / 2) * (rsd f r / (mean (fun r c => cen f r c * cen f r c) r + eps))) / 512 * (2 * cen f r c)
      + (∑ k ∈ Finset.range 512, -(x r k * rsd f r)
        + ∑ k ∈ Finset.range 512, -((∑ k ∈ Finset.range 512, cen f r k * x r k) * (-(1 / 2) * (rsd f r / (mean (fun r c => cen f r c * cen f r c) r + eps))) / 512 * (2 * cen f r k))) / 512
      = dln f x r c := by
  have hp := rsd_pos f r
  have hs : rsd f r * rsd f r * (mean (fun r c => cen f r c * cen f r c) r + eps) = 1 := by
    unfold rsd; rw [← mul_inv, Real.mul_self_sqrt hp.le]; exact inv_mul_cancel₀ hp.ne'
  have hd : rsd f r / (mean (fun r c => cen f r c * cen f r c) r + eps) = rsd f r * (rsd f r * rsd f r) := by
    rw [div_eq_iff hp.ne', mul_assoc, hs, mul_one]
  have hm : mean (fun r c => x r c * xhat f r c) r = (∑ k ∈ Finset.range 512, cen f r k * x r k) * rsd f r / 512 := by
    unfold mean; rw [Finset.sum_mul]
    exact congrArg (· / 512) (Finset.sum_congr rfl fun k _ => by unfold xhat; ring)
  have h1 : ∑ k ∈ Finset.range 512, -(x r k * rsd f r) = -(mean x r * 512 * rsd f r) := by
    rw [Finset.sum_neg_distrib, ← Finset.sum_mul]; unfold mean; ring
  have h2 : ∀ A : ℝ, ∑ k ∈ Finset.range 512, -(A * (2 * cen f r k)) = 0 := fun A => by
    rw [Finset.sum_neg_distrib, ← Finset.mul_sum, ← Finset.mul_sum, sum_cen]; ring
  rw [h1, h2]
  unfold dln; rw [hm, hd]; unfold xhat; ring

/-- The gradient at the normalised rows, row by row of the whole. -/
def dvnG (w : ℕ → ℕ → ℕ → ℝ) (d u : ℕ → ℕ → ℝ) (r j : ℕ) : ℝ := tmix w (ck (r / 128) (dmix d u)) (r % 128) j
def dxG (w : ℕ → ℕ → ℕ → ℝ) (g : ℕ → ℝ) (d u : ℕ → ℕ → ℝ) (r j : ℕ) : ℝ := dvnG w d u r j * g j
theorem dvnG_ck (w : ℕ → ℕ → ℕ → ℝ) (d u : ℕ → ℕ → ℝ) (n t j : ℕ) (ht : t < 128) : dvnG w d u (128 * n + t) j = dvn w (ck n d) (ck n u) t j := by
  unfold dvnG; rw [show (128 * n + t) / 128 = n by omega, show (128 * n + t) % 128 = t by omega]; rfl
/-- A sum over all the rows is a sum over the chunks of a sum over each chunk's rows. -/
theorem sum_chunks (f : ℕ → ℝ) (n : ℕ) : ∑ k ∈ Finset.range n, ∑ t ∈ Finset.range 128, f (128 * k + t) = ∑ r ∈ Finset.range (128 * n), f r := by
  induction n with
  | zero => simp
  | succ n ih => rw [Finset.sum_range_succ, ih, Nat.mul_succ, Finset.sum_range_add]

end Cert.Gate
-- ==== Proof.GateChain.lean ====
/- The gating gradient's program: the run ends with each result at explicit contents, and each of them as a formula of
   the arguments. -/
module

public import proofs.«01_k».proof.Proof.GateGrid
public import proofs.«01_k».proof.Proof.GateHost
public import proofs.«01_k».proof.Proof.Gen.Kernel2Ideal.Frame

@[expose] public section

set_option maxRecDepth 16384

noncomputable section

namespace Cert.RealArrays

open Idealize.ShloMosaic Idealize.ShloMosaic.TcCoe Idealize.ShloMosaic.ValueIdx

/-- The last dimension summed. -/
theorem Rd3.hostSum_last {a b c : ℕ} {φ : FTy} {v : FVec Ideal (M3 a b c) φ} {f : ℕ → ℕ → ℕ → ℝ} (hv : Rd3 v f)
    {z : FVec Ideal ⟨0, ![]⟩ φ} (hz : ∀ i, z i = 0) (h' : (M3 a b c).ReducesTo [2] (M2 a b)) (h : (M3 a b c).Reduces [2] (M2 a b)) (h0 : 0 < (⟨0, ![]⟩ : Shape).numel) :
    Rd2 (Host.reduceAdd v z h' h0) (fun t p => ∑ q ∈ Finset.range c, f t p q) := fun i => by
  simp only [Host.reduceAdd, Ideal.hostReduceAdd_def]
  rw [Ideal.hostReduceAdd_single h' h, hz, zero_add, ← coe_sum]
  refine Finset.sum_congr rfl fun k _ => ?_
  rw [hv]; simp only [Shape.Reduces.lift_val]; rfl

/-- Columns cut into eight groups, and back. -/
theorem Rd2.split3 {v : (M2 128 512).Idx → EReal} {f : ℕ → ℕ → ℝ} (hv : Rd2 v f) (h : (M2 128 512).ShapeCasts (M3 128 8 64)) :
    Rd3 (shapeCast (M3 128 8 64) v h) (fun t p q => f t (64 * p + q)) := fun i => by
  have h0 := idx3_lt0 i
  have h1 := idx3_lt1 i
  have h2 := idx3_lt2 i
  rw [shapeCast_apply v h i (ix2 ⟨(i 0).val, h0⟩ ⟨64 * (i 1).val + (i 2).val, by omega⟩) (by
    rw [Shape.rowMajor_val_two, Shape.rowMajor_val_three]
    show (i 0).val * 512 + (64 * (i 1).val + (i 2).val) = ((i 0).val * 8 + (i 1).val) * 64 + (i 2).val
    omega), hv]
theorem Rd3.join3 {v : (M3 128 8 64).Idx → EReal} {f : ℕ → ℕ → ℕ → ℝ} (hv : Rd3 v f) (h : (M3 128 8 64).ShapeCasts (M2 128 512)) :
    Rd2 (shapeCast (M2 128 512) v h) (fun t j => f t (j / 64) (j % 64)) := fun i => by
  have h0 := idx2_lt0 i
  have h1 := idx2_lt1 i
  rw [shapeCast_apply v h i (ix3 ⟨(i 0).val, h0⟩ ⟨(i 1).val / 64, by omega⟩ ⟨(i 1).val % 64, by omega⟩) (by
    rw [Shape.rowMajor_val_two, Shape.rowMajor_val_three]
    show ((i 0).val * 8 + (i 1).val / 64) * 64 + (i 1).val % 64 = (i 0).val * 512 + (i 1).val
    omega), hv]

end Cert.RealArrays

namespace Cert.Gate

/-- A row of the array is a row of its chunk. -/
theorem ck_row (f : ℕ → ℕ → ℝ) (r j : ℕ) : ck (r / 128) f (r % 128) j = f r j := by
  show f (128 * (r / 128) + r % 128) j = _
  rw [Nat.div_add_mod]
/-- The gradient of the normalisation at a row depends on that row alone. -/
theorem dln_row {f x y : ℕ → ℕ → ℝ} {t : ℕ} (h : ∀ j, x t j = y t j) (j : ℕ) : dln f x t j = dln f y t j := by
  unfold dln mean; simp only [h]
theorem dv_row (w : ℕ → ℕ → ℕ → ℝ) (g : ℕ → ℝ) (d u v : ℕ → ℕ → ℝ) (r j : ℕ) :
    dv w g (ck (r / 128) d) (ck (r / 128) u) (ck (r / 128) v) (r % 128) j = dln (acts v) (dxG w g d u) r j * dact (v r j) := by
  unfold dv
  rw [ck_row, dln_row (y := ck (r / 128) (dxG w g d u)) (fun k => ?_)]
  · show dln (ck (r / 128) (acts v)) (ck (r / 128) (dxG w g d u)) (r % 128) j * _ = _
    have e : dln (ck (r / 128) (acts v)) (ck (r / 128) (dxG w g d u)) (r % 128) j = ck (r / 128) (dln (acts v) (dxG w g d u)) (r % 128) j := rfl
    rw [e, ck_row]
  · rw [ck_row]
    show tmix w (ck (r / 128) (dmix d u)) (r % 128) k * g k = _
    rfl
theorem du_row (w : ℕ → ℕ → ℕ → ℝ) (g b : ℕ → ℝ) (bi d u v : ℕ → ℕ → ℝ) (r j : ℕ) :
    du w g b bi (ck (r / 128) d) (ck (r / 128) u) (ck (r / 128) v) (r % 128) j
      = d r j * (bi (r % 128) j + mix w (ck (r / 128) (vn g b v)) (r % 128) j) * dact (u r j) := by
  unfold du
  rw [ck_row, ck_row]
  rfl
/-- The chunks' parts summed are the sums over all rows. -/
theorem dlg_sum (w : ℕ → ℕ → ℕ → ℝ) (d u v : ℕ → ℕ → ℝ) (j : ℕ) :
    ∑ k ∈ Finset.range 64, dlg w (ck k d) (ck k u) (ck k v) j = ∑ r ∈ Finset.range 8192, xhat (acts v) r j * dvnG w d u r j := by
  rw [← sum_chunks (fun r => xhat (acts v) r j * dvnG w d u r j) 64]
  refine Finset.sum_congr rfl fun k _ => Finset.sum_congr rfl fun t ht => ?_
  rw [dvnG_ck w d u k t j (Finset.mem_range.1 ht), mul_comm]
  rfl
theorem dlb_sum (w : ℕ → ℕ → ℕ → ℝ) (d u : ℕ → ℕ → ℝ) (j : ℕ) :
    ∑ k ∈ Finset.range 64, dlb w (ck k d) (ck k u) j = ∑ r ∈ Finset.range 8192, dvnG w d u r j := by
  rw [← sum_chunks (fun r => dvnG w d u r j) 64]
  exact Finset.sum_congr rfl fun k _ => Finset.sum_congr rfl fun t ht => (dvnG_ck w d u k t j (Finset.mem_range.1 ht)).symm
theorem dw_sum (g b : ℕ → ℝ) (d u v : ℕ → ℕ → ℝ) (p t s : ℕ) :
    ∑ k ∈ Finset.range 64, dw g b (ck k d) (ck k u) (ck k v) p t s
      = if s ≤ t then ∑ n ∈ Finset.range 64, ∑ c ∈ Finset.range 64, dmix d u (128 * n + t) (64 * p + c) * vn g b v (128 * n + s) (64 * p + c) else 0 := by
  unfold dw
  split_ifs
  · rfl
  · exact Finset.sum_const_zero

end Cert.Gate

namespace Cert.Kernel2Ideal.Val

open Cert.Kernel2Ideal Cert.Kernel2Ideal.Gen Cert.RealArrays Cert.Gate
open Idealize.ShloMosaic Idealize.ShloMosaic.TcCoe Idealize.ShloMosaic.Tactic Idealize.ShloMosaic.ValueIdx
open Idealize.SL.Sem
open Idealize.ShloMosaic.Pipeline (Dat)

theorem rd_eq {a b : ℕ} {v v' : (M2 a b).Idx → EReal} {f : ℕ → ℕ → ℝ} (h : v = v') (hv : Rd2 v' f) : Rd2 v f := h ▸ hv
theorem rd_eq₃ {a b c : ℕ} {v v' : (M3 a b c).Idx → EReal} {f : ℕ → ℕ → ℕ → ℝ} (h : v = v') (hv : Rd3 v' f) : Rd3 v f := h ▸ hv

variable (m : (ℓ : Loc nD τ sig) → Buf (Elt Ideal) ℓ) (ρ : Dev nD → PrngReg) (c : Dev nD)

/-! ## The run -/

/-- What the host operations after the call leave in a buffer. -/
def fin (b : Ref sig .tc) : Buf (Elt Ideal) ((c.tc : Thread nD τ).loc b) := Pipeline.afterTail₀ cfgs (dats m) 0 (V0 m) [hostOps1] c b

theorem run_values : θ_run defs (onTc (τ := τ) (main (F := Ideal))) ⟨m, fun _ => 0, ρ⟩ (fun r => ∀ c : Dev nD,
      r.2.mem ((c.tc : Thread nD τ).loc main_v8) = fin m c main_v8
      ∧ r.2.mem ((c.tc : Thread nD τ).loc main_v10) = fin m c main_v10
      ∧ r.2.mem ((c.tc : Thread nD τ).loc main_v3_3) = (dats m 0 c).arrAt 10 cfg0.N
      ∧ r.2.mem ((c.tc : Thread nD τ).loc main_v3_4) = (dats m 0 c).arrAt 11 cfg0.N
      ∧ r.2.mem ((c.tc : Thread nD τ).loc main_v3_1) = (dats m 0 c).arrAt 8 cfg0.N
      ∧ r.2.mem ((c.tc : Thread nD τ).loc main_v6) = fin m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h.2 c).2 main_v8 (by decide), (h.2 c).2 main_v10 (by decide), (h.2 c).1 10, (h.2 c).1 11, (h.2 c).1 8, (h.2 c).2 main_v6 (by decide), h.1 c⟩)
    (θ_run_and (unchanged m ρ) (run_main m ρ))

/-! ## The results as formulas -/

/-- What the host operations after the call start from. -/
def mid : Valuation τ sig (Elt Ideal) := Pipeline.withArrays spec0 c (V0 m c) fun w => (dats m 0 c).arrAt w cfg0.N

theorem mid_arr (w : Fin 12) : mid m c (Proc.devRef .tc (Pipeline.arrRef spec0 w)) = (dats m 0 c).arrAt w cfg0.N :=
  Pipeline.Dat.withArrays_arrAt (dats m 0 c) sharedIn0 (V0 m c) (A_eq m c) w

theorem fin_v8 : fin m c main_v8 = extf (F := Ideal) .f32 (extractStridedSlice S8192x512 ![0, 0] (mid m c (Proc.devRef .tc main_v3_0)) slices_S8192x3200_S8192x512_0_0) bitsLt_bf16_f32 := by
  show StableHlo.after hostOps1 (mid m c) (Proc.devRef .tc main_v8) = _
  simp only [hostOps1]; after_results_simp <;> rfl
theorem fin_v10 : fin m c main_v10 = extf (F := Ideal) .f32 (extractStridedSlice S8192x512 ![0, 512] (mid m c (Proc.devRef .tc main_v3_0)) slices_S8192x3200_S8192x512_0_512) bitsLt_bf16_f32 := by
  show StableHlo.after hostOps1 (mid m c) (Proc.devRef .tc main_v10) = _
  simp only [hostOps1]; after_results_simp <;> rfl
theorem fin_v6 : fin m c main_v6 = transpose S8x128 [1, 0] (Host.reduceAdd (F := Ideal) (shapeCast S128x8x64 (mid m c (Proc.devRef .tc main_v3_2)) shapeCasts_S128x512_S128x8x64)
    (constant S_ .f32 0x00000000#32) reducesTo_S128x8x64_S128x8_d2 h_S_) transposes_S128x8_S8x128_1_0 := by
  show StableHlo.after hostOps1 (mid m c) (Proc.devRef .tc main_v6) = _
  simp only [hostOps1]; after_results_simp <;> rfl

variable {D X sb : ℕ → ℕ → ℝ} {G Bt : ℕ → ℝ} {w : ℕ → ℕ → ℕ → ℝ}
variable (hD : Rd2 (a := 8192) (b := 512) (m ((c.tc : Thread nD τ).loc main_arg0)) D) (hX : Rd2 (a := 8192) (b := 3200) (m ((c.tc : Thread nD τ).loc main_arg1)) X)
  (hG : Rd2 (a := 1) (b := 512) (m ((c.tc : Thread nD τ).loc main_arg2)) (fun _ j => G j)) (hB : Rd2 (a := 1) (b := 512) (m ((c.tc : Thread nD τ).loc main_arg3)) (fun _ j => Bt j))
  (hw : Rd3 (a := 8) (b := 128) (c := 128) (m ((c.tc : Thread nD τ).loc main_arg4)) w) (hs : Rd2 (a := 8) (b := 128) (m ((c.tc : Thread nD τ).loc main_arg5)) sb)

include hs in
/-- The bias, spread over the columns of its group. -/
theorem at_v2 : Rd2 (a := 128) (b := 512) (V m c main_v2) (fun t j => sb (j / 64) t) := by
  refine rd_eq (v' := shapeCast S128x512 (broadcastInDim S128x8x64 ![0, 1] bcast_S128x8_S128x8x64_0_1 (transpose S128x8 [1, 0] (m ((c.tc : Thread nD τ).loc main_arg5)) transposes_S8x128_S128x8_1_0)) shapeCasts_S128x8x64_S128x512) ?_ ?_
  · show StableHlo.after hostOps0 (fun b => m (c, b)) (Proc.devRef .tc main_v2) = _
    simp only [hostOps0]; after_results_simp <;> rfl
  · refine (Rd3.join3 (f := fun t p q => sb p t) (fun i => ?_) _)
    rw [broadcastInDim_apply ![0, 1] _ _ i (ix2 ⟨(i 0).val, idx3_lt0 i⟩ ⟨(i 1).val, idx3_lt1 i⟩) (fun x => match x with
      | ⟨0, _⟩ => rfl
      | ⟨1, _⟩ => rfl)]
    exact (hs.transp _) _

include hD in
theorem at_0 : Rd2 (a := 8192) (b := 512) (V m c main_arg0) D := rd_eq (V_main_arg0 m c) hD
include hX in
theorem at_1 : Rd2 (a := 8192) (b := 3200) (V m c main_arg1) X := rd_eq (V_main_arg1 m c) hX
include hG in
theorem at_2 : Rd2 (a := 1) (b := 512) (V m c main_arg2) (fun _ j => G j) := rd_eq (V_main_arg2 m c) hG
include hB in
theorem at_3 : Rd2 (a := 1) (b := 512) (V m c main_arg3) (fun _ j => Bt j) := rd_eq (V_main_arg3 m c) hB
include hw in
theorem at_4 : Rd3 (a := 8) (b := 128) (c := 128) (V m c main_arg4) w := rd_eq₃ (V_main_arg4 m c) hw

include hD hX hG hB hw hs in
theorem mid_v3_0 (i : (M2 8192 3200).Idx) (hi : (i 1).val < 1024) :
    mid m c (Proc.devRef .tc main_v3_0) i = ((g7 w G Bt (fun t j => sb (j / 64) t) D (uu X) (vv X) (i 0).val (i 1).val : ℝ) : EReal) :=
  (congrFun (mid_arr m c 7) i).trans (garr_7 m c (H := g7 w G Bt (fun t j => sb (j / 64) t) D (uu X) (vv X))
    (fun t => call_7 (at_0 m c hD) (at_1 m c hX) (at_2 m c hG) (at_3 m c hB) (at_4 m c hw) (at_v2 m c hs) t) i hi)

include hD hX hG hB hw hs in
theorem k_v8 : Rd2 (a := 8192) (b := 512) (fin m c main_v8)
    (fun r j => D r j * (sb (j / 64) (r % 128) + mix w (ck (r / 128) (vn G Bt (vv X))) (r % 128) j) * dact (uu X r j)) := by
  refine rd_eq (fin_v8 m c) ?_
  intro i
  have h1 := idx2_lt1 i
  refine (mid_v3_0 m c hD hX hG hB hw hs _ (show 0 + (i 1).val < 1024 by omega)).trans ?_
  refine congrArg _ ?_
  show g7 w G Bt (fun t j => sb (j / 64) t) D (uu X) (vv X) (0 + (i 0).val) (0 + (i 1).val) = _
  rw [Nat.zero_add, Nat.zero_add]
  unfold g7
  rw [if_pos h1, du_row]

include hD hX hG hB hw hs in
theorem k_v10 : Rd2 (a := 8192) (b := 512) (fin m c main_v10) (fun r j => dln (acts (vv X)) (dxG w G D (uu X)) r j * dact (vv X r j)) := by
  refine rd_eq (fin_v10 m c) ?_
  intro i
  have h1 := idx2_lt1 i
  refine (mid_v3_0 m c hD hX hG hB hw hs _ (show 512 + (i 1).val < 1024 by omega)).trans ?_
  refine congrArg _ ?_
  show g7 w G Bt (fun t j => sb (j / 64) t) D (uu X) (vv X) (0 + (i 0).val) (512 + (i 1).val) = _
  rw [Nat.zero_add]
  unfold g7
  rw [if_neg (by omega), Nat.add_sub_cancel_left, dv_row]

include hD hX hw in
theorem k_v3_3 : Rd2 (a := 1) (b := 512) ((dats m 0 c).arrAt 10 cfg0.N) (fun _ j => ∑ r ∈ Finset.range 8192, xhat (acts (vv X)) r j * dvnG w D (uu X) r j) :=
  (garr_10 m c fun t ht => (call_10_acc (at_0 m c hD) (at_1 m c hX) (at_4 m c hw) t.val t rfl).congr fun _ j _ _ => by
    rw [ht]; exact dlg_sum w D (uu X) (vv X) j)

include hD hX hw in
theorem k_v3_4 : Rd2 (a := 1) (b := 512) ((dats m 0 c).arrAt 11 cfg0.N) (fun _ j => ∑ r ∈ Finset.range 8192, dvnG w D (uu X) r j) :=
  (garr_11 m c fun t ht => (call_11_acc (at_0 m c hD) (at_1 m c hX) (at_4 m c hw) t.val t rfl).congr fun _ j _ _ => by
    rw [ht]; exact dlb_sum w D (uu X) j)

include hD hX hG hB hw in
theorem k_v3_1 : Rd3 (a := 8) (b := 128) (c := 128) ((dats m 0 c).arrAt 8 cfg0.N)
    (fun p t s => if s ≤ t then ∑ n ∈ Finset.range 64, ∑ c ∈ Finset.range 64, dmix D (uu X) (128 * n + t) (64 * p + c) * vn G Bt (vv X) (128 * n + s) (64 * p + c) else 0) :=
  (garr_8 m c fun t ht => (call_8_acc (at_0 m c hD) (at_1 m c hX) (at_2 m c hG) (at_3 m c hB) (at_4 m c hw) t.val t rfl).congr fun p q s _ _ _ => by
    rw [ht]; exact dw_sum G Bt D (uu X) (vv X) p q s)

include hD hX in
theorem k_v6 : Rd2 (a := 8) (b := 128) (fin m c main_v6) (fun p t => ∑ n ∈ Finset.range 64, ∑ c ∈ Finset.range 64, dmix D (uu X) (128 * n + t) (64 * p + c)) := by
  have h9 : Rd2 (a := 128) (b := 512) (mid m c (Proc.devRef .tc main_v3_2)) (fun t j => ∑ n ∈ Finset.range 64, dmix D (uu X) (128 * n + t) j) :=
    rd_eq (mid_arr m c 9) (garr_9 m c fun t ht => (call_9_acc (at_0 m c hD) (at_1 m c hX) t.val t rfl).congr fun r j _ _ => by rw [ht]; rfl)
  refine rd_eq (fin_v6 m c) ?_
  refine ((((h9.split3 _).hostSum_last (fun i => lit_zero.trans EReal.coe_zero) _ (by decide) _).transp _).congr fun p t _ _ => ?_)
  exact Finset.sum_comm

end Cert.Kernel2Ideal.Val
-- ==== Proof.GateReference.lean ====
/- The gating's reference program: each operation's result as a formula of the arguments, over the real numbers. -/
module

public import proofs.«01_k».proof.Proof.Gen.Reference2Ideal.Read
public import proofs.«01_k».proof.Proof.GateHost

@[expose] public section

noncomputable section

namespace Cert.Reference2Ideal.Val

open Cert.Reference2Ideal Cert.Reference2Ideal.Gen Cert.Reference2Ideal.Read Cert.Gate
open Cert.RealArrays
open Idealize.ShloMosaic Idealize.ShloMosaic.TcCoe Idealize.ShloMosaic.ValueIdx Idealize.SL.Sem

theorem z0 (i : (⟨0, ![]⟩ : Shape).Idx) : constant (F := Ideal) ⟨0, ![]⟩ .f32 0x00000000#32 i = 0 := lit_zero.trans EReal.coe_zero
/-- The two halves of the input's gating columns. -/
abbrev hu (x : ℕ → ℕ → ℝ) : ℕ → ℕ → ℝ := fun r j => x r (0 + j)
abbrev hv (x : ℕ → ℕ → ℝ) : ℕ → ℕ → ℝ := fun r j => x r (512 + j)

/-- Rows cut into chunks and columns into groups, and back. -/
theorem _root_.Cert.RealArrays.Rd2.split4 {v : (M2 8192 512).Idx → EReal} {f : ℕ → ℕ → ℝ} (hv : Rd2 v f) (h : (M2 8192 512).ShapeCasts (M4 64 128 8 64)) :
    Rd4 (shapeCast (M4 64 128 8 64) v h) (fun n t p c => f (128 * n + t) (64 * p + c)) := fun i => by
  have h0 := idx4_lt0 i
  have h1 := idx4_lt1 i
  have h2 := idx4_lt2 i
  have h3 := idx4_lt3 i
  rw [shapeCast_apply v h i (ix2 ⟨128 * (i 0).val + (i 1).val, by omega⟩ ⟨64 * (i 2).val + (i 3).val, by omega⟩) (by
    rw [Shape.rowMajor_val_two, Shape.rowMajor_val_four]
    show (128 * (i 0).val + (i 1).val) * 512 + (64 * (i 2).val + (i 3).val) = (((i 0).val * 128 + (i 1).val) * 8 + (i 2).val) * 64 + (i 3).val
    omega), hv]
theorem _root_.Cert.RealArrays.Rd4.join4 {v : (M4 64 128 8 64).Idx → EReal} {f : ℕ → ℕ → ℕ → ℕ → ℝ} (hv : Rd4 v f) (h : (M4 64 128 8 64).ShapeCasts (M2 8192 512)) :
    Rd2 (shapeCast (M2 8192 512) v h) (fun r j => f (r / 128) (r % 128) (j / 64) (j % 64)) := fun i => by
  have h0 := idx2_lt0 i
  have h1 := idx2_lt1 i
  rw [shapeCast_apply v h i (mk4 ⟨(i 0).val / 128, by omega⟩ ⟨(i 0).val % 128, by omega⟩ ⟨(i 1).val / 64, by omega⟩ ⟨(i 1).val % 64, by omega⟩) (by
    rw [Shape.rowMajor_val_two, Shape.rowMajor_val_four]
    show (((i 0).val / 128 * 128 + (i 0).val % 128) * 8 + (i 1).val / 64) * 64 + (i 1).val % 64 = (i 0).val * 512 + (i 1).val
    omega), hv]
  rfl

/-- The causal mask: a row number at least the column number. -/
theorem msk (i : S8x128x128.Idx) : val_main_v82_1 (F := Ideal) i = 1 ↔ (i 2).val ≤ (i 1).val := by
  have h1 : (i 1).val < 128 := idx3_lt1 i
  have h2 : (i 2).val < 128 := idx3_lt2 i
  rw [val_main_v82_1_apply, val_main_v81_apply, val_main_v79_apply, val_main_v80_apply, val_main_v77_apply, val_main_v78_apply]
  show BitVec.ofBool ((BitVec.ofNat 32 (i 2).val).sle (BitVec.ofNat 32 (i 1).val)) = 1 ↔ _
  rw [bv_le (by omega) (by omega)]
  by_cases h : (i 2).val ≤ (i 1).val <;> simp [h]

/-- The product that sums over chunks and columns at once. -/
theorem dot_outer {v : FVec Ideal S8x64x64x128 .f32} {y : FVec Ideal S64x128x8x64 .f32} {f k : ℕ → ℕ → ℕ → ℕ → ℝ} (h1 : Rd4 (a := 8) (b := 64) (c := 64) (d := 128) v f) (h2 : Rd4 (a := 64) (b := 128) (c := 8) (d := 64) y k) :
    Rd3 (a := 8) (b := 128) (c := 128) (Host.dotGeneral (F := Ideal) dot_S8x64x64x128_S64x128x8x64_S8x128x128_12_03_3_1_0_2 none v y)
      (fun p t s => ∑ n ∈ Finset.range 64, ∑ c ∈ Finset.range 64, f p n c t * k n s p c) := fun i => by
  simp only [Host.dotGeneral]
  rw [Ideal.dotGeneral_apply, sum_contr2 dot_S8x64x64x128_S64x128x8x64_S8x128x128_12_03_3_1_0_2 64 64 rfl rfl rfl, ← coe_sum]
  refine Finset.sum_congr rfl fun n _ => ?_
  rw [← coe_sum]
  refine Finset.sum_congr rfl fun c _ => ?_
  rw [h1, h2, EReal.coe_mul]; rfl

section Values
variable {x d sb : ℕ → ℕ → ℝ} {g b : ℕ → ℝ} {w : ℕ → ℕ → ℕ → ℝ}
  {X0 : FVec Ideal S8192x512 .f32} {X1 : FVec Ideal S8192x3200 .f32} {X2 X3 : FVec Ideal S1x512 .f32} {X4 : FVec Ideal S8x128x128 .f32} {X5 : FVec Ideal S8x128 .f32}

theorem r_v0 (hx : Rd2 (a := 8192) (b := 3200) X1 x) :
    Rd2 (a := 8192) (b := 512) (val_main_v0 (F := Ideal) X1) (hu x) := by
  unfold val_main_v0; exact hx.cols _

theorem r_v1 (hx : Rd2 (a := 8192) (b := 3200) X1 x) :
    Rd2 (a := 8192) (b := 512) (val_main_v1 (F := Ideal) X1) (hv x) := by
  unfold val_main_v1; exact hx.cols _

theorem r_v14 (hx : Rd2 (a := 8192) (b := 3200) X1 x) :
    Rd2 (a := 8192) (b := 512) (val_main_v14 (F := Ideal) X1) (fun r c => th (hu x r c)) := by
  unfold val_main_v14; exact gelu_th _ (r_v0 hx)

theorem r_v24 (hx : Rd2 (a := 8192) (b := 3200) X1 x) :
    Rd2 (a := 8192) (b := 512) (val_main_v24 (F := Ideal) X1) (acts (hu x)) := by
  unfold val_main_v24; exact gelu_act _ (r_v0 hx) (r_v14 hx)

theorem r_v37 (hx : Rd2 (a := 8192) (b := 3200) X1 x) :
    Rd2 (a := 8192) (b := 512) (val_main_v37 (F := Ideal) X1) (fun r c => th (hv x r c)) := by
  unfold val_main_v37; exact gelu_th _ (r_v1 hx)

theorem r_v47 (hx : Rd2 (a := 8192) (b := 3200) X1 x) :
    Rd2 (a := 8192) (b := 512) (val_main_v47 (F := Ideal) X1) (acts (hv x)) := by
  unfold val_main_v47; exact gelu_act _ (r_v1 hx) (r_v37 hx)

theorem r_v48 (hx : Rd2 (a := 8192) (b := 3200) X1 x) :
    Rd1 (a := 8192) (val_main_v48 (F := Ideal) X1) (fun r => ∑ c ∈ Finset.range 512, (acts (hv x)) r c) := by
  unfold val_main_v48; exact (r_v47 hx).hostSum_cols z0 _ (by decide) _

theorem r_v51 (hx : Rd2 (a := 8192) (b := 3200) X1 x) :
    Rd2 (a := 8192) (b := 1) (val_main_v51 (F := Ideal) X1) (fun r _ => mean (acts (hv x)) r) := by
  unfold val_main_v51; exact ((r_v48 hx).broadcastInDim_col _).hostDivf (Rd2.splat lit_512 _) (fun _ _ _ _ => by norm_num)

theorem r_v53 (hx : Rd2 (a := 8192) (b := 3200) X1 x) :
    Rd2 (a := 8192) (b := 512) (val_main_v53 (F := Ideal) X1) (cen (acts (hv x))) := by
  unfold val_main_v53; exact (r_v47 hx).sub ((r_v51 hx).broadcastInDim_col _)

theorem r_v62 (hx : Rd2 (a := 8192) (b := 3200) X1 x) :
    Rd2 (a := 8192) (b := 512) (val_main_v62 (F := Ideal) X1) (cen (acts (hv x))) := by
  unfold val_main_v62; exact (r_v47 hx).sub ((r_v51 hx).broadcastInDim_col _)

theorem r_v57 (hx : Rd2 (a := 8192) (b := 3200) X1 x) :
    Rd1 (a := 8192) (val_main_v57 (F := Ideal) X1) (fun r => ∑ c ∈ Finset.range 512, cen (acts (hv x)) r c * cen (acts (hv x)) r c) := by
  unfold val_main_v57; exact ((r_v53 hx).mul (r_v53 hx)).hostSum_cols z0 _ (by decide) _

theorem r_v64 (hx : Rd2 (a := 8192) (b := 3200) X1 x) :
    Rd2 (a := 8192) (b := 1) (val_main_v64 (F := Ideal) X1) (fun r _ => (mean (fun r c => cen (acts (hv x)) r c * cen (acts (hv x)) r c) r + eps)) := by
  unfold val_main_v64; exact (((r_v57 hx).broadcastInDim_col _).hostDivf (Rd2.splat lit_512 _) (fun _ _ _ _ => by norm_num)).add (Rd2.splat lit_eps _)

theorem r_v65 (hx : Rd2 (a := 8192) (b := 3200) X1 x) :
    Rd2 (a := 8192) (b := 1) (val_main_v65 (F := Ideal) X1) (fun r _ => rsd (acts (hv x)) r) := by
  unfold val_main_v65; exact (r_v64 hx).hostRsqrt (fun r _ _ _ => rsd_pos (acts (hv x)) r)

theorem r_v68 (hx : Rd2 (a := 8192) (b := 3200) X1 x) :
    Rd2 (a := 8192) (b := 1) (val_main_v68 (F := Ideal) X1) (fun r _ => -(1 / 2) * (rsd (acts (hv x)) r / (mean (fun r c => cen (acts (hv x)) r c * cen (acts (hv x)) r c) r + eps))) := by
  unfold val_main_v68; exact (Rd2.splat lit_neg_half _).mul ((r_v65 hx).hostDivf (r_v64 hx) (fun r _ _ _ => (rsd_pos (acts (hv x)) r).ne'))

theorem r_v70 (hx : Rd2 (a := 8192) (b := 3200) X1 x) :
    Rd2 (a := 8192) (b := 512) (val_main_v70 (F := Ideal) X1) (xhat (acts (hv x))) := by
  unfold val_main_v70; exact (r_v62 hx).mul ((r_v65 hx).broadcastInDim_col _)

theorem r_v74 (hx : Rd2 (a := 8192) (b := 3200) X1 x) (hg : Rd2 (a := 1) (b := 512) X2 (fun _ j => g j)) (hb : Rd2 (a := 1) (b := 512) X3 (fun _ j => b j)) :
    Rd2 (a := 8192) (b := 512) (val_main_v74 (F := Ideal) X1 X2 X3) (vn g b (hv x)) := by
  unfold val_main_v74; exact ((r_v70 hx).mul (hg.broadcastInDim_row _)).add (hb.broadcastInDim_row _)

theorem r_v75 (hx : Rd2 (a := 8192) (b := 3200) X1 x) (hg : Rd2 (a := 1) (b := 512) X2 (fun _ j => g j)) (hb : Rd2 (a := 1) (b := 512) X3 (fun _ j => b j)) :
    Rd4 (a := 64) (b := 128) (c := 8) (d := 64) (val_main_v75 (F := Ideal) X1 X2 X3) (fun n t p c => vn g b (hv x) (128 * n + t) (64 * p + c)) := by
  unfold val_main_v75; exact (r_v74 hx hg hb).split4 _

theorem r_v82_0 (hw : Rd3 (a := 8) (b := 128) (c := 128) X4 w) :
    Rd3 (a := 8) (b := 128) (c := 128) (val_main_v82_0 (F := Ideal) X4) (wc w) := by
  exact fun i => by
    show (if val_main_v82_1 (F := Ideal) i = 1 then X4 i else val_main_call0_v1 (F := Ideal) i) = _
    unfold wc
    by_cases h : (i 2).val ≤ (i 1).val
    · rw [if_pos ((msk i).mpr h), if_pos h, hw i]
    · rw [if_neg (fun e => h ((msk i).mp e)), if_neg h]
      exact (val_main_call0_v1_apply (F := Ideal) i).trans lit_zero

theorem r_v83 (hx : Rd2 (a := 8192) (b := 3200) X1 x) (hg : Rd2 (a := 1) (b := 512) X2 (fun _ j => g j)) (hb : Rd2 (a := 1) (b := 512) X3 (fun _ j => b j)) (hw : Rd3 (a := 8) (b := 128) (c := 128) X4 w) :
    Rd4 (a := 8) (b := 64) (c := 64) (d := 128) (val_main_v83 (F := Ideal) X1 X2 X3 X4) (fun p n c t => ∑ s ∈ Finset.range 128, vn g b (hv x) (128 * n + s) (64 * p + c) * wc w p t s) := by
  exact fun i => by
    rw [val_main_v83_apply, ← coe_sum]
    refine Finset.sum_congr rfl fun k _ => ?_
    rw [(r_v75 hx hg hb), (r_v82_0 hw), EReal.coe_mul]

theorem r_v84 (hx : Rd2 (a := 8192) (b := 3200) X1 x) (hg : Rd2 (a := 1) (b := 512) X2 (fun _ j => g j)) (hb : Rd2 (a := 1) (b := 512) X3 (fun _ j => b j)) (hw : Rd3 (a := 8) (b := 128) (c := 128) X4 w) :
    Rd4 (a := 64) (b := 128) (c := 8) (d := 64) (val_main_v84 (F := Ideal) X1 X2 X3 X4) (fun n t p c => ∑ s ∈ Finset.range 128, vn g b (hv x) (128 * n + s) (64 * p + c) * wc w p t s) := by
  exact fun i => (val_main_v84_apply (F := Ideal) X1 X2 X3 X4 i).trans ((r_v83 hx hg hb hw) _)

theorem r_v88 (hs : Rd2 (a := 8) (b := 128) X5 sb) :
    Rd4 (a := 64) (b := 128) (c := 8) (d := 64) (val_main_v88 (F := Ideal) X5) (fun n t p c => sb p t) := by
  exact fun i => by
    rw [val_main_v88_apply, val_main_v87_apply, val_main_v86_apply, val_main_v85_apply]
    exact hs _

theorem r_v90 (hx : Rd2 (a := 8192) (b := 3200) X1 x) (hg : Rd2 (a := 1) (b := 512) X2 (fun _ j => g j)) (hb : Rd2 (a := 1) (b := 512) X3 (fun _ j => b j)) (hw : Rd3 (a := 8) (b := 128) (c := 128) X4 w) (hs : Rd2 (a := 8) (b := 128) X5 sb) :
    Rd2 (a := 8192) (b := 512) (val_main_v90 (F := Ideal) X1 X2 X3 X4 X5) (fun r j => sb (j / 64) (r % 128) + mix w (ck (r / 128) (vn g b (hv x))) (r % 128) j) := by
  unfold val_main_v90; exact ((r_v84 hx hg hb hw).add (r_v88 hs)).join4 _ |>.congr fun r j _ _ => by
    rw [add_comm]; unfold mix ck
    refine congrArg (_ + ·) (Finset.sum_congr rfl fun s _ => ?_)
    rw [Nat.div_add_mod, mul_comm]

theorem r_v93 (hd : Rd2 (a := 8192) (b := 512) X0 d) (hx : Rd2 (a := 8192) (b := 3200) X1 x) (hg : Rd2 (a := 1) (b := 512) X2 (fun _ j => g j)) (hb : Rd2 (a := 1) (b := 512) X3 (fun _ j => b j)) (hw : Rd3 (a := 8) (b := 128) (c := 128) X4 w) (hs : Rd2 (a := 8) (b := 128) X5 sb) :
    Rd2 (a := 8192) (b := 512) (val_main_v93 (F := Ideal) X0 X1 X2 X3 X4 X5) (fun r j => d r j * (sb (j / 64) (r % 128) + mix w (ck (r / 128) (vn g b (hv x))) (r % 128) j)) := by
  unfold val_main_v93; exact hd.mul (r_v90 hx hg hb hw hs)

theorem r_v92 (hd : Rd2 (a := 8192) (b := 512) X0 d) (hx : Rd2 (a := 8192) (b := 3200) X1 x) :
    Rd2 (a := 8192) (b := 512) (val_main_v92 (F := Ideal) X0 X1) (dmix d (hu x)) := by
  unfold val_main_v92; exact ((r_v24 hx).mul hd).congr fun r j _ _ => mul_comm _ _

theorem r_v94 (hd : Rd2 (a := 8192) (b := 512) X0 d) (hx : Rd2 (a := 8192) (b := 3200) X1 x) :
    Rd4 (a := 64) (b := 128) (c := 8) (d := 64) (val_main_v94 (F := Ideal) X0 X1) (fun n t p c => dmix d (hu x) (128 * n + t) (64 * p + c)) := by
  unfold val_main_v94; exact (r_v92 hd hx).split4 _

theorem r_v95 (hd : Rd2 (a := 8192) (b := 512) X0 d) (hx : Rd2 (a := 8192) (b := 3200) X1 x) :
    Rd2 (a := 128) (b := 8) (val_main_v95 (F := Ideal) X0 X1) (fun t p => ∑ n ∈ Finset.range 64, ∑ c ∈ Finset.range 64, dmix d (hu x) (128 * n + t) (64 * p + c)) := by
  unfold val_main_v95; exact (r_v94 hd hx).hostSum03 z0 _ _

theorem r_v96 (hd : Rd2 (a := 8192) (b := 512) X0 d) (hx : Rd2 (a := 8192) (b := 3200) X1 x) :
    Rd4 (a := 1) (b := 128) (c := 8) (d := 1) (val_main_v96 (F := Ideal) X0 X1) (fun _ t p _ => ∑ n ∈ Finset.range 64, ∑ c ∈ Finset.range 64, dmix d (hu x) (128 * n + t) (64 * p + c)) := by
  exact fun i => by
    have i0 : (i 0).val < 1 := idx4_lt0 i
    have i1 : (i 1).val < 128 := idx4_lt1 i
    have i2 : (i 2).val < 8 := idx4_lt2 i
    have i3 : (i 3).val < 1 := idx4_lt3 i
    have e0 : (idx_main_v96 i 0).val = (i 1).val := by
      show ((((i 0).val * 128 + (i 1).val) * 8 + (i 2).val) * 1 + (i 3).val) / 8 = _; omega
    have e1 : (idx_main_v96 i 1).val = (i 2).val := by
      show ((((i 0).val * 128 + (i 1).val) * 8 + (i 2).val) * 1 + (i 3).val) % 8 = _; omega
    exact (val_main_v96_apply (F := Ideal) X0 X1 i).trans (((r_v95 hd hx) _).trans (coe_congr₂ (fun t p => ∑ n ∈ Finset.range 64, ∑ c ∈ Finset.range 64, dmix d (hu x) (128 * n + t) (64 * p + c)) e0 e1))

theorem r_v97 (hd : Rd2 (a := 8192) (b := 512) X0 d) (hx : Rd2 (a := 8192) (b := 3200) X1 x) :
    Rd2 (a := 128) (b := 8) (val_main_v97 (F := Ideal) X0 X1) (fun t p => ∑ n ∈ Finset.range 64, ∑ c ∈ Finset.range 64, dmix d (hu x) (128 * n + t) (64 * p + c)) := by
  unfold val_main_v97; exact ((r_v96 hd hx).hostSum03 z0 _ _).congr fun t p _ _ => by simp only [Finset.sum_range_one]

theorem r_v99 (hd : Rd2 (a := 8192) (b := 512) X0 d) (hx : Rd2 (a := 8192) (b := 3200) X1 x) :
    Rd2 (a := 128) (b := 8) (val_main_v99 (F := Ideal) X0 X1) (fun t p => ∑ n ∈ Finset.range 64, ∑ c ∈ Finset.range 64, dmix d (hu x) (128 * n + t) (64 * p + c)) := by
  exact fun i => by
    rw [val_main_v99_apply]
    simp only [val_main_v98_apply]
    rw [show val_main_cst_25 (F := Ideal) (Shape.Idx.first h_S_) = 0 from z0 _, zero_add, Fin.sum_univ_one]
    exact (r_v97 hd hx) _

theorem r_v100 (hd : Rd2 (a := 8192) (b := 512) X0 d) (hx : Rd2 (a := 8192) (b := 3200) X1 x) :
    Rd2 (a := 8) (b := 128) (val_main_v100 (F := Ideal) X0 X1) (fun p t => ∑ n ∈ Finset.range 64, ∑ c ∈ Finset.range 64, dmix d (hu x) (128 * n + t) (64 * p + c)) := by
  unfold val_main_v100; exact (r_v99 hd hx).transp _

theorem r_v101 (hd : Rd2 (a := 8192) (b := 512) X0 d) (hx : Rd2 (a := 8192) (b := 3200) X1 x) :
    Rd4 (a := 8) (b := 64) (c := 64) (d := 128) (val_main_v101 (F := Ideal) X0 X1) (fun p n c t => dmix d (hu x) (128 * n + t) (64 * p + c)) := by
  exact fun i => (val_main_v101_apply (F := Ideal) X0 X1 i).trans ((r_v94 hd hx) _)

theorem r_v102 (hd : Rd2 (a := 8192) (b := 512) X0 d) (hx : Rd2 (a := 8192) (b := 3200) X1 x) (hg : Rd2 (a := 1) (b := 512) X2 (fun _ j => g j)) (hb : Rd2 (a := 1) (b := 512) X3 (fun _ j => b j)) :
    Rd3 (a := 8) (b := 128) (c := 128) (val_main_v102 (F := Ideal) X0 X1 X2 X3) (fun p t s => ∑ n ∈ Finset.range 64, ∑ c ∈ Finset.range 64, dmix d (hu x) (128 * n + t) (64 * p + c) * vn g b (hv x) (128 * n + s) (64 * p + c)) := by
  unfold val_main_v102; exact dot_outer (r_v101 hd hx) (r_v75 hx hg hb)

theorem r_v103 (hd : Rd2 (a := 8192) (b := 512) X0 d) (hx : Rd2 (a := 8192) (b := 3200) X1 x) (hw : Rd3 (a := 8) (b := 128) (c := 128) X4 w) :
    Rd4 (a := 8) (b := 64) (c := 64) (d := 128) (val_main_v103 (F := Ideal) X0 X1 X4) (fun p n c s => ∑ t ∈ Finset.range 128, dmix d (hu x) (128 * n + t) (64 * p + c) * wc w p t s) := by
  exact fun i => by
    rw [val_main_v103_apply, ← coe_sum]
    refine Finset.sum_congr rfl fun k _ => ?_
    rw [(r_v101 hd hx), (r_v82_0 hw), EReal.coe_mul]

theorem r_v104 (hd : Rd2 (a := 8192) (b := 512) X0 d) (hx : Rd2 (a := 8192) (b := 3200) X1 x) (hw : Rd3 (a := 8) (b := 128) (c := 128) X4 w) :
    Rd4 (a := 64) (b := 128) (c := 8) (d := 64) (val_main_v104 (F := Ideal) X0 X1 X4) (fun n s p c => ∑ t ∈ Finset.range 128, dmix d (hu x) (128 * n + t) (64 * p + c) * wc w p t s) := by
  exact fun i => (val_main_v104_apply (F := Ideal) X0 X1 X4 i).trans ((r_v103 hd hx hw) _)

theorem r_v105 (hd : Rd2 (a := 8192) (b := 512) X0 d) (hx : Rd2 (a := 8192) (b := 3200) X1 x) (hg : Rd2 (a := 1) (b := 512) X2 (fun _ j => g j)) (hb : Rd2 (a := 1) (b := 512) X3 (fun _ j => b j)) :
    Rd3 (a := 8) (b := 128) (c := 128) (val_main_v105 (F := Ideal) X0 X1 X2 X3) (fun p t s => if s ≤ t then ∑ n ∈ Finset.range 64, ∑ c ∈ Finset.range 64, dmix d (hu x) (128 * n + t) (64 * p + c) * vn g b (hv x) (128 * n + s) (64 * p + c) else 0) := by
  exact fun i => by
    show (if val_main_v82_1 (F := Ideal) i = 1 then val_main_v102 (F := Ideal) X0 X1 X2 X3 i else val_main_call1_v0 (F := Ideal) i) = _
    by_cases h : (i 2).val ≤ (i 1).val
    · rw [if_pos ((msk i).mpr h), (r_v102 hd hx hg hb)]; exact congrArg _ (if_pos h).symm
    · rw [if_neg (fun e => h ((msk i).mp e))]
      exact ((val_main_call1_v0_apply (F := Ideal) i).trans lit_zero).trans (congrArg _ (if_neg h).symm)

theorem r_v106 (hd : Rd2 (a := 8192) (b := 512) X0 d) (hx : Rd2 (a := 8192) (b := 3200) X1 x) (hw : Rd3 (a := 8) (b := 128) (c := 128) X4 w) :
    Rd2 (a := 8192) (b := 512) (val_main_v106 (F := Ideal) X0 X1 X4) (dvnG w d (hu x)) := by
  unfold val_main_v106; exact ((r_v104 hd hx hw).join4 _).congr fun r j _ _ => by
    unfold dvnG tmix ck
    refine Finset.sum_congr rfl fun t _ => ?_
    rw [Nat.div_add_mod, mul_comm]

theorem r_v107 (hd : Rd2 (a := 8192) (b := 512) X0 d) (hx : Rd2 (a := 8192) (b := 3200) X1 x) (hw : Rd3 (a := 8) (b := 128) (c := 128) X4 w) :
    Rd1 (a := 512) (val_main_v107 (F := Ideal) X0 X1 X4) (fun j => ∑ r ∈ Finset.range 8192, dvnG w d (hu x) r j) := by
  unfold val_main_v107; exact (r_v106 hd hx hw).hostSum_rows z0 _ (by decide) _

theorem r_v108 (hd : Rd2 (a := 8192) (b := 512) X0 d) (hx : Rd2 (a := 8192) (b := 3200) X1 x) (hw : Rd3 (a := 8) (b := 128) (c := 128) X4 w) :
    Rd2 (a := 1) (b := 512) (val_main_v108 (F := Ideal) X0 X1 X4) (fun _ j => ∑ r ∈ Finset.range 8192, dvnG w d (hu x) r j) := by
  unfold val_main_v108; exact (r_v107 hd hx hw).shapeCast_row _

theorem r_v110 (hd : Rd2 (a := 8192) (b := 512) X0 d) (hx : Rd2 (a := 8192) (b := 3200) X1 x) (hw : Rd3 (a := 8) (b := 128) (c := 128) X4 w) :
    Rd1 (a := 512) (val_main_v110 (F := Ideal) X0 X1 X4) (fun j => ∑ r ∈ Finset.range 8192, xhat (acts (hv x)) r j * dvnG w d (hu x) r j) := by
  unfold val_main_v110; exact ((r_v70 hx).mul (r_v106 hd hx hw)).hostSum_rows z0 _ (by decide) _

theorem r_v111 (hd : Rd2 (a := 8192) (b := 512) X0 d) (hx : Rd2 (a := 8192) (b := 3200) X1 x) (hw : Rd3 (a := 8) (b := 128) (c := 128) X4 w) :
    Rd2 (a := 1) (b := 512) (val_main_v111 (F := Ideal) X0 X1 X4) (fun _ j => ∑ r ∈ Finset.range 8192, xhat (acts (hv x)) r j * dvnG w d (hu x) r j) := by
  unfold val_main_v111; exact (r_v110 hd hx hw).shapeCast_row _

theorem r_v113 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 512) (val_main_v113 (F := Ideal) X0 X1 X2 X4) (dxG w g d (hu x)) := by
  unfold val_main_v113; exact (r_v106 hd hx hw).mul (hg.broadcastInDim_row _)

theorem r_v115 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd1 (a := 8192) (val_main_v115 (F := Ideal) X0 X1 X2 X4) (fun r => (∑ k ∈ Finset.range 512, cen (acts (hv x)) r k * dxG w g d (hu x) r k)) := by
  unfold val_main_v115; exact ((r_v62 hx).mul (r_v113 hd hx hg hw)).hostSum_cols z0 _ (by decide) _

theorem r_v118 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 512) (val_main_v118 (F := Ideal) X0 X1 X2 X4) (fun r c => dxG w g d (hu x) r c * rsd (acts (hv x)) r) := by
  unfold val_main_v118; exact (r_v113 hd hx hg hw).mul ((r_v65 hx).broadcastInDim_col _)

theorem r_v124 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 1) (val_main_v124 (F := Ideal) X0 X1 X2 X4) (fun r _ => (∑ k ∈ Finset.range 512, cen (acts (hv x)) r k * dxG w g d (hu x) r k) * (-(1 / 2) * (rsd (acts (hv x)) r / (mean (fun r c => cen (acts (hv x)) r c * cen (acts (hv x)) r c) r + eps))) / 512) := by
  unfold val_main_v124; exact (((r_v115 hd hx hg hw).shapeCast_col _).mul (r_v68 hx)).hostDivf (Rd2.splat lit_512 _) (fun _ _ _ _ => by norm_num)

theorem r_v125 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd1 (a := 8192) (val_main_v125 (F := Ideal) X0 X1 X2 X4) (fun r => ∑ c ∈ Finset.range 1, (∑ k ∈ Finset.range 512, cen (acts (hv x)) r k * dxG w g d (hu x) r k) * (-(1 / 2) * (rsd (acts (hv x)) r / (mean (fun r c => cen (acts (hv x)) r c * cen (acts (hv x)) r c) r + eps))) / 512) := by
  unfold val_main_v125; exact (r_v124 hd hx hg hw).hostSum_cols z0 _ (by decide) _

theorem r_v127 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 512) (val_main_v127 (F := Ideal) X0 X1 X2 X4) (fun r c => (∑ k ∈ Finset.range 512, cen (acts (hv x)) r k * dxG w g d (hu x) r k) * (-(1 / 2) * (rsd (acts (hv x)) r / (mean (fun r c => cen (acts (hv x)) r c * cen (acts (hv x)) r c) r + eps))) / 512 * (2 * cen (acts (hv x)) r c)) := by
  unfold val_main_v127; exact (((r_v125 hd hx hg hw).broadcastInDim_col _).mul ((Rd2.splat lit_two _).mul (r_v53 hx))).congr fun r c _ _ => by simp only [Finset.sum_range_one]

theorem r_v134 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 1) (val_main_v134 (F := Ideal) X0 X1 X2 X4) (fun r _ => (∑ c ∈ Finset.range 512, -(dxG w g d (hu x) r c * rsd (acts (hv x)) r) + ∑ c ∈ Finset.range 512, -((∑ k ∈ Finset.range 512, cen (acts (hv x)) r k * dxG w g d (hu x) r k) * (-(1 / 2) * (rsd (acts (hv x)) r / (mean (fun r c => cen (acts (hv x)) r c * cen (acts (hv x)) r c) r + eps))) / 512 * (2 * cen (acts (hv x)) r c))) / 512) := by
  unfold val_main_v134; exact ((((r_v118 hd hx hg hw).hostNegf.hostSum_cols z0 _ (by decide) _).shapeCast_col _).add (((r_v127 hd hx hg hw).hostNegf.hostSum_cols z0 _ (by decide) _).shapeCast_col _)).hostDivf (Rd2.splat lit_512 _) (fun _ _ _ _ => by norm_num)

theorem r_v137 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 512) (val_main_v137 (F := Ideal) X0 X1 X2 X4) (dln (acts (hv x)) (dxG w g d (hu x))) := by
  unfold val_main_v137; exact (((r_v118 hd hx hg hw).add (r_v127 hd hx hg hw)).add (((r_v134 hd hx hg hw).hostSum_cols z0 _ (by decide) _).broadcastInDim_col _)).congr fun r c _ _ => by
    rw [Finset.sum_range_one]; exact dln_alt (acts (hv x)) (dxG w g d (hu x)) r c

theorem r_v151 (hd : Rd2 (a := 8192) (b := 512) X0 d) (hx : Rd2 (a := 8192) (b := 3200) X1 x) (hg : Rd2 (a := 1) (b := 512) X2 (fun _ j => g j)) (hw : Rd3 (a := 8) (b := 128) (c := 128) X4 w) :
    Rd2 (a := 8192) (b := 512) (val_main_v151 (F := Ideal) X0 X1 X2 X4) (fun r c => dln (acts (hv x)) (dxG w g d (hu x)) r c * dact (hv x r c)) := by
  exact gelu_grad _ (r_v1 hx) (r_v37 hx) (r_v137 hd hx hg hw)

theorem r_v165 (hd : Rd2 (a := 8192) (b := 512) X0 d) (hx : Rd2 (a := 8192) (b := 3200) X1 x) (hg : Rd2 (a := 1) (b := 512) X2 (fun _ j => g j)) (hb : Rd2 (a := 1) (b := 512) X3 (fun _ j => b j)) (hw : Rd3 (a := 8) (b := 128) (c := 128) X4 w) (hs : Rd2 (a := 8) (b := 128) X5 sb) :
    Rd2 (a := 8192) (b := 512) (val_main_v165 (F := Ideal) X0 X1 X2 X3 X4 X5) (fun r j => d r j * (sb (j / 64) (r % 128) + mix w (ck (r / 128) (vn g b (hv x))) (r % 128) j) * dact (hu x r j)) := by
  exact gelu_grad _ (r_v0 hx) (r_v14 hx) (r_v93 hd hx hg hb hw hs)

end Values

end Cert.Reference2Ideal.Val
-- ==== Proof.Finite2.lean ====
/- The gating's precondition says that every argument entry is a real number. -/
module

public import proofs.«01_k».proof.Pre_finite2
public import proofs.«01_k».proof.Proof.Finite
public import proofs.«01_k».proof.Proof.GateArrays

@[expose] public section

noncomputable section

namespace Cert.Finite2

open Cert.RealArrays Cert.Pre_finite2 Cert.Finite
open Idealize.ShloMosaic Idealize.ShloMosaic.ValueIdx

/-- An array of rank three of extended reals that are real numbers reads some real array. -/
theorem rd3_of_real {a b c : ℕ} {v : (M3 a b c).Idx → EReal} (h : ∀ i, ∃ y : ℝ, v i = (y : EReal)) : ∃ f, Rd3 v f := by
  choose y hy using h
  refine ⟨fun p r q => if h : p < a ∧ r < b ∧ q < c then y (ix3 ⟨p, h.1⟩ ⟨r, h.2.1⟩ ⟨q, h.2.2⟩) else 0, fun i => ?_⟩
  have hi : (i 0).val < a ∧ (i 1).val < b ∧ (i 2).val < c := ⟨idx3_lt0 i, idx3_lt1 i, idx3_lt2 i⟩
  show v i = ((if h : (i 0).val < a ∧ (i 1).val < b ∧ (i 2).val < c then y (ix3 ⟨(i 0).val, h.1⟩ ⟨(i 1).val, h.2.1⟩ ⟨(i 2).val, h.2.2⟩) else 0 : ℝ) : EReal)
  rw [dif_pos hi, hy i]
  refine congrArg (fun j => ((y j : ℝ) : EReal)) (funext fun x => ?_)
  match x with
  | ⟨0, _⟩ => rfl
  | ⟨1, _⟩ => rfl
  | ⟨2, _⟩ => rfl

/-- The test of an argument of rank three. -/
theorem all_real₃ {a b c : ℕ} (v : FVec Ideal (M3 a b c) .f32) (hb : (⟨0, ![]⟩ : Shape).BroadcastsInDim (M3 a b c) (![] : Fin 0 → Fin 3))
    (hr : (M3 a b c).ReducesTo [0, 1, 2] ⟨0, ![]⟩) (h0 : 0 < (⟨0, ![]⟩ : Shape).numel) (j : (⟨0, ![]⟩ : Shape).Idx)
    (e : Host.reduce IntOp.andi (cmpf .olt (Host.absf v) (broadcastInDim (M3 a b c) ![] hb (constant (F := Ideal) ⟨0, ![]⟩ .f32 0x7F800000#32))) (constantI ⟨0, ![]⟩ 1 1#1) hr h0 j = 1#1) :
    ∃ f, Rd3 v f := by
  haveI : Subsingleton (⟨0, ![]⟩ : Shape).Idx := ⟨fun p q => funext fun x => x.elim0⟩
  refine rd3_of_real fun i => real_of_lt _ ?_
  have hi := Host.reduce_andi_all _ _ hr h0 j e i
  have hb' : broadcastInDim (M3 a b c) ![] hb (constant (F := Ideal) ⟨0, ![]⟩ .f32 0x7F800000#32) i = (⊤ : EReal) := by
    rw [broadcastInDim_apply ![] hb _ i ix0 (fun x => x.elim0)]; exact inf_top
  have hi' : Ideal.cmp .olt (max (v i) (-(v i))) (broadcastInDim (M3 a b c) ![] hb (constant (F := Ideal) ⟨0, ![]⟩ .f32 0x7F800000#32) i) = 1#1 := hi
  rwa [hb'] at hi'

/-- An array of one row reads a real row. -/
theorem row_of {b : ℕ} {v : (M2 1 b).Idx → EReal} (h : ∃ f, Rd2 v f) : ∃ g : ℕ → ℝ, Rd2 v (fun _ j => g j) := by
  obtain ⟨f, hf⟩ := h
  refine ⟨f 0, hf.congr fun r j hr _ => ?_⟩
  rw [show r = 0 by omega]

variable [Facts]

/-- Under the precondition all six arguments are real arrays. -/
theorem reals {A0 : FVec Ideal S8192x512 .f32} {A1 : FVec Ideal S8192x3200 .f32} {A2 A3 : FVec Ideal S1x512 .f32} {A4 : FVec Ideal S8x128x128 .f32} {A5 : FVec Ideal S8x128 .f32}
    (h : fn (F := Ideal) A0 A1 A2 A3 A4 A5 = fun _ => 1#1) :
    (∃ f, Rd2 (a := 8192) (b := 512) A0 f) ∧ (∃ f, Rd2 (a := 8192) (b := 3200) A1 f) ∧ (∃ g : ℕ → ℝ, Rd2 (a := 1) (b := 512) A2 (fun _ j => g j))
      ∧ (∃ g : ℕ → ℝ, Rd2 (a := 1) (b := 512) A3 (fun _ j => g j)) ∧ (∃ f, Rd3 (a := 8) (b := 128) (c := 128) A4 f) ∧ (∃ f, Rd2 (a := 8) (b := 128) A5 f) := by
  have h := congrFun h ix0
  unfold fn fn_part1 at h
  dsimp only at h
  obtain ⟨h, h5⟩ := bit_and h
  obtain ⟨h, h4⟩ := bit_and h
  obtain ⟨h, h3⟩ := bit_and h
  obtain ⟨h, h2⟩ := bit_and h
  obtain ⟨h0, h1⟩ := bit_and h
  exact ⟨all_real A0 _ _ _ _ h0, all_real A1 _ _ _ _ h1, row_of (all_real A2 _ _ _ _ h2), row_of (all_real A3 _ _ _ _ h3), all_real₃ A4 _ _ _ _ h4, all_real A5 _ _ _ _ h5⟩

end Cert.Finite2
-- ==== Proof.GateAgree.lean ====
/- The two gating programs agree: under the precondition each result of the kernel and its counterpart of the reference
   read one and the same real array. -/
module

public import proofs.«01_k».proof.Proof.GateChain
public import proofs.«01_k».proof.Proof.GateReference
public import proofs.«01_k».proof.Proof.Finite2
public import proofs.«01_k».proof.Proof.Gen.Reference2Ideal.Run
public import proofs.«01_k».proof.Proof.Gen.Pre_finite2
public import proofs.«01_k».proof.Defs

@[expose] public section

noncomputable section

namespace Cert.GateAgree

open Cert.RealArrays
open Idealize.ShloMosaic Idealize.ShloMosaic.TcCoe Idealize.ShloMosaic.ValueIdx
open Idealize.SL.Sem

/-- Two arrays that read one real array are equal. -/
theorem rd_unique {a b : ℕ} {v w : (M2 a b).Idx → EReal} {f : ℕ → ℕ → ℝ} (hv : Rd2 v f) (hw : Rd2 w f) : v = w :=
  funext fun i => (hv i).trans (hw i).symm
theorem rd_unique₃ {a b c : ℕ} {v w : (M3 a b c).Idx → EReal} {f : ℕ → ℕ → ℕ → ℝ} (hv : Rd3 v f) (hw : Rd3 w f) : v = w :=
  funext fun i => (hv i).trans (hw i).symm

theorem algebraic : Cert.algebraic_Kernel2Ideal_Reference2Ideal_pre_finite2
    (hKernel2Ideal := Cert.Kernel2Ideal.Gen.facts) (hReference2Ideal := Cert.Reference2Ideal.Gen.facts) (hPre_finite2 := Cert.Pre_finite2.Gen.facts) := by
  intro m g m' g' hpre hagree
  refine ⟨fun c => Cert.Kernel2Ideal.Val.fin m c Cert.Kernel2Ideal.main_v8, fun c => Cert.Kernel2Ideal.Val.fin m c Cert.Kernel2Ideal.main_v10,
    fun c => (Cert.Kernel2Ideal.Gen.dats m 0 c).arrAt 10 Cert.Kernel2Ideal.cfg0.N, fun c => (Cert.Kernel2Ideal.Gen.dats m 0 c).arrAt 11 Cert.Kernel2Ideal.cfg0.N,
    fun c => (Cert.Kernel2Ideal.Gen.dats m 0 c).arrAt 8 Cert.Kernel2Ideal.cfg0.N, fun c => Cert.Kernel2Ideal.Val.fin m c Cert.Kernel2Ideal.main_v6,
    Cert.Kernel2Ideal.Val.run_values m g, ?_⟩
  refine (θ_run Cert.Reference2Ideal.defs _ _).mono (fun r h c => ?_) (Cert.Reference2Ideal.Value.run (F := Ideal) m' g')
  obtain ⟨a0, a1, a2, a3, a4, a5⟩ := hagree c
  obtain ⟨⟨D, hD⟩, ⟨X, hX⟩, ⟨G, hG⟩, ⟨B, hB⟩, ⟨w, hw⟩, ⟨sb, hs⟩⟩ := Cert.Finite2.reals (hpre c)
  have hD' : Rd2 (a := 8192) (b := 512) (m' ((c.tc : Thread Cert.Reference2Ideal.nD Cert.Reference2Ideal.τ).loc Cert.Reference2Ideal.main_arg0)) D := Cert.Kernel2Ideal.Val.rd_eq a0 hD
  have hX' : Rd2 (a := 8192) (b := 3200) (m' ((c.tc : Thread Cert.Reference2Ideal.nD Cert.Reference2Ideal.τ).loc Cert.Reference2Ideal.main_arg1)) X := Cert.Kernel2Ideal.Val.rd_eq a1 hX
  have hG' : Rd2 (a := 1) (b := 512) (m' ((c.tc : Thread Cert.Reference2Ideal.nD Cert.Reference2Ideal.τ).loc Cert.Reference2Ideal.main_arg2)) (fun _ j => G j) := Cert.Kernel2Ideal.Val.rd_eq a2 hG
  have hB' : Rd2 (a := 1) (b := 512) (m' ((c.tc : Thread Cert.Reference2Ideal.nD Cert.Reference2Ideal.τ).loc Cert.Reference2Ideal.main_arg3)) (fun _ j => B j) := Cert.Kernel2Ideal.Val.rd_eq a3 hB
  have hw' : Rd3 (a := 8) (b := 128) (c := 128) (m' ((c.tc : Thread Cert.Reference2Ideal.nD Cert.Reference2Ideal.τ).loc Cert.Reference2Ideal.main_arg4)) w := Cert.Kernel2Ideal.Val.rd_eq₃ a4 hw
  have hs' : Rd2 (a := 8) (b := 128) (m' ((c.tc : Thread Cert.Reference2Ideal.nD Cert.Reference2Ideal.τ).loc Cert.Reference2Ideal.main_arg5)) sb := Cert.Kernel2Ideal.Val.rd_eq a5 hs
  obtain ⟨h0, h1, h2, h3, h4, h5, hargs⟩ := h c
  refine ⟨h0.trans ?_, h1.trans ?_, h2.trans ?_, h3.trans ?_, h4.trans ?_, h5.trans ?_, hargs⟩
  · refine (Cert.Reference2Ideal.Read.val_main_v165_eq (F := Ideal) (StableHlo.launchContents m' c)).trans ?_
    exact rd_unique (a := 8192) (b := 512) (Cert.Reference2Ideal.Val.r_v165 hD' hX' hG' hB' hw' hs') (Cert.Kernel2Ideal.Val.k_v8 m c hD hX hG hB hw hs)
  · refine (Cert.Reference2Ideal.Read.val_main_v151_eq (F := Ideal) (StableHlo.launchContents m' c)).trans ?_
    exact rd_unique (a := 8192) (b := 512) (Cert.Reference2Ideal.Val.r_v151 hD' hX' hG' hw') (Cert.Kernel2Ideal.Val.k_v10 m c hD hX hG hB hw hs)
  · refine (Cert.Reference2Ideal.Read.val_main_v111_eq (F := Ideal) (StableHlo.launchContents m' c)).trans ?_
    exact rd_unique (a := 1) (b := 512) (Cert.Reference2Ideal.Val.r_v111 hD' hX' hw') (Cert.Kernel2Ideal.Val.k_v3_3 m c hD hX hw)
  · refine (Cert.Reference2Ideal.Read.val_main_v108_eq (F := Ideal) (StableHlo.launchContents m' c)).trans ?_
    exact rd_unique (a := 1) (b := 512) (Cert.Reference2Ideal.Val.r_v108 hD' hX' hw') (Cert.Kernel2Ideal.Val.k_v3_4 m c hD hX hw)
  · refine (Cert.Reference2Ideal.Read.val_main_v105_eq (F := Ideal) (StableHlo.launchContents m' c)).trans ?_
    exact rd_unique₃ (a := 8) (b := 128) (c := 128) (Cert.Reference2Ideal.Val.r_v105 hD' hX' hG' hB') (Cert.Kernel2Ideal.Val.k_v3_1 m c hD hX hG hB hw)
  · refine (Cert.Reference2Ideal.Read.val_main_v100_eq (F := Ideal) (StableHlo.launchContents m' c)).trans ?_
    exact rd_unique (a := 8) (b := 128) (Cert.Reference2Ideal.Val.r_v100 hD' hX') (Cert.Kernel2Ideal.Val.k_v6 m c hD hX)

end Cert.GateAgree
-- ==== Proof.ProjRun.lean ====
/- The whole run of the kernel's program: every result buffer ends at what the last boundary holds there, and the
   arguments end unchanged. -/
module

public import proofs.«01_k».proof.Proof.Gen.Kernel3Ideal.Frame

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run ends with each result at the last boundary's contents. -/
theorem run_values : θ_run defs (onTc (τ := τ) (main (F := F))) ⟨m, fun _ => 0, ρ⟩ (fun r => ∀ c : Dev nD,
      r.2.mem ((c.tc : Thread nD τ).loc main_v8) = W9 m ρ c (Proc.devRef .tc main_v8)
      ∧ r.2.mem ((c.tc : Thread nD τ).loc main_v7_0) = W9 m ρ c (Proc.devRef .tc main_v7_0)
      ∧ r.2.mem ((c.tc : Thread nD τ).loc main_v7_1) = W9 m ρ c (Proc.devRef .tc main_v7_1)
      ∧ r.2.mem ((c.tc : Thread nD τ).loc main_v6) = W9 m ρ c (Proc.devRef .tc main_v6)
      ∧ r.2.mem ((c.tc : Thread nD τ).loc main_v9) = W9 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨h c _ (mem_uc main_v8 (by decide)),
       h c _ (mem_uc main_v7_0 (by decide)),
       h c _ (mem_uc main_v7_1 (by decide)),
       h c _ (mem_uc main_v6 (by decide)),
       h c _ (mem_uc main_v9 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.Kernel3Ideal.Val
-- ==== Proof.ProjArrays.lean ====
/- Blocks stored column range by column range, arrays widened by columns of zeros, and their first columns. -/
module

public import proofs.«01_k».proof.Proof.RowStores
public import proofs.«01_k».proof.Proof.Formulas
public import Idealize.ShloMosaic.Lib.KernelVsHost

@[expose] public section

noncomputable section

namespace Cert.RealArrays

open Idealize.ShloMosaic Idealize.ShloMosaic.ValueIdx
open Cert.Formulas (lin sum_split)

/-- A load of whole columns, from column `q` on. -/
theorem Rd2.ldf_cols {a b : ℕ} {v : Vec Ideal (M2 a b) .f32} {f : ℕ → ℕ → ℝ} (hv : Rd2 v f) {q n m : ℕ}
    (inb : ∀ x, (![0, q] : Fin 2 → ℕ) x + (M2 n m).size x ≤ (M2 a b).size x) :
    Rd2 (a := n) (b := m) (View.ld (Val := Elt Ideal) (e' := .f32) v (Rect.unit (s := M2 a b) ![0, q] (M2 n m).size inb)) (fun r c => f r (q + c)) :=
  (hv.ldf inb).congr fun r c _ _ => by rw [Nat.zero_add]
/-- A load of the whole block. -/
theorem Rd2.ldb_all {a b : ℕ} {v : Vec Ideal (M2 a b) .bf16} {f : ℕ → ℕ → ℝ} (hv : Rd2 v f) {n m : ℕ}
    (inb : ∀ x, (![0, 0] : Fin 2 → ℕ) x + (M2 n m).size x ≤ (M2 a b).size x) :
    Rd2 (a := n) (b := m) (View.ld (Val := Elt Ideal) (e' := .bf16) v (Rect.unit (s := M2 a b) ![0, 0] (M2 n m).size inb)) f :=
  (hv.ldb inb).congr fun r c _ _ => by rw [Nat.zero_add, Nat.zero_add]
/-- A block whose last store is of columns `q … q + m` reads the store there and the earlier stores elsewhere. -/
theorem Rd2.canon_cols {a b m q : ℕ} {f g g' : ℕ → ℕ → ℝ} {L : List (View.Piece (Elt Ideal) (M2 a b) .f32)}
    (hL : Rd2 (View.canon L) g) (inb : ∀ x, (![0, q] : Fin 2 → ℕ) x + (M2 a m).size x ≤ (M2 a b).size x)
    {w : (M2 a m).Idx → EReal} (hw : Rd2 w f) (h1 : ∀ r c, r < a → c < m → f r c = g' r (q + c))
    (h2 : ∀ r c, ¬(q ≤ c ∧ c < q + m) → g r c = g' r c) :
    Rd2 (a := a) (b := b) (View.canon ((⟨Rect.unit (s := M2 a b) ![0, q] (M2 a m).size inb, w⟩ : View.Piece (Elt Ideal) (M2 a b) .f32) :: L)) g' := by
  intro i
  by_cases hi : i ∈ (Rect.unit (s := M2 a b) ![0, q] (M2 a m).size inb).set
  · obtain ⟨x, rfl⟩ : ∃ x, (Rect.unit (s := M2 a b) ![0, q] (M2 a m).size inb).emb x = i := (Rect.unit (s := M2 a b) ![0, q] (M2 a m).size inb).exists_idx_of_mem hi
    refine (View.canon_cons_emb (Val := Elt Ideal) (e := .f32) _ w L x).trans ?_
    exact Rd2.piece inb hw (fun r c hr hc => by rw [h1 r c hr hc, Nat.zero_add]) x
  · refine (View.canon_cons_of_not_mem (Val := Elt Ideal) (e := .f32) _ L hi).trans ?_
    refine (hL i).trans ?_
    refine congrArg _ (h2 _ _ fun hp => hi ?_)
    have hx : (Rect.unit (s := M2 a b) ![0, q] (M2 a m).size inb).emb (ix2 (i 0) ⟨(i 1).val - q, by omega⟩) = i :=
      funext fun x => Fin.ext (match x with
        | ⟨0, _⟩ => by show 0 + 1 * (i 0).val = (i 0).val; omega
        | ⟨1, _⟩ => by show q + 1 * ((i 1).val - q) = (i 1).val; omega)
    rw [← hx]; exact (Rect.unit (s := M2 a b) ![0, q] (M2 a m).size inb).idx_mem _

/-- `f` up to column `n`, and zero from there on. -/
def widen (n : ℕ) (f : ℕ → ℕ → ℝ) (r c : ℕ) : ℝ := if c < n then f r c else 0

/-- An array widened by columns of zeros. -/
theorem Rd2.padr {a b p d : ℕ} {v : (M2 a b).Idx → EReal} {f : ℕ → ℕ → ℝ} (hv : Rd2 v f) {z : (⟨0, ![]⟩ : Shape).Idx → EReal} (hz : ∀ i, z i = 0)
    (h : (M2 a b).Pads ![0, 0] ![0, p] ![0, 0] (M2 a d)) (hu : 0 < (⟨0, ![]⟩ : Shape).numel) :
    Rd2 (pad (M2 a d) ![0, 0] ![0, p] ![0, 0] v z h hu) (widen b f) := fun i => by
  by_cases hc : (i 1).val < b
  · rw [pad_apply_of_inside ![0, 0] ![0, p] ![0, 0] v z h hu i (ix2 ⟨(i 0).val, idx2_lt0 i⟩ ⟨(i 1).val, hc⟩) (fun x => match x with
      | ⟨0, _⟩ => by show (i 0).val = 0 + (i 0).val * (0 + 1); omega
      | ⟨1, _⟩ => by show (i 1).val = 0 + (i 1).val * (0 + 1); omega)]
    refine (hv _).trans ?_
    show _ = ((if (i 1).val < b then f (i 0).val (i 1).val else 0 : ℝ) : EReal)
    rw [if_pos hc]; rfl
  · rw [pad_apply_of_not_inside ![0, 0] ![0, p] ![0, 0] v z h hu i 1 (fun hin => hc (by
      have h3 := hin.2.2
      have h4 : ((i 1).val - 0) / (0 + 1) < b := h3
      omega))]
    rw [hz]
    show _ = ((if (i 1).val < b then f (i 0).val (i 1).val else 0 : ℝ) : EReal)
    rw [if_neg hc, EReal.coe_zero]

/-- The first columns of an array. -/
theorem Rd2.first_cols {a b d : ℕ} {v : (M2 a d).Idx → EReal} {f : ℕ → ℕ → ℝ} (hv : Rd2 v f) (h : (M2 a d).Slices ![0, 0] (M2 a b)) :
    Rd2 (extractStridedSlice (M2 a b) ![0, 0] v h) f := fun i => by
  have hbd : b ≤ d := by have := h.2 1; simpa using this
  rw [extractStridedSlice_apply ![0, 0] v h i (ix2 ⟨(i 0).val, idx2_lt0 i⟩ ⟨(i 1).val, (idx2_lt1 i).trans_le hbd⟩) (fun x => match x with
    | ⟨0, _⟩ => by show (i 0).val = 0 + (i 0).val; omega
    | ⟨1, _⟩ => by show (i 1).val = 0 + (i 1).val; omega)]
  exact hv _

/-- A product over widened columns is the product over the columns themselves. -/
theorem lin_widen (n m : ℕ) (u w : ℕ → ℕ → ℝ) (r c : ℕ) : lin (n + m) (widen n u) (widen n w) r c = lin n u w r c := by
  unfold lin
  rw [← sum_split]
  have h2 : ∑ k ∈ Finset.range m, widen n u r (n + k) * widen n w c (n + k) = 0 :=
    Finset.sum_eq_zero fun k _ => by unfold widen; rw [if_neg (by omega), zero_mul]
  rw [h2, add_zero]
  refine Finset.sum_congr rfl fun k hk => ?_
  have hk' : k < n := Finset.mem_range.1 hk
  unfold widen; rw [if_pos hk', if_pos hk']

end Cert.RealArrays
-- ==== Proof.ProjPayloads.lean ====
/- The arithmetic of the three bodies around the input projection, payload by payload, on real arrays. -/
module

public import proofs.«01_k».proof.Proof.Gen.Kernel3Ideal.Frame
public import proofs.«01_k».proof.Proof.ProjArrays
public import proofs.«01_k».proof.Proof.Region0

@[expose] public section

noncomputable section

namespace Cert.Kernel3Ideal.Val

open Cert.Kernel3Ideal Cert.Kernel3Ideal.Gen Cert.RealArrays Cert.Formulas
open Cert.KernelIdeal.Val (ms_pos)
open Idealize.ShloMosaic Idealize.ShloMosaic.TcCoe Idealize.ShloMosaic.Tactic Idealize.ShloMosaic.ValueIdx
open Idealize.SL.Sem
open Idealize.ShloMosaic.Pipeline (Dat)

section Payloads
variable {x g h o a u w dr dp : ℕ → ℕ → ℝ}

/-! ## The projection -/

theorem q0_p3 {v0 : Vec Ideal S512x1024 .f32} {v11 : Vec Ideal S1x1024 .f32} (h0 : Rd2 v0 x) (h1 : Rd2 v11 g) : Rd2 (k0_pay3 v0 v11) (hid x g) := by
  unfold k0_pay3
  exact ((h0.mul (((((((h0.mul h0).sum_cols _ _ _).shapeCast_col _).div (Rd2.bcast lit_1024) (fun _ _ _ _ => by norm_num)).add (Rd2.bcast lit_eps)).rsq (fun r _ _ _ => ms_pos x r)).broadcastTo_col _)).mul (h1.broadcastTo_row _)).trunc _
theorem q0_p4 {v0 : Vec Ideal S512x1024 .f32} {v11 : Vec Ideal S1x1024 .f32} {v16 : Vec Ideal S1024x768 .bf16} (h0 : Rd2 v0 x) (h1 : Rd2 v11 g) (hw : Rd2 v16 w) :
    Rd2 (k0_pay4 v0 v11 v16) (lin' 1024 (hid x g) w) := by
  unfold k0_pay4; exact (q0_p3 h0 h1).matmul_nn (hw.shapeCast_self _) _ _
theorem q0_p5 {v0 : Vec Ideal S512x1024 .f32} {v11 : Vec Ideal S1x1024 .f32} {v16 : Vec Ideal S1024x768 .bf16} (h0 : Rd2 v0 x) (h1 : Rd2 v11 g) (hw : Rd2 v16 w) :
    Rd2 (k0_pay5 v0 v11 v16) (lin' 1024 (hid x g) w) := by
  unfold k0_pay5; exact (q0_p3 h0 h1).matmul_nn (hw.shapeCast_self _) _ _
theorem q0_p6 {v0 : Vec Ideal S512x1024 .f32} {v11 : Vec Ideal S1x1024 .f32} {v16 : Vec Ideal S1024x768 .bf16} (h0 : Rd2 v0 x) (h1 : Rd2 v11 g) (hw : Rd2 v16 w) :
    Rd2 (k0_pay6 v0 v11 v16) (lin' 1024 (hid x g) w) := by
  unfold k0_pay6; exact (q0_p3 h0 h1).matmul_nn (hw.shapeCast_self _) _ _
theorem q0_p1 {v14 : FVec Ideal S512x1024 .bf16} {v28 : Vec Ideal S1024x768 .bf16} (h0 : Rd2 v14 h) (hw : Rd2 v28 w) : Rd2 (k0_pay1 v14 v28) (lin' 1024 h w) := by
  unfold k0_pay1; exact h0.matmul_nn (hw.shapeCast_self _) _ _
theorem q0_p2 {v14 : FVec Ideal S512x1024 .bf16} {v32 : Vec Ideal S1024x128 .bf16} (h0 : Rd2 v14 h) (hw : Rd2 v32 w) : Rd2 (k0_pay2 v14 v32) (lin' 1024 h w) := by
  unfold k0_pay2; exact h0.matmul_nn (hw.shapeCast_self _) _ _

/-! ## The weight's gradient -/

theorem q1_p3 : Rd2 (a := 1024) (b := 3200) (k1_pay3 (F := Ideal)) (fun _ _ => 0) := by
  unfold k1_pay3; exact Rd2.bcast lit_zero
theorem q1_p4 {v3 : Vec Ideal S512x1024 .bf16} (hh : Rd2 v3 h) : Rd2 (k1_pay4 v3) h := by
  unfold k1_pay4; exact hh.shapeCast_self _
theorem q1_p5 {v3 : Vec Ideal S512x1024 .bf16} {v5 : Vec Ideal S1024x768 .f32} {v7 : Vec Ideal S512x768 .bf16} (hh : Rd2 v3 h) (ho : Rd2 v5 o) (hu : Rd2 v7 u) :
    Rd2 (k1_pay5 v3 v5 v7) (fun r c => o r c + linT 512 h u r c) := by
  unfold k1_pay5; exact (ho.shapeCast_self _).add ((q1_p4 hh).matmul_tn (hu.shapeCast_self _) _ _)
theorem q1_p6 {v3 : Vec Ideal S512x1024 .bf16} {v5 : Vec Ideal S1024x768 .f32} {v7 : Vec Ideal S512x768 .bf16} (hh : Rd2 v3 h) (ho : Rd2 v5 o) (hu : Rd2 v7 u) :
    Rd2 (k1_pay6 v3 v5 v7) (fun r c => o r c + linT 512 h u r c) := by
  unfold k1_pay6; exact (ho.shapeCast_self _).add ((q1_p4 hh).matmul_tn (hu.shapeCast_self _) _ _)
theorem q1_p7 {v3 : Vec Ideal S512x1024 .bf16} {v5 : Vec Ideal S1024x768 .f32} {v7 : Vec Ideal S512x768 .bf16} (hh : Rd2 v3 h) (ho : Rd2 v5 o) (hu : Rd2 v7 u) :
    Rd2 (k1_pay7 v3 v5 v7) (fun r c => o r c + linT 512 h u r c) := by
  unfold k1_pay7; exact (ho.shapeCast_self _).add ((q1_p4 hh).matmul_tn (hu.shapeCast_self _) _ _)
theorem q1_p8 {v26 : Vec Ideal S1024x768 .f32} (ho : Rd2 v26 o) : Rd2 (k1_pay8 v26) o := by
  unfold k1_pay8; exact ho.shapeCast_self _
theorem q1_p1 {v4 : FVec Ideal S512x1024 .bf16} {v27 : FVec Ideal S1024x768 .f32} {v28 : Vec Ideal S512x768 .bf16} (hh : Rd2 v4 h) (ho : Rd2 v27 o) (hu : Rd2 v28 u) :
    Rd2 (k1_pay1 v4 v27 v28) (fun r c => o r c + linT 512 h u r c) := by
  unfold k1_pay1; exact ho.add (hh.matmul_tn (hu.shapeCast_self _) _ _)
theorem q1_p2 {v4 : FVec Ideal S512x1024 .bf16} {v33 : Vec Ideal S1024x128 .f32} {v35 : Vec Ideal S512x128 .bf16} (hh : Rd2 v4 h) (ho : Rd2 v33 o) (hu : Rd2 v35 u) :
    Rd2 (k1_pay2 v4 v33 v35) (fun r c => o r c + linT 512 h u r c) := by
  unfold k1_pay2; exact (ho.shapeCast_self _).add (hh.matmul_tn (hu.shapeCast_self _) _ _)

/-! ## The gradient of the residual stream -/

theorem q2_p4 {v3 : Vec Ideal S512x3200 .bf16} {v5 : Vec Ideal S1024x3200 .bf16} (hd : Rd2 v3 dp) (hw : Rd2 v5 w) : Rd2 (k2_pay4 v3 v5) (lin 3200 dp w) := by
  unfold k2_pay4; exact (hd.shapeCast_self _).matmul_nt (hw.shapeCast_self _) _ _
theorem q2_p5 {v8 : Vec Ideal S512x1024 .f32} (hx : Rd2 v8 x) : Rd2 (k2_pay5 v8) (fun r _ => rs x r) := by
  unfold k2_pay5
  exact (((((hx.mul hx).sum_cols _ _ _).shapeCast_col _).div (Rd2.bcast lit_1024) (fun _ _ _ _ => by norm_num)).add (Rd2.bcast lit_eps)).rsq (fun r _ _ _ => ms_pos x r)
theorem q2_p6 {v8 : Vec Ideal S512x1024 .f32} (hx : Rd2 v8 x) : Rd2 (k2_pay6 v8) (xn x) := by
  unfold k2_pay6; exact hx.mul ((q2_p5 hx).broadcastTo_col _)
theorem q2_p7 {v3 : Vec Ideal S512x3200 .bf16} {v5 : Vec Ideal S1024x3200 .bf16} {v8 : Vec Ideal S512x1024 .f32} (hd : Rd2 v3 dp) (hw : Rd2 v5 w) (hx : Rd2 v8 x) :
    Rd2 (k2_pay7 v3 v5 v8) (dG 512 x (lin 3200 dp w)) := by
  unfold k2_pay7; exact (((q2_p4 hd hw).mul (q2_p6 hx)).sum_rows _ _ _).shapeCast_row _
theorem q2_p8 {v3 : Vec Ideal S512x3200 .bf16} {v5 : Vec Ideal S1024x3200 .bf16} {v8 : Vec Ideal S512x1024 .f32} {v9 : Vec Ideal S1x1024 .f32} {v35 : Vec Ideal S512x1024 .f32}
    (hd : Rd2 v3 dp) (hw : Rd2 v5 w) (hx : Rd2 v8 x) (hg : Rd2 v9 g) (hr : Rd2 v35 dr) :
    Rd2 (k2_pay8 v3 v5 v8 v9 v35) (dX dr x g (lin 3200 dp w)) := by
  unfold k2_pay8
  exact hr.add (((q2_p5 hx).broadcastTo_col _).mul (((q2_p4 hd hw).mul (hg.broadcastTo_row _)).sub ((q2_p6 hx).mul
    (((((((q2_p4 hd hw).mul (hg.broadcastTo_row _)).mul (q2_p6 hx)).sum_cols _ _ _).shapeCast_col _).div (Rd2.bcast lit_1024) (fun _ _ _ _ => by norm_num)).broadcastTo_col _))))
theorem q2_p1 {v36 : FVec Ideal S512x1024 .f32} (ha : Rd2 v36 a) : Rd2 (k2_pay1 v36) (dyh a) := by
  unfold k2_pay1; exact ((Rd2.bcast lit_half).mul ha).trunc _
theorem q2_p2 {v22 : FVec Ideal S1x1024 .f32} {v42 : Vec Ideal S1x1024 .f32} (h0 : Rd2 v22 h) (ha : Rd2 v42 a) : Rd2 (k2_pay2 v22 v42) (fun r c => a r c + h r c) := by
  unfold k2_pay2; exact (ha.shapeCast_self _).add h0
theorem q2_p3 : Rd2 (a := 1) (b := 1024) (k2_pay3 (F := Ideal)) (fun _ _ => 0) := by
  unfold k2_pay3; exact Rd2.bcast lit_zero
end Payloads

end Cert.Kernel3Ideal.Val
-- ==== Proof.ProjBlocks.lean ====
/- What a grid point of each of the three calls around the input projection leaves in its output blocks. -/
module

public import proofs.«01_k».proof.Proof.ProjPayloads

@[expose] public section

noncomputable section

namespace Cert.Kernel3Ideal.Val

open Cert.Kernel3Ideal Cert.Kernel3Ideal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

/-- One more range of columns of a block filled from the left. -/
theorem canon_next {a b m q e : ℕ} {f T : ℕ → ℕ → ℝ} {L : List (View.Piece (Elt Ideal) (M2 a b) .f32)}
    (hL : Rd2 (View.canon L) (widen q T)) (inb : ∀ x, (![0, q] : Fin 2 → ℕ) x + (M2 a m).size x ≤ (M2 a b).size x)
    {w : (M2 a m).Idx → EReal} (hw : Rd2 w f) (he : e = q + m) (hf : ∀ r c, f r c = widen q T r (q + c) + T r (q + c)) :
    Rd2 (a := a) (b := b) (View.canon ((⟨Rect.unit (s := M2 a b) ![0, q] (M2 a m).size inb, w⟩ : View.Piece (Elt Ideal) (M2 a b) .f32) :: L)) (widen e T) := by
  subst he
  refine hL.canon_cols inb hw (fun r c _ hc => ?_) (fun r c hc => ?_)
  · rw [hf r c]; unfold widen; rw [if_neg (by omega), if_pos (by omega), zero_add]
  · unfold widen
    by_cases h1 : c < q
    · rw [if_pos h1, if_pos (by omega)]
    · rw [if_neg h1, if_neg (by omega)]

/-! ## The projection -/

section Blocks0
variable {x g w : ℕ → ℕ → ℝ}
variable (c : Dev nD) (i : grid0.Coords) {a1 h1 a2 h2 a3 h3 a4 h4 a5 h5}
variable {x0 : Vec Ideal S512x1024 .f32} {x1 : Vec Ideal S1x1024 .f32} {x2 : Vec Ideal S1024x3200 .bf16}

theorem q0_out3 (r0 : Rd2 x0 x) (r1 : Rd2 x1 g) (r2 : Rd2 x2 w) :
    Rd2 (out0_A_3 c i a1 h1 a2 h2 a3 h3 a4 h4 a5 h5 x0 x1 x2) (lin' 1024 (hid x g) w) := by
  unfold out0_A_3
  rw [View.read_writes_eq_canon _ _ _ (cover0_A_3 c i a1 h1 a2 h2 a3 h3 a4 h4 a5 h5 x0 x1 x2)]
  refine Rd2.canonf (cover0_A_3 c i a1 h1 a2 h2 a3 h3 a4 h4 a5 h5 x0 x1 x2) ?_
  unfold kernelRun0_A
  dsimp only
  sl_unfold_words
  simp only [View.readAt_eq_ld, h1.read_unread, h2.read_unread, h3.read_unread, h4.read_unread, h5.read_unread]
  have hx := r0.ldf_all inb_S512x1024_S512x1024_0_0
  have hg := r1.ldf_all inb_S1x1024_S1x1024_0_0
  refine List.forall_mem_cons.mpr ⟨Rd2.piece (g := lin' 1024 (hid x g) w) (n := 512) (m := 128) (p := 0) (q := 3072) inb_S512x3200_S512x128_0_3072 (q0_p2 (q0_p3 hx hg) (r2.ldb_cols inb_S1024x3200_S1024x128_0_3072)) (fun r c _ _ => by rw [Nat.zero_add]; rfl), ?_⟩
  refine List.forall_mem_cons.mpr ⟨Rd2.piece (g := lin' 1024 (hid x g) w) (n := 512) (m := 768) (p := 0) (q := 2304) inb_S512x3200_S512x768_0_2304 (q0_p1 (q0_p3 hx hg) (r2.ldb_cols inb_S1024x3200_S1024x768_0_2304)) (fun r c _ _ => by rw [Nat.zero_add]; rfl), ?_⟩
  refine List.forall_mem_cons.mpr ⟨Rd2.piece (g := lin' 1024 (hid x g) w) (n := 512) (m := 768) (p := 0) (q := 1536) inb_S512x3200_S512x768_0_1536 (q0_p6 hx hg (r2.ldb_cols inb_S1024x3200_S1024x768_0_1536)) (fun r c _ _ => by rw [Nat.zero_add]; rfl), ?_⟩
  refine List.forall_mem_cons.mpr ⟨Rd2.piece (g := lin' 1024 (hid x g) w) (n := 512) (m := 768) (p := 0) (q := 768) inb_S512x3200_S512x768_0_768 (q0_p5 hx hg (r2.ldb_cols inb_S1024x3200_S1024x768_0_768)) (fun r c _ _ => by rw [Nat.zero_add]; rfl), ?_⟩
  refine List.forall_mem_cons.mpr ⟨Rd2.piece (g := lin' 1024 (hid x g) w) (n := 512) (m := 768) (p := 0) (q := 0) inb_S512x3200_S512x768_0_0 (q0_p4 hx hg (r2.ldb_cols inb_S1024x3200_S1024x768_0_0)) (fun r c _ _ => by simp only [Nat.zero_add]), ?_⟩
  exact fun p hp => absurd hp List.not_mem_nil

theorem q0_out4 (r0 : Rd2 x0 x) (r1 : Rd2 x1 g) :
    Rd2 (out0_A_4 c i a1 h1 a2 h2 a3 h3 a4 h4 a5 h5 x0 x1 x2) (hid x g) := by
  unfold out0_A_4
  rw [View.read_writes_eq_canon _ _ _ (cover0_A_4 c i a1 h1 a2 h2 a3 h3 a4 h4 a5 h5 x0 x1 x2)]
  unfold kernelRun0_A
  dsimp only
  sl_unfold_words
  simp only [View.readAt_eq_ld, h1.read_unread, h2.read_unread, h3.read_unread, h4.read_unread, h5.read_unread, canon_whole]
  exact q0_p3 (r0.ldf_all inb_S512x1024_S512x1024_0_0) (r1.ldf_all inb_S1x1024_S1x1024_0_0)

end Blocks0

/-! ## The weight's gradient -/

section Blocks1
variable {h u o : ℕ → ℕ → ℝ}
variable (c : Dev nD) (i : grid1.Coords) {a1 h1 a2 h2 a3 h3}
variable {x0 : Vec Ideal S512x1024 .bf16} {x1 : Vec Ideal S512x3200 .bf16} {xo2 : Vec Ideal S1024x3200 .f32}

theorem q1_outA {hc} (r0 : Rd2 x0 h) (r1 : Rd2 x1 u) :
    Rd2 (out1_A_2 c i a1 h1 a2 h2 a3 h3 hc x0 x1) (linT 512 h u) := by
  unfold out1_A_2
  rw [View.read_writes_eq_canon _ _ _ (cover1_A_2 c i a1 h1 a2 h2 a3 h3 hc x0 x1)]
  unfold kernelRun1_A
  dsimp only
  sl_unfold_words
  simp only [View.readAt_eq_ld, h1.read_unread, h2.read_unread, h3.read_unread, readCov_ld]
  have hh := r0.ldb_all inb_S512x1024_S512x1024_0_0
  have s0 : Rd2 (a := 1024) (b := 3200) (View.canon [(⟨Rect.unit ![0, 0] ![1024, 3200] inb_S1024x3200_S1024x3200_0_0, k1_pay3 (F := Ideal)⟩ : View.Piece (Elt Ideal) S1024x3200 .f32)]) (widen 0 (linT 512 h u)) := by
    rw [canon_whole]; exact q1_p3.congr fun r c _ _ => (if_neg (Nat.not_lt_zero c)).symm
  have s1 := canon_next (e := 768) s0 inb_S1024x3200_S1024x768_0_0 (q1_p5 hh (s0.ldf_cols inb_S1024x3200_S1024x768_0_0) (r1.ldb_cols inb_S512x3200_S512x768_0_0)) rfl (fun _ _ => rfl)
  have s2 := canon_next (e := 1536) s1 inb_S1024x3200_S1024x768_0_768 (q1_p6 hh (s1.ldf_cols inb_S1024x3200_S1024x768_0_768) (r1.ldb_cols inb_S512x3200_S512x768_0_768)) rfl (fun _ _ => rfl)
  have s3 := canon_next (e := 2304) s2 inb_S1024x3200_S1024x768_0_1536 (q1_p7 hh (s2.ldf_cols inb_S1024x3200_S1024x768_0_1536) (r1.ldb_cols inb_S512x3200_S512x768_0_1536)) rfl (fun _ _ => rfl)
  have s4 := canon_next (e := 3072) s3 inb_S1024x3200_S1024x768_0_2304 (q1_p1 (q1_p4 hh) (q1_p8 (s3.ldf_cols inb_S1024x3200_S1024x768_0_2304)) (r1.ldb_cols inb_S512x3200_S512x768_0_2304)) rfl (fun _ _ => rfl)
  have s5 := canon_next (e := 3200) s4 inb_S1024x3200_S1024x128_0_3072 (q1_p2 (q1_p4 hh) (s4.ldf_cols inb_S1024x3200_S1024x128_0_3072) (r1.ldb_cols inb_S512x3200_S512x128_0_3072)) rfl (fun _ _ => rfl)
  exact s5.congr fun r c _ hc => if_pos hc

theorem q1_outB {hc} (r0 : Rd2 x0 h) (r1 : Rd2 x1 u) (ro : Rd2 xo2 o) :
    Rd2 (out1_B_2 c i a1 h1 a2 h2 a3 h3 hc x0 x1 xo2) (fun r c => o r c + linT 512 h u r c) := by
  unfold out1_B_2
  rw [View.read_writes_eq_canon _ _ _ (cover1_B_2 c i a1 h1 a2 h2 a3 h3 hc x0 x1 xo2)]
  refine Rd2.canonf (cover1_B_2 c i a1 h1 a2 h2 a3 h3 hc x0 x1 xo2) ?_
  unfold kernelRun1_B
  dsimp only
  sl_unfold_words
  simp only [View.readAt_eq_ld, h1.read_unread, h2.read_unread, h3.read_unread]
  have hh := r0.ldb_all inb_S512x1024_S512x1024_0_0
  refine List.forall_mem_cons.mpr ⟨Rd2.piece (g := fun r c => o r c + linT 512 h u r c) (n := 1024) (m := 128) (p := 0) (q := 3072) inb_S1024x3200_S1024x128_0_3072 (q1_p2 (q1_p4 hh) (ro.ldf_cols inb_S1024x3200_S1024x128_0_3072) (r1.ldb_cols inb_S512x3200_S512x128_0_3072)) (fun r c _ _ => by rw [Nat.zero_add]; rfl), ?_⟩
  refine List.forall_mem_cons.mpr ⟨Rd2.piece (g := fun r c => o r c + linT 512 h u r c) (n := 1024) (m := 768) (p := 0) (q := 2304) inb_S1024x3200_S1024x768_0_2304 (q1_p1 (q1_p4 hh) (q1_p8 (ro.ldf_cols inb_S1024x3200_S1024x768_0_2304)) (r1.ldb_cols inb_S512x3200_S512x768_0_2304)) (fun r c _ _ => by rw [Nat.zero_add]; rfl), ?_⟩
  refine List.forall_mem_cons.mpr ⟨Rd2.piece (g := fun r c => o r c + linT 512 h u r c) (n := 1024) (m := 768) (p := 0) (q := 1536) inb_S1024x3200_S1024x768_0_1536 (q1_p7 hh (ro.ldf_cols inb_S1024x3200_S1024x768_0_1536) (r1.ldb_cols inb_S512x3200_S512x768_0_1536)) (fun r c _ _ => by rw [Nat.zero_add]; rfl), ?_⟩
  refine List.forall_mem_cons.mpr ⟨Rd2.piece (g := fun r c => o r c + linT 512 h u r c) (n := 1024) (m := 768) (p := 0) (q := 768) inb_S1024x3200_S1024x768_0_768 (q1_p6 hh (ro.ldf_cols inb_S1024x3200_S1024x768_0_768) (r1.ldb_cols inb_S512x3200_S512x768_0_768)) (fun r c _ _ => by rw [Nat.zero_add]; rfl), ?_⟩
  refine List.forall_mem_cons.mpr ⟨Rd2.piece (g := fun r c => o r c + linT 512 h u r c) (n := 1024) (m := 768) (p := 0) (q := 0) inb_S1024x3200_S1024x768_0_0 (q1_p5 hh (ro.ldf_cols inb_S1024x3200_S1024x768_0_0) (r1.ldb_cols inb_S512x3200_S512x768_0_0)) (fun r c _ _ => by simp only [Nat.zero_add]), ?_⟩
  exact fun p hp => absurd hp List.not_mem_nil

end Blocks1

/-! ## The gradient of the residual stream -/

section Blocks2
variable {dp w x g dr o : ℕ → ℕ → ℝ}
variable (c : Dev nD) (i : grid2.Coords) {a1 h1 a2 h2 a3 h3 a4 h4 a5 h5 a6 h6 a7 h7 a8 h8}
variable {x0 : Vec Ideal S512x3200 .bf16} {x1 : Vec Ideal S1024x3200 .bf16} {x2 : Vec Ideal S512x1024 .f32} {x3 : Vec Ideal S1x1024 .f32} {x4 : Vec Ideal S512x1024 .f32} {xo6 : Vec Ideal S1x1024 .f32}

theorem q2_outA5 {hc} (r0 : Rd2 x0 dp) (r1 : Rd2 x1 w) (r2 : Rd2 x2 x) (r3 : Rd2 x3 g) (r4 : Rd2 x4 dr) :
    Rd2 (out2_A_5 c i a1 h1 a2 h2 a3 h3 a4 h4 a5 h5 a6 h6 a7 h7 a8 h8 hc x0 x1 x2 x3 x4) (dX dr x g (lin 3200 dp w)) := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  simp only [View.readAt_eq_ld, h1.read_unread, h2.read_unread, h3.read_unread, h4.read_unread, h5.read_unread, h6.read_unread, h7.read_unread, h8.read_unread, readCov_whole, canon_whole]
  exact (q2_p8 (r0.ldb_all inb_S512x3200_S512x3200_0_0) (r1.ldb_all inb_S1024x3200_S1024x3200_0_0) (r2.ldf_all inb_S512x1024_S512x1024_0_0) (r3.ldf_all inb_S1x1024_S1x1024_0_0) (r4.ldf_all inb_S512x1024_S512x1024_0_0))

theorem q2_outA6 {hc} (r0 : Rd2 x0 dp) (r1 : Rd2 x1 w) (r2 : Rd2 x2 x) :
    Rd2 (out2_A_6 c i a1 h1 a2 h2 a3 h3 a4 h4 a5 h5 a6 h6 a7 h7 a8 h8 hc x0 x1 x2 x3 x4) (dG 512 x (lin 3200 dp w)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  simp only [View.readAt_eq_ld, h1.read_unread, h2.read_unread, h3.read_unread, h4.read_unread, h5.read_unread, h6.read_unread, h7.read_unread, h8.read_unread, readCov_whole, canon_whole]
  exact (q2_p2 (q2_p7 (r0.ldb_all inb_S512x3200_S512x3200_0_0) (r1.ldb_all inb_S1024x3200_S1024x3200_0_0) (r2.ldf_all inb_S512x1024_S512x1024_0_0)) q2_p3).congr (fun r c _ _ => zero_add _)

theorem q2_outA7 {hc} (r0 : Rd2 x0 dp) (r1 : Rd2 x1 w) (r2 : Rd2 x2 x) (r3 : Rd2 x3 g) (r4 : Rd2 x4 dr) :
    Rd2 (out2_A_7 c i a1 h1 a2 h2 a3 h3 a4 h4 a5 h5 a6 h6 a7 h7 a8 h8 hc x0 x1 x2 x3 x4) (dyh (dX dr x g (lin 3200 dp w))) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  simp only [View.readAt_eq_ld, h1.read_unread, h2.read_unread, h3.read_unread, h4.read_unread, h5.read_unread, h6.read_unread, h7.read_unread, h8.read_unread, readCov_whole, canon_whole]
  exact q2_p1 (q2_p8 (r0.ldb_all inb_S512x3200_S512x3200_0_0) (r1.ldb_all inb_S1024x3200_S1024x3200_0_0) (r2.ldf_all inb_S512x1024_S512x1024_0_0) (r3.ldf_all inb_S1x1024_S1x1024_0_0) (r4.ldf_all inb_S512x1024_S512x1024_0_0))

theorem q2_outB5 {hc} (r0 : Rd2 x0 dp) (r1 : Rd2 x1 w) (r2 : Rd2 x2 x) (r3 : Rd2 x3 g) (r4 : Rd2 x4 dr) :
    Rd2 (out2_B_5 c i a1 h1 a2 h2 a3 h3 a4 h4 a5 h5 a6 h6 a7 h7 a8 h8 hc x0 x1 x2 x3 x4 xo6) (dX dr x g (lin 3200 dp w)) := by
  unfold out2_B_5
  rw [View.read_writes_eq_canon _ _ _ (cover2_B_5 c i a1 h1 a2 h2 a3 h3 a4 h4 a5 h5 a6 h6 a7 h7 a8 h8 hc x0 x1 x2 x3 x4 xo6)]
  unfold kernelRun2_B
  dsimp only
  sl_unfold_words
  simp only [View.readAt_eq_ld, h1.read_unread, h2.read_unread, h3.read_unread, h4.read_unread, h5.read_unread, h6.read_unread, h7.read_unread, h8.read_unread, readCov_whole, canon_whole]
  exact (q2_p8 (r0.ldb_all inb_S512x3200_S512x3200_0_0) (r1.ldb_all inb_S1024x3200_S1024x3200_0_0) (r2.ldf_all inb_S512x1024_S512x1024_0_0) (r3.ldf_all inb_S1x1024_S1x1024_0_0) (r4.ldf_all inb_S512x1024_S512x1024_0_0))

theorem q2_outB6 {hc} (r0 : Rd2 x0 dp) (r1 : Rd2 x1 w) (r2 : Rd2 x2 x) (ro : Rd2 xo6 o) :
    Rd2 (out2_B_6 c i a1 h1 a2 h2 a3 h3 a4 h4 a5 h5 a6 h6 a7 h7 a8 h8 hc x0 x1 x2 x3 x4 xo6) (fun r c => o r c + dG 512 x (lin 3200 dp w) r c) := by
  unfold out2_B_6
  rw [View.read_writes_eq_canon _ _ _ (cover2_B_6 c i a1 h1 a2 h2 a3 h3 a4 h4 a5 h5 a6 h6 a7 h7 a8 h8 hc x0 x1 x2 x3 x4 xo6)]
  unfold kernelRun2_B
  dsimp only
  sl_unfold_words
  simp only [View.readAt_eq_ld, h1.read_unread, h2.read_unread, h3.read_unread, h4.read_unread, h5.read_unread, h6.read_unread, h7.read_unread, h8.read_unread, readCov_whole, canon_whole]
  exact q2_p2 (q2_p7 (r0.ldb_all inb_S512x3200_S512x3200_0_0) (r1.ldb_all inb_S1024x3200_S1024x3200_0_0) (r2.ldf_all inb_S512x1024_S512x1024_0_0)) (ro.ldf_all inb_S1x1024_S1x1024_0_0)

theorem q2_outB7 {hc} (r0 : Rd2 x0 dp) (r1 : Rd2 x1 w) (r2 : Rd2 x2 x) (r3 : Rd2 x3 g) (r4 : Rd2 x4 dr) :
    Rd2 (out2_B_7 c i a1 h1 a2 h2 a3 h3 a4 h4 a5 h5 a6 h6 a7 h7 a8 h8 hc x0 x1 x2 x3 x4 xo6) (dyh (dX dr x g (lin 3200 dp w))) := by
  unfold out2_B_7
  rw [View.read_writes_eq_canon _ _ _ (cover2_B_7 c i a1 h1 a2 h2 a3 h3 a4 h4 a5 h5 a6 h6 a7 h7 a8 h8 hc x0 x1 x2 x3 x4 xo6)]
  unfold kernelRun2_B
  dsimp only
  sl_unfold_words
  simp only [View.readAt_eq_ld, h1.read_unread, h2.read_unread, h3.read_unread, h4.read_unread, h5.read_unread, h6.read_unread, h7.read_unread, h8.read_unread, readCov_whole, canon_whole]
  exact q2_p1 (q2_p8 (r0.ldb_all inb_S512x3200_S512x3200_0_0) (r1.ldb_all inb_S1024x3200_S1024x3200_0_0) (r2.ldf_all inb_S512x1024_S512x1024_0_0) (r3.ldf_all inb_S1x1024_S1x1024_0_0) (r4.ldf_all inb_S512x1024_S512x1024_0_0))

end Blocks2

end Cert.Kernel3Ideal.Val
-- ==== Proof.ProjGrid.lean ====
/- The blocks of the windows of the three calls around the input projection, and their result arrays after each call. -/
module

public import proofs.«01_k».proof.Proof.ProjBlocks
public import proofs.«01_k».proof.Proof.Region0Arrays

@[expose] public section

noncomputable section

namespace Cert.Kernel3Ideal.Val

open Cert.Kernel3Ideal Cert.Kernel3Ideal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The projection -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem blk0_0 {X : ℕ → ℕ → ℝ} (hX : Rd2 (a := 8192) (b := 1024) (V c main_arg0) X) (t : Fin cfg0.N) :
    Rd2 (a := 512) (b := 1024) (iblk0 V c 0 t) (fun r d => X (t.val * 512 + r) d) := fun j => by
  unfold iblk0
  rw [View.read_apply]
  show V c main_arg0 _ = _
  refine (hX _).trans (coe_congr₂ X ?_ ?_)
  · show win0_0.index t 0 * 512 + 1 * (j 0).val = _; rw [(idx0_0 t).1]; omega
  · show win0_0.index t 1 * 1024 + 1 * (j 1).val = _; rw [(idx0_0 t).2]; omega
theorem idx0_1 : ∀ t : Fin cfg0.N, win0_1.index t 0 = 0 ∧ win0_1.index t 1 = 0 :=
  (by decide +kernel : ∀ t : Fin grid0.N, win0_1.index t 0 = 0 ∧ win0_1.index t 1 = 0)
theorem blk0_1 {X : ℕ → ℕ → ℝ} (hX : Rd2 (a := 1) (b := 1024) (V c main_arg1) X) (t : Fin cfg0.N) :
    Rd2 (a := 1) (b := 1024) (iblk0 V c 1 t) (fun r d => X r d) := fun j => by
  unfold iblk0
  rw [View.read_apply]
  show V c main_arg1 _ = _
  refine (hX _).trans (coe_congr₂ X ?_ ?_)
  · show win0_1.index t 0 * 1 + 1 * (j 0).val = _; rw [(idx0_1 t).1]; omega
  · show win0_1.index t 1 * 1024 + 1 * (j 1).val = _; rw [(idx0_1 t).2]; omega
theorem idx0_2 : ∀ t : Fin cfg0.N, win0_2.index t 0 = 0 ∧ win0_2.index t 1 = 0 :=
  (by decide +kernel : ∀ t : Fin grid0.N, win0_2.index t 0 = 0 ∧ win0_2.index t 1 = 0)
theorem blk0_2 {X : ℕ → ℕ → ℝ} (hX : Rd2 (a := 1024) (b := 3200) (V c main_v1) X) (t : Fin cfg0.N) :
    Rd2 (a := 1024) (b := 3200) (iblk0 V c 2 t) (fun r d => X r d) := fun j => by
  unfold iblk0
  rw [View.read_apply]
  show V c main_v1 _ = _
  refine (hX _).trans (coe_congr₂ X ?_ ?_)
  · show win0_2.index t 0 * 1024 + 1 * (j 0).val = _; rw [(idx0_2 t).1]; omega
  · show win0_2.index t 1 * 3200 + 1 * (j 1).val = _; rw [(idx0_2 t).2]; omega
theorem idx0_3 : ∀ t : Fin cfg0.N, win0_3.index t 0 = t.val ∧ win0_3.index t 1 = 0 :=
  (by decide +kernel : ∀ t : Fin grid0.N, win0_3.index t 0 = t.val ∧ win0_3.index t 1 = 0)
theorem arr0_3 {G : ℕ → ℕ → ℝ} (hG : ∀ t : Fin cfg0.N, (cfg0.win 3).flush t = true →
      Rd2 (a := 512) (b := 3200) ((outsAt0 V c t).1) (fun r d => G (t.val * 512 + r) d)) :
    Rd2 (a := 8192) (b := 3200) ((dat0 V c).arrAt 3 cfg0.N) G := fun i => by
  refine (dat0 V c).arrAt_forall_of_covers 3 (fun i v => v = ((G (i 0).val (i 1).val : ℝ) : EReal)) (by decide +kernel) (fun t hf y => ?_) i
  rw [after0_3]
  refine (hG t hf _).trans (coe_congr₂ G ?_ ?_)
  · show t.val * 512 + (y 0).val = win0_3.index t 0 * 512 + 1 * (y 0).val; rw [(idx0_3 t).1]; omega
  · show (y 1).val = win0_3.index t 1 * 3200 + 1 * (y 1).val; rw [(idx0_3 t).2]; omega
theorem idx0_4 : ∀ t : Fin cfg0.N, win0_4.index t 0 = t.val ∧ win0_4.index t 1 = 0 :=
  (by decide +kernel : ∀ t : Fin grid0.N, win0_4.index t 0 = t.val ∧ win0_4.index t 1 = 0)
theorem arr0_4 {G : ℕ → ℕ → ℝ} (hG : ∀ t : Fin cfg0.N, (cfg0.win 4).flush t = true →
      Rd2 (a := 512) (b := 1024) ((outsAt0 V c t).2) (fun r d => G (t.val * 512 + r) d)) :
    Rd2 (a := 8192) (b := 1024) ((dat0 V c).arrAt 4 cfg0.N) G := fun i => by
  refine (dat0 V c).arrAt_forall_of_covers 4 (fun i v => v = ((G (i 0).val (i 1).val : ℝ) : EReal)) (by decide +kernel) (fun t hf y => ?_) i
  rw [after0_4]
  refine (hG t hf _).trans (coe_congr₂ G ?_ ?_)
  · show t.val * 512 + (y 0).val = win0_4.index t 0 * 512 + 1 * (y 0).val; rw [(idx0_4 t).1]; omega
  · show (y 1).val = win0_4.index t 1 * 1024 + 1 * (y 1).val; rw [(idx0_4 t).2]; omega

/-! ## The weight's gradient -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem blk1_0 {X : ℕ → ℕ → ℝ} (hX : Rd2 (a := 8192) (b := 1024) (V c main_v4_1) X) (t : Fin cfg1.N) :
    Rd2 (a := 512) (b := 1024) (iblk1 V c 0 t) (fun r d => X (t.val * 512 + r) d) := fun j => by
  unfold iblk1
  rw [View.read_apply]
  show V c main_v4_1 _ = _
  refine (hX _).trans (coe_congr₂ X ?_ ?_)
  · show win1_0.index t 0 * 512 + 1 * (j 0).val = _; rw [(idx1_0 t).1]; omega
  · show win1_0.index t 1 * 1024 + 1 * (j 1).val = _; rw [(idx1_0 t).2]; omega
theorem idx1_1 : ∀ t : Fin cfg1.N, win1_1.index t 0 = t.val ∧ win1_1.index t 1 = 0 :=
  (by decide +kernel : ∀ t : Fin grid1.N, win1_1.index t 0 = t.val ∧ win1_1.index t 1 = 0)
theorem blk1_1 {X : ℕ → ℕ → ℝ} (hX : Rd2 (a := 8192) (b := 3200) (V c main_v3) X) (t : Fin cfg1.N) :
    Rd2 (a := 512) (b := 3200) (iblk1 V c 1 t) (fun r d => X (t.val * 512 + r) d) := fun j => by
  unfold iblk1
  rw [View.read_apply]
  show V c main_v3 _ = _
  refine (hX _).trans (coe_congr₂ X ?_ ?_)
  · show win1_1.index t 0 * 512 + 1 * (j 0).val = _; rw [(idx1_1 t).1]; omega
  · show win1_1.index t 1 * 3200 + 1 * (j 1).val = _; rw [(idx1_1 t).2]; omega
theorem idx1_2 : ∀ t : Fin cfg1.N, win1_2.index t 0 = 0 ∧ win1_2.index t 1 = 0 :=
  (by decide +kernel : ∀ t : Fin grid1.N, win1_2.index t 0 = 0 ∧ win1_2.index t 1 = 0)
theorem arr1_2 {G : ℕ → ℕ → ℝ} (hG : ∀ t : Fin cfg1.N, (cfg1.win 2).flush t = true →
      Rd2 (a := 1024) (b := 3200) (outsAt1 V c t.val t.isLt) (fun r d => G r d)) :
    Rd2 (a := 1024) (b := 3200) ((dat1 V c).arrAt 2 cfg1.N) G := fun i => by
  refine (dat1 V c).arrAt_forall_of_covers 2 (fun i v => v = ((G (i 0).val (i 1).val : ℝ) : EReal)) (by decide +kernel) (fun t hf y => ?_) i
  rw [after1_2]
  refine (hG t hf _).trans (coe_congr₂ G ?_ ?_)
  · show (y 0).val = win1_2.index t 0 * 1024 + 1 * (y 0).val; rw [(idx1_2 t).1]; omega
  · show (y 1).val = win1_2.index t 1 * 3200 + 1 * (y 1).val; rw [(idx1_2 t).2]; omega

/-! ## The gradient of the residual stream -/

theorem idx2_0 : ∀ t : Fin cfg2.N, win2_0.index t 0 = t.val ∧ win2_0.index t 1 = 0 :=
  (by decide +kernel : ∀ t : Fin grid2.N, win2_0.index t 0 = t.val ∧ win2_0.index t 1 = 0)
theorem blk2_0 {X : ℕ → ℕ → ℝ} (hX : Rd2 (a := 8192) (b := 3200) (V c main_v3) X) (t : Fin cfg2.N) :
    Rd2 (a := 512) (b := 3200) (iblk2 V c 0 t) (fun r d => X (t.val * 512 + r) d) := fun j => by
  unfold iblk2
  rw [View.read_apply]
  show V c main_v3 _ = _
  refine (hX _).trans (coe_congr₂ X ?_ ?_)
  · show win2_0.index t 0 * 512 + 1 * (j 0).val = _; rw [(idx2_0 t).1]; omega
  · show win2_0.index t 1 * 3200 + 1 * (j 1).val = _; rw [(idx2_0 t).2]; omega
theorem idx2_1 : ∀ t : Fin cfg2.N, win2_1.index t 0 = 0 ∧ win2_1.index t 1 = 0 :=
  (by decide +kernel : ∀ t : Fin grid2.N, win2_1.index t 0 = 0 ∧ win2_1.index t 1 = 0)
theorem blk2_1 {X : ℕ → ℕ → ℝ} (hX : Rd2 (a := 1024) (b := 3200) (V c main_v1) X) (t : Fin cfg2.N) :
    Rd2 (a := 1024) (b := 3200) (iblk2 V c 1 t) (fun r d => X r d) := fun j => by
  unfold iblk2
  rw [View.read_apply]
  show V c main_v1 _ = _
  refine (hX _).trans (coe_congr₂ X ?_ ?_)
  · show win2_1.index t 0 * 1024 + 1 * (j 0).val = _; rw [(idx2_1 t).1]; omega
  · show win2_1.index t 1 * 3200 + 1 * (j 1).val = _; rw [(idx2_1 t).2]; omega
theorem idx2_2 : ∀ t : Fin cfg2.N, win2_2.index t 0 = t.val ∧ win2_2.index t 1 = 0 :=
  (by decide +kernel : ∀ t : Fin grid2.N, win2_2.index t 0 = t.val ∧ win2_2.index t 1 = 0)
theorem blk2_2 {X : ℕ → ℕ → ℝ} (hX : Rd2 (a := 8192) (b := 1024) (V c main_arg0) X) (t : Fin cfg2.N) :
    Rd2 (a := 512) (b := 1024) (iblk2 V c 2 t) (fun r d => X (t.val * 512 + r) d) := fun j => by
  unfold iblk2
  rw [View.read_apply]
  show V c main_arg0 _ = _
  refine (hX _).trans (coe_congr₂ X ?_ ?_)
  · show win2_2.index t 0 * 512 + 1 * (j 0).val = _; rw [(idx2_2 t).1]; omega
  · show win2_2.index t 1 * 1024 + 1 * (j 1).val = _; rw [(idx2_2 t).2]; omega
theorem idx2_3 : ∀ t : Fin cfg2.N, win2_3.index t 0 = 0 ∧ win2_3.index t 1 = 0 :=
  (by decide +kernel : ∀ t : Fin grid2.N, win2_3.index t 0 = 0 ∧ win2_3.index t 1 = 0)
theorem blk2_3 {X : ℕ → ℕ → ℝ} (hX : Rd2 (a := 1) (b := 1024) (V c main_arg1) X) (t : Fin cfg2.N) :
    Rd2 (a := 1) (b := 1024) (iblk2 V c 3 t) (fun r d => X r d) := fun j => by
  unfold iblk2
  rw [View.read_apply]
  show V c main_arg1 _ = _
  refine (hX _).trans (coe_congr₂ X ?_ ?_)
  · show win2_3.index t 0 * 1 + 1 * (j 0).val = _; rw [(idx2_3 t).1]; omega
  · show win2_3.index t 1 * 1024 + 1 * (j 1).val = _; rw [(idx2_3 t).2]; omega
theorem idx2_4 : ∀ t : Fin cfg2.N, win2_4.index t 0 = t.val ∧ win2_4.index t 1 = 0 :=
  (by decide +kernel : ∀ t : Fin grid2.N, win2_4.index t 0 = t.val ∧ win2_4.index t 1 = 0)
theorem blk2_4 {X : ℕ → ℕ → ℝ} (hX : Rd2 (a := 8192) (b := 1024) (V c main_arg3) X) (t : Fin cfg2.N) :
    Rd2 (a := 512) (b := 1024) (iblk2 V c 4 t) (fun r d => X (t.val * 512 + r) d) := fun j => by
  unfold iblk2
  rw [View.read_apply]
  show V c main_arg3 _ = _
  refine (hX _).trans (coe_congr₂ X ?_ ?_)
  · show win2_4.index t 0 * 512 + 1 * (j 0).val = _; rw [(idx2_4 t).1]; omega
  · show win2_4.index t 1 * 1024 + 1 * (j 1).val = _; rw [(idx2_4 t).2]; omega
theorem idx2_5 : ∀ t : Fin cfg2.N, win2_5.index t 0 = t.val ∧ win2_5.index t 1 = 0 :=
  (by decide +kernel : ∀ t : Fin grid2.N, win2_5.index t 0 = t.val ∧ win2_5.index t 1 = 0)
theorem arr2_5 {G : ℕ → ℕ → ℝ} (hG : ∀ t : Fin cfg2.N, (cfg2.win 5).flush t = true →
      Rd2 (a := 512) (b := 1024) ((outsAt2 V c t.val t.isLt).1) (fun r d => G (t.val * 512 + r) d)) :
    Rd2 (a := 8192) (b := 1024) ((dat2 V c).arrAt 5 cfg2.N) G := fun i => by
  refine (dat2 V c).arrAt_forall_of_covers 5 (fun i v => v = ((G (i 0).val (i 1).val : ℝ) : EReal)) (by decide +kernel) (fun t hf y => ?_) i
  rw [after2_5]
  refine (hG t hf _).trans (coe_congr₂ G ?_ ?_)
  · show t.val * 512 + (y 0).val = win2_5.index t 0 * 512 + 1 * (y 0).val; rw [(idx2_5 t).1]; omega
  · show (y 1).val = win2_5.index t 1 * 1024 + 1 * (y 1).val; rw [(idx2_5 t).2]; omega
theorem idx2_6 : ∀ t : Fin cfg2.N, win2_6.index t 0 = 0 ∧ win2_6.index t 1 = 0 :=
  (by decide +kernel : ∀ t : Fin grid2.N, win2_6.index t 0 = 0 ∧ win2_6.index t 1 = 0)
theorem arr2_6 {G : ℕ → ℕ → ℝ} (hG : ∀ t : Fin cfg2.N, (cfg2.win 6).flush t = true →
      Rd2 (a := 1) (b := 1024) ((outsAt2 V c t.val t.isLt).2.1) (fun r d => G r d)) :
    Rd2 (a := 1) (b := 1024) ((dat2 V c).arrAt 6 cfg2.N) G := fun i => by
  refine (dat2 V c).arrAt_forall_of_covers 6 (fun i v => v = ((G (i 0).val (i 1).val : ℝ) : EReal)) (by decide +kernel) (fun t hf y => ?_) i
  rw [after2_6]
  refine (hG t hf _).trans (coe_congr₂ G ?_ ?_)
  · show (y 0).val = win2_6.index t 0 * 1 + 1 * (y 0).val; rw [(idx2_6 t).1]; omega
  · show (y 1).val = win2_6.index t 1 * 1024 + 1 * (y 1).val; rw [(idx2_6 t).2]; omega
theorem idx2_7 : ∀ t : Fin cfg2.N, win2_7.index t 0 = t.val ∧ win2_7.index t 1 = 0 :=
  (by decide +kernel : ∀ t : Fin grid2.N, win2_7.index t 0 = t.val ∧ win2_7.index t 1 = 0)
theorem arr2_7 {G : ℕ → ℕ → ℝ} (hG : ∀ t : Fin cfg2.N, (cfg2.win 7).flush t = true →
      Rd2 (a := 512) (b := 1024) ((outsAt2 V c t.val t.isLt).2.2) (fun r d => G (t.val * 512 + r) d)) :
    Rd2 (a := 8192) (b := 1024) ((dat2 V c).arrAt 7 cfg2.N) G := fun i => by
  refine (dat2 V c).arrAt_forall_of_covers 7 (fun i v => v = ((G (i 0).val (i 1).val : ℝ) : EReal)) (by decide +kernel) (fun t hf y => ?_) i
  rw [after2_7]
  refine (hG t hf _).trans (coe_congr₂ G ?_ ?_)
  · show t.val * 512 + (y 0).val = win2_7.index t 0 * 512 + 1 * (y 0).val; rw [(idx2_7 t).1]; omega
  · show (y 1).val = win2_7.index t 1 * 1024 + 1 * (y 1).val; rw [(idx2_7 t).2]; omega

/-! ## The calls -/

variable {V c} {x g w h u dp dr : ℕ → ℕ → ℝ}

theorem call0_proj (hx : Rd2 (a := 8192) (b := 1024) (V c main_arg0) x) (hg : Rd2 (a := 1) (b := 1024) (V c main_arg1) g) (hw : Rd2 (a := 1024) (b := 3200) (V c main_v1) w) :
    Rd2 (a := 8192) (b := 3200) ((dat0 V c).arrAt 3 cfg0.N) (lin' 1024 (hid x g) w) := arr0_3 V c fun t _ => by
  unfold outsAt0; dsimp only
  exact (q0_out3 c _ (blk0_0 V c hx t) (blk0_1 V c hg t) (blk0_2 V c hw t)).congr fun r d _ _ => rfl
theorem call0_hid (hx : Rd2 (a := 8192) (b := 1024) (V c main_arg0) x) (hg : Rd2 (a := 1) (b := 1024) (V c main_arg1) g) :
    Rd2 (a := 8192) (b := 1024) ((dat0 V c).arrAt 4 cfg0.N) (hid x g) := arr0_4 V c fun t _ => by
  unfold outsAt0; dsimp only
  exact (q0_out4 c _ (blk0_0 V c hx t) (blk0_1 V c hg t)).congr fun r d _ _ => rfl

/-- After point `t` the weight's gradient is the sum over the rows of the points so far. -/
theorem call1_dw_acc (hh : Rd2 (a := 8192) (b := 1024) (V c main_v4_1) h) (hu : Rd2 (a := 8192) (b := 3200) (V c main_v3) u) :
    ∀ (n : ℕ) (t : Fin cfg1.N), t.val = n → Rd2 (a := 1024) (b := 3200) (outsAt1 V c t.val t.isLt) (linT (512 * (n + 1)) h u) := by
  intro n
  induction n with
  | zero =>
    intro t ht0
    rw [outsAt1_A V c t (by omega)]
    refine (q1_outA c _ (blk1_0 V c hh t) (blk1_1 V c hu t)).congr fun r d _ _ => ?_
    simp only [ht0, Nat.zero_mul, Nat.zero_add]
  | succ n ih =>
    intro t htv
    have hlt : t.val < 16 := t.isLt
    have ho := ih ⟨t.val - 1, Nat.lt_of_le_of_lt (Nat.sub_le _ _) t.isLt⟩ (by show t.val - 1 = n; omega)
    rw [outsAt1_B V c t (by omega)]
    refine (q1_outB c _ (blk1_0 V c hh t) (blk1_1 V c hu t) ho).congr fun r d _ _ => ?_
    rw [htv]; unfold linT
    rw [show 512 * (n + 1 + 1) = 512 * (n + 1) + 512 from by ring, ← sum_split]
    refine congrArg (_ + ·) (Finset.sum_congr rfl fun k _ => ?_)
    rw [Nat.mul_comm 512 (n + 1)]
theorem call1_dw (hh : Rd2 (a := 8192) (b := 1024) (V c main_v4_1) h) (hu : Rd2 (a := 8192) (b := 3200) (V c main_v3) u) :
    Rd2 (a := 1024) (b := 3200) ((dat1 V c).arrAt 2 cfg1.N) (linT 8192 h u) := arr1_2 V c fun t hf => by
  have h15 : t.val = 15 := (by decide +kernel : ∀ t : Fin grid1.N, win1_2.flush t = true → t.val = 15) t hf
  refine (call1_dw_acc hh hu t.val t rfl).congr fun r d _ _ => ?_
  rw [h15]

theorem call2_dx (hdp : Rd2 (a := 8192) (b := 3200) (V c main_v3) dp) (hw : Rd2 (a := 1024) (b := 3200) (V c main_v1) w) (hx : Rd2 (a := 8192) (b := 1024) (V c main_arg0) x) (hg : Rd2 (a := 1) (b := 1024) (V c main_arg1) g) (hdr : Rd2 (a := 8192) (b := 1024) (V c main_arg3) dr) :
    Rd2 (a := 8192) (b := 1024) ((dat2 V c).arrAt 5 cfg2.N) (dX dr x g (lin 3200 dp w)) := arr2_5 V c fun t _ => by
  by_cases h0 : t.val % 16 = 0
  · rw [outsAt2_A V c t h0]; dsimp only; exact (q2_outA5 c _ (blk2_0 V c hdp t) (blk2_1 V c hw t) (blk2_2 V c hx t) (blk2_3 V c hg t) (blk2_4 V c hdr t)).congr fun r d _ _ => rfl
  · rw [outsAt2_B V c t h0]; dsimp only; exact (q2_outB5 c _ (blk2_0 V c hdp t) (blk2_1 V c hw t) (blk2_2 V c hx t) (blk2_3 V c hg t) (blk2_4 V c hdr t)).congr fun r d _ _ => rfl
theorem call2_dyh (hdp : Rd2 (a := 8192) (b := 3200) (V c main_v3) dp) (hw : Rd2 (a := 1024) (b := 3200) (V c main_v1) w) (hx : Rd2 (a := 8192) (b := 1024) (V c main_arg0) x) (hg : Rd2 (a := 1) (b := 1024) (V c main_arg1) g) (hdr : Rd2 (a := 8192) (b := 1024) (V c main_arg3) dr) :
    Rd2 (a := 8192) (b := 1024) ((dat2 V c).arrAt 7 cfg2.N) (dyh (dX dr x g (lin 3200 dp w))) := arr2_7 V c fun t _ => by
  by_cases h0 : t.val % 16 = 0
  · rw [outsAt2_A V c t h0]; dsimp only; exact (q2_outA7 c _ (blk2_0 V c hdp t) (blk2_1 V c hw t) (blk2_2 V c hx t) (blk2_3 V c hg t) (blk2_4 V c hdr t)).congr fun r d _ _ => rfl
  · rw [outsAt2_B V c t h0]; dsimp only; exact (q2_outB7 c _ (blk2_0 V c hdp t) (blk2_1 V c hw t) (blk2_2 V c hx t) (blk2_3 V c hg t) (blk2_4 V c hdr t)).congr fun r d _ _ => rfl
/-- After point `t` the norm weight's gradient is the sum over the rows of the points so far. -/
theorem call2_dg_acc (hdp : Rd2 (a := 8192) (b := 3200) (V c main_v3) dp) (hw : Rd2 (a := 1024) (b := 3200) (V c main_v1) w) (hx : Rd2 (a := 8192) (b := 1024) (V c main_arg0) x) :
    ∀ (n : ℕ) (t : Fin cfg2.N), t.val = n → Rd2 (a := 1) (b := 1024) (outsAt2 V c t.val t.isLt).2.1 (dG (512 * (n + 1)) x (lin 3200 dp w)) := by
  intro n
  induction n with
  | zero =>
    intro t ht0
    rw [outsAt2_A V c t (by omega)]; dsimp only
    refine (q2_outA6 c _ (blk2_0 V c hdp t) (blk2_1 V c hw t) (blk2_2 V c hx t)).congr fun r d _ _ => ?_
    simp only [ht0, Nat.zero_mul, Nat.zero_add]
  | succ n ih =>
    intro t htv
    have hlt : t.val < 16 := t.isLt
    have ho := ih ⟨t.val - 1, Nat.lt_of_le_of_lt (Nat.sub_le _ _) t.isLt⟩ (by show t.val - 1 = n; omega)
    rw [outsAt2_B V c t (by omega)]; dsimp only
    refine (q2_outB6 c _ (blk2_0 V c hdp t) (blk2_1 V c hw t) (blk2_2 V c hx t) ho).congr fun r d _ _ => ?_
    rw [htv]; unfold dG
    rw [show 512 * (n + 1 + 1) = 512 * (n + 1) + 512 from by ring, ← sum_split]
    refine congrArg (_ + ·) (Finset.sum_congr rfl fun k _ => ?_)
    rw [Nat.mul_comm 512 (n + 1)]; rfl
theorem call2_dg (hdp : Rd2 (a := 8192) (b := 3200) (V c main_v3) dp) (hw : Rd2 (a := 1024) (b := 3200) (V c main_v1) w) (hx : Rd2 (a := 8192) (b := 1024) (V c main_arg0) x) :
    Rd2 (a := 1) (b := 1024) ((dat2 V c).arrAt 6 cfg2.N) (dG 8192 x (lin 3200 dp w)) := arr2_6 V c fun t hf => by
  have h15 : t.val = 15 := (by decide +kernel : ∀ t : Fin grid2.N, win2_6.flush t = true → t.val = 15) t hf
  refine (call2_dg_acc hdp hw hx t.val t rfl).congr fun r d _ _ => ?_
  rw [h15]

end Cert.Kernel3Ideal.Val
-- ==== Proof.ProjChain.lean ====
/- The input projection from the arguments to the results: what each call leaves, read through the whole program. -/
module

public import proofs.«01_k».proof.Proof.ProjRun
public import proofs.«01_k».proof.Proof.ProjGrid
public import proofs.«01_k».proof.Proof.KernelChain

@[expose] public section

noncomputable section

namespace Cert.Kernel3Ideal.Val

open Cert.Kernel3Ideal Cert.Kernel3Ideal.Gen Cert.RealArrays Cert.Formulas
open Cert.KernelIdeal.Val (rd_eq)
open Idealize.ShloMosaic Idealize.ShloMosaic.TcCoe Idealize.ShloMosaic.Tactic Idealize.ShloMosaic.ValueIdx
open Idealize.SL.Sem

/-- The integer zero as a float is zero. -/
theorem zero_fill : ∀ i, sitofp (F := Ideal) .bf16 (constantI S_ 32 0#32) i = 0 := fun i => by
  show ((((0#32 : BitVec 32).toInt : ℤ) : ℝ) : EReal) = 0
  simp

variable (m : (ℓ : Loc nD τ sig) → Buf (Elt Ideal) ℓ) (ρ : Dev nD → PrngReg) (c : Dev nD)
variable {x g w dr dp : ℕ → ℕ → ℝ}

/-! ## Before the first call: the weight and the projection's gradient, cast and padded with zero columns -/

theorem c1_v0 (hw : Rd2 (a := 1024) (b := 3080) (m ((c.tc : Thread nD τ).loc main_arg2)) w) :
    Rd2 (a := 1024) (b := 3080) (W1 m ρ c (Proc.devRef .tc main_v0)) w := by
  refine rd_eq (v' := truncf (F := Ideal) .bf16 (m ((c.tc : Thread nD τ).loc main_arg2)) bitsLt_bf16_f32) ?_ ?_
  · show StableHlo.after hostOps0 (W0 m ρ c) (Proc.devRef .tc main_v0) = _
    simp only [hostOps0]; after_results_simp <;> rfl
  · exact hw.trunc _
theorem c1_c : W1 m ρ c (Proc.devRef .tc main_c) = (constantI S_ 32 0#32 : IVec S_ 32) := by
  show StableHlo.after hostOps0 (W0 m ρ c) (Proc.devRef .tc main_c) = _
  simp only [hostOps0]; after_results_simp <;> rfl
theorem c2_v1 (hw : Rd2 (a := 1024) (b := 3080) (m ((c.tc : Thread nD τ).loc main_arg2)) w) :
    Rd2 (a := 1024) (b := 3200) (W2 m ρ c (Proc.devRef .tc main_v1)) (widen 3080 w) := by
  refine rd_eq (v' := pad S1024x3200 ![0, 0] ![0, 120] ![0, 0] (W1 m ρ c (Proc.devRef .tc main_v0)) (sitofp (F := Ideal) .bf16 (W1 m ρ c (Proc.devRef .tc main_c))) pads_S1024x3080_S1024x3200_000_01200 h_S_) ?_ ?_
  · show StableHlo.after hostOps0_1 (W1 m ρ c) (Proc.devRef .tc main_v1) = _
    simp only [hostOps0_1]; after_results_simp <;> rfl
  · rw [c1_c]; exact (c1_v0 m ρ c hw).padr zero_fill _ _
theorem c3_v2 (hd : Rd2 (a := 8192) (b := 3080) (m ((c.tc : Thread nD τ).loc main_arg4)) dp) :
    Rd2 (a := 8192) (b := 3080) (W3 m ρ c (Proc.devRef .tc main_v2)) dp := by
  refine rd_eq (v' := truncf (F := Ideal) .bf16 (W2 m ρ c (Proc.devRef .tc main_arg4)) bitsLt_bf16_f32) ?_ ?_
  · show StableHlo.after hostOps0_2 (W2 m ρ c) (Proc.devRef .tc main_v2) = _
    simp only [hostOps0_2]; after_results_simp <;> rfl
  · exact Rd2.trunc (rd_eq (W2_args m ρ c main_arg4 (by decide)) hd) _
theorem c3_c : W3 m ρ c (Proc.devRef .tc main_c_0) = (constantI S_ 32 0#32 : IVec S_ 32) := by
  show StableHlo.after hostOps0_2 (W2 m ρ c) (Proc.devRef .tc main_c_0) = _
  simp only [hostOps0_2]; after_results_simp <;> rfl
theorem c4_v3 (hd : Rd2 (a := 8192) (b := 3080) (m ((c.tc : Thread nD τ).loc main_arg4)) dp) :
    Rd2 (a := 8192) (b := 3200) (V4 m ρ c main_v3) (widen 3080 dp) := by
  refine rd_eq (v' := pad S8192x3200 ![0, 0] ![0, 120] ![0, 0] (W3 m ρ c (Proc.devRef .tc main_v2)) (sitofp (F := Ideal) .bf16 (W3 m ρ c (Proc.devRef .tc main_c_0))) pads_S8192x3080_S8192x3200_000_01200 h_S_) ?_ ?_
  · show StableHlo.after hostOps0_3 (W3 m ρ c) (Proc.devRef .tc main_v3) = _
    simp only [hostOps0_3]; after_results_simp <;> rfl
  · rw [c3_c]; exact (c3_v2 m ρ c hd).padr zero_fill _ _
theorem c4_v1 (hw : Rd2 (a := 1024) (b := 3080) (m ((c.tc : Thread nD τ).loc main_arg2)) w) :
    Rd2 (a := 1024) (b := 3200) (V4 m ρ c main_v1) (widen 3080 w) :=
  rd_eq ((W4_of m ρ c main_v1 (by decide)).trans (W3_of m ρ c main_v1 (by decide))) (c2_v1 m ρ c hw)
theorem c4_arg0 (hx : Rd2 (a := 8192) (b := 1024) (m ((c.tc : Thread nD τ).loc main_arg0)) x) :
    Rd2 (a := 8192) (b := 1024) (V4 m ρ c main_arg0) x := rd_eq (W4_args m ρ c main_arg0 (by decide)) hx
theorem c4_arg1 (hg : Rd2 (a := 1) (b := 1024) (m ((c.tc : Thread nD τ).loc main_arg1)) g) :
    Rd2 (a := 1) (b := 1024) (V4 m ρ c main_arg1) g := rd_eq (W4_args m ρ c main_arg1 (by decide)) hg

/-! ## After the projection -/

theorem c5_v4_0 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) :
    Rd2 (a := 8192) (b := 3200) (V5 m ρ c main_v4_0) (lin' 1024 (hid x g) (widen 3080 w)) :=
  rd_eq (W5_arr m ρ c 3) (call0_proj (c4_arg0 m ρ c hx) (c4_arg1 m ρ c hg) (c4_v1 m ρ c hw))
theorem c5_v4_1 (hx : Rd2 (a := 8192) (b := 1024) (m ((c.tc : Thread nD τ).loc main_arg0)) x) (hg : Rd2 (a := 1) (b := 1024) (m ((c.tc : Thread nD τ).loc main_arg1)) g) :
    Rd2 (a := 8192) (b := 1024) (V5 m ρ c main_v4_1) (hid x g) :=
  rd_eq (W5_arr m ρ c 4) (call0_hid (c4_arg0 m ρ c hx) (c4_arg1 m ρ c hg))
theorem c5_v3 (hd : Rd2 (a := 8192) (b := 3080) (m ((c.tc : Thread nD τ).loc main_arg4)) dp) :
    Rd2 (a := 8192) (b := 3200) (V5 m ρ c main_v3) (widen 3080 dp) := rd_eq (W5_of m ρ c main_v3 (by decide +kernel)) (c4_v3 m ρ c hd)

/-! ## After the weight's gradient -/

theorem c6_v5 (hx : Rd2 (a := 8192) (b := 1024) (m ((c.tc : Thread nD τ).loc main_arg0)) x) (hg : Rd2 (a := 1) (b := 1024) (m ((c.tc : Thread nD τ).loc main_arg1)) g)
    (hd : Rd2 (a := 8192) (b := 3080) (m ((c.tc : Thread nD τ).loc main_arg4)) dp) :
    Rd2 (a := 1024) (b := 3200) (V6 m ρ c main_v5) (linT 8192 (hid x g) (widen 3080 dp)) :=
  rd_eq (W6_arr m ρ c 2) (call1_dw (c5_v4_1 m ρ c hx hg) (c5_v3 m ρ c hd))
/-- The padded columns of the weight's gradient are cut off. -/
theorem c7_v6 (hx : Rd2 (a := 8192) (b := 1024) (m ((c.tc : Thread nD τ).loc main_arg0)) x) (hg : Rd2 (a := 1) (b := 1024) (m ((c.tc : Thread nD τ).loc main_arg1)) g)
    (hd : Rd2 (a := 8192) (b := 3080) (m ((c.tc : Thread nD τ).loc main_arg4)) dp) :
    Rd2 (a := 1024) (b := 3080) (V7 m ρ c main_v6) (linT 8192 (hid x g) dp) := by
  refine rd_eq (v' := extractStridedSlice S1024x3080 ![0, 0] (V6 m ρ c main_v5) slices_S1024x3200_S1024x3080_0_0) ?_ ?_
  · show StableHlo.after hostOps2 (W6 m ρ c) (Proc.devRef .tc main_v6) = _
    simp only [hostOps2]; after_results_simp <;> rfl
  · refine ((c6_v5 m ρ c hx hg hd).first_cols _).congr fun r d _ h => ?_
    unfold linT
    exact Finset.sum_congr rfl fun k _ => by unfold widen; rw [if_pos h]

/-- What the weight's gradient and the cut after it leave alone. -/
theorem V7_of (r : Ref sig .tc) (h7 : r ∉ hostOps2_W) (h6 : W6 m ρ c (Proc.devRef .tc r) = W5 m ρ c (Proc.devRef .tc r)) (h5 : W5 m ρ c (Proc.devRef .tc r) = W4 m ρ c (Proc.devRef .tc r)) :
    V7 m ρ c r = V4 m ρ c r := (W7_of m ρ c r h7).trans (h6.trans h5)
theorem c7_v1 (hw : Rd2 (a := 1024) (b := 3080) (m ((c.tc : Thread nD τ).loc main_arg2)) w) :
    Rd2 (a := 1024) (b := 3200) (V7 m ρ c main_v1) (widen 3080 w) :=
  rd_eq (V7_of m ρ c main_v1 (by decide) (W6_of m ρ c main_v1 (by decide +kernel)) (W5_of m ρ c main_v1 (by decide +kernel))) (c4_v1 m ρ c hw)
theorem c7_v3 (hd : Rd2 (a := 8192) (b := 3080) (m ((c.tc : Thread nD τ).loc main_arg4)) dp) :
    Rd2 (a := 8192) (b := 3200) (V7 m ρ c main_v3) (widen 3080 dp) :=
  rd_eq (V7_of m ρ c main_v3 (by decide) (W6_of m ρ c main_v3 (by decide +kernel)) (W5_of m ρ c main_v3 (by decide +kernel))) (c4_v3 m ρ c hd)
theorem c7_v4_0 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) :
    Rd2 (a := 8192) (b := 3200) (V7 m ρ c main_v4_0) (lin' 1024 (hid x g) (widen 3080 w)) :=
  rd_eq ((W7_of m ρ c main_v4_0 (by decide)).trans (W6_of m ρ c main_v4_0 (by decide +kernel))) (c5_v4_0 m ρ c hx hg hw)
theorem c7_arg0 (hx : Rd2 (a := 8192) (b := 1024) (m ((c.tc : Thread nD τ).loc main_arg0)) x) :
    Rd2 (a := 8192) (b := 1024) (V7 m ρ c main_arg0) x := rd_eq (W7_args m ρ c main_arg0 (by decide)) hx
theorem c7_arg1 (hg : Rd2 (a := 1) (b := 1024) (m ((c.tc : Thread nD τ).loc main_arg1)) g) :
    Rd2 (a := 1) (b := 1024) (V7 m ρ c main_arg1) g := rd_eq (W7_args m ρ c main_arg1 (by decide)) hg
theorem c7_arg3 (hr : Rd2 (a := 8192) (b := 1024) (m ((c.tc : Thread nD τ).loc main_arg3)) dr) :
    Rd2 (a := 8192) (b := 1024) (V7 m ρ c main_arg3) dr := rd_eq (W7_args m ρ c main_arg3 (by decide)) hr

/-! ## After the gradients of the residual stream and the norm's weight -/

/-- Padding both factors with zero columns leaves their contraction over the columns as it was. -/
theorem lin_padded (dp w : ℕ → ℕ → ℝ) : lin 3200 (widen 3080 dp) (widen 3080 w) = lin 3080 dp w :=
  funext fun r => funext fun d => lin_widen 3080 120 dp w r d

theorem c8_v7_0 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) (hr : Rd2 (a := 8192) (b := 1024) (m ((c.tc : Thread nD τ).loc main_arg3)) dr)
    (hd : Rd2 (a := 8192) (b := 3080) (m ((c.tc : Thread nD τ).loc main_arg4)) dp) :
    Rd2 (a := 8192) (b := 1024) (V8 m ρ c main_v7_0) (dX dr x g (lin 3080 dp w)) := by
  rw [← lin_padded dp w]
  exact rd_eq (W8_arr m ρ c 5) (call2_dx (c7_v3 m ρ c hd) (c7_v1 m ρ c hw) (c7_arg0 m ρ c hx) (c7_arg1 m ρ c hg) (c7_arg3 m ρ c hr))
theorem c8_v7_1 (hx : Rd2 (a := 8192) (b := 1024) (m ((c.tc : Thread nD τ).loc main_arg0)) x)
    (hw : Rd2 (a := 1024) (b := 3080) (m ((c.tc : Thread nD τ).loc main_arg2)) w) (hd : Rd2 (a := 8192) (b := 3080) (m ((c.tc : Thread nD τ).loc main_arg4)) dp) :
    Rd2 (a := 1) (b := 1024) (V8 m ρ c main_v7_1) (dG 8192 x (lin 3080 dp w)) := by
  rw [← lin_padded dp w]
  exact rd_eq (W8_arr m ρ c 6) (call2_dg (c7_v3 m ρ c hd) (c7_v1 m ρ c hw) (c7_arg0 m ρ c hx))
theorem c8_v7_2 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) (hr : Rd2 (a := 8192) (b := 1024) (m ((c.tc : Thread nD τ).loc main_arg3)) dr)
    (hd : Rd2 (a := 8192) (b := 3080) (m ((c.tc : Thread nD τ).loc main_arg4)) dp) :
    Rd2 (a := 8192) (b := 1024) (V8 m ρ c main_v7_2) (dyh (dX dr x g (lin 3080 dp w))) := by
  rw [← lin_padded dp w]
  exact rd_eq (W8_arr m ρ c 7) (call2_dyh (c7_v3 m ρ c hd) (c7_v1 m ρ c hw) (c7_arg0 m ρ c hx) (c7_arg1 m ρ c hg) (c7_arg3 m ρ c hr))

/-! ## The results -/

theorem k_v8 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) :
    Rd2 (a := 8192) (b := 3080) (W9 m ρ c (Proc.devRef .tc main_v8)) (lin' 1024 (hid x g) w) := by
  refine rd_eq (v' := extractStridedSlice S8192x3080 ![0, 0] (V8 m ρ c main_v4_0) slices_S8192x3200_S8192x3080_0_0) ?_ ?_
  · show StableHlo.after hostOps3 (W8 m ρ c) (Proc.devRef .tc main_v8) = _
    simp only [hostOps3]; after_results_simp <;> rfl
  · have h8 : Rd2 (a := 8192) (b := 3200) (V8 m ρ c main_v4_0) (lin' 1024 (hid x g) (widen 3080 w)) :=
      rd_eq (W8_of m ρ c main_v4_0 (by decide +kernel)) (c7_v4_0 m ρ c hx hg hw)
    refine (h8.first_cols _).congr fun r d _ h => ?_
    unfold lin'
    exact Finset.sum_congr rfl fun k _ => by unfold widen; rw [if_pos h]
theorem k_v7_0 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) (hr : Rd2 (a := 8192) (b := 1024) (m ((c.tc : Thread nD τ).loc main_arg3)) dr)
    (hd : Rd2 (a := 8192) (b := 3080) (m ((c.tc : Thread nD τ).loc main_arg4)) dp) :
    Rd2 (a := 8192) (b := 1024) (W9 m ρ c (Proc.devRef .tc main_v7_0)) (dX dr x g (lin 3080 dp w)) :=
  rd_eq (W9_of m ρ c main_v7_0 (by decide)) (c8_v7_0 m ρ c hx hg hw hr hd)
theorem k_v7_1 (hx : Rd2 (a := 8192) (b := 1024) (m ((c.tc : Thread nD τ).loc main_arg0)) x)
    (hw : Rd2 (a := 1024) (b := 3080) (m ((c.tc : Thread nD τ).loc main_arg2)) w) (hd : Rd2 (a := 8192) (b := 3080) (m ((c.tc : Thread nD τ).loc main_arg4)) dp) :
    Rd2 (a := 1) (b := 1024) (W9 m ρ c (Proc.devRef .tc main_v7_1)) (dG 8192 x (lin 3080 dp w)) :=
  rd_eq (W9_of m ρ c main_v7_1 (by decide)) (c8_v7_1 m ρ c hx hw hd)
theorem k_v6 (hx : Rd2 (a := 8192) (b := 1024) (m ((c.tc : Thread nD τ).loc main_arg0)) x) (hg : Rd2 (a := 1) (b := 1024) (m ((c.tc : Thread nD τ).loc main_arg1)) g)
    (hd : Rd2 (a := 8192) (b := 3080) (m ((c.tc : Thread nD τ).loc main_arg4)) dp) :
    Rd2 (a := 1024) (b := 3080) (W9 m ρ c (Proc.devRef .tc main_v6)) (linT 8192 (hid x g) dp) :=
  rd_eq ((W9_of m ρ c main_v6 (by decide)).trans (W8_of m ρ c main_v6 (by decide +kernel))) (c7_v6 m ρ c hx hg hd)
theorem k_v9 (hx : Rd2 (a := 8192) (b := 1024) (m ((c.tc : Thread nD τ).loc main_arg0)) x) (hg : Rd2 (a := 1) (b := 1024) (m ((c.tc : Thread nD τ).loc main_arg1)) g)
    (hw : Rd2 (a := 1024) (b := 3080) (m ((c.tc : Thread nD τ).loc main_arg2)) w) (hr : Rd2 (a := 8192) (b := 1024) (m ((c.tc : Thread nD τ).loc main_arg3)) dr)
    (hd : Rd2 (a := 8192) (b := 3080) (m ((c.tc : Thread nD τ).loc main_arg4)) dp) :
    Rd2 (a := 8192) (b := 1024) (W9 m ρ c (Proc.devRef .tc main_v9)) (dyh (dX dr x g (lin 3080 dp w))) := by
  refine rd_eq (v' := extf (F := Ideal) .f32 (V8 m ρ c main_v7_2) bitsLt_bf16_f32) ?_ ?_
  · show StableHlo.after hostOps3 (W8 m ρ c) (Proc.devRef .tc main_v9) = _
    simp only [hostOps3]; after_results_simp <;> rfl
  · exact Rd2.ext (c8_v7_2 m ρ c hx hg hw hr hd) _

end Cert.Kernel3Ideal.Val
-- ==== Proof.ProjReference.lean ====
/- The values of the input projection's reference program: each operation's result as a formula of the arguments, over
   the real numbers. -/
module

public import proofs.«01_k».proof.Proof.Gen.Reference3Ideal.Read
public import proofs.«01_k».proof.Proof.Reference

@[expose] public section

noncomputable section

namespace Cert.Reference3Ideal.Val

open Cert.Reference3Ideal Cert.Reference3Ideal.Gen Cert.Reference3Ideal.Read Cert.Formulas
open Cert.RealArrays
open Cert.ReferenceIdeal.Val (ms ms_pos zc linT_comm dX_alt)
open Idealize.ShloMosaic Idealize.ShloMosaic.TcCoe Idealize.SL.Sem

section Values
variable {x g w dr dp : ℕ → ℕ → ℝ}
  {X0 : FVec Ideal S8192x1024 .f32} {X1 : FVec Ideal S1x1024 .f32} {X2 : FVec Ideal S1024x3080 .f32} {X3 : FVec Ideal S8192x1024 .f32} {X4 : FVec Ideal S8192x3080 .f32}

theorem r_v0 (hx : Rd2 X0 x) :
    Rd2 (a := 8192) (b := 1024) (val_main_v0 (F := Ideal) X0) (fun r c => x r c * x r c) := by
  unfold val_main_v0; exact hx.mul hx

theorem r_v1 (hx : Rd2 X0 x) :
    Rd1 (a := 8192) (val_main_v1 (F := Ideal) X0) (fun r => ∑ c ∈ Finset.range 1024, x r c * x r c) := by
  unfold val_main_v1; exact (r_v0 hx).hostSum_cols zc _ (by decide) _

theorem r_v2 (hx : Rd2 X0 x) :
    Rd2 (a := 8192) (b := 1) (val_main_v2 (F := Ideal) X0) (fun r _ => ∑ c ∈ Finset.range 1024, x r c * x r c) := by
  unfold val_main_v2; exact (r_v1 hx).broadcastInDim_col _

theorem r_v3 :
    Rd2 (a := 8192) (b := 1) (val_main_v3 (F := Ideal)) (fun _ _ => 1024) := by
  unfold val_main_v3; exact Rd2.splat lit_1024 _

theorem r_v4 (hx : Rd2 X0 x) :
    Rd2 (a := 8192) (b := 1) (val_main_v4 (F := Ideal) X0) (fun r _ => ms x r) := by
  unfold val_main_v4; exact (r_v2 hx).hostDivf r_v3 (fun _ _ _ _ => by norm_num)

theorem r_v5 :
    Rd2 (a := 8192) (b := 1) (val_main_v5 (F := Ideal)) (fun _ _ => eps) := by
  unfold val_main_v5; exact Rd2.splat lit_eps _

theorem r_v6 (hx : Rd2 X0 x) :
    Rd2 (a := 8192) (b := 1) (val_main_v6 (F := Ideal) X0) (fun r _ => ms x r + eps) := by
  unfold val_main_v6; exact (r_v4 hx).add r_v5

theorem r_v7 (hx : Rd2 X0 x) :
    Rd2 (a := 8192) (b := 1) (val_main_v7 (F := Ideal) X0) (fun r _ => rs x r) := by
  unfold val_main_v7; exact (r_v6 hx).hostRsqrt (fun r _ _ _ => ms_pos x r)

theorem r_v8 (hx : Rd2 X0 x) :
    Rd2 (a := 8192) (b := 1) (val_main_v8 (F := Ideal) X0) (fun r _ => rs x r / (ms x r + eps)) := by
  unfold val_main_v8; exact (r_v7 hx).hostDivf (r_v6 hx) (fun r _ _ _ => (ms_pos x r).ne')

theorem r_v9 :
    Rd2 (a := 8192) (b := 1) (val_main_v9 (F := Ideal)) (fun _ _ => -(1 / 2)) := by
  unfold val_main_v9; exact Rd2.splat lit_neg_half _

theorem r_v10 (hx : Rd2 X0 x) :
    Rd2 (a := 8192) (b := 1) (val_main_v10 (F := Ideal) X0) (fun r _ => -(1 / 2) * (rs x r / (ms x r + eps))) := by
  unfold val_main_v10; exact (r_v9).mul (r_v8 hx)

theorem r_v11 (hx : Rd2 X0 x) :
    Rd2 (a := 8192) (b := 1024) (val_main_v11 (F := Ideal) X0) (fun r _ => rs x r) := by
  unfold val_main_v11; exact (r_v7 hx).broadcastInDim_col _

theorem r_v12 (hx : Rd2 X0 x) :
    Rd2 (a := 8192) (b := 1024) (val_main_v12 (F := Ideal) X0) (xn x) := by
  unfold val_main_v12; exact hx.mul (r_v11 hx)

theorem r_v13 (hg : Rd2 X1 g) :
    Rd2 (a := 8192) (b := 1024) (val_main_v13 (F := Ideal) X1) (fun _ c => g 0 c) := by
  unfold val_main_v13; exact hg.broadcastInDim_row _

theorem r_v14 (hx : Rd2 X0 x) (hg : Rd2 X1 g) :
    Rd2 (a := 8192) (b := 1024) (val_main_v14 (F := Ideal) X0 X1) (hid x g) := by
  unfold val_main_v14; exact (r_v12 hx).mul (r_v13 hg)

theorem r_v15 (hx : Rd2 X0 x) (hg : Rd2 X1 g) (hw : Rd2 X2 w) :
    Rd2 (a := 8192) (b := 3080) (val_main_v15 (F := Ideal) X0 X1 X2) (lin' 1024 (hid x g) w) := by
  unfold val_main_v15; exact (r_v14 hx hg).dot_nn hw _ _ _

theorem r_v16 (hx : Rd2 X0 x) (hg : Rd2 X1 g) (hd : Rd2 X4 dp) :
    Rd2 (a := 3080) (b := 1024) (val_main_v16 (F := Ideal) X0 X1 X4) (linT 8192 dp (hid x g)) := by
  unfold val_main_v16; exact hd.dot_tn (r_v14 hx hg) _ _ _

theorem r_v17 (hx : Rd2 X0 x) (hg : Rd2 X1 g) (hd : Rd2 X4 dp) :
    Rd2 (a := 1024) (b := 3080) (val_main_v17 (F := Ideal) X0 X1 X4) (linT 8192 (hid x g) dp) := by
  unfold val_main_v17; exact ((r_v16 hx hg hd).transp _).congr fun r c _ _ => linT_comm _ _ _ _ _

theorem r_v18 (hw : Rd2 X2 w) (hd : Rd2 X4 dp) :
    Rd2 (a := 8192) (b := 1024) (val_main_v18 (F := Ideal) X2 X4) (lin 3080 dp w) := by
  unfold val_main_v18; exact hd.dot_nt hw _ _ _

theorem r_v19 (hx : Rd2 X0 x) (hw : Rd2 X2 w) (hd : Rd2 X4 dp) :
    Rd2 (a := 8192) (b := 1024) (val_main_v19 (F := Ideal) X0 X2 X4) (fun r c => lin 3080 dp w r c * xn x r c) := by
  unfold val_main_v19; exact ((r_v12 hx).mul (r_v18 hw hd)).congr fun _ _ _ _ => mul_comm _ _

theorem r_v20 (hx : Rd2 X0 x) (hw : Rd2 X2 w) (hd : Rd2 X4 dp) :
    Rd1 (a := 1024) (val_main_v20 (F := Ideal) X0 X2 X4) (fun c => ∑ r ∈ Finset.range 8192, lin 3080 dp w r c * xn x r c) := by
  unfold val_main_v20; exact (r_v19 hx hw hd).hostSum_rows zc _ (by decide) _

theorem r_v21 (hx : Rd2 X0 x) (hw : Rd2 X2 w) (hd : Rd2 X4 dp) :
    Rd2 (a := 1) (b := 1024) (val_main_v21 (F := Ideal) X0 X2 X4) (dG 8192 x (lin 3080 dp w)) := by
  unfold val_main_v21; exact (r_v20 hx hw hd).shapeCast_row _

theorem r_v22 (hg : Rd2 X1 g) :
    Rd2 (a := 8192) (b := 1024) (val_main_v22 (F := Ideal) X1) (fun _ c => g 0 c) := by
  unfold val_main_v22; exact hg.broadcastInDim_row _

theorem r_v23 (hg : Rd2 X1 g) (hw : Rd2 X2 w) (hd : Rd2 X4 dp) :
    Rd2 (a := 8192) (b := 1024) (val_main_v23 (F := Ideal) X1 X2 X4) (fun r c => lin 3080 dp w r c * g 0 c) := by
  unfold val_main_v23; exact (r_v18 hw hd).mul (r_v22 hg)

theorem r_v24 (hx : Rd2 X0 x) (hg : Rd2 X1 g) (hw : Rd2 X2 w) (hd : Rd2 X4 dp) :
    Rd2 (a := 8192) (b := 1024) (val_main_v24 (F := Ideal) X0 X1 X2 X4) (fun r c => x r c * (lin 3080 dp w r c * g 0 c)) := by
  unfold val_main_v24; exact hx.mul (r_v23 hg hw hd)

theorem r_v25 (hx : Rd2 X0 x) (hg : Rd2 X1 g) (hw : Rd2 X2 w) (hd : Rd2 X4 dp) :
    Rd1 (a := 8192) (val_main_v25 (F := Ideal) X0 X1 X2 X4) (fun r => ∑ c ∈ Finset.range 1024, x r c * (lin 3080 dp w r c * g 0 c)) := by
  unfold val_main_v25; exact (r_v24 hx hg hw hd).hostSum_cols zc _ (by decide) _

theorem r_v26 (hx : Rd2 X0 x) (hg : Rd2 X1 g) (hw : Rd2 X2 w) (hd : Rd2 X4 dp) :
    Rd2 (a := 8192) (b := 1) (val_main_v26 (F := Ideal) X0 X1 X2 X4) (fun r _ => ∑ c ∈ Finset.range 1024, x r c * (lin 3080 dp w r c * g 0 c)) := by
  unfold val_main_v26; exact (r_v25 hx hg hw hd).shapeCast_col _

theorem r_v27 (hx : Rd2 X0 x) :
    Rd2 (a := 8192) (b := 1024) (val_main_v27 (F := Ideal) X0) (fun r _ => rs x r) := by
  unfold val_main_v27; exact (r_v7 hx).broadcastInDim_col _

theorem r_v28 (hx : Rd2 X0 x) (hg : Rd2 X1 g) (hw : Rd2 X2 w) (hd : Rd2 X4 dp) :
    Rd2 (a := 8192) (b := 1024) (val_main_v28 (F := Ideal) X0 X1 X2 X4) (fun r c => lin 3080 dp w r c * g 0 c * rs x r) := by
  unfold val_main_v28; exact (r_v23 hg hw hd).mul (r_v27 hx)

theorem r_v29 (hx : Rd2 X0 x) (hg : Rd2 X1 g) (hw : Rd2 X2 w) (hr : Rd2 X3 dr) (hd : Rd2 X4 dp) :
    Rd2 (a := 8192) (b := 1024) (val_main_v29 (F := Ideal) X0 X1 X2 X3 X4) (fun r c => dr r c + lin 3080 dp w r c * g 0 c * rs x r) := by
  unfold val_main_v29; exact hr.add (r_v28 hx hg hw hd)

theorem r_v30 (hx : Rd2 X0 x) (hg : Rd2 X1 g) (hw : Rd2 X2 w) (hd : Rd2 X4 dp) :
    Rd2 (a := 8192) (b := 1) (val_main_v30 (F := Ideal) X0 X1 X2 X4) (fun r _ => (∑ c ∈ Finset.range 1024, x r c * (lin 3080 dp w r c * g 0 c)) * (-(1 / 2) * (rs x r / (ms x r + eps)))) := by
  unfold val_main_v30; exact (r_v26 hx hg hw hd).mul (r_v10 hx)

theorem r_v31 :
    Rd2 (a := 8192) (b := 1) (val_main_v31 (F := Ideal)) (fun _ _ => 1024) := by
  unfold val_main_v31; exact Rd2.splat lit_1024 _

theorem r_v32 (hx : Rd2 X0 x) (hg : Rd2 X1 g) (hw : Rd2 X2 w) (hd : Rd2 X4 dp) :
    Rd2 (a := 8192) (b := 1) (val_main_v32 (F := Ideal) X0 X1 X2 X4) (fun r _ => (∑ c ∈ Finset.range 1024, x r c * (lin 3080 dp w r c * g 0 c)) * (-(1 / 2) * (rs x r / (ms x r + eps))) / 1024) := by
  unfold val_main_v32; exact (r_v30 hx hg hw hd).hostDivf r_v31 (fun _ _ _ _ => by norm_num)

theorem r_v33 (hx : Rd2 X0 x) (hg : Rd2 X1 g) (hw : Rd2 X2 w) (hd : Rd2 X4 dp) :
    Rd1 (a := 8192) (val_main_v33 (F := Ideal) X0 X1 X2 X4) (fun r => (∑ c ∈ Finset.range 1024, x r c * (lin 3080 dp w r c * g 0 c)) * (-(1 / 2) * (rs x r / (ms x r + eps))) / 1024) := by
  unfold val_main_v33; exact ((r_v32 hx hg hw hd).hostSum_cols zc _ (by decide) _).congr1 fun _ _ => Finset.sum_range_one _

theorem r_v34 (hx : Rd2 X0 x) (hg : Rd2 X1 g) (hw : Rd2 X2 w) (hd : Rd2 X4 dp) :
    Rd2 (a := 8192) (b := 1024) (val_main_v34 (F := Ideal) X0 X1 X2 X4) (fun r _ => (∑ c ∈ Finset.range 1024, x r c * (lin 3080 dp w r c * g 0 c)) * (-(1 / 2) * (rs x r / (ms x r + eps))) / 1024) := by
  unfold val_main_v34; exact (r_v33 hx hg hw hd).broadcastInDim_col _

theorem r_v35 (hx : Rd2 X0 x) (hg : Rd2 X1 g) (hw : Rd2 X2 w) (hd : Rd2 X4 dp) :
    Rd2 (a := 8192) (b := 1024) (val_main_v35 (F := Ideal) X0 X1 X2 X4) (fun r c => x r c * ((∑ c ∈ Finset.range 1024, x r c * (lin 3080 dp w r c * g 0 c)) * (-(1 / 2) * (rs x r / (ms x r + eps))) / 1024)) := by
  unfold val_main_v35; exact hx.mul (r_v34 hx hg hw hd)

theorem r_v36 (hx : Rd2 X0 x) (hg : Rd2 X1 g) (hw : Rd2 X2 w) (hr : Rd2 X3 dr) (hd : Rd2 X4 dp) :
    Rd2 (a := 8192) (b := 1024) (val_main_v36 (F := Ideal) X0 X1 X2 X3 X4) (fun r c => dr r c + lin 3080 dp w r c * g 0 c * rs x r + x r c * ((∑ c ∈ Finset.range 1024, x r c * (lin 3080 dp w r c * g 0 c)) * (-(1 / 2) * (rs x r / (ms x r + eps))) / 1024)) := by
  unfold val_main_v36; exact (r_v29 hx hg hw hr hd).add (r_v35 hx hg hw hd)

theorem r_v37 (hx : Rd2 X0 x) (hg : Rd2 X1 g) (hw : Rd2 X2 w) (hd : Rd2 X4 dp) :
    Rd2 (a := 8192) (b := 1024) (val_main_v37 (F := Ideal) X0 X1 X2 X4) (fun r c => (∑ c ∈ Finset.range 1024, x r c * (lin 3080 dp w r c * g 0 c)) * (-(1 / 2) * (rs x r / (ms x r + eps))) / 1024 * x r c) := by
  unfold val_main_v37; exact (r_v34 hx hg hw hd).mul hx

theorem r_v38 (hx : Rd2 X0 x) (hg : Rd2 X1 g) (hw : Rd2 X2 w) (hr : Rd2 X3 dr) (hd : Rd2 X4 dp) :
    Rd2 (a := 8192) (b := 1024) (val_main_v38 (F := Ideal) X0 X1 X2 X3 X4) (dX dr x g (lin 3080 dp w)) := by
  unfold val_main_v38; exact ((r_v36 hx hg hw hr hd).add (r_v37 hx hg hw hd)).congr fun r c _ _ => dX_alt dr x g _ r c

theorem r_v39 :
    Rd2 (a := 8192) (b := 1024) (val_main_v39 (F := Ideal)) (fun _ _ => 1 / 2) := by
  unfold val_main_v39; exact Rd2.splat lit_half _

theorem r_v40 (hx : Rd2 X0 x) (hg : Rd2 X1 g) (hw : Rd2 X2 w) (hr : Rd2 X3 dr) (hd : Rd2 X4 dp) :
    Rd2 (a := 8192) (b := 1024) (val_main_v40 (F := Ideal) X0 X1 X2 X3 X4) (dyh (dX dr x g (lin 3080 dp w))) := by
  unfold val_main_v40; exact (r_v39).mul (r_v38 hx hg hw hr hd)

end Values

end Cert.Reference3Ideal.Val
-- ==== Proof.Finite3.lean ====
/- The precondition of the input projection says that every argument entry is a real number. -/
module

public import proofs.«01_k».proof.Pre_finite3
public import proofs.«01_k».proof.Proof.Finite

@[expose] public section

noncomputable section

namespace Cert.Finite3

open Cert.RealArrays Cert.Pre_finite3 Cert.Finite
open Idealize.ShloMosaic Idealize.ShloMosaic.ValueIdx

variable [Facts]

/-- Under the precondition all five arguments are real arrays. -/
theorem reals {A0 : FVec Ideal S8192x1024 .f32} {A1 : FVec Ideal S1x1024 .f32} {A2 : FVec Ideal S1024x3080 .f32} {A3 : FVec Ideal S8192x1024 .f32} {A4 : FVec Ideal S8192x3080 .f32}
    (h : fn (F := Ideal) A0 A1 A2 A3 A4 = fun _ => 1#1) :
    (∃ f, Rd2 (a := 8192) (b := 1024) A0 f) ∧ (∃ f, Rd2 (a := 1) (b := 1024) A1 f) ∧ (∃ f, Rd2 (a := 1024) (b := 3080) A2 f)
      ∧ (∃ f, Rd2 (a := 8192) (b := 1024) A3 f) ∧ (∃ f, Rd2 (a := 8192) (b := 3080) A4 f) := by
  have h := congrFun h ix0
  unfold fn fn_part1 at h
  dsimp only at h
  obtain ⟨h, h4⟩ := bit_and h
  obtain ⟨h, h3⟩ := bit_and h
  obtain ⟨h, h2⟩ := bit_and h
  obtain ⟨h0, h1⟩ := bit_and h
  exact ⟨all_real A0 _ _ _ _ h0, all_real A1 _ _ _ _ h1, all_real A2 _ _ _ _ h2, all_real A3 _ _ _ _ h3, all_real A4 _ _ _ _ h4⟩

end Cert.Finite3
-- ==== Proof.ProjAgree.lean ====
/- The two programs of the input projection agree: under the precondition each result of the kernel and its counterpart of
   the reference read one and the same real array. -/
module

public import proofs.«01_k».proof.Proof.ProjChain
public import proofs.«01_k».proof.Proof.ProjReference
public import proofs.«01_k».proof.Proof.Finite3
public import proofs.«01_k».proof.Proof.Agree
public import proofs.«01_k».proof.Proof.Gen.Reference3Ideal.Run
public import proofs.«01_k».proof.Proof.Gen.Pre_finite3
public import proofs.«01_k».proof.Defs

@[expose] public section

noncomputable section

namespace Cert.ProjAgree

open Cert.RealArrays
open Cert.Agree (rd_unique)
open Cert.KernelIdeal.Val (rd_eq)
open Idealize.ShloMosaic Idealize.ShloMosaic.TcCoe Idealize.ShloMosaic.ValueIdx
open Idealize.SL.Sem

theorem algebraic : Cert.algebraic_Kernel3Ideal_Reference3Ideal_pre_finite3
    (hKernel3Ideal := Cert.Kernel3Ideal.Gen.facts) (hReference3Ideal := Cert.Reference3Ideal.Gen.facts) (hPre_finite3 := Cert.Pre_finite3.Gen.facts) := by
  intro m g m' g' hpre hagree
  refine ⟨fun c => Cert.Kernel3Ideal.Gen.W9 m g c (Proc.devRef .tc Cert.Kernel3Ideal.main_v8), fun c => Cert.Kernel3Ideal.Gen.W9 m g c (Proc.devRef .tc Cert.Kernel3Ideal.main_v7_0),
    fun c => Cert.Kernel3Ideal.Gen.W9 m g c (Proc.devRef .tc Cert.Kernel3Ideal.main_v7_1), fun c => Cert.Kernel3Ideal.Gen.W9 m g c (Proc.devRef .tc Cert.Kernel3Ideal.main_v6),
    fun c => Cert.Kernel3Ideal.Gen.W9 m g c (Proc.devRef .tc Cert.Kernel3Ideal.main_v9), Cert.Kernel3Ideal.Val.run_values m g, ?_⟩
  refine (θ_run Cert.Reference3Ideal.defs _ _).mono (fun r h c => ?_) (Cert.Reference3Ideal.Value.run (F := Ideal) m' g')
  obtain ⟨a0, a1, a2, a3, a4⟩ := hagree c
  obtain ⟨⟨x, hx⟩, ⟨w, hw⟩, ⟨win, hi⟩, ⟨dr, hr⟩, ⟨dp, hd⟩⟩ := Cert.Finite3.reals (hpre c)
  have hx' : Rd2 (a := 8192) (b := 1024) (m' ((c.tc : Thread Cert.Reference3Ideal.nD Cert.Reference3Ideal.τ).loc Cert.Reference3Ideal.main_arg0)) x := rd_eq a0 hx
  have hw' : Rd2 (a := 1) (b := 1024) (m' ((c.tc : Thread Cert.Reference3Ideal.nD Cert.Reference3Ideal.τ).loc Cert.Reference3Ideal.main_arg1)) w := rd_eq a1 hw
  have hi' : Rd2 (a := 1024) (b := 3080) (m' ((c.tc : Thread Cert.Reference3Ideal.nD Cert.Reference3Ideal.τ).loc Cert.Reference3Ideal.main_arg2)) win := rd_eq a2 hi
  have hr' : Rd2 (a := 8192) (b := 1024) (m' ((c.tc : Thread Cert.Reference3Ideal.nD Cert.Reference3Ideal.τ).loc Cert.Reference3Ideal.main_arg3)) dr := rd_eq a3 hr
  have hd' : Rd2 (a := 8192) (b := 3080) (m' ((c.tc : Thread Cert.Reference3Ideal.nD Cert.Reference3Ideal.τ).loc Cert.Reference3Ideal.main_arg4)) dp := rd_eq a4 hd
  obtain ⟨h0, h1, h2, h3, h4, hargs⟩ := h c
  refine ⟨h0.trans ?_, h1.trans ?_, h2.trans ?_, h3.trans ?_, h4.trans ?_, hargs⟩
  · refine (Cert.Reference3Ideal.Read.val_main_v15_eq (F := Ideal) _ _ _).trans ?_
    exact rd_unique (a := 8192) (b := 3080) (Cert.Reference3Ideal.Val.r_v15 hx' hw' hi') (Cert.Kernel3Ideal.Val.k_v8 m g c hx hw hi)
  · refine (Cert.Reference3Ideal.Read.val_main_v38_eq (F := Ideal) m' c).trans ?_
    exact rd_unique (a := 8192) (b := 1024) (Cert.Reference3Ideal.Val.r_v38 hx' hw' hi' hr' hd') (Cert.Kernel3Ideal.Val.k_v7_0 m g c hx hw hi hr hd)
  · refine (Cert.Reference3Ideal.Read.val_main_v21_eq (F := Ideal) _ _ _).trans ?_
    exact rd_unique (a := 1) (b := 1024) (Cert.Reference3Ideal.Val.r_v21 hx' hi' hd') (Cert.Kernel3Ideal.Val.k_v7_1 m g c hx hi hd)
  · refine (Cert.Reference3Ideal.Read.val_main_v17_eq (F := Ideal) _ _ _).trans ?_
    exact rd_unique (a := 1024) (b := 3080) (Cert.Reference3Ideal.Val.r_v17 hx' hw' hd') (Cert.Kernel3Ideal.Val.k_v6 m g c hx hw hd)
  · refine (Cert.Reference3Ideal.Read.val_main_v40_eq (F := Ideal) m' c).trans ?_
    exact rd_unique (a := 8192) (b := 1024) (Cert.Reference3Ideal.Val.r_v40 hx' hw' hi' hr' hd') (Cert.Kernel3Ideal.Val.k_v9 m g c hx hw hi hr hd)

end Cert.ProjAgree
-- ==== Proof.FirstRun.lean ====
/- The whole run of the first half step's program: every result buffer ends at what the last boundary holds there, and the
   arguments end unchanged. -/
module

public import proofs.«01_k».proof.Proof.Gen.Kernel4Ideal.Frame

@[expose] public section

set_option maxRecDepth 16384

noncomputable section

namespace Cert.Kernel4Ideal.Val

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run ends with each result at the last boundary's contents. -/
theorem run_values : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_v6_0) = W7 m ρ c (Proc.devRef .tc main_v6_0)
      ∧ r.2.mem ((c.tc : Thread nD τ).loc main_v6_4) = W7 m ρ c (Proc.devRef .tc main_v6_4)
      ∧ r.2.mem ((c.tc : Thread nD τ).loc main_v10) = W7 m ρ c (Proc.devRef .tc main_v10)
      ∧ r.2.mem ((c.tc : Thread nD τ).loc main_v11) = W7 m ρ c (Proc.devRef .tc main_v11)
      ∧ r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨h c _ (mem_uc main_v9 (by decide)),
       h c _ (mem_uc main_v6_0 (by decide)),
       h c _ (mem_uc main_v6_4 (by decide)),
       h c _ (mem_uc main_v10 (by decide)),
       h c _ (mem_uc main_v11 (by decide)),
       h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Kernel4Ideal.Val
-- ==== Proof.FirstForward.lean ====
/- What each grid point of the first half step's forward call leaves in its four output blocks, and the four arrays
   after the call. -/
module

public import proofs.«01_k».proof.Proof.Gen.Kernel4Ideal.Frame.Region0
public import proofs.«01_k».proof.Proof.Region0

@[expose] public section

noncomputable section

namespace Cert.Kernel4Ideal.Val

open Cert.Kernel4Ideal Cert.Kernel4Ideal.Gen Cert.RealArrays Cert.Formulas
open Cert.KernelIdeal.Val (r0_hid r0_p6 r0_p7 r0_p8 r0_p9 r0_p10 r0_p11 r0_p13 r0_p14 r0_p15 r0_p16 r0_p17 r0_p20 r0_p21 r0_p22 r0_p23 r0_p24 r0_p1)
open Idealize.ShloMosaic Idealize.ShloMosaic.TcCoe Idealize.ShloMosaic.Tactic Idealize.ShloMosaic.ValueIdx
open Idealize.SL.Sem
open Idealize.ShloMosaic.Pipeline (Dat)

section Payloads
variable {gt up : ℕ → ℕ → ℝ}

theorem r0_q2 {v w : FVec Ideal S512x512 .f32} (hv : Rd2 v gt) (hw : Rd2 w up) : Rd2 (k0_pay2 v w) (act gt up) := by
  unfold k0_pay2; exact ((hv.mul hv.lgst).mul hw).trunc _
theorem r0_q3 {v : FVec Ideal S512x512 .f32} (hv : Rd2 v gt) : Rd2 (k0_pay3 v) gt := by
  unfold k0_pay3; exact hv.trunc _
end Payloads

section Blocks
variable {x g wg wu : ℕ → ℕ → ℝ}
variable (c : Dev nD) (i : grid0.Coords) {a1 h1 a2 h2 a3 h3 a4 h4 a5 h5 a6 h6 a7 h7 a8 h8}
variable {x0 : Vec Ideal S512x1024 .f32} {x1 : Vec Ideal S1x1024 .f32} {x2 x3 : Vec Ideal S2816x1024 .bf16}

theorem r0_out4 (r0 : Rd2 x0 x) (r1 : Rd2 x1 g) :
    Rd2 (out0_A_4 c i a1 h1 a2 h2 a3 h3 a4 h4 a5 h5 a6 h6 a7 h7 a8 h8 x0 x1 x2 x3) (hid x g) := by
  unfold out0_A_4
  rw [View.read_writes_eq_canon _ _ _ (cover0_A_4 c i a1 h1 a2 h2 a3 h3 a4 h4 a5 h5 a6 h6 a7 h7 a8 h8 x0 x1 x2 x3)]
  refine Rd2.canonb (cover0_A_4 c i a1 h1 a2 h2 a3 h3 a4 h4 a5 h5 a6 h6 a7 h7 a8 h8 x0 x1 x2 x3) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 1024) (p := 0) (q := 0) inb_S512x1024_S512x1024_0_0 (r0_hid (r0.ldf_all inb_S512x1024_S512x1024_0_0) (r1.ldf_all inb_S1x1024_S1x1024_0_0)) (fun r c _ _ => by rw [Nat.zero_add, Nat.zero_add]), ?_⟩
  exact fun p hp => absurd hp (List.not_mem_nil)

theorem r0_out5 (r0 : Rd2 x0 x) (r1 : Rd2 x1 g) (r2 : Rd2 x2 wg) :
    Rd2 (out0_A_5 c i a1 h1 a2 h2 a3 h3 a4 h4 a5 h5 a6 h6 a7 h7 a8 h8 x0 x1 x2 x3) (lin 1024 (hid x g) wg) := by
  unfold out0_A_5
  rw [View.read_writes_eq_canon _ _ _ (cover0_A_5 c i a1 h1 a2 h2 a3 h3 a4 h4 a5 h5 a6 h6 a7 h7 a8 h8 x0 x1 x2 x3)]
  refine Rd2.canonb (cover0_A_5 c i a1 h1 a2 h2 a3 h3 a4 h4 a5 h5 a6 h6 a7 h7 a8 h8 x0 x1 x2 x3) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_q3 (r0_p20 (r0_hid (r0.ldf_all inb_S512x1024_S512x1024_0_0) (r1.ldf_all inb_S1x1024_S1x1024_0_0)) (r2.ldb_rows inb_S2816x1024_S512x1024_2304_0))) (fun r c _ _ => by rw [Nat.zero_add]; rfl), ?_⟩
  refine List.forall_mem_cons.2 ⟨Rd2.piece (n := 512) (m := 768) (p := 0) (q := 1536) inb_S512x2816_S512x768_0_1536 (r0_p23 (r0_p13 (r0_hid (r0.ldf_all inb_S512x1024_S512x1024_0_0) (r1.ldf_all inb_S1x1024_S1x1024_0_0)) (r2.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p16 (r0_p7 (r0.ldf_all inb_S512x1024_S512x1024_0_0) (r1.ldf_all inb_S1x1024_S1x1024_0_0) (r2.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p10 (r0.ldf_all inb_S512x1024_S512x1024_0_0) (r1.ldf_all inb_S1x1024_S1x1024_0_0) (r2.ldb_rows inb_S2816x1024_S768x1024_0_0)) (fun r c _ _ => by rw [Nat.zero_add]; rfl), ?_⟩
  exact fun p hp => absurd hp (List.not_mem_nil)

theorem r0_out6 (r0 : Rd2 x0 x) (r1 : Rd2 x1 g) (r3 : Rd2 x3 wu) :
    Rd2 (out0_A_6 c i a1 h1 a2 h2 a3 h3 a4 h4 a5 h5 a6 h6 a7 h7 a8 h8 x0 x1 x2 x3) (lin 1024 (hid x g) wu) := by
  unfold out0_A_6
  rw [View.read_writes_eq_canon _ _ _ (cover0_A_6 c i a1 h1 a2 h2 a3 h3 a4 h4 a5 h5 a6 h6 a7 h7 a8 h8 x0 x1 x2 x3)]
  refine Rd2.canonb (cover0_A_6 c i a1 h1 a2 h2 a3 h3 a4 h4 a5 h5 a6 h6 a7 h7 a8 h8 x0 x1 x2 x3) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_p1 (r0_p21 (r0_hid (r0.ldf_all inb_S512x1024_S512x1024_0_0) (r1.ldf_all inb_S1x1024_S1x1024_0_0)) (r3.ldb_rows inb_S2816x1024_S512x1024_2304_0))) (fun r c _ _ => by rw [Nat.zero_add]; rfl), ?_⟩
  refine List.forall_mem_cons.2 ⟨Rd2.piece (n := 512) (m := 768) (p := 0) (q := 1536) inb_S512x2816_S512x768_0_1536 (r0_p24 (r0_p14 (r0_hid (r0.ldf_all inb_S512x1024_S512x1024_0_0) (r1.ldf_all inb_S1x1024_S1x1024_0_0)) (r3.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p17 (r0_p8 (r0.ldf_all inb_S512x1024_S512x1024_0_0) (r1.ldf_all inb_S1x1024_S1x1024_0_0) (r3.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p11 (r0_p6 (r0.ldf_all inb_S512x1024_S512x1024_0_0) (r1.ldf_all inb_S1x1024_S1x1024_0_0) (r3.ldb_rows inb_S2816x1024_S768x1024_0_0))) (fun r c _ _ => by rw [Nat.zero_add]; rfl), ?_⟩
  exact fun p hp => absurd hp (List.not_mem_nil)

theorem r0_out7 (r0 : Rd2 x0 x) (r1 : Rd2 x1 g) (r2 : Rd2 x2 wg) (r3 : Rd2 x3 wu) :
    Rd2 (out0_A_7 c i a1 h1 a2 h2 a3 h3 a4 h4 a5 h5 a6 h6 a7 h7 a8 h8 x0 x1 x2 x3) (act (lin 1024 (hid x g) wg) (lin 1024 (hid x g) wu)) := by
  unfold out0_A_7
  rw [View.read_writes_eq_canon _ _ _ (cover0_A_7 c i a1 h1 a2 h2 a3 h3 a4 h4 a5 h5 a6 h6 a7 h7 a8 h8 x0 x1 x2 x3)]
  refine Rd2.canonb (cover0_A_7 c i a1 h1 a2 h2 a3 h3 a4 h4 a5 h5 a6 h6 a7 h7 a8 h8 x0 x1 x2 x3) ?_
  unfold kernelRun0_A
  dsimp only
  sl_unfold_words
  simp only [View.readAt_eq_ld, h1.read_unread, h2.read_unread, h3.read_unread, h4.read_unread, h5.read_unread, readCov_whole]
  refine List.forall_mem_cons.2 ⟨Rd2.piece (n := 512) (m := 512) (p := 0) (q := 2304) inb_S512x2816_S512x512_0_2304 (r0_q2 (r0_p20 (r0_hid (r0.ldf_all inb_S512x1024_S512x1024_0_0) (r1.ldf_all inb_S1x1024_S1x1024_0_0)) (r2.ldb_rows inb_S2816x1024_S512x1024_2304_0)) (r0_p21 (r0_hid (r0.ldf_all inb_S512x1024_S512x1024_0_0) (r1.ldf_all inb_S1x1024_S1x1024_0_0)) (r3.ldb_rows inb_S2816x1024_S512x1024_2304_0))) (fun r c _ _ => by rw [Nat.zero_add]; rfl), ?_⟩
  refine List.forall_mem_cons.2 ⟨Rd2.piece (n := 512) (m := 768) (p := 0) (q := 1536) inb_S512x2816_S512x768_0_1536 (r0_p22 (r0_p13 (r0_hid (r0.ldf_all inb_S512x1024_S512x1024_0_0) (r1.ldf_all inb_S1x1024_S1x1024_0_0)) (r2.ldb_rows inb_S2816x1024_S768x1024_1536_0)) (r0_p14 (r0_hid (r0.ldf_all inb_S512x1024_S512x1024_0_0) (r1.ldf_all inb_S1x1024_S1x1024_0_0)) (r3.ldb_rows inb_S2816x1024_S768x1024_1536_0))) (fun r c _ _ => by rw [Nat.zero_add]; rfl), ?_⟩
  refine List.forall_mem_cons.2 ⟨Rd2.piece (n := 512) (m := 768) (p := 0) (q := 768) inb_S512x2816_S512x768_0_768 (r0_p15 (r0_p7 (r0.ldf_all inb_S512x1024_S512x1024_0_0) (r1.ldf_all inb_S1x1024_S1x1024_0_0) (r2.ldb_rows inb_S2816x1024_S768x1024_768_0)) (r0_p8 (r0.ldf_all inb_S512x1024_S512x1024_0_0) (r1.ldf_all inb_S1x1024_S1x1024_0_0) (r3.ldb_rows inb_S2816x1024_S768x1024_768_0))) (fun r c _ _ => by rw [Nat.zero_add]; rfl), ?_⟩
  refine List.forall_mem_cons.2 ⟨Rd2.piece (n := 512) (m := 768) (p := 0) (q := 0) inb_S512x2816_S512x768_0_0 (r0_p9 (r0.ldf_all inb_S512x1024_S512x1024_0_0) (r1.ldf_all inb_S1x1024_S1x1024_0_0) (r2.ldb_rows inb_S2816x1024_S768x1024_0_0) (r3.ldb_rows inb_S2816x1024_S768x1024_0_0)) (fun r c _ _ => by rw [Nat.zero_add]; rfl), ?_⟩
  exact fun p hp => absurd hp (List.not_mem_nil)

end Blocks

variable (V : (c : Dev nD) → (b : Ref sig .tc) → Buf (Elt Ideal) ((c : Thread nD τ).loc b)) (c : Dev nD)

/-! ## The input blocks -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem blk0_0 {X : ℕ → ℕ → ℝ} (hX : Rd2 (a := 8192) (b := 1024) (V c main_arg0) X) (t : Fin cfg0.N) :
    Rd2 (a := 512) (b := 1024) (iblk0 V c 0 t) (fun r d => X ((t.val) * 512 + r) ((0) * 1024 + d)) := fun j => by
  unfold iblk0
  rw [View.read_apply]
  show V c main_arg0 _ = _
  refine (hX _).trans (coe_congr₂ X ?_ ?_)
  · show win0_0.index t 0 * 512 + 1 * (j 0).val = _; rw [(idx0_0 t).1]; omega
  · show win0_0.index t 1 * 1024 + 1 * (j 1).val = _; rw [(idx0_0 t).2]; omega
theorem idx0_1 : ∀ t : Fin cfg0.N, win0_1.index t 0 = 0 ∧ win0_1.index t 1 = 0 :=
  (by decide +kernel : ∀ t : Fin grid0.N, win0_1.index t 0 = 0 ∧ win0_1.index t 1 = 0)
theorem blk0_1 {X : ℕ → ℕ → ℝ} (hX : Rd2 (a := 1) (b := 1024) (V c main_arg1) X) (t : Fin cfg0.N) :
    Rd2 (a := 1) (b := 1024) (iblk0 V c 1 t) (fun r d => X ((0) * 1 + r) ((0) * 1024 + d)) := fun j => by
  unfold iblk0
  rw [View.read_apply]
  show V c main_arg1 _ = _
  refine (hX _).trans (coe_congr₂ X ?_ ?_)
  · show win0_1.index t 0 * 1 + 1 * (j 0).val = _; rw [(idx0_1 t).1]; omega
  · show win0_1.index t 1 * 1024 + 1 * (j 1).val = _; rw [(idx0_1 t).2]; omega
theorem idx0_2 : ∀ t : Fin cfg0.N, win0_2.index t 0 = 0 ∧ win0_2.index t 1 = 0 :=
  (by decide +kernel : ∀ t : Fin grid0.N, win0_2.index t 0 = 0 ∧ win0_2.index t 1 = 0)
theorem blk0_2 {X : ℕ → ℕ → ℝ} (hX : Rd2 (a := 2816) (b := 1024) (V c main_v1) X) (t : Fin cfg0.N) :
    Rd2 (a := 2816) (b := 1024) (iblk0 V c 2 t) (fun r d => X ((0) * 2816 + r) ((0) * 1024 + d)) := fun j => by
  unfold iblk0
  rw [View.read_apply]
  show V c main_v1 _ = _
  refine (hX _).trans (coe_congr₂ X ?_ ?_)
  · show win0_2.index t 0 * 2816 + 1 * (j 0).val = _; rw [(idx0_2 t).1]; omega
  · show win0_2.index t 1 * 1024 + 1 * (j 1).val = _; rw [(idx0_2 t).2]; omega
theorem idx0_3 : ∀ t : Fin cfg0.N, win0_3.index t 0 = 0 ∧ win0_3.index t 1 = 0 :=
  (by decide +kernel : ∀ t : Fin grid0.N, win0_3.index t 0 = 0 ∧ win0_3.index t 1 = 0)
theorem blk0_3 {X : ℕ → ℕ → ℝ} (hX : Rd2 (a := 2816) (b := 1024) (V c main_v3) X) (t : Fin cfg0.N) :
    Rd2 (a := 2816) (b := 1024) (iblk0 V c 3 t) (fun r d => X ((0) * 2816 + r) ((0) * 1024 + d)) := fun j => by
  unfold iblk0
  rw [View.read_apply]
  show V c main_v3 _ = _
  refine (hX _).trans (coe_congr₂ X ?_ ?_)
  · show win0_3.index t 0 * 2816 + 1 * (j 0).val = _; rw [(idx0_3 t).1]; omega
  · show win0_3.index t 1 * 1024 + 1 * (j 1).val = _; rw [(idx0_3 t).2]; omega

/-! ## The result arrays -/

theorem idx0_4 : ∀ t : Fin cfg0.N, win0_4.index t 0 = t.val ∧ win0_4.index t 1 = 0 :=
  (by decide +kernel : ∀ t : Fin grid0.N, win0_4.index t 0 = t.val ∧ win0_4.index t 1 = 0)
theorem arr0_4 {G : ℕ → ℕ → ℝ} (hG : ∀ t : Fin cfg0.N, (cfg0.win 4).flush t = true →
      Rd2 (a := 512) (b := 1024) ((outsAt0 V c t).1) (fun r d => G ((t.val) * 512 + r) ((0) * 1024 + d))) :
    Rd2 (a := 8192) (b := 1024) ((dat0 V c).arrAt 4 cfg0.N) G := fun i => by
  refine (dat0 V c).arrAt_forall_of_covers 4 (fun i v => v = ((G (i 0).val (i 1).val : ℝ) : EReal)) (by decide +kernel) (fun t hf y => ?_) i
  rw [after0_4]
  refine (hG t hf _).trans (coe_congr₂ G ?_ ?_)
  · show (t.val) * 512 + (y 0).val = win0_4.index t 0 * 512 + 1 * (y 0).val; rw [(idx0_4 t).1]; omega
  · show (0) * 1024 + (y 1).val = win0_4.index t 1 * 1024 + 1 * (y 1).val; rw [(idx0_4 t).2]; omega
theorem idx0_5 : ∀ t : Fin cfg0.N, win0_5.index t 0 = t.val ∧ win0_5.index t 1 = 0 :=
  (by decide +kernel : ∀ t : Fin grid0.N, win0_5.index t 0 = t.val ∧ win0_5.index t 1 = 0)
theorem arr0_5 {G : ℕ → ℕ → ℝ} (hG : ∀ t : Fin cfg0.N, (cfg0.win 5).flush t = true →
      Rd2 (a := 512) (b := 2816) ((outsAt0 V c t).2.1) (fun r d => G ((t.val) * 512 + r) ((0) * 2816 + d))) :
    Rd2 (a := 8192) (b := 2816) ((dat0 V c).arrAt 5 cfg0.N) G := fun i => by
  refine (dat0 V c).arrAt_forall_of_covers 5 (fun i v => v = ((G (i 0).val (i 1).val : ℝ) : EReal)) (by decide +kernel) (fun t hf y => ?_) i
  rw [after0_5]
  refine (hG t hf _).trans (coe_congr₂ G ?_ ?_)
  · show (t.val) * 512 + (y 0).val = win0_5.index t 0 * 512 + 1 * (y 0).val; rw [(idx0_5 t).1]; omega
  · show (0) * 2816 + (y 1).val = win0_5.index t 1 * 2816 + 1 * (y 1).val; rw [(idx0_5 t).2]; omega
theorem idx0_6 : ∀ t : Fin cfg0.N, win0_6.index t 0 = t.val ∧ win0_6.index t 1 = 0 :=
  (by decide +kernel : ∀ t : Fin grid0.N, win0_6.index t 0 = t.val ∧ win0_6.index t 1 = 0)
theorem arr0_6 {G : ℕ → ℕ → ℝ} (hG : ∀ t : Fin cfg0.N, (cfg0.win 6).flush t = true →
      Rd2 (a := 512) (b := 2816) ((outsAt0 V c t).2.2.1) (fun r d => G ((t.val) * 512 + r) ((0) * 2816 + d))) :
    Rd2 (a := 8192) (b := 2816) ((dat0 V c).arrAt 6 cfg0.N) G := fun i => by
  refine (dat0 V c).arrAt_forall_of_covers 6 (fun i v => v = ((G (i 0).val (i 1).val : ℝ) : EReal)) (by decide +kernel) (fun t hf y => ?_) i
  rw [after0_6]
  refine (hG t hf _).trans (coe_congr₂ G ?_ ?_)
  · show (t.val) * 512 + (y 0).val = win0_6.index t 0 * 512 + 1 * (y 0).val; rw [(idx0_6 t).1]; omega
  · show (0) * 2816 + (y 1).val = win0_6.index t 1 * 2816 + 1 * (y 1).val; rw [(idx0_6 t).2]; omega
theorem idx0_7 : ∀ t : Fin cfg0.N, win0_7.index t 0 = t.val ∧ win0_7.index t 1 = 0 :=
  (by decide +kernel : ∀ t : Fin grid0.N, win0_7.index t 0 = t.val ∧ win0_7.index t 1 = 0)
theorem arr0_7 {G : ℕ → ℕ → ℝ} (hG : ∀ t : Fin cfg0.N, (cfg0.win 7).flush t = true →
      Rd2 (a := 512) (b := 2816) ((outsAt0 V c t).2.2.2) (fun r d => G ((t.val) * 512 + r) ((0) * 2816 + d))) :
    Rd2 (a := 8192) (b := 2816) ((dat0 V c).arrAt 7 cfg0.N) G := fun i => by
  refine (dat0 V c).arrAt_forall_of_covers 7 (fun i v => v = ((G (i 0).val (i 1).val : ℝ) : EReal)) (by decide +kernel) (fun t hf y => ?_) i
  rw [after0_7]
  refine (hG t hf _).trans (coe_congr₂ G ?_ ?_)
  · show (t.val) * 512 + (y 0).val = win0_7.index t 0 * 512 + 1 * (y 0).val; rw [(idx0_7 t).1]; omega
  · show (0) * 2816 + (y 1).val = win0_7.index t 1 * 2816 + 1 * (y 1).val; rw [(idx0_7 t).2]; omega

/-! ## The call -/

variable {V c} {x g wg wu : ℕ → ℕ → ℝ}
  (hx : Rd2 (a := 8192) (b := 1024) (V c main_arg0) x) (hg : Rd2 (a := 1) (b := 1024) (V c main_arg1) g)
  (hwg : Rd2 (a := 2816) (b := 1024) (V c main_v1) wg) (hwu : Rd2 (a := 2816) (b := 1024) (V c main_v3) wu)

include hx hg
theorem call0_h : Rd2 (a := 8192) (b := 1024) ((dat0 V c).arrAt 4 cfg0.N) (hid x g) := arr0_4 V c fun t _ => by
  unfold outsAt0; dsimp only
  refine (r0_out4 c _ (blk0_0 V c hx t) (blk0_1 V c hg t)).congr fun r d _ _ => ?_
  simp only [Nat.zero_mul, Nat.zero_add]; rfl
theorem call0_gate (hwg : Rd2 (a := 2816) (b := 1024) (V c main_v1) wg) :
    Rd2 (a := 8192) (b := 2816) ((dat0 V c).arrAt 5 cfg0.N) (lin 1024 (hid x g) wg) := arr0_5 V c fun t _ => by
  unfold outsAt0; dsimp only
  refine (r0_out5 c _ (blk0_0 V c hx t) (blk0_1 V c hg t) (blk0_2 V c hwg t)).congr fun r d _ _ => ?_
  simp only [Nat.zero_mul, Nat.zero_add]; rfl
theorem call0_up (hwu : Rd2 (a := 2816) (b := 1024) (V c main_v3) wu) :
    Rd2 (a := 8192) (b := 2816) ((dat0 V c).arrAt 6 cfg0.N) (lin 1024 (hid x g) wu) := arr0_6 V c fun t _ => by
  unfold outsAt0; dsimp only
  refine (r0_out6 c _ (blk0_0 V c hx t) (blk0_1 V c hg t) (blk0_3 V c hwu t)).congr fun r d _ _ => ?_
  simp only [Nat.zero_mul, Nat.zero_add]; rfl
include hwg hwu
theorem call0_act : Rd2 (a := 8192) (b := 2816) ((dat0 V c).arrAt 7 cfg0.N) (act (lin 1024 (hid x g) wg) (lin 1024 (hid x g) wu)) := arr0_7 V c fun t _ => by
  unfold outsAt0; dsimp only
  refine (r0_out7 c _ (blk0_0 V c hx t) (blk0_1 V c hg t) (blk0_2 V c hwg t) (blk0_3 V c hwu t)).congr fun r d _ _ => ?_
  simp only [Nat.zero_mul, Nat.zero_add]; rfl

end Cert.Kernel4Ideal.Val
-- ==== Proof.FirstBackBlocks.lean ====
/- What a grid point of the first half step's activation gradient leaves in its five output blocks. -/
module

public import proofs.«01_k».proof.Proof.Gen.Kernel4Ideal.Frame.Region1
public import proofs.«01_k».proof.Proof.Region1Blocks

@[expose] public section

noncomputable section

namespace Cert.Kernel4Ideal.Val

open Cert.Kernel4Ideal Cert.Kernel4Ideal.Gen Cert.RealArrays Cert.Formulas
open Cert.KernelIdeal.Val (r1_p4 r1_p6 r1_p7 r1_p14 r1_p20 r1_p27 r1_p10 r1_p11 r1_p17 r1_p18 r1_p23 r1_p24 r1_p29 r1_p30 r1_p37 r1_p38 r1_p42 r1_p43 r1_p12 r1_p25 r1_p13 r1_p19 r1_p26 r1_p39 r1_p44 r1_p31 r1_p32 r1_p33 r1_p34 r1_p45 r1_p46 r1_p47 r1_p48 r1_p49 r1_p50 r1_p1 r1_p2 r1_p3 accs)
open Idealize.ShloMosaic Idealize.ShloMosaic.TcCoe Idealize.ShloMosaic.Tactic Idealize.ShloMosaic.ValueIdx
open Idealize.SL.Sem
open Idealize.ShloMosaic.Pipeline (Dat)

section Blocks
variable {dy x g gt up wg wu wd dgo : ℕ → ℕ → ℝ}
variable (c : Dev nD) (i : grid1.Coords) {a1 h1 a2 h2 a3 h3 a4 h4 a5 h5 a6 h6 a7 h7 a8 h8 a9 h9 a10 h10 a11 h11 a12 h12 a13 h13 a14 h14}
variable {x0 x1 : Vec Ideal S256x1024 .f32} {x2 : Vec Ideal S1x1024 .f32} {x3 x4 : Vec Ideal S256x2816 .bf16} {x5 x6 x7 : Vec Ideal S2816x1024 .bf16} {xo12 : Vec Ideal S1x1024 .f32}

theorem r1_outA11 {hc} (r0 : Rd2 x0 dy) :
    Rd2 (out1_A_11 c i a1 h1 a2 h2 a3 h3 a4 h4 a5 h5 a6 h6 a7 h7 a8 h8 a9 h9 a10 h10 a11 h11 a12 h12 a13 h13 a14 h14 hc x0 x1 x2 x3 x4 x5 x6 x7) (dyh dy) := by
  unfold out1_A_11
  rw [View.read_writes_eq_canon _ _ _ (cover1_A_11 c i a1 h1 a2 h2 a3 h3 a4 h4 a5 h5 a6 h6 a7 h7 a8 h8 a9 h9 a10 h10 a11 h11 a12 h12 a13 h13 a14 h14 hc x0 x1 x2 x3 x4 x5 x6 x7)]
  refine Rd2.canonb (cover1_A_11 c i a1 h1 a2 h2 a3 h3 a4 h4 a5 h5 a6 h6 a7 h7 a8 h8 a9 h9 a10 h10 a11 h11 a12 h12 a13 h13 a14 h14 hc x0 x1 x2 x3 x4 x5 x6 x7) ?_
  unfold kernelRun1_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 1024) (p := 0) (q := 0) inb_S256x1024_S256x1024_0_0 (r1_p4 (r0.ldf_all inb_S256x1024_S256x1024_0_0)) (fun r c _ _ => by rw [Nat.zero_add, Nat.zero_add]), ?_⟩
  exact fun p hp => absurd hp (List.not_mem_nil)

theorem r1_outA10 {hc} (r0 : Rd2 x0 dy) (r3 : Rd2 x3 gt) (r7 : Rd2 x7 wd) :
    Rd2 (out1_A_10 c i a1 h1 a2 h2 a3 h3 a4 h4 a5 h5 a6 h6 a7 h7 a8 h8 a9 h9 a10 h10 a11 h11 a12 h12 a13 h13 a14 h14 hc x0 x1 x2 x3 x4 x5 x6 x7) (dUp (lin 1024 (dyh dy) wd) gt) := by
  unfold out1_A_10
  rw [View.read_writes_eq_canon _ _ _ (cover1_A_10 c i a1 h1 a2 h2 a3 h3 a4 h4 a5 h5 a6 h6 a7 h7 a8 h8 a9 h9 a10 h10 a11 h11 a12 h12 a13 h13 a14 h14 hc x0 x1 x2 x3 x4 x5 x6 x7)]
  refine Rd2.canonb (cover1_A_10 c i a1 h1 a2 h2 a3 h3 a4 h4 a5 h5 a6 h6 a7 h7 a8 h8 a9 h9 a10 h10 a11 h11 a12 h12 a13 h13 a14 h14 hc x0 x1 x2 x3 x4 x5 x6 x7) ?_
  unfold kernelRun1_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 256) (p := 0) (q := 2560) inb_S256x2816_S256x256_0_2560 (r1_p42 (r1_p27 (r1_p4 (r0.ldf_all inb_S256x1024_S256x1024_0_0)) (r7.ldb_rows inb_S2816x1024_S256x1024_2560_0)) (r3.ldb_cols inb_S256x2816_S256x256_0_2560)) (fun r c _ _ => by rw [Nat.zero_add]; rfl), ?_⟩
  refine List.forall_mem_cons.2 ⟨Rd2.piece (n := 256) (m := 512) (p := 0) (q := 2048) inb_S256x2816_S256x512_0_2048 (r1_p37 (r1_p20 (r1_p4 (r0.ldf_all inb_S256x1024_S256x1024_0_0)) (r7.ldb_rows inb_S2816x1024_S512x1024_2048_0)) (r3.ldb_cols inb_S256x2816_S256x512_0_2048)) (fun r c _ _ => by rw [Nat.zero_add]; rfl), ?_⟩
  refine List.forall_mem_cons.2 ⟨Rd2.piece (n := 256) (m := 512) (p := 0) (q := 1536) inb_S256x2816_S256x512_0_1536 (r1_p30 (r1_p14 (r1_p4 (r0.ldf_all inb_S256x1024_S256x1024_0_0)) (r7.ldb_rows inb_S2816x1024_S512x1024_1536_0)) (r3.ldb_cols inb_S256x2816_S256x512_0_1536)) (fun r c _ _ => by rw [Nat.zero_add]; rfl), ?_⟩
  refine List.forall_mem_cons.2 ⟨Rd2.piece (n := 256) (m := 512) (p := 0) (q := 1024) inb_S256x2816_S256x512_0_1024 (r1_p23 (r1_p7 (r0.ldf_all inb_S256x1024_S256x1024_0_0) (r7.ldb_rows inb_S2816x1024_S512x1024_1024_0)) (r3.ldb_cols inb_S256x2816_S256x512_0_1024)) (fun r c _ _ => by rw [Nat.zero_add]; rfl), ?_⟩
  refine List.forall_mem_cons.2 ⟨Rd2.piece (n := 256) (m := 512) (p := 0) (q := 512) inb_S256x2816_S256x512_0_512 (r1_p17 (r1_p6 (r0.ldf_all inb_S256x1024_S256x1024_0_0) (r7.ldb_rows inb_S2816x1024_S512x1024_512_0)) (r3.ldb_cols inb_S256x2816_S256x512_0_512)) (fun r c _ _ => by rw [Nat.zero_add]; rfl), ?_⟩
  refine List.forall_mem_cons.2 ⟨Rd2.piece (n := 256) (m := 512) (p := 0) (q := 0) inb_S256x2816_S256x512_0_0 (r1_p10 (r0.ldf_all inb_S256x1024_S256x1024_0_0) (r7.ldb_rows inb_S2816x1024_S512x1024_0_0) (r3.ldb_cols inb_S256x2816_S256x512_0_0)) (fun r c _ _ => by rw [Nat.zero_add]; rfl), ?_⟩
  exact fun p hp => absurd hp (List.not_mem_nil)

theorem r1_outA9 {hc} (r0 : Rd2 x0 dy) (r3 : Rd2 x3 gt) (r4 : Rd2 x4 up) (r7 : Rd2 x7 wd) :
    Rd2 (out1_A_9 c i a1 h1 a2 h2 a3 h3 a4 h4 a5 h5 a6 h6 a7 h7 a8 h8 a9 h9 a10 h10 a11 h11 a12 h12 a13 h13 a14 h14 hc x0 x1 x2 x3 x4 x5 x6 x7) (dGate (lin 1024 (dyh dy) wd) gt up) := by
  unfold out1_A_9
  rw [View.read_writes_eq_canon _ _ _ (cover1_A_9 c i a1 h1 a2 h2 a3 h3 a4 h4 a5 h5 a6 h6 a7 h7 a8 h8 a9 h9 a10 h10 a11 h11 a12 h12 a13 h13 a14 h14 hc x0 x1 x2 x3 x4 x5 x6 x7)]
  refine Rd2.canonb (cover1_A_9 c i a1 h1 a2 h2 a3 h3 a4 h4 a5 h5 a6 h6 a7 h7 a8 h8 a9 h9 a10 h10 a11 h11 a12 h12 a13 h13 a14 h14 hc x0 x1 x2 x3 x4 x5 x6 x7) ?_
  unfold kernelRun1_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 256) (p := 0) (q := 2560) inb_S256x2816_S256x256_0_2560 (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (fun r c _ _ => by rw [Nat.zero_add]; rfl), ?_⟩
  refine List.forall_mem_cons.2 ⟨Rd2.piece (n := 256) (m := 512) (p := 0) (q := 2048) inb_S256x2816_S256x512_0_2048 (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (fun r c _ _ => by rw [Nat.zero_add]; rfl), ?_⟩
  refine List.forall_mem_cons.2 ⟨Rd2.piece (n := 256) (m := 512) (p := 0) (q := 1536) inb_S256x2816_S256x512_0_1536 (r1_p33 (r1_p29 (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536))) (fun r c _ _ => by rw [Nat.zero_add]; rfl), ?_⟩
  refine List.forall_mem_cons.2 ⟨Rd2.piece (n := 256) (m := 512) (p := 0) (q := 1024) inb_S256x2816_S256x512_0_1024 (r1_p25 (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024))) (fun r c _ _ => by rw [Nat.zero_add]; rfl), ?_⟩
  refine List.forall_mem_cons.2 ⟨Rd2.piece (n := 256) (m := 512) (p := 0) (q := 512) inb_S256x2816_S256x512_0_512 (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (fun r c _ _ => by rw [Nat.zero_add]; rfl), ?_⟩
  refine List.forall_mem_cons.2 ⟨Rd2.piece (n := 256) (m := 512) (p := 0) (q := 0) inb_S256x2816_S256x512_0_0 (r1_p12 (r1_p11 (r0.ldf_all inb_S256x1024_S256x1024_0_0) (r7.ldb_rows inb_S2816x1024_S512x1024_0_0) (r3.ldb_cols inb_S256x2816_S256x512_0_0) (r4.ldb_cols inb_S256x2816_S256x512_0_0))) (fun r c _ _ => by rw [Nat.zero_add]; rfl), ?_⟩
  exact fun p hp => absurd hp (List.not_mem_nil)

theorem r1_outA8 {hc} (r0 : Rd2 x0 dy) (r1 : Rd2 x1 x) (r2 : Rd2 x2 g) (r3 : Rd2 x3 gt) (r4 : Rd2 x4 up) (r5 : Rd2 x5 wg) (r6 : Rd2 x6 wu) (r7 : Rd2 x7 wd) :
    Rd2 (out1_A_8 c i a1 h1 a2 h2 a3 h3 a4 h4 a5 h5 a6 h6 a7 h7 a8 h8 a9 h9 a10 h10 a11 h11 a12 h12 a13 h13 a14 h14 hc x0 x1 x2 x3 x4 x5 x6 x7) (dX dy x g (dAcc 2816 (dGate (lin 1024 (dyh dy) wd) gt up) (dUp (lin 1024 (dyh dy) wd) gt) wg wu)) := by
  unfold out1_A_8
  rw [View.read_writes_eq_canon _ _ _ (cover1_A_8 c i a1 h1 a2 h2 a3 h3 a4 h4 a5 h5 a6 h6 a7 h7 a8 h8 a9 h9 a10 h10 a11 h11 a12 h12 a13 h13 a14 h14 hc x0 x1 x2 x3 x4 x5 x6 x7)]
  refine Rd2.canonf (cover1_A_8 c i a1 h1 a2 h2 a3 h3 a4 h4 a5 h5 a6 h6 a7 h7 a8 h8 a9 h9 a10 h10 a11 h11 a12 h12 a13 h13 a14 h14 hc x0 x1 x2 x3 x4 x5 x6 x7) ?_
  unfold kernelRun1_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  have hacc := (r1_p44 (r1_p42 (r1_p27 (r1_p4 (r0.ldf_all inb_S256x1024_S256x1024_0_0)) (r7.ldb_rows inb_S2816x1024_S256x1024_2560_0)) (r3.ldb_cols inb_S256x2816_S256x256_0_2560)) (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (r5.ldb_rows inb_S2816x1024_S256x1024_2560_0) (r6.ldb_rows inb_S2816x1024_S256x1024_2560_0) (r1_p39 (r1_p37 (r1_p20 (r1_p4 (r0.ldf_all inb_S256x1024_S256x1024_0_0)) (r7.ldb_rows inb_S2816x1024_S512x1024_2048_0)) (r3.ldb_cols inb_S256x2816_S256x512_0_2048)) (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (r5.ldb_rows inb_S2816x1024_S512x1024_2048_0) (r6.ldb_rows inb_S2816x1024_S512x1024_2048_0) (r1_p34 (r1_p29 (r3.ldb_cols inb_S256x2816_S256x512_0_1536)) (r1_p30 (r1_p14 (r1_p4 (r0.ldf_all inb_S256x1024_S256x1024_0_0)) (r7.ldb_rows inb_S2816x1024_S512x1024_1536_0)) (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536)) (r5.ldb_rows inb_S2816x1024_S512x1024_1536_0) (r6.ldb_rows inb_S2816x1024_S512x1024_1536_0) (r1_p26 (r1_p23 (r1_p7 (r0.ldf_all inb_S256x1024_S256x1024_0_0) (r7.ldb_rows inb_S2816x1024_S512x1024_1024_0)) (r3.ldb_cols inb_S256x2816_S256x512_0_1024)) (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024)) (r5.ldb_rows inb_S2816x1024_S512x1024_1024_0) (r6.ldb_rows inb_S2816x1024_S512x1024_1024_0) (r1_p19 (r1_p17 (r1_p6 (r0.ldf_all inb_S256x1024_S256x1024_0_0) (r7.ldb_rows inb_S2816x1024_S512x1024_512_0)) (r3.ldb_cols inb_S256x2816_S256x512_0_512)) (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (r5.ldb_rows inb_S2816x1024_S512x1024_512_0) (r6.ldb_rows inb_S2816x1024_S512x1024_512_0) (r1_p13 (r1_p10 (r0.ldf_all inb_S256x1024_S256x1024_0_0) (r7.ldb_rows inb_S2816x1024_S512x1024_0_0) (r3.ldb_cols inb_S256x2816_S256x512_0_0)) (r1_p11 (r0.ldf_all inb_S256x1024_S256x1024_0_0) (r7.ldb_rows inb_S2816x1024_S512x1024_0_0) (r3.ldb_cols inb_S256x2816_S256x512_0_0) (r4.ldb_cols inb_S256x2816_S256x512_0_0)) (r5.ldb_rows inb_S2816x1024_S512x1024_0_0) (r6.ldb_rows inb_S2816x1024_S512x1024_0_0)))))))
  have hacc := hacc.congr (fun r c _ _ => accs dy gt up wg wu wd r c)
  refine List.forall_mem_cons.2 ⟨Rd2.piece (n := 256) (m := 1024) (p := 0) (q := 0) inb_S256x1024_S256x1024_0_0 (r1_p1 (r1_p45 (r1.ldf_all inb_S256x1024_S256x1024_0_0)) (r1_p46 (r1.ldf_all inb_S256x1024_S256x1024_0_0)) (r1_p48 hacc (r2.ldf_all inb_S1x1024_S1x1024_0_0)) (r1_p49 hacc (r1.ldf_all inb_S256x1024_S256x1024_0_0) (r2.ldf_all inb_S1x1024_S1x1024_0_0)) r1_p50 (r0.ldf_all inb_S256x1024_S256x1024_0_0)) (fun r c _ _ => by rw [Nat.zero_add, Nat.zero_add]; rfl), ?_⟩
  exact fun p hp => absurd hp (List.not_mem_nil)

theorem r1_outA12 {hc} (r0 : Rd2 x0 dy) (r1 : Rd2 x1 x) (r3 : Rd2 x3 gt) (r4 : Rd2 x4 up) (r5 : Rd2 x5 wg) (r6 : Rd2 x6 wu) (r7 : Rd2 x7 wd) :
    Rd2 (out1_A_12 c i a1 h1 a2 h2 a3 h3 a4 h4 a5 h5 a6 h6 a7 h7 a8 h8 a9 h9 a10 h10 a11 h11 a12 h12 a13 h13 a14 h14 hc x0 x1 x2 x3 x4 x5 x6 x7) (dG 256 x (dAcc 2816 (dGate (lin 1024 (dyh dy) wd) gt up) (dUp (lin 1024 (dyh dy) wd) gt) wg wu)) := by
  unfold out1_A_12
  rw [View.read_writes_eq_canon _ _ _ (cover1_A_12 c i a1 h1 a2 h2 a3 h3 a4 h4 a5 h5 a6 h6 a7 h7 a8 h8 a9 h9 a10 h10 a11 h11 a12 h12 a13 h13 a14 h14 hc x0 x1 x2 x3 x4 x5 x6 x7)]
  unfold kernelRun1_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole, canon_whole]
  have hacc := (r1_p44 (r1_p42 (r1_p27 (r1_p4 (r0.ldf_all inb_S256x1024_S256x1024_0_0)) (r7.ldb_rows inb_S2816x1024_S256x1024_2560_0)) (r3.ldb_cols inb_S256x2816_S256x256_0_2560)) (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (r5.ldb_rows inb_S2816x1024_S256x1024_2560_0) (r6.ldb_rows inb_S2816x1024_S256x1024_2560_0) (r1_p39 (r1_p37 (r1_p20 (r1_p4 (r0.ldf_all inb_S256x1024_S256x1024_0_0)) (r7.ldb_rows inb_S2816x1024_S512x1024_2048_0)) (r3.ldb_cols inb_S256x2816_S256x512_0_2048)) (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (r5.ldb_rows inb_S2816x1024_S512x1024_2048_0) (r6.ldb_rows inb_S2816x1024_S512x1024_2048_0) (r1_p34 (r1_p29 (r3.ldb_cols inb_S256x2816_S256x512_0_1536)) (r1_p30 (r1_p14 (r1_p4 (r0.ldf_all inb_S256x1024_S256x1024_0_0)) (r7.ldb_rows inb_S2816x1024_S512x1024_1536_0)) (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536)) (r5.ldb_rows inb_S2816x1024_S512x1024_1536_0) (r6.ldb_rows inb_S2816x1024_S512x1024_1536_0) (r1_p26 (r1_p23 (r1_p7 (r0.ldf_all inb_S256x1024_S256x1024_0_0) (r7.ldb_rows inb_S2816x1024_S512x1024_1024_0)) (r3.ldb_cols inb_S256x2816_S256x512_0_1024)) (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024)) (r5.ldb_rows inb_S2816x1024_S512x1024_1024_0) (r6.ldb_rows inb_S2816x1024_S512x1024_1024_0) (r1_p19 (r1_p17 (r1_p6 (r0.ldf_all inb_S256x1024_S256x1024_0_0) (r7.ldb_rows inb_S2816x1024_S512x1024_512_0)) (r3.ldb_cols inb_S256x2816_S256x512_0_512)) (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (r5.ldb_rows inb_S2816x1024_S512x1024_512_0) (r6.ldb_rows inb_S2816x1024_S512x1024_512_0) (r1_p13 (r1_p10 (r0.ldf_all inb_S256x1024_S256x1024_0_0) (r7.ldb_rows inb_S2816x1024_S512x1024_0_0) (r3.ldb_cols inb_S256x2816_S256x512_0_0)) (r1_p11 (r0.ldf_all inb_S256x1024_S256x1024_0_0) (r7.ldb_rows inb_S2816x1024_S512x1024_0_0) (r3.ldb_cols inb_S256x2816_S256x512_0_0) (r4.ldb_cols inb_S256x2816_S256x512_0_0)) (r5.ldb_rows inb_S2816x1024_S512x1024_0_0) (r6.ldb_rows inb_S2816x1024_S512x1024_0_0)))))))
  have hacc := hacc.congr (fun r c _ _ => accs dy gt up wg wu wd r c)
  exact (r1_p2 (r1_p47 hacc (r1.ldf_all inb_S256x1024_S256x1024_0_0)) r1_p3).congr (fun r c _ _ => zero_add _)

theorem r1_outB11 {hc} (r0 : Rd2 x0 dy) :
    Rd2 (out1_B_11 c i a1 h1 a2 h2 a3 h3 a4 h4 a5 h5 a6 h6 a7 h7 a8 h8 a9 h9 a10 h10 a11 h11 a12 h12 a13 h13 a14 h14 hc x0 x1 x2 x3 x4 x5 x6 x7 xo12) (dyh dy) := by
  unfold out1_B_11
  rw [View.read_writes_eq_canon _ _ _ (cover1_B_11 c i a1 h1 a2 h2 a3 h3 a4 h4 a5 h5 a6 h6 a7 h7 a8 h8 a9 h9 a10 h10 a11 h11 a12 h12 a13 h13 a14 h14 hc x0 x1 x2 x3 x4 x5 x6 x7 xo12)]
  refine Rd2.canonb (cover1_B_11 c i a1 h1 a2 h2 a3 h3 a4 h4 a5 h5 a6 h6 a7 h7 a8 h8 a9 h9 a10 h10 a11 h11 a12 h12 a13 h13 a14 h14 hc x0 x1 x2 x3 x4 x5 x6 x7 xo12) ?_
  unfold kernelRun1_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 1024) (p := 0) (q := 0) inb_S256x1024_S256x1024_0_0 (r1_p4 (r0.ldf_all inb_S256x1024_S256x1024_0_0)) (fun r c _ _ => by rw [Nat.zero_add, Nat.zero_add]), ?_⟩
  exact fun p hp => absurd hp (List.not_mem_nil)

theorem r1_outB10 {hc} (r0 : Rd2 x0 dy) (r3 : Rd2 x3 gt) (r7 : Rd2 x7 wd) :
    Rd2 (out1_B_10 c i a1 h1 a2 h2 a3 h3 a4 h4 a5 h5 a6 h6 a7 h7 a8 h8 a9 h9 a10 h10 a11 h11 a12 h12 a13 h13 a14 h14 hc x0 x1 x2 x3 x4 x5 x6 x7 xo12) (dUp (lin 1024 (dyh dy) wd) gt) := by
  unfold out1_B_10
  rw [View.read_writes_eq_canon _ _ _ (cover1_B_10 c i a1 h1 a2 h2 a3 h3 a4 h4 a5 h5 a6 h6 a7 h7 a8 h8 a9 h9 a10 h10 a11 h11 a12 h12 a13 h13 a14 h14 hc x0 x1 x2 x3 x4 x5 x6 x7 xo12)]
  refine Rd2.canonb (cover1_B_10 c i a1 h1 a2 h2 a3 h3 a4 h4 a5 h5 a6 h6 a7 h7 a8 h8 a9 h9 a10 h10 a11 h11 a12 h12 a13 h13 a14 h14 hc x0 x1 x2 x3 x4 x5 x6 x7 xo12) ?_
  unfold kernelRun1_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 256) (p := 0) (q := 2560) inb_S256x2816_S256x256_0_2560 (r1_p42 (r1_p27 (r1_p4 (r0.ldf_all inb_S256x1024_S256x1024_0_0)) (r7.ldb_rows inb_S2816x1024_S256x1024_2560_0)) (r3.ldb_cols inb_S256x2816_S256x256_0_2560)) (fun r c _ _ => by rw [Nat.zero_add]; rfl), ?_⟩
  refine List.forall_mem_cons.2 ⟨Rd2.piece (n := 256) (m := 512) (p := 0) (q := 2048) inb_S256x2816_S256x512_0_2048 (r1_p37 (r1_p20 (r1_p4 (r0.ldf_all inb_S256x1024_S256x1024_0_0)) (r7.ldb_rows inb_S2816x1024_S512x1024_2048_0)) (r3.ldb_cols inb_S256x2816_S256x512_0_2048)) (fun r c _ _ => by rw [Nat.zero_add]; rfl), ?_⟩
  refine List.forall_mem_cons.2 ⟨Rd2.piece (n := 256) (m := 512) (p := 0) (q := 1536) inb_S256x2816_S256x512_0_1536 (r1_p30 (r1_p14 (r1_p4 (r0.ldf_all inb_S256x1024_S256x1024_0_0)) (r7.ldb_rows inb_S2816x1024_S512x1024_1536_0)) (r3.ldb_cols inb_S256x2816_S256x512_0_1536)) (fun r c _ _ => by rw [Nat.zero_add]; rfl), ?_⟩
  refine List.forall_mem_cons.2 ⟨Rd2.piece (n := 256) (m := 512) (p := 0) (q := 1024) inb_S256x2816_S256x512_0_1024 (r1_p23 (r1_p7 (r0.ldf_all inb_S256x1024_S256x1024_0_0) (r7.ldb_rows inb_S2816x1024_S512x1024_1024_0)) (r3.ldb_cols inb_S256x2816_S256x512_0_1024)) (fun r c _ _ => by rw [Nat.zero_add]; rfl), ?_⟩
  refine List.forall_mem_cons.2 ⟨Rd2.piece (n := 256) (m := 512) (p := 0) (q := 512) inb_S256x2816_S256x512_0_512 (r1_p17 (r1_p6 (r0.ldf_all inb_S256x1024_S256x1024_0_0) (r7.ldb_rows inb_S2816x1024_S512x1024_512_0)) (r3.ldb_cols inb_S256x2816_S256x512_0_512)) (fun r c _ _ => by rw [Nat.zero_add]; rfl), ?_⟩
  refine List.forall_mem_cons.2 ⟨Rd2.piece (n := 256) (m := 512) (p := 0) (q := 0) inb_S256x2816_S256x512_0_0 (r1_p10 (r0.ldf_all inb_S256x1024_S256x1024_0_0) (r7.ldb_rows inb_S2816x1024_S512x1024_0_0) (r3.ldb_cols inb_S256x2816_S256x512_0_0)) (fun r c _ _ => by rw [Nat.zero_add]; rfl), ?_⟩
  exact fun p hp => absurd hp (List.not_mem_nil)

theorem r1_outB9 {hc} (r0 : Rd2 x0 dy) (r3 : Rd2 x3 gt) (r4 : Rd2 x4 up) (r7 : Rd2 x7 wd) :
    Rd2 (out1_B_9 c i a1 h1 a2 h2 a3 h3 a4 h4 a5 h5 a6 h6 a7 h7 a8 h8 a9 h9 a10 h10 a11 h11 a12 h12 a13 h13 a14 h14 hc x0 x1 x2 x3 x4 x5 x6 x7 xo12) (dGate (lin 1024 (dyh dy) wd) gt up) := by
  unfold out1_B_9
  rw [View.read_writes_eq_canon _ _ _ (cover1_B_9 c i a1 h1 a2 h2 a3 h3 a4 h4 a5 h5 a6 h6 a7 h7 a8 h8 a9 h9 a10 h10 a11 h11 a12 h12 a13 h13 a14 h14 hc x0 x1 x2 x3 x4 x5 x6 x7 xo12)]
  refine Rd2.canonb (cover1_B_9 c i a1 h1 a2 h2 a3 h3 a4 h4 a5 h5 a6 h6 a7 h7 a8 h8 a9 h9 a10 h10 a11 h11 a12 h12 a13 h13 a14 h14 hc x0 x1 x2 x3 x4 x5 x6 x7 xo12) ?_
  unfold kernelRun1_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  refine List.forall_mem_cons.2 ⟨Rd2.piece (n := 256) (m := 256) (p := 0) (q := 2560) inb_S256x2816_S256x256_0_2560 (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (fun r c _ _ => by rw [Nat.zero_add]; rfl), ?_⟩
  refine List.forall_mem_cons.2 ⟨Rd2.piece (n := 256) (m := 512) (p := 0) (q := 2048) inb_S256x2816_S256x512_0_2048 (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (fun r c _ _ => by rw [Nat.zero_add]; rfl), ?_⟩
  refine List.forall_mem_cons.2 ⟨Rd2.piece (n := 256) (m := 512) (p := 0) (q := 1536) inb_S256x2816_S256x512_0_1536 (r1_p33 (r1_p29 (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536))) (fun r c _ _ => by rw [Nat.zero_add]; rfl), ?_⟩
  refine List.forall_mem_cons.2 ⟨Rd2.piece (n := 256) (m := 512) (p := 0) (q := 1024) inb_S256x2816_S256x512_0_1024 (r1_p25 (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024))) (fun r c _ _ => by rw [Nat.zero_add]; rfl), ?_⟩
  refine List.forall_mem_cons.2 ⟨Rd2.piece (n := 256) (m := 512) (p := 0) (q := 512) inb_S256x2816_S256x512_0_512 (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (fun r c _ _ => by rw [Nat.zero_add]; rfl), ?_⟩
  refine List.forall_mem_cons.2 ⟨Rd2.piece (n := 256) (m := 512) (p := 0) (q := 0) inb_S256x2816_S256x512_0_0 (r1_p12 (r1_p11 (r0.ldf_all inb_S256x1024_S256x1024_0_0) (r7.ldb_rows inb_S2816x1024_S512x1024_0_0) (r3.ldb_cols inb_S256x2816_S256x512_0_0) (r4.ldb_cols inb_S256x2816_S256x512_0_0))) (fun r c _ _ => by rw [Nat.zero_add]; rfl), ?_⟩
  exact fun p hp => absurd hp (List.not_mem_nil)

theorem r1_outB8 {hc} (r0 : Rd2 x0 dy) (r1 : Rd2 x1 x) (r2 : Rd2 x2 g) (r3 : Rd2 x3 gt) (r4 : Rd2 x4 up) (r5 : Rd2 x5 wg) (r6 : Rd2 x6 wu) (r7 : Rd2 x7 wd) :
    Rd2 (out1_B_8 c i a1 h1 a2 h2 a3 h3 a4 h4 a5 h5 a6 h6 a7 h7 a8 h8 a9 h9 a10 h10 a11 h11 a12 h12 a13 h13 a14 h14 hc x0 x1 x2 x3 x4 x5 x6 x7 xo12) (dX dy x g (dAcc 2816 (dGate (lin 1024 (dyh dy) wd) gt up) (dUp (lin 1024 (dyh dy) wd) gt) wg wu)) := by
  unfold out1_B_8
  rw [View.read_writes_eq_canon _ _ _ (cover1_B_8 c i a1 h1 a2 h2 a3 h3 a4 h4 a5 h5 a6 h6 a7 h7 a8 h8 a9 h9 a10 h10 a11 h11 a12 h12 a13 h13 a14 h14 hc x0 x1 x2 x3 x4 x5 x6 x7 xo12)]
  refine Rd2.canonf (cover1_B_8 c i a1 h1 a2 h2 a3 h3 a4 h4 a5 h5 a6 h6 a7 h7 a8 h8 a9 h9 a10 h10 a11 h11 a12 h12 a13 h13 a14 h14 hc x0 x1 x2 x3 x4 x5 x6 x7 xo12) ?_
  unfold kernelRun1_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole]
  have hacc := (r1_p44 (r1_p42 (r1_p27 (r1_p4 (r0.ldf_all inb_S256x1024_S256x1024_0_0)) (r7.ldb_rows inb_S2816x1024_S256x1024_2560_0)) (r3.ldb_cols inb_S256x2816_S256x256_0_2560)) (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (r5.ldb_rows inb_S2816x1024_S256x1024_2560_0) (r6.ldb_rows inb_S2816x1024_S256x1024_2560_0) (r1_p39 (r1_p37 (r1_p20 (r1_p4 (r0.ldf_all inb_S256x1024_S256x1024_0_0)) (r7.ldb_rows inb_S2816x1024_S512x1024_2048_0)) (r3.ldb_cols inb_S256x2816_S256x512_0_2048)) (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (r5.ldb_rows inb_S2816x1024_S512x1024_2048_0) (r6.ldb_rows inb_S2816x1024_S512x1024_2048_0) (r1_p34 (r1_p29 (r3.ldb_cols inb_S256x2816_S256x512_0_1536)) (r1_p30 (r1_p14 (r1_p4 (r0.ldf_all inb_S256x1024_S256x1024_0_0)) (r7.ldb_rows inb_S2816x1024_S512x1024_1536_0)) (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536)) (r5.ldb_rows inb_S2816x1024_S512x1024_1536_0) (r6.ldb_rows inb_S2816x1024_S512x1024_1536_0) (r1_p26 (r1_p23 (r1_p7 (r0.ldf_all inb_S256x1024_S256x1024_0_0) (r7.ldb_rows inb_S2816x1024_S512x1024_1024_0)) (r3.ldb_cols inb_S256x2816_S256x512_0_1024)) (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024)) (r5.ldb_rows inb_S2816x1024_S512x1024_1024_0) (r6.ldb_rows inb_S2816x1024_S512x1024_1024_0) (r1_p19 (r1_p17 (r1_p6 (r0.ldf_all inb_S256x1024_S256x1024_0_0) (r7.ldb_rows inb_S2816x1024_S512x1024_512_0)) (r3.ldb_cols inb_S256x2816_S256x512_0_512)) (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (r5.ldb_rows inb_S2816x1024_S512x1024_512_0) (r6.ldb_rows inb_S2816x1024_S512x1024_512_0) (r1_p13 (r1_p10 (r0.ldf_all inb_S256x1024_S256x1024_0_0) (r7.ldb_rows inb_S2816x1024_S512x1024_0_0) (r3.ldb_cols inb_S256x2816_S256x512_0_0)) (r1_p11 (r0.ldf_all inb_S256x1024_S256x1024_0_0) (r7.ldb_rows inb_S2816x1024_S512x1024_0_0) (r3.ldb_cols inb_S256x2816_S256x512_0_0) (r4.ldb_cols inb_S256x2816_S256x512_0_0)) (r5.ldb_rows inb_S2816x1024_S512x1024_0_0) (r6.ldb_rows inb_S2816x1024_S512x1024_0_0)))))))
  have hacc := hacc.congr (fun r c _ _ => accs dy gt up wg wu wd r c)
  refine List.forall_mem_cons.2 ⟨Rd2.piece (n := 256) (m := 1024) (p := 0) (q := 0) inb_S256x1024_S256x1024_0_0 (r1_p1 (r1_p45 (r1.ldf_all inb_S256x1024_S256x1024_0_0)) (r1_p46 (r1.ldf_all inb_S256x1024_S256x1024_0_0)) (r1_p48 hacc (r2.ldf_all inb_S1x1024_S1x1024_0_0)) (r1_p49 hacc (r1.ldf_all inb_S256x1024_S256x1024_0_0) (r2.ldf_all inb_S1x1024_S1x1024_0_0)) r1_p50 (r0.ldf_all inb_S256x1024_S256x1024_0_0)) (fun r c _ _ => by rw [Nat.zero_add, Nat.zero_add]; rfl), ?_⟩
  exact fun p hp => absurd hp (List.not_mem_nil)

theorem r1_outB12 {hc} (r0 : Rd2 x0 dy) (r1 : Rd2 x1 x) (r3 : Rd2 x3 gt) (r4 : Rd2 x4 up) (r5 : Rd2 x5 wg) (r6 : Rd2 x6 wu) (r7 : Rd2 x7 wd) (ro : Rd2 xo12 dgo) :
    Rd2 (out1_B_12 c i a1 h1 a2 h2 a3 h3 a4 h4 a5 h5 a6 h6 a7 h7 a8 h8 a9 h9 a10 h10 a11 h11 a12 h12 a13 h13 a14 h14 hc x0 x1 x2 x3 x4 x5 x6 x7 xo12) (fun r c => dgo r c + dG 256 x (dAcc 2816 (dGate (lin 1024 (dyh dy) wd) gt up) (dUp (lin 1024 (dyh dy) wd) gt) wg wu) r c) := by
  unfold out1_B_12
  rw [View.read_writes_eq_canon _ _ _ (cover1_B_12 c i a1 h1 a2 h2 a3 h3 a4 h4 a5 h5 a6 h6 a7 h7 a8 h8 a9 h9 a10 h10 a11 h11 a12 h12 a13 h13 a14 h14 hc x0 x1 x2 x3 x4 x5 x6 x7 xo12)]
  unfold kernelRun1_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, readCov_whole, canon_whole]
  have hacc := (r1_p44 (r1_p42 (r1_p27 (r1_p4 (r0.ldf_all inb_S256x1024_S256x1024_0_0)) (r7.ldb_rows inb_S2816x1024_S256x1024_2560_0)) (r3.ldb_cols inb_S256x2816_S256x256_0_2560)) (r1_p43 (r1_p27 (r1_p4 (r0.ldf_all inb_S256x1024_S256x1024_0_0)) (r7.ldb_rows inb_S2816x1024_S256x1024_2560_0)) (r3.ldb_cols inb_S256x2816_S256x256_0_2560) (r4.ldb_cols inb_S256x2816_S256x256_0_2560)) (r5.ldb_rows inb_S2816x1024_S256x1024_2560_0) (r6.ldb_rows inb_S2816x1024_S256x1024_2560_0) (r1_p39 (r1_p37 (r1_p20 (r1_p4 (r0.ldf_all inb_S256x1024_S256x1024_0_0)) (r7.ldb_rows inb_S2816x1024_S512x1024_2048_0)) (r3.ldb_cols inb_S256x2816_S256x512_0_2048)) (r1_p38 (r1_p20 (r1_p4 (r0.ldf_all inb_S256x1024_S256x1024_0_0)) (r7.ldb_rows inb_S2816x1024_S512x1024_2048_0)) (r3.ldb_cols inb_S256x2816_S256x512_0_2048) (r4.ldb_cols inb_S256x2816_S256x512_0_2048)) (r5.ldb_rows inb_S2816x1024_S512x1024_2048_0) (r6.ldb_rows inb_S2816x1024_S512x1024_2048_0) (r1_p34 (r1_p29 (r3.ldb_cols inb_S256x2816_S256x512_0_1536)) (r1_p30 (r1_p14 (r1_p4 (r0.ldf_all inb_S256x1024_S256x1024_0_0)) (r7.ldb_rows inb_S2816x1024_S512x1024_1536_0)) (r3.ldb_cols inb_S256x2816_S256x512_0_1536)) (r1_p31 (r1_p14 (r1_p4 (r0.ldf_all inb_S256x1024_S256x1024_0_0)) (r7.ldb_rows inb_S2816x1024_S512x1024_1536_0)) (r4.ldb_cols inb_S256x2816_S256x512_0_1536)) (r1_p32 (r3.ldb_cols inb_S256x2816_S256x512_0_1536)) (r5.ldb_rows inb_S2816x1024_S512x1024_1536_0) (r6.ldb_rows inb_S2816x1024_S512x1024_1536_0) (r1_p26 (r1_p23 (r1_p7 (r0.ldf_all inb_S256x1024_S256x1024_0_0) (r7.ldb_rows inb_S2816x1024_S512x1024_1024_0)) (r3.ldb_cols inb_S256x2816_S256x512_0_1024)) (r1_p24 (r1_p7 (r0.ldf_all inb_S256x1024_S256x1024_0_0) (r7.ldb_rows inb_S2816x1024_S512x1024_1024_0)) (r3.ldb_cols inb_S256x2816_S256x512_0_1024) (r4.ldb_cols inb_S256x2816_S256x512_0_1024)) (r5.ldb_rows inb_S2816x1024_S512x1024_1024_0) (r6.ldb_rows inb_S2816x1024_S512x1024_1024_0) (r1_p19 (r1_p17 (r1_p6 (r0.ldf_all inb_S256x1024_S256x1024_0_0) (r7.ldb_rows inb_S2816x1024_S512x1024_512_0)) (r3.ldb_cols inb_S256x2816_S256x512_0_512)) (r1_p18 (r1_p6 (r0.ldf_all inb_S256x1024_S256x1024_0_0) (r7.ldb_rows inb_S2816x1024_S512x1024_512_0)) (r3.ldb_cols inb_S256x2816_S256x512_0_512) (r4.ldb_cols inb_S256x2816_S256x512_0_512)) (r5.ldb_rows inb_S2816x1024_S512x1024_512_0) (r6.ldb_rows inb_S2816x1024_S512x1024_512_0) (r1_p13 (r1_p10 (r0.ldf_all inb_S256x1024_S256x1024_0_0) (r7.ldb_rows inb_S2816x1024_S512x1024_0_0) (r3.ldb_cols inb_S256x2816_S256x512_0_0)) (r1_p11 (r0.ldf_all inb_S256x1024_S256x1024_0_0) (r7.ldb_rows inb_S2816x1024_S512x1024_0_0) (r3.ldb_cols inb_S256x2816_S256x512_0_0) (r4.ldb_cols inb_S256x2816_S256x512_0_0)) (r5.ldb_rows inb_S2816x1024_S512x1024_0_0) (r6.ldb_rows inb_S2816x1024_S512x1024_0_0)))))))
  have hacc := hacc.congr (fun r c _ _ => accs dy gt up wg wu wd r c)
  exact r1_p2 (r1_p47 hacc (r1.ldf_all inb_S256x1024_S256x1024_0_0)) (ro.ldf_all inb_S1x1024_S1x1024_0_0)

end Blocks

end Cert.Kernel4Ideal.Val
-- ==== Proof.FirstBackArrays.lean ====
/- The blocks of the activation gradient's windows in the first half step, and its five result arrays after the call. -/
module

public import proofs.«01_k».proof.Proof.FirstBackBlocks

@[expose] public section

noncomputable section

namespace Cert.Kernel4Ideal.Val

open Cert.Kernel4Ideal Cert.Kernel4Ideal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The input blocks -/

theorem idx1_0 : ∀ t : Fin cfg1.N, win1_0.index t 0 = t.val ∧ win1_0.index t 1 = 0 :=
  (by decide +kernel : ∀ t : Fin grid1.N, win1_0.index t 0 = t.val ∧ win1_0.index t 1 = 0)
theorem blk1_0 {X : ℕ → ℕ → ℝ} (hX : Rd2 (a := 8192) (b := 1024) (V c main_arg5) X) (t : Fin cfg1.N) :
    Rd2 (a := 256) (b := 1024) (iblk1 V c 0 t) (fun r d => X ((t.val) * 256 + r) ((0) * 1024 + d)) := fun j => by
  unfold iblk1
  rw [View.read_apply]
  show V c main_arg5 _ = _
  refine (hX _).trans (coe_congr₂ X ?_ ?_)
  · show win1_0.index t 0 * 256 + 1 * (j 0).val = _; rw [(idx1_0 t).1]; omega
  · show win1_0.index t 1 * 1024 + 1 * (j 1).val = _; rw [(idx1_0 t).2]; omega
theorem idx1_1 : ∀ t : Fin cfg1.N, win1_1.index t 0 = t.val ∧ win1_1.index t 1 = 0 :=
  (by decide +kernel : ∀ t : Fin grid1.N, win1_1.index t 0 = t.val ∧ win1_1.index t 1 = 0)
theorem blk1_1 {X : ℕ → ℕ → ℝ} (hX : Rd2 (a := 8192) (b := 1024) (V c main_arg0) X) (t : Fin cfg1.N) :
    Rd2 (a := 256) (b := 1024) (iblk1 V c 1 t) (fun r d => X ((t.val) * 256 + r) ((0) * 1024 + d)) := fun j => by
  unfold iblk1
  rw [View.read_apply]
  show V c main_arg0 _ = _
  refine (hX _).trans (coe_congr₂ X ?_ ?_)
  · show win1_1.index t 0 * 256 + 1 * (j 0).val = _; rw [(idx1_1 t).1]; omega
  · show win1_1.index t 1 * 1024 + 1 * (j 1).val = _; rw [(idx1_1 t).2]; omega
theorem idx1_2 : ∀ t : Fin cfg1.N, win1_2.index t 0 = 0 ∧ win1_2.index t 1 = 0 :=
  (by decide +kernel : ∀ t : Fin grid1.N, win1_2.index t 0 = 0 ∧ win1_2.index t 1 = 0)
theorem blk1_2 {X : ℕ → ℕ → ℝ} (hX : Rd2 (a := 1) (b := 1024) (V c main_arg1) X) (t : Fin cfg1.N) :
    Rd2 (a := 1) (b := 1024) (iblk1 V c 2 t) (fun r d => X ((0) * 1 + r) ((0) * 1024 + d)) := fun j => by
  unfold iblk1
  rw [View.read_apply]
  show V c main_arg1 _ = _
  refine (hX _).trans (coe_congr₂ X ?_ ?_)
  · show win1_2.index t 0 * 1 + 1 * (j 0).val = _; rw [(idx1_2 t).1]; omega
  · show win1_2.index t 1 * 1024 + 1 * (j 1).val = _; rw [(idx1_2 t).2]; omega
theorem idx1_3 : ∀ t : Fin cfg1.N, win1_3.index t 0 = t.val ∧ win1_3.index t 1 = 0 :=
  (by decide +kernel : ∀ t : Fin grid1.N, win1_3.index t 0 = t.val ∧ win1_3.index t 1 = 0)
theorem blk1_3 {X : ℕ → ℕ → ℝ} (hX : Rd2 (a := 8192) (b := 2816) (V c main_v5_1) X) (t : Fin cfg1.N) :
    Rd2 (a := 256) (b := 2816) (iblk1 V c 3 t) (fun r d => X ((t.val) * 256 + r) ((0) * 2816 + d)) := fun j => by
  unfold iblk1
  rw [View.read_apply]
  show V c main_v5_1 _ = _
  refine (hX _).trans (coe_congr₂ X ?_ ?_)
  · show win1_3.index t 0 * 256 + 1 * (j 0).val = _; rw [(idx1_3 t).1]; omega
  · show win1_3.index t 1 * 2816 + 1 * (j 1).val = _; rw [(idx1_3 t).2]; omega
theorem idx1_4 : ∀ t : Fin cfg1.N, win1_4.index t 0 = t.val ∧ win1_4.index t 1 = 0 :=
  (by decide +kernel : ∀ t : Fin grid1.N, win1_4.index t 0 = t.val ∧ win1_4.index t 1 = 0)
theorem blk1_4 {X : ℕ → ℕ → ℝ} (hX : Rd2 (a := 8192) (b := 2816) (V c main_v5_2) X) (t : Fin cfg1.N) :
    Rd2 (a := 256) (b := 2816) (iblk1 V c 4 t) (fun r d => X ((t.val) * 256 + r) ((0) * 2816 + d)) := fun j => by
  unfold iblk1
  rw [View.read_apply]
  show V c main_v5_2 _ = _
  refine (hX _).trans (coe_congr₂ X ?_ ?_)
  · show win1_4.index t 0 * 256 + 1 * (j 0).val = _; rw [(idx1_4 t).1]; omega
  · show win1_4.index t 1 * 2816 + 1 * (j 1).val = _; rw [(idx1_4 t).2]; omega
theorem idx1_5 : ∀ t : Fin cfg1.N, win1_5.index t 0 = 0 ∧ win1_5.index t 1 = 0 :=
  (by decide +kernel : ∀ t : Fin grid1.N, win1_5.index t 0 = 0 ∧ win1_5.index t 1 = 0)
theorem blk1_5 {X : ℕ → ℕ → ℝ} (hX : Rd2 (a := 2816) (b := 1024) (V c main_v1) X) (t : Fin cfg1.N) :
    Rd2 (a := 2816) (b := 1024) (iblk1 V c 5 t) (fun r d => X ((0) * 2816 + r) ((0) * 1024 + d)) := fun j => by
  unfold iblk1
  rw [View.read_apply]
  show V c main_v1 _ = _
  refine (hX _).trans (coe_congr₂ X ?_ ?_)
  · show win1_5.index t 0 * 2816 + 1 * (j 0).val = _; rw [(idx1_5 t).1]; omega
  · show win1_5.index t 1 * 1024 + 1 * (j 1).val = _; rw [(idx1_5 t).2]; omega
theorem idx1_6 : ∀ t : Fin cfg1.N, win1_6.index t 0 = 0 ∧ win1_6.index t 1 = 0 :=
  (by decide +kernel : ∀ t : Fin grid1.N, win1_6.index t 0 = 0 ∧ win1_6.index t 1 = 0)
theorem blk1_6 {X : ℕ → ℕ → ℝ} (hX : Rd2 (a := 2816) (b := 1024) (V c main_v3) X) (t : Fin cfg1.N) :
    Rd2 (a := 2816) (b := 1024) (iblk1 V c 6 t) (fun r d => X ((0) * 2816 + r) ((0) * 1024 + d)) := fun j => by
  unfold iblk1
  rw [View.read_apply]
  show V c main_v3 _ = _
  refine (hX _).trans (coe_congr₂ X ?_ ?_)
  · show win1_6.index t 0 * 2816 + 1 * (j 0).val = _; rw [(idx1_6 t).1]; omega
  · show win1_6.index t 1 * 1024 + 1 * (j 1).val = _; rw [(idx1_6 t).2]; omega
theorem idx1_7 : ∀ t : Fin cfg1.N, win1_7.index t 0 = 0 ∧ win1_7.index t 1 = 0 :=
  (by decide +kernel : ∀ t : Fin grid1.N, win1_7.index t 0 = 0 ∧ win1_7.index t 1 = 0)
theorem blk1_7 {X : ℕ → ℕ → ℝ} (hX : Rd2 (a := 2816) (b := 1024) (V c main_v4) X) (t : Fin cfg1.N) :
    Rd2 (a := 2816) (b := 1024) (iblk1 V c 7 t) (fun r d => X ((0) * 2816 + r) ((0) * 1024 + d)) := fun j => by
  unfold iblk1
  rw [View.read_apply]
  show V c main_v4 _ = _
  refine (hX _).trans (coe_congr₂ X ?_ ?_)
  · show win1_7.index t 0 * 2816 + 1 * (j 0).val = _; rw [(idx1_7 t).1]; omega
  · show win1_7.index t 1 * 1024 + 1 * (j 1).val = _; rw [(idx1_7 t).2]; omega

/-! ## The result arrays -/

theorem idx1_8 : ∀ t : Fin cfg1.N, win1_8.index t 0 = t.val ∧ win1_8.index t 1 = 0 :=
  (by decide +kernel : ∀ t : Fin grid1.N, win1_8.index t 0 = t.val ∧ win1_8.index t 1 = 0)
theorem arr1_8 {G : ℕ → ℕ → ℝ} (hG : ∀ t : Fin cfg1.N, (cfg1.win 8).flush t = true →
      Rd2 (a := 256) (b := 1024) (outsAt1 V c t.val t.isLt).1 (fun r d => G ((t.val) * 256 + r) ((0) * 1024 + d))) :
    Rd2 (a := 8192) (b := 1024) ((dat1 V c).arrAt 8 cfg1.N) G := fun i => by
  refine (dat1 V c).arrAt_forall_of_covers 8 (fun i v => v = ((G (i 0).val (i 1).val : ℝ) : EReal)) (by decide +kernel) (fun t hf y => ?_) i
  rw [after1_8]
  refine (hG t hf _).trans (coe_congr₂ G ?_ ?_)
  · show (t.val) * 256 + (y 0).val = win1_8.index t 0 * 256 + 1 * (y 0).val; rw [(idx1_8 t).1]; omega
  · show (0) * 1024 + (y 1).val = win1_8.index t 1 * 1024 + 1 * (y 1).val; rw [(idx1_8 t).2]; omega
theorem idx1_11 : ∀ t : Fin cfg1.N, win1_11.index t 0 = t.val ∧ win1_11.index t 1 = 0 :=
  (by decide +kernel : ∀ t : Fin grid1.N, win1_11.index t 0 = t.val ∧ win1_11.index t 1 = 0)
theorem arr1_11 {G : ℕ → ℕ → ℝ} (hG : ∀ t : Fin cfg1.N, (cfg1.win 11).flush t = true →
      Rd2 (a := 256) (b := 1024) (outsAt1 V c t.val t.isLt).2.2.2.1 (fun r d => G ((t.val) * 256 + r) ((0) * 1024 + d))) :
    Rd2 (a := 8192) (b := 1024) ((dat1 V c).arrAt 11 cfg1.N) G := fun i => by
  refine (dat1 V c).arrAt_forall_of_covers 11 (fun i v => v = ((G (i 0).val (i 1).val : ℝ) : EReal)) (by decide +kernel) (fun t hf y => ?_) i
  rw [after1_11]
  refine (hG t hf _).trans (coe_congr₂ G ?_ ?_)
  · show (t.val) * 256 + (y 0).val = win1_11.index t 0 * 256 + 1 * (y 0).val; rw [(idx1_11 t).1]; omega
  · show (0) * 1024 + (y 1).val = win1_11.index t 1 * 1024 + 1 * (y 1).val; rw [(idx1_11 t).2]; omega
theorem idx1_9 : ∀ t : Fin cfg1.N, win1_9.index t 0 = t.val ∧ win1_9.index t 1 = 0 :=
  (by decide +kernel : ∀ t : Fin grid1.N, win1_9.index t 0 = t.val ∧ win1_9.index t 1 = 0)
theorem arr1_9 {G : ℕ → ℕ → ℝ} (hG : ∀ t : Fin cfg1.N, (cfg1.win 9).flush t = true →
      Rd2 (a := 256) (b := 2816) (outsAt1 V c t.val t.isLt).2.1 (fun r d => G ((t.val) * 256 + r) ((0) * 2816 + d))) :
    Rd2 (a := 8192) (b := 2816) ((dat1 V c).arrAt 9 cfg1.N) G := fun i => by
  refine (dat1 V c).arrAt_forall_of_covers 9 (fun i v => v = ((G (i 0).val (i 1).val : ℝ) : EReal)) (by decide +kernel) (fun t hf y => ?_) i
  rw [after1_9]
  refine (hG t hf _).trans (coe_congr₂ G ?_ ?_)
  · show (t.val) * 256 + (y 0).val = win1_9.index t 0 * 256 + 1 * (y 0).val; rw [(idx1_9 t).1]; omega
  · show (0) * 2816 + (y 1).val = win1_9.index t 1 * 2816 + 1 * (y 1).val; rw [(idx1_9 t).2]; omega
theorem idx1_10 : ∀ t : Fin cfg1.N, win1_10.index t 0 = t.val ∧ win1_10.index t 1 = 0 :=
  (by decide +kernel : ∀ t : Fin grid1.N, win1_10.index t 0 = t.val ∧ win1_10.index t 1 = 0)
theorem arr1_10 {G : ℕ → ℕ → ℝ} (hG : ∀ t : Fin cfg1.N, (cfg1.win 10).flush t = true →
      Rd2 (a := 256) (b := 2816) (outsAt1 V c t.val t.isLt).2.2.1 (fun r d => G ((t.val) * 256 + r) ((0) * 2816 + d))) :
    Rd2 (a := 8192) (b := 2816) ((dat1 V c).arrAt 10 cfg1.N) G := fun i => by
  refine (dat1 V c).arrAt_forall_of_covers 10 (fun i v => v = ((G (i 0).val (i 1).val : ℝ) : EReal)) (by decide +kernel) (fun t hf y => ?_) i
  rw [after1_10]
  refine (hG t hf _).trans (coe_congr₂ G ?_ ?_)
  · show (t.val) * 256 + (y 0).val = win1_10.index t 0 * 256 + 1 * (y 0).val; rw [(idx1_10 t).1]; omega
  · show (0) * 2816 + (y 1).val = win1_10.index t 1 * 2816 + 1 * (y 1).val; rw [(idx1_10 t).2]; omega
theorem idx1_12 : ∀ t : Fin cfg1.N, win1_12.index t 0 = 0 ∧ win1_12.index t 1 = 0 :=
  (by decide +kernel : ∀ t : Fin grid1.N, win1_12.index t 0 = 0 ∧ win1_12.index t 1 = 0)
theorem arr1_12 {G : ℕ → ℕ → ℝ} (hG : ∀ t : Fin cfg1.N, (cfg1.win 12).flush t = true →
      Rd2 (a := 1) (b := 1024) (outsAt1 V c t.val t.isLt).2.2.2.2 (fun r d => G ((0) * 1 + r) ((0) * 1024 + d))) :
    Rd2 (a := 1) (b := 1024) ((dat1 V c).arrAt 12 cfg1.N) G := fun i => by
  refine (dat1 V c).arrAt_forall_of_covers 12 (fun i v => v = ((G (i 0).val (i 1).val : ℝ) : EReal)) (by decide +kernel) (fun t hf y => ?_) i
  rw [after1_12]
  refine (hG t hf _).trans (coe_congr₂ G ?_ ?_)
  · show (0) * 1 + (y 0).val = win1_12.index t 0 * 1 + 1 * (y 0).val; rw [(idx1_12 t).1]; omega
  · show (0) * 1024 + (y 1).val = win1_12.index t 1 * 1024 + 1 * (y 1).val; rw [(idx1_12 t).2]; omega

/-! ## The call -/

variable {V c} {dy x g gt up wg wu wd : ℕ → ℕ → ℝ}
  (hdy : Rd2 (a := 8192) (b := 1024) (V c main_arg5) dy)
  (hx : Rd2 (a := 8192) (b := 1024) (V c main_arg0) x) (hg : Rd2 (a := 1) (b := 1024) (V c main_arg1) g)
  (hgt : Rd2 (a := 8192) (b := 2816) (V c main_v5_1) gt) (hup : Rd2 (a := 8192) (b := 2816) (V c main_v5_2) up)
  (hwg : Rd2 (a := 2816) (b := 1024) (V c main_v1) wg) (hwu : Rd2 (a := 2816) (b := 1024) (V c main_v3) wu)
  (hwd : Rd2 (a := 2816) (b := 1024) (V c main_v4) wd)

include hdy
theorem call1_dyh : Rd2 (a := 8192) (b := 1024) ((dat1 V c).arrAt 11 cfg1.N) (dyh dy) := arr1_11 V c fun t _ => by
  by_cases h0 : t.val % 32 = 0
  · rw [outsAt1_A V c t h0]; dsimp only
    refine (r1_outA11 c _ (blk1_0 V c hdy t)).congr fun r d _ _ => ?_
    simp only [Nat.zero_mul, Nat.zero_add]; rfl
  · rw [outsAt1_B V c t h0]; dsimp only
    refine (r1_outB11 c _ (blk1_0 V c hdy t)).congr fun r d _ _ => ?_
    simp only [Nat.zero_mul, Nat.zero_add]; rfl
include hgt hwd
theorem call1_dup : Rd2 (a := 8192) (b := 2816) ((dat1 V c).arrAt 10 cfg1.N) (dUp (lin 1024 (dyh dy) wd) gt) := arr1_10 V c fun t _ => by
  by_cases h0 : t.val % 32 = 0
  · rw [outsAt1_A V c t h0]; dsimp only
    refine (r1_outA10 c _ (blk1_0 V c hdy t) (blk1_3 V c hgt t) (blk1_7 V c hwd t)).congr fun r d _ _ => ?_
    simp only [Nat.zero_mul, Nat.zero_add]; rfl
  · rw [outsAt1_B V c t h0]; dsimp only
    refine (r1_outB10 c _ (blk1_0 V c hdy t) (blk1_3 V c hgt t) (blk1_7 V c hwd t)).congr fun r d _ _ => ?_
    simp only [Nat.zero_mul, Nat.zero_add]; rfl
include hup
theorem call1_dgate : Rd2 (a := 8192) (b := 2816) ((dat1 V c).arrAt 9 cfg1.N) (dGate (lin 1024 (dyh dy) wd) gt up) := arr1_9 V c fun t _ => by
  by_cases h0 : t.val % 32 = 0
  · rw [outsAt1_A V c t h0]; dsimp only
    refine (r1_outA9 c _ (blk1_0 V c hdy t) (blk1_3 V c hgt t) (blk1_4 V c hup t) (blk1_7 V c hwd t)).congr fun r d _ _ => ?_
    simp only [Nat.zero_mul, Nat.zero_add]; rfl
  · rw [outsAt1_B V c t h0]; dsimp only
    refine (r1_outB9 c _ (blk1_0 V c hdy t) (blk1_3 V c hgt t) (blk1_4 V c hup t) (blk1_7 V c hwd t)).congr fun r d _ _ => ?_
    simp only [Nat.zero_mul, Nat.zero_add]; rfl
include hx hg hwg hwu
theorem call1_dx : Rd2 (a := 8192) (b := 1024) ((dat1 V c).arrAt 8 cfg1.N) (dX dy x g (dAcc 2816 (dGate (lin 1024 (dyh dy) wd) gt up) (dUp (lin 1024 (dyh dy) wd) gt) wg wu)) := arr1_8 V c fun t _ => by
  by_cases h0 : t.val % 32 = 0
  · rw [outsAt1_A V c t h0]; dsimp only
    refine (r1_outA8 c _ (blk1_0 V c hdy t) (blk1_1 V c hx t) (blk1_2 V c hg t) (blk1_3 V c hgt t) (blk1_4 V c hup t) (blk1_5 V c hwg t) (blk1_6 V c hwu t) (blk1_7 V c hwd t)).congr fun r d _ _ => ?_
    simp only [Nat.zero_mul, Nat.zero_add]; rfl
  · rw [outsAt1_B V c t h0]; dsimp only
    refine (r1_outB8 c _ (blk1_0 V c hdy t) (blk1_1 V c hx t) (blk1_2 V c hg t) (blk1_3 V c hgt t) (blk1_4 V c hup t) (blk1_5 V c hwg t) (blk1_6 V c hwu t) (blk1_7 V c hwd t)).congr fun r d _ _ => ?_
    simp only [Nat.zero_mul, Nat.zero_add]; rfl
omit hg
/-- After point `t` the weight's gradient is the sum over the rows of the points so far. -/
theorem call1_dg_acc : ∀ (n : ℕ) (t : Fin cfg1.N), t.val = n → Rd2 (a := 1) (b := 1024) (outsAt1 V c t.val t.isLt).2.2.2.2
    (dG (256 * (n + 1)) x (dAcc 2816 (dGate (lin 1024 (dyh dy) wd) gt up) (dUp (lin 1024 (dyh dy) wd) gt) wg wu)) := by
  intro n
  induction n with
  | zero =>
    intro t ht0
    rw [outsAt1_A V c t (by omega)]; dsimp only
    refine (r1_outA12 c _ (blk1_0 V c hdy t) (blk1_1 V c hx t) (blk1_3 V c hgt t) (blk1_4 V c hup t) (blk1_5 V c hwg t) (blk1_6 V c hwu t) (blk1_7 V c hwd t)).congr fun r d _ _ => ?_
    simp only [ht0, Nat.zero_mul, Nat.zero_add]
  | succ n ih =>
    intro t htv
    have hlt : t.val < 32 := t.isLt
    have ho := ih ⟨t.val - 1, Nat.lt_of_le_of_lt (Nat.sub_le _ _) t.isLt⟩ (by show t.val - 1 = n; omega)
    rw [outsAt1_B V c t (by omega)]; dsimp only
    refine (r1_outB12 c _ (blk1_0 V c hdy t) (blk1_1 V c hx t) (blk1_3 V c hgt t) (blk1_4 V c hup t) (blk1_5 V c hwg t) (blk1_6 V c hwu t) (blk1_7 V c hwd t) ho).congr fun r d _ _ => ?_
    simp only [Nat.zero_mul, Nat.zero_add]
    rw [htv]
    unfold dG
    rw [show 256 * (n + 1 + 1) = 256 * (n + 1) + 256 from by ring, ← sum_split]
    refine congrArg (_ + ·) (Finset.sum_congr rfl fun k _ => ?_)
    rw [Nat.mul_comm 256 (n + 1)]; rfl
theorem call1_dg : Rd2 (a := 1) (b := 1024) ((dat1 V c).arrAt 12 cfg1.N) (dG 8192 x (dAcc 2816 (dGate (lin 1024 (dyh dy) wd) gt up) (dUp (lin 1024 (dyh dy) wd) gt) wg wu)) := arr1_12 V c fun t hf => by
  have h31 : t.val = 31 := (by decide +kernel : ∀ t : Fin grid1.N, win1_12.flush t = true → t.val = 31) t hf
  refine (call1_dg_acc hdy hx hgt hup hwg hwu hwd t.val t rfl).congr fun r d _ _ => ?_
  rw [h31, Nat.zero_mul, Nat.zero_add, Nat.zero_add]

end Cert.Kernel4Ideal.Val
-- ==== Proof.FirstWeightBlocks.lean ====
/- What a grid point of the first half step's two weight gradients leaves in its output blocks: the gate's and the up
   projection's in one call, the down projection's in another. -/
module

public import proofs.«01_k».proof.Proof.Gen.Kernel4Ideal.Frame.Region2
public import proofs.«01_k».proof.Proof.Gen.Kernel4Ideal.Frame.Region3
public import proofs.«01_k».proof.Proof.Region2
public import proofs.«01_k».proof.Proof.RowStores

@[expose] public section

noncomputable section

namespace Cert.Kernel4Ideal.Val

open Cert.Kernel4Ideal Cert.Kernel4Ideal.Gen Cert.RealArrays Cert.Formulas
open Cert.KernelIdeal.Val (r2_p6 r2_p8 r2_p9 r2_p11 r2_p12 r2_p14 r2_p1 r2_p3 r2_p4)
open Idealize.ShloMosaic Idealize.ShloMosaic.TcCoe Idealize.ShloMosaic.Tactic Idealize.ShloMosaic.ValueIdx
open Idealize.SL.Sem
open Idealize.ShloMosaic.Pipeline (Dat)

section Blocks
variable {w h o : ℕ → ℕ → ℝ}

section GateUp
variable (c : Dev nD) (i : grid2.Coords) {a2 h2 a3 h3 a4 h4 a5 h5 a6 h6}
variable {x0 x1 : Vec Ideal S512x1408 .bf16} {x2 : Vec Ideal S512x1024 .bf16} {xo3 xo4 : Vec Ideal S1408x1024 .f32}

theorem r2_outA3 {hc} (rx : Rd2 x0 w) (rh : Rd2 x2 h) :
    Rd2 (out2_A_3 c i a2 h2 a3 h3 a4 h4 a5 h5 a6 h6 hc x0 x1 x2) (linT 512 w h) := by
  unfold out2_A_3
  rw [View.read_writes_eq_canon _ _ _ (cover2_A_3 c i a2 h2 a3 h3 a4 h4 a5 h5 a6 h6 hc x0 x1 x2)]
  unfold kernelRun2_A
  dsimp only
  sl_unfold_words
  simp only [View.readAt_eq_ld, h2.read_unread, h3.read_unread, h4.read_unread, h5.read_unread, h6.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k2_pay4 (F := Ideal)⟩ : View.Piece (Elt Ideal) S1408x1024 .f32)]) (fun _ _ => 0) := by
    rw [canon_whole]; exact r2_p3
  have s1 := s0.canon_rows (g' := fun r c => if r < 512 then linT 512 w h r c else 0) inb_S1408x1024_S512x1024_0_0 (r2_p8 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p11 (r2_p6 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p14 (r2_p6 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r2_outA4 {hc} (rx : Rd2 x1 w) (rh : Rd2 x2 h) :
    Rd2 (out2_A_4 c i a2 h2 a3 h3 a4 h4 a5 h5 a6 h6 hc x0 x1 x2) (linT 512 w h) := by
  unfold out2_A_4
  rw [View.read_writes_eq_canon _ _ _ (cover2_A_4 c i a2 h2 a3 h3 a4 h4 a5 h5 a6 h6 hc x0 x1 x2)]
  unfold kernelRun2_A
  dsimp only
  sl_unfold_words
  simp only [View.readAt_eq_ld, h2.read_unread, h3.read_unread, h4.read_unread, h5.read_unread, h6.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k2_pay5 (F := Ideal)⟩ : View.Piece (Elt Ideal) S1408x1024 .f32)]) (fun _ _ => 0) := by
    rw [canon_whole]; exact r2_p4
  have s1 := s0.canon_rows (g' := fun r c => if r < 512 then linT 512 w h r c else 0) inb_S1408x1024_S512x1024_0_0 (r2_p9 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p12 (r2_p6 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p1 (r2_p6 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r2_outB3 {hc} (rx : Rd2 x0 w) (rh : Rd2 x2 h) (ro : Rd2 xo3 o) :
    Rd2 (out2_B_3 c i a2 h2 a3 h3 a4 h4 a5 h5 a6 h6 hc x0 x1 x2 xo3 xo4) (fun r c => o r c + linT 512 w h r c) := by
  unfold out2_B_3
  rw [View.read_writes_eq_canon _ _ _ (cover2_B_3 c i a2 h2 a3 h3 a4 h4 a5 h5 a6 h6 hc x0 x1 x2 xo3 xo4)]
  refine Rd2.canonf (cover2_B_3 c i a2 h2 a3 h3 a4 h4 a5 h5 a6 h6 hc x0 x1 x2 xo3 xo4) ?_
  unfold kernelRun2_B
  dsimp only
  sl_unfold_words
  simp only [View.readAt_eq_ld, h2.read_unread, h3.read_unread, h4.read_unread, h5.read_unread, h6.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p14 (r2_p6 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p11 (r2_p6 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p8 hh (ro.ldf_rows inb_S1408x1024_S512x1024_0_0) (rx.ldb_cols inb_S512x1408_S512x512_0_0)) (fun r c _ _ => by simp only [Nat.zero_add]), ?_⟩
  exact fun p hp => absurd hp List.not_mem_nil

theorem r2_outB4 {hc} (rx : Rd2 x1 w) (rh : Rd2 x2 h) (ro : Rd2 xo4 o) :
    Rd2 (out2_B_4 c i a2 h2 a3 h3 a4 h4 a5 h5 a6 h6 hc x0 x1 x2 xo3 xo4) (fun r c => o r c + linT 512 w h r c) := by
  unfold out2_B_4
  rw [View.read_writes_eq_canon _ _ _ (cover2_B_4 c i a2 h2 a3 h3 a4 h4 a5 h5 a6 h6 hc x0 x1 x2 xo3 xo4)]
  refine Rd2.canonf (cover2_B_4 c i a2 h2 a3 h3 a4 h4 a5 h5 a6 h6 hc x0 x1 x2 xo3 xo4) ?_
  unfold kernelRun2_B
  dsimp only
  sl_unfold_words
  simp only [View.readAt_eq_ld, h2.read_unread, h3.read_unread, h4.read_unread, h5.read_unread, h6.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p1 (r2_p6 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p12 (r2_p6 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p9 hh (ro.ldf_rows inb_S1408x1024_S512x1024_0_0) (rx.ldb_cols inb_S512x1408_S512x512_0_0)) (fun r c _ _ => by simp only [Nat.zero_add]), ?_⟩
  exact fun p hp => absurd hp List.not_mem_nil

end GateUp

section Down
variable (c : Dev nD) (i : grid3.Coords) {a2 h2 a3 h3 a4 h4}
variable {x0 : Vec Ideal S512x1408 .bf16} {x1 : Vec Ideal S512x1024 .bf16} {xo2 : Vec Ideal S1408x1024 .f32}

theorem r3_outA2 {hc} (rx : Rd2 x0 w) (rh : Rd2 x1 h) :
    Rd2 (out3_A_2 c i a2 h2 a3 h3 a4 h4 hc x0 x1) (linT 512 w h) := by
  unfold out3_A_2
  rw [View.read_writes_eq_canon _ _ _ (cover3_A_2 c i a2 h2 a3 h3 a4 h4 hc x0 x1)]
  unfold kernelRun3_A
  dsimp only
  sl_unfold_words
  simp only [View.readAt_eq_ld, h2.read_unread, h3.read_unread, h4.read_unread, readCov_ld]
  have hh := rh.ldb_rows inb_S512x1024_S512x1024_0_0
  have hh := hh.congr (g := h) (fun r c _ _ => by rw [Nat.zero_add])
  have s0 : Rd2 (a := 1408) (b := 1024) (View.canon [(⟨Rect.unit ![0, 0] ![1408, 1024] inb_S1408x1024_S1408x1024_0_0, k3_pay1 (F := Ideal)⟩ : View.Piece (Elt Ideal) S1408x1024 .f32)]) (fun _ _ => 0) := by
    rw [canon_whole]; exact r2_p3
  have s1 := s0.canon_rows (g' := fun r c => if r < 512 then linT 512 w h r c else 0) inb_S1408x1024_S512x1024_0_0 (r2_p8 hh (s0.ldf_rows inb_S1408x1024_S512x1024_0_0) (rx.ldb_cols inb_S512x1408_S512x512_0_0))
    (fun r c hr hc => by
      rw [if_pos (show 0 + r < 512 by omega)]
      exact zero_add _)
    (fun r c hr => by
      rw [if_neg (show ¬r < 512 by omega)])
  have s2 := s1.canon_rows (g' := fun r c => if r < 1024 then linT 512 w h r c else 0) inb_S1408x1024_S512x1024_512_0 (r2_p11 (r2_p6 hh) (s1.ldf_rows inb_S1408x1024_S512x1024_512_0) (rx.ldb_cols inb_S512x1408_S512x512_0_512))
    (fun r c hr hc => by
      rw [if_pos (show 512 + r < 1024 by omega)]
      rw [if_neg (show ¬512 + r < 512 by omega)]
      exact zero_add _)
    (fun r c hr => by
      by_cases h1 : r < 512
      · rw [if_pos h1, if_pos (show r < 1024 by omega)]
      · rw [if_neg h1, if_neg (show ¬r < 1024 by omega)])
  have s3 := s2.canon_rows (g' := fun r c => if r < 1408 then linT 512 w h r c else 0) inb_S1408x1024_S384x1024_1024_0 (r2_p14 (r2_p6 hh) (s2.ldf_rows inb_S1408x1024_S384x1024_1024_0) (rx.ldb_cols inb_S512x1408_S512x384_0_1024))
    (fun r c hr hc => by
      rw [if_pos (show 1024 + r < 1408 by omega)]
      rw [if_neg (show ¬1024 + r < 1024 by omega)]
      exact zero_add _)
    (fun r c hr => by
      by_cases h1 : r < 1024
      · rw [if_pos h1, if_pos (show r < 1408 by omega)]
      · rw [if_neg h1, if_neg (show ¬r < 1408 by omega)])
  exact s3.congr fun r c hr hc => if_pos hr

theorem r3_outB2 {hc} (rx : Rd2 x0 w) (rh : Rd2 x1 h) (ro : Rd2 xo2 o) :
    Rd2 (out3_B_2 c i a2 h2 a3 h3 a4 h4 hc x0 x1 xo2) (fun r c => o r c + linT 512 w h r c) := by
  unfold out3_B_2
  rw [View.read_writes_eq_canon _ _ _ (cover3_B_2 c i a2 h2 a3 h3 a4 h4 hc x0 x1 xo2)]
  refine Rd2.canonf (cover3_B_2 c i a2 h2 a3 h3 a4 h4 hc x0 x1 xo2) ?_
  unfold kernelRun3_B
  dsimp only
  sl_unfold_words
  simp only [View.readAt_eq_ld, h2.read_unread, h3.read_unread, h4.read_unread, readCov_whole]
  have hh := rh.ldb_rows inb_S512x1024_S512x1024_0_0
  have hh := hh.congr (g := h) (fun r c _ _ => by rw [Nat.zero_add])
  refine List.forall_mem_cons.mpr ⟨Rd2.piece (g := fun r c => o r c + linT 512 w h r c) (n := 384) (m := 1024) (p := 1024) (q := 0) inb_S1408x1024_S384x1024_1024_0 (r2_p14 (r2_p6 hh) (ro.ldf_rows inb_S1408x1024_S384x1024_1024_0) (rx.ldb_cols inb_S512x1408_S512x384_0_1024)) (fun r c _ _ => by rw [Nat.zero_add]; rfl), ?_⟩
  refine List.forall_mem_cons.mpr ⟨Rd2.piece (g := fun r c => o r c + linT 512 w h r c) (n := 512) (m := 1024) (p := 512) (q := 0) inb_S1408x1024_S512x1024_512_0 (r2_p11 (r2_p6 hh) (ro.ldf_rows inb_S1408x1024_S512x1024_512_0) (rx.ldb_cols inb_S512x1408_S512x512_0_512)) (fun r c _ _ => by rw [Nat.zero_add]; rfl), ?_⟩
  refine List.forall_mem_cons.mpr ⟨Rd2.piece (g := fun r c => o r c + linT 512 w h r c) (n := 512) (m := 1024) (p := 0) (q := 0) inb_S1408x1024_S512x1024_0_0 (r2_p8 hh (ro.ldf_rows inb_S1408x1024_S512x1024_0_0) (rx.ldb_cols inb_S512x1408_S512x512_0_0)) (fun r c _ _ => by simp only [Nat.zero_add]), ?_⟩
  exact fun p hp => absurd hp List.not_mem_nil

end Down

end Blocks

end Cert.Kernel4Ideal.Val
-- ==== Proof.FirstWeightArrays.lean ====
/- The blocks of the two weight gradients' windows in the first half step, and their three result arrays. -/
module

public import proofs.«01_k».proof.Proof.FirstWeightBlocks
public import proofs.«01_k».proof.Proof.Region2Arrays

@[expose] public section

noncomputable section

namespace Cert.Kernel4Ideal.Val

open Cert.Kernel4Ideal Cert.Kernel4Ideal.Gen Cert.RealArrays Cert.Formulas
open Cert.KernelIdeal.Val (wacc wacc_start wacc_step)
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## The input blocks -/

theorem idx2_0 : ∀ t : Fin cfg2.N, win2_0.index t 0 = t.val % 16 ∧ win2_0.index t 1 = t.val / 16 :=
  (by decide +kernel : ∀ t : Fin grid2.N, win2_0.index t 0 = t.val % 16 ∧ win2_0.index t 1 = t.val / 16)
theorem blk2_0 {X : ℕ → ℕ → ℝ} (hX : Rd2 (a := 8192) (b := 2816) (V c main_v6_1) X) (t : Fin cfg2.N) :
    Rd2 (a := 512) (b := 1408) (iblk2 V c 0 t) (fun r d => X ((t.val % 16) * 512 + r) ((t.val / 16) * 1408 + d)) := fun j => by
  unfold iblk2
  rw [View.read_apply]
  show V c main_v6_1 _ = _
  refine (hX _).trans (coe_congr₂ X ?_ ?_)
  · show win2_0.index t 0 * 512 + 1 * (j 0).val = _; rw [(idx2_0 t).1]; omega
  · show win2_0.index t 1 * 1408 + 1 * (j 1).val = _; rw [(idx2_0 t).2]; omega
theorem idx2_1 : ∀ t : Fin cfg2.N, win2_1.index t 0 = t.val % 16 ∧ win2_1.index t 1 = t.val / 16 :=
  (by decide +kernel : ∀ t : Fin grid2.N, win2_1.index t 0 = t.val % 16 ∧ win2_1.index t 1 = t.val / 16)
theorem blk2_1 {X : ℕ → ℕ → ℝ} (hX : Rd2 (a := 8192) (b := 2816) (V c main_v6_2) X) (t : Fin cfg2.N) :
    Rd2 (a := 512) (b := 1408) (iblk2 V c 1 t) (fun r d => X ((t.val % 16) * 512 + r) ((t.val / 16) * 1408 + d)) := fun j => by
  unfold iblk2
  rw [View.read_apply]
  show V c main_v6_2 _ = _
  refine (hX _).trans (coe_congr₂ X ?_ ?_)
  · show win2_1.index t 0 * 512 + 1 * (j 0).val = _; rw [(idx2_1 t).1]; omega
  · show win2_1.index t 1 * 1408 + 1 * (j 1).val = _; rw [(idx2_1 t).2]; omega
theorem idx2_2 : ∀ t : Fin cfg2.N, win2_2.index t 0 = t.val % 16 ∧ win2_2.index t 1 = 0 :=
  (by decide +kernel : ∀ t : Fin grid2.N, win2_2.index t 0 = t.val % 16 ∧ win2_2.index t 1 = 0)
theorem blk2_2 {X : ℕ → ℕ → ℝ} (hX : Rd2 (a := 8192) (b := 1024) (V c main_v5_0) X) (t : Fin cfg2.N) :
    Rd2 (a := 512) (b := 1024) (iblk2 V c 2 t) (fun r d => X ((t.val % 16) * 512 + r) ((0) * 1024 + d)) := fun j => by
  unfold iblk2
  rw [View.read_apply]
  show V c main_v5_0 _ = _
  refine (hX _).trans (coe_congr₂ X ?_ ?_)
  · show win2_2.index t 0 * 512 + 1 * (j 0).val = _; rw [(idx2_2 t).1]; omega
  · show win2_2.index t 1 * 1024 + 1 * (j 1).val = _; rw [(idx2_2 t).2]; omega
theorem idx3_0 : ∀ t : Fin cfg3.N, win3_0.index t 0 = t.val % 16 ∧ win3_0.index t 1 = t.val / 16 :=
  (by decide +kernel : ∀ t : Fin grid3.N, win3_0.index t 0 = t.val % 16 ∧ win3_0.index t 1 = t.val / 16)
theorem blk3_0 {X : ℕ → ℕ → ℝ} (hX : Rd2 (a := 8192) (b := 2816) (V c main_v5_3) X) (t : Fin cfg3.N) :
    Rd2 (a := 512) (b := 1408) (iblk3 V c 0 t) (fun r d => X ((t.val % 16) * 512 + r) ((t.val / 16) * 1408 + d)) := fun j => by
  unfold iblk3
  rw [View.read_apply]
  show V c main_v5_3 _ = _
  refine (hX _).trans (coe_congr₂ X ?_ ?_)
  · show win3_0.index t 0 * 512 + 1 * (j 0).val = _; rw [(idx3_0 t).1]; omega
  · show win3_0.index t 1 * 1408 + 1 * (j 1).val = _; rw [(idx3_0 t).2]; omega
theorem idx3_1 : ∀ t : Fin cfg3.N, win3_1.index t 0 = t.val % 16 ∧ win3_1.index t 1 = 0 :=
  (by decide +kernel : ∀ t : Fin grid3.N, win3_1.index t 0 = t.val % 16 ∧ win3_1.index t 1 = 0)
theorem blk3_1 {X : ℕ → ℕ → ℝ} (hX : Rd2 (a := 8192) (b := 1024) (V c main_v6_3) X) (t : Fin cfg3.N) :
    Rd2 (a := 512) (b := 1024) (iblk3 V c 1 t) (fun r d => X ((t.val % 16) * 512 + r) ((0) * 1024 + d)) := fun j => by
  unfold iblk3
  rw [View.read_apply]
  show V c main_v6_3 _ = _
  refine (hX _).trans (coe_congr₂ X ?_ ?_)
  · show win3_1.index t 0 * 512 + 1 * (j 0).val = _; rw [(idx3_1 t).1]; omega
  · show win3_1.index t 1 * 1024 + 1 * (j 1).val = _; rw [(idx3_1 t).2]; omega

/-! ## The result arrays -/

theorem idx2_3 : ∀ t : Fin cfg2.N, win2_3.index t 0 = t.val / 16 ∧ win2_3.index t 1 = 0 :=
  (by decide +kernel : ∀ t : Fin grid2.N, win2_3.index t 0 = t.val / 16 ∧ win2_3.index t 1 = 0)
theorem arr2_3 {G : ℕ → ℕ → ℝ} (hG : ∀ t : Fin cfg2.N, (cfg2.win 3).flush t = true →
      Rd2 (a := 1408) (b := 1024) ((outsAt2 V c t.val t.isLt).1) (fun r d => G ((t.val / 16) * 1408 + r) ((0) * 1024 + d))) :
    Rd2 (a := 2816) (b := 1024) ((dat2 V c).arrAt 3 cfg2.N) G := fun i => by
  refine (dat2 V c).arrAt_forall_of_covers 3 (fun i v => v = ((G (i 0).val (i 1).val : ℝ) : EReal)) (by decide +kernel) (fun t hf y => ?_) i
  rw [after2_3]
  refine (hG t hf _).trans (coe_congr₂ G ?_ ?_)
  · show (t.val / 16) * 1408 + (y 0).val = win2_3.index t 0 * 1408 + 1 * (y 0).val; rw [(idx2_3 t).1]; omega
  · show (0) * 1024 + (y 1).val = win2_3.index t 1 * 1024 + 1 * (y 1).val; rw [(idx2_3 t).2]; omega
theorem idx2_4 : ∀ t : Fin cfg2.N, win2_4.index t 0 = t.val / 16 ∧ win2_4.index t 1 = 0 :=
  (by decide +kernel : ∀ t : Fin grid2.N, win2_4.index t 0 = t.val / 16 ∧ win2_4.index t 1 = 0)
theorem arr2_4 {G : ℕ → ℕ → ℝ} (hG : ∀ t : Fin cfg2.N, (cfg2.win 4).flush t = true →
      Rd2 (a := 1408) (b := 1024) ((outsAt2 V c t.val t.isLt).2) (fun r d => G ((t.val / 16) * 1408 + r) ((0) * 1024 + d))) :
    Rd2 (a := 2816) (b := 1024) ((dat2 V c).arrAt 4 cfg2.N) G := fun i => by
  refine (dat2 V c).arrAt_forall_of_covers 4 (fun i v => v = ((G (i 0).val (i 1).val : ℝ) : EReal)) (by decide +kernel) (fun t hf y => ?_) i
  rw [after2_4]
  refine (hG t hf _).trans (coe_congr₂ G ?_ ?_)
  · show (t.val / 16) * 1408 + (y 0).val = win2_4.index t 0 * 1408 + 1 * (y 0).val; rw [(idx2_4 t).1]; omega
  · show (0) * 1024 + (y 1).val = win2_4.index t 1 * 1024 + 1 * (y 1).val; rw [(idx2_4 t).2]; omega
theorem idx3_2 : ∀ t : Fin cfg3.N, win3_2.index t 0 = t.val / 16 ∧ win3_2.index t 1 = 0 :=
  (by decide +kernel : ∀ t : Fin grid3.N, win3_2.index t 0 = t.val / 16 ∧ win3_2.index t 1 = 0)
theorem arr3_2 {G : ℕ → ℕ → ℝ} (hG : ∀ t : Fin cfg3.N, (cfg3.win 2).flush t = true →
      Rd2 (a := 1408) (b := 1024) (outsAt3 V c t.val t.isLt) (fun r d => G ((t.val / 16) * 1408 + r) ((0) * 1024 + d))) :
    Rd2 (a := 2816) (b := 1024) ((dat3 V c).arrAt 2 cfg3.N) G := fun i => by
  refine (dat3 V c).arrAt_forall_of_covers 2 (fun i v => v = ((G (i 0).val (i 1).val : ℝ) : EReal)) (by decide +kernel) (fun t hf y => ?_) i
  rw [after3_2]
  refine (hG t hf _).trans (coe_congr₂ G ?_ ?_)
  · show (t.val / 16) * 1408 + (y 0).val = win3_2.index t 0 * 1408 + 1 * (y 0).val; rw [(idx3_2 t).1]; omega
  · show (0) * 1024 + (y 1).val = win3_2.index t 1 * 1024 + 1 * (y 1).val; rw [(idx3_2 t).2]; omega

/-! ## The calls -/

variable {V c} {u v : ℕ → ℕ → ℝ}

theorem call2_dwg_acc (hu : Rd2 (a := 8192) (b := 2816) (V c main_v6_1) u) (hv : Rd2 (a := 8192) (b := 1024) (V c main_v5_0) v) :
    ∀ (n : ℕ) (t : Fin cfg2.N), t.val = n → Rd2 (a := 1408) (b := 1024) (outsAt2 V c t.val t.isLt).1 (wacc u v t.val) := by
  intro n
  induction n with
  | zero =>
    intro t ht0
    have h0 : t.val % 16 = 0 := by omega
    rw [outsAt2_A V c t h0]; dsimp only
    exact (r2_outA3 c _ (blk2_0 V c hu t) (blk2_2 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt2_A V c t h0]; dsimp only
      exact (r2_outA3 c _ (blk2_0 V c hu t) (blk2_2 V c hv t)).congr fun r d _ _ => wacc_start u v t.val r d h0
    · rw [outsAt2_B V c t h0]; dsimp only
      exact (r2_outB3 c _ (blk2_0 V c hu t) (blk2_2 V c hv t) ho).congr fun r d _ _ => wacc_step u v t.val r d h0
theorem call2_dwg (hu : Rd2 (a := 8192) (b := 2816) (V c main_v6_1) u) (hv : Rd2 (a := 8192) (b := 1024) (V c main_v5_0) v) :
    Rd2 (a := 2816) (b := 1024) ((dat2 V c).arrAt 3 cfg2.N) (linT 8192 u v) := arr2_3 V c fun t hf => by
  have h15 : t.val % 16 = 15 := (by decide +kernel : ∀ t : Fin grid2.N, win2_3.flush t = true → t.val % 16 = 15) t hf
  refine (call2_dwg_acc hu hv t.val t rfl).congr fun r d _ _ => ?_
  unfold wacc; rw [h15, Nat.zero_mul, Nat.zero_add]
theorem call2_dwu_acc (hu : Rd2 (a := 8192) (b := 2816) (V c main_v6_2) u) (hv : Rd2 (a := 8192) (b := 1024) (V c main_v5_0) v) :
    ∀ (n : ℕ) (t : Fin cfg2.N), t.val = n → Rd2 (a := 1408) (b := 1024) (outsAt2 V c t.val t.isLt).2 (wacc u v t.val) := by
  intro n
  induction n with
  | zero =>
    intro t ht0
    have h0 : t.val % 16 = 0 := by omega
    rw [outsAt2_A V c t h0]; dsimp only
    exact (r2_outA4 c _ (blk2_1 V c hu t) (blk2_2 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt2_A V c t h0]; dsimp only
      exact (r2_outA4 c _ (blk2_1 V c hu t) (blk2_2 V c hv t)).congr fun r d _ _ => wacc_start u v t.val r d h0
    · rw [outsAt2_B V c t h0]; dsimp only
      exact (r2_outB4 c _ (blk2_1 V c hu t) (blk2_2 V c hv t) ho).congr fun r d _ _ => wacc_step u v t.val r d h0
theorem call2_dwu (hu : Rd2 (a := 8192) (b := 2816) (V c main_v6_2) u) (hv : Rd2 (a := 8192) (b := 1024) (V c main_v5_0) v) :
    Rd2 (a := 2816) (b := 1024) ((dat2 V c).arrAt 4 cfg2.N) (linT 8192 u v) := arr2_4 V c fun t hf => by
  have h15 : t.val % 16 = 15 := (by decide +kernel : ∀ t : Fin grid2.N, win2_4.flush t = true → t.val % 16 = 15) t hf
  refine (call2_dwu_acc hu hv t.val t rfl).congr fun r d _ _ => ?_
  unfold wacc; rw [h15, Nat.zero_mul, Nat.zero_add]
theorem call3_dwd_acc (hu : Rd2 (a := 8192) (b := 2816) (V c main_v5_3) u) (hv : Rd2 (a := 8192) (b := 1024) (V c main_v6_3) v) :
    ∀ (n : ℕ) (t : Fin cfg3.N), t.val = n → Rd2 (a := 1408) (b := 1024) (outsAt3 V c t.val t.isLt) (wacc u v t.val) := by
  intro n
  induction n with
  | zero =>
    intro t ht0
    have h0 : t.val % 16 = 0 := by omega
    rw [outsAt3_A V c t h0]
    exact (r3_outA2 c _ (blk3_0 V c hu t) (blk3_1 V c hv t)).congr fun r d _ _ => wacc_start u v t.val r d h0
  | succ n ih =>
    intro t htv
    have hlt : t.val < 32 := t.isLt
    have ho := ih ⟨t.val - 1, Nat.lt_of_le_of_lt (Nat.sub_le _ _) t.isLt⟩ (by show t.val - 1 = n; omega)
    by_cases h0 : t.val % 16 = 0
    · rw [outsAt3_A V c t h0]
      exact (r3_outA2 c _ (blk3_0 V c hu t) (blk3_1 V c hv t)).congr fun r d _ _ => wacc_start u v t.val r d h0
    · rw [outsAt3_B V c t h0]
      exact (r3_outB2 c _ (blk3_0 V c hu t) (blk3_1 V c hv t) ho).congr fun r d _ _ => wacc_step u v t.val r d h0
theorem call3_dwd (hu : Rd2 (a := 8192) (b := 2816) (V c main_v5_3) u) (hv : Rd2 (a := 8192) (b := 1024) (V c main_v6_3) v) :
    Rd2 (a := 2816) (b := 1024) ((dat3 V c).arrAt 2 cfg3.N) (linT 8192 u v) := arr3_2 V c fun t hf => by
  have h15 : t.val % 16 = 15 := (by decide +kernel : ∀ t : Fin grid3.N, win3_2.flush t = true → t.val % 16 = 15) t hf
  refine (call3_dwd_acc hu hv t.val t rfl).congr fun r d _ _ => ?_
  unfold wacc; rw [h15, Nat.zero_mul, Nat.zero_add]

end Cert.Kernel4Ideal.Val
-- ==== Proof.FirstDown.lean ====
/- The first half step's down projection: the array its call leaves. -/
module

public import proofs.«01_k».proof.Proof.Gen.Kernel4Ideal.Frame.Region4
public import proofs.«01_k».proof.Proof.Region0
public import proofs.«01_k».proof.Proof.RowStores

@[expose] public section

noncomputable section

namespace Cert.Kernel4Ideal.Val

open Cert.Kernel4Ideal Cert.Kernel4Ideal.Gen Cert.RealArrays Cert.Formulas
open Idealize.ShloMosaic Idealize.ShloMosaic.TcCoe Idealize.ShloMosaic.Tactic Idealize.ShloMosaic.ValueIdx
open Idealize.SL.Sem
open Idealize.ShloMosaic.Pipeline (Dat)

section Blocks
variable {x a d : ℕ → ℕ → ℝ}

theorem r4_p1 {v0 : Vec Ideal S512x1024 .f32} {v1 : Vec Ideal S512x2816 .bf16} {v3 : Vec Ideal S2816x1024 .bf16} (h0 : Rd2 v0 x) (h1 : Rd2 v1 a) (h3 : Rd2 v3 d) :
    Rd2 (k4_pay1 v0 v1 v3) (outp x a d) := by
  unfold k4_pay1
  exact h0.add ((Rd2.bcast lit_half).mul ((h1.shapeCast_self _).matmul_nn (h3.shapeCast_self _) _ _))

theorem r4_out3 {x0 : Vec Ideal S512x1024 .f32} {x1 : Vec Ideal S512x2816 .bf16} {x2 : Vec Ideal S2816x1024 .bf16} (h0 : Rd2 x0 x) (h1 : Rd2 x1 a) (h2 : Rd2 x2 d) :
    Rd2 (out4_3 x0 x1 x2) (outp x a d) := by
  unfold out4_3
  rw [canon_whole]
  exact r4_p1 (h0.ldf_all inb_S512x1024_S512x1024_0_0) ((h1.ldb_rows inb_S512x2816_S512x2816_0_0).congr fun r c _ _ => by rw [Nat.zero_add])
    ((h2.ldb_rows inb_S2816x1024_S2816x1024_0_0).congr fun r c _ _ => by rw [Nat.zero_add])
end Blocks

variable (V : (c : Dev nD) → (b : Ref sig .tc) → Buf (Elt Ideal) ((c : Thread nD τ).loc b)) (c : Dev nD)

theorem idx4_0 : ∀ t : Fin cfg4.N, win4_0.index t 0 = t.val ∧ win4_0.index t 1 = 0 :=
  (by decide +kernel : ∀ t : Fin grid4.N, win4_0.index t 0 = t.val ∧ win4_0.index t 1 = 0)
theorem blk4_0 {X : ℕ → ℕ → ℝ} (hX : Rd2 (a := 8192) (b := 1024) (V c main_arg0) X) (t : Fin cfg4.N) :
    Rd2 (a := 512) (b := 1024) (iblk4 V c 0 t) (fun r d => X ((t.val) * 512 + r) ((0) * 1024 + d)) := fun j => by
  unfold iblk4
  rw [View.read_apply]
  show V c main_arg0 _ = _
  refine (hX _).trans (coe_congr₂ X ?_ ?_)
  · show win4_0.index t 0 * 512 + 1 * (j 0).val = _; rw [(idx4_0 t).1]; omega
  · show win4_0.index t 1 * 1024 + 1 * (j 1).val = _; rw [(idx4_0 t).2]; omega
theorem idx4_1 : ∀ t : Fin cfg4.N, win4_1.index t 0 = t.val ∧ win4_1.index t 1 = 0 :=
  (by decide +kernel : ∀ t : Fin grid4.N, win4_1.index t 0 = t.val ∧ win4_1.index t 1 = 0)
theorem blk4_1 {X : ℕ → ℕ → ℝ} (hX : Rd2 (a := 8192) (b := 2816) (V c main_v5_3) X) (t : Fin cfg4.N) :
    Rd2 (a := 512) (b := 2816) (iblk4 V c 1 t) (fun r d => X ((t.val) * 512 + r) ((0) * 2816 + d)) := fun j => by
  unfold iblk4
  rw [View.read_apply]
  show V c main_v5_3 _ = _
  refine (hX _).trans (coe_congr₂ X ?_ ?_)
  · show win4_1.index t 0 * 512 + 1 * (j 0).val = _; rw [(idx4_1 t).1]; omega
  · show win4_1.index t 1 * 2816 + 1 * (j 1).val = _; rw [(idx4_1 t).2]; omega
theorem idx4_2 : ∀ t : Fin cfg4.N, win4_2.index t 0 = 0 ∧ win4_2.index t 1 = 0 :=
  (by decide +kernel : ∀ t : Fin grid4.N, win4_2.index t 0 = 0 ∧ win4_2.index t 1 = 0)
theorem blk4_2 {X : ℕ → ℕ → ℝ} (hX : Rd2 (a := 2816) (b := 1024) (V c main_v4) X) (t : Fin cfg4.N) :
    Rd2 (a := 2816) (b := 1024) (iblk4 V c 2 t) (fun r d => X ((0) * 2816 + r) ((0) * 1024 + d)) := fun j => by
  unfold iblk4
  rw [View.read_apply]
  show V c main_v4 _ = _
  refine (hX _).trans (coe_congr₂ X ?_ ?_)
  · show win4_2.index t 0 * 2816 + 1 * (j 0).val = _; rw [(idx4_2 t).1]; omega
  · show win4_2.index t 1 * 1024 + 1 * (j 1).val = _; rw [(idx4_2 t).2]; omega
theorem idx4_3 : ∀ t : Fin cfg4.N, win4_3.index t 0 = t.val ∧ win4_3.index t 1 = 0 :=
  (by decide +kernel : ∀ t : Fin grid4.N, win4_3.index t 0 = t.val ∧ win4_3.index t 1 = 0)
theorem arr4_3 {o : Fin cfg4.N → Vec Ideal S512x1024 .f32} (ho : ∀ t, (dat4 V c).after 3 t = o t) {G : ℕ → ℕ → ℝ} (hG : ∀ t : Fin cfg4.N, (cfg4.win 3).flush t = true →
      Rd2 (a := 512) (b := 1024) (o t) (fun r d => G ((t.val) * 512 + r) ((0) * 1024 + d))) :
    Rd2 (a := 8192) (b := 1024) ((dat4 V c).arrAt 3 cfg4.N) G := fun i => by
  refine (dat4 V c).arrAt_forall_of_covers 3 (fun i v => v = ((G (i 0).val (i 1).val : ℝ) : EReal)) (by decide +kernel) (fun t hf y => ?_) i
  rw [ho]
  refine (hG t hf _).trans (coe_congr₂ G ?_ ?_)
  · show (t.val) * 512 + (y 0).val = win4_3.index t 0 * 512 + 1 * (y 0).val; rw [(idx4_3 t).1]; omega
  · show (0) * 1024 + (y 1).val = win4_3.index t 1 * 1024 + 1 * (y 1).val; rw [(idx4_3 t).2]; omega

variable {V c} {x a d : ℕ → ℕ → ℝ}

theorem call4_y (hx : Rd2 (a := 8192) (b := 1024) (V c main_arg0) x) (ha : Rd2 (a := 8192) (b := 2816) (V c main_v5_3) a)
    (hd : Rd2 (a := 2816) (b := 1024) (V c main_v4) d) :
    Rd2 (a := 8192) (b := 1024) ((dat4 V c).arrAt 3 cfg4.N) (outp x a d) := arr4_3 V c (after4_3 V c) fun t _ => by
  refine (r4_out3 (blk4_0 V c hx t) (blk4_1 V c ha t) (blk4_2 V c hd t)).congr fun r d _ _ => ?_
  simp only [Nat.zero_mul, Nat.zero_add]; rfl

end Cert.Kernel4Ideal.Val
-- ==== Proof.FirstChain.lean ====
/- From the arguments to the results of the first half step: what each call leaves, read through the whole program. -/
module

public import proofs.«01_k».proof.Proof.FirstRun
public import proofs.«01_k».proof.Proof.FirstForward
public import proofs.«01_k».proof.Proof.FirstBackArrays
public import proofs.«01_k».proof.Proof.FirstWeightArrays
public import proofs.«01_k».proof.Proof.FirstDown
public import proofs.«01_k».proof.Proof.KernelChain

@[expose] public section

noncomputable section

namespace Cert.Kernel4Ideal.Val

open Cert.Kernel4Ideal Cert.Kernel4Ideal.Gen Cert.RealArrays Cert.Formulas
open Cert.ReferenceIdeal.Val (tr)
open Cert.KernelIdeal.Val (rd_eq)
open Idealize.ShloMosaic Idealize.ShloMosaic.TcCoe Idealize.ShloMosaic.Tactic Idealize.ShloMosaic.ValueIdx
open Idealize.SL.Sem

variable (m : (ℓ : Loc nD τ sig) → Buf (Elt Ideal) ℓ) (ρ : Dev nD → PrngReg) (c : Dev nD)

/-- The six arguments read six real arrays. -/
structure Args (x g wg wu wd dy : ℕ → ℕ → ℝ) : Prop where
  hx : Rd2 (a := 8192) (b := 1024) (m ((c.tc : Thread nD τ).loc main_arg0)) x
  hg : Rd2 (a := 1) (b := 1024) (m ((c.tc : Thread nD τ).loc main_arg1)) g
  hwg : Rd2 (a := 1024) (b := 2816) (m ((c.tc : Thread nD τ).loc main_arg2)) wg
  hwu : Rd2 (a := 1024) (b := 2816) (m ((c.tc : Thread nD τ).loc main_arg3)) wu
  hwd : Rd2 (a := 2816) (b := 1024) (m ((c.tc : Thread nD τ).loc main_arg4)) wd
  hdy : Rd2 (a := 8192) (b := 1024) (m ((c.tc : Thread nD τ).loc main_arg5)) dy

/-- The gate and the up product, their activation, and the gradients that come back to the two products. -/
abbrev fGate (x g wg : ℕ → ℕ → ℝ) : ℕ → ℕ → ℝ := lin 1024 (hid x g) (tr wg)
abbrev fAct (x g wg wu : ℕ → ℕ → ℝ) : ℕ → ℕ → ℝ := act (fGate x g wg) (fGate x g wu)
abbrev fDup (x g wg wd dy : ℕ → ℕ → ℝ) : ℕ → ℕ → ℝ := dUp (lin 1024 (dyh dy) wd) (fGate x g wg)
abbrev fDgate (x g wg wu wd dy : ℕ → ℕ → ℝ) : ℕ → ℕ → ℝ := dGate (lin 1024 (dyh dy) wd) (fGate x g wg) (fGate x g wu)
abbrev fBack (x g wg wu wd dy : ℕ → ℕ → ℝ) : ℕ → ℕ → ℝ := dAcc 2816 (fDgate x g wg wu wd dy) (fDup x g wg wd dy) (tr wg) (tr wu)

variable {x g wg wu wd dy : ℕ → ℕ → ℝ} (h : Args m c x g wg wu wd dy)
include h

/-! ## Before the first call -/

theorem e1_arg0 : Rd2 (a := 8192) (b := 1024) (V1 m ρ c main_arg0) x := rd_eq (W1_args m ρ c main_arg0 (by decide)) h.hx
theorem e1_arg1 : Rd2 (a := 1) (b := 1024) (V1 m ρ c main_arg1) g := rd_eq (W1_args m ρ c main_arg1 (by decide)) h.hg
theorem e1_arg5 : Rd2 (a := 8192) (b := 1024) (V1 m ρ c main_arg5) dy := rd_eq (W1_args m ρ c main_arg5 (by decide)) h.hdy
theorem e1_v1 : Rd2 (a := 2816) (b := 1024) (V1 m ρ c main_v1) (tr wg) := by
  refine rd_eq (v' := truncf (F := Ideal) .bf16 (transpose S2816x1024 [1, 0] (m ((c.tc : Thread nD τ).loc main_arg2)) transposes_S1024x2816_S2816x1024_1_0) bitsLt_bf16_f32) ?_ ?_
  · show StableHlo.after hostOps0 (W0 m ρ c) (Proc.devRef .tc main_v1) = _
    simp only [hostOps0]; after_results_simp <;> rfl
  · exact (h.hwg.transp _).trunc _
theorem e1_v3 : Rd2 (a := 2816) (b := 1024) (V1 m ρ c main_v3) (tr wu) := by
  refine rd_eq (v' := truncf (F := Ideal) .bf16 (transpose S2816x1024 [1, 0] (m ((c.tc : Thread nD τ).loc main_arg3)) transposes_S1024x2816_S2816x1024_1_0) bitsLt_bf16_f32) ?_ ?_
  · show StableHlo.after hostOps0 (W0 m ρ c) (Proc.devRef .tc main_v3) = _
    simp only [hostOps0]; after_results_simp <;> rfl
  · exact (h.hwu.transp _).trunc _
theorem e1_v4 : Rd2 (a := 2816) (b := 1024) (V1 m ρ c main_v4) wd := by
  refine rd_eq (v' := truncf (F := Ideal) .bf16 (m ((c.tc : Thread nD τ).loc main_arg4)) bitsLt_bf16_f32) ?_ ?_
  · show StableHlo.after hostOps0 (W0 m ρ c) (Proc.devRef .tc main_v4) = _
    simp only [hostOps0]; after_results_simp <;> rfl
  · exact h.hwd.trunc _

/-! ## After the forward call -/

theorem e2_v5_0 : Rd2 (a := 8192) (b := 1024) (V2 m ρ c main_v5_0) (hid x g) :=
    rd_eq (W2_arr m ρ c 4) (call0_h (e1_arg0 m ρ c h) (e1_arg1 m ρ c h))
theorem e2_v5_1 : Rd2 (a := 8192) (b := 2816) (V2 m ρ c main_v5_1) (fGate x g wg) :=
    rd_eq (W2_arr m ρ c 5) (call0_gate (e1_arg0 m ρ c h) (e1_arg1 m ρ c h) (e1_v1 m ρ c h))
theorem e2_v5_2 : Rd2 (a := 8192) (b := 2816) (V2 m ρ c main_v5_2) (fGate x g wu) :=
    rd_eq (W2_arr m ρ c 6) (call0_up (e1_arg0 m ρ c h) (e1_arg1 m ρ c h) (e1_v3 m ρ c h))
theorem e2_v5_3 : Rd2 (a := 8192) (b := 2816) (V2 m ρ c main_v5_3) (fAct x g wg wu) :=
    rd_eq (W2_arr m ρ c 7) (call0_act (e1_arg0 m ρ c h) (e1_arg1 m ρ c h) (e1_v1 m ρ c h) (e1_v3 m ρ c h))
theorem e2_arg0 : Rd2 (a := 8192) (b := 1024) (V2 m ρ c main_arg0) x := rd_eq (W2_of m ρ c main_arg0 (by decide +kernel)) (e1_arg0 m ρ c h)
theorem e2_arg1 : Rd2 (a := 1) (b := 1024) (V2 m ρ c main_arg1) g := rd_eq (W2_of m ρ c main_arg1 (by decide +kernel)) (e1_arg1 m ρ c h)
theorem e2_arg5 : Rd2 (a := 8192) (b := 1024) (V2 m ρ c main_arg5) dy := rd_eq (W2_of m ρ c main_arg5 (by decide +kernel)) (e1_arg5 m ρ c h)
theorem e2_v1 : Rd2 (a := 2816) (b := 1024) (V2 m ρ c main_v1) (tr wg) := rd_eq (W2_of m ρ c main_v1 (by decide +kernel)) (e1_v1 m ρ c h)
theorem e2_v3 : Rd2 (a := 2816) (b := 1024) (V2 m ρ c main_v3) (tr wu) := rd_eq (W2_of m ρ c main_v3 (by decide +kernel)) (e1_v3 m ρ c h)
theorem e2_v4 : Rd2 (a := 2816) (b := 1024) (V2 m ρ c main_v4) wd := rd_eq (W2_of m ρ c main_v4 (by decide +kernel)) (e1_v4 m ρ c h)

/-! ## After the activation gradient -/

theorem e3_v6_3 : Rd2 (a := 8192) (b := 1024) (V3 m ρ c main_v6_3) (dyh dy) :=
    rd_eq (W3_arr m ρ c 11) (call1_dyh (e2_arg5 m ρ c h))
theorem e3_v6_2 : Rd2 (a := 8192) (b := 2816) (V3 m ρ c main_v6_2) (fDup x g wg wd dy) :=
    rd_eq (W3_arr m ρ c 10) (call1_dup (e2_arg5 m ρ c h) (e2_v5_1 m ρ c h) (e2_v4 m ρ c h))
theorem e3_v6_1 : Rd2 (a := 8192) (b := 2816) (V3 m ρ c main_v6_1) (fDgate x g wg wu wd dy) :=
    rd_eq (W3_arr m ρ c 9) (call1_dgate (e2_arg5 m ρ c h) (e2_v5_1 m ρ c h) (e2_v5_2 m ρ c h) (e2_v4 m ρ c h))
theorem e3_v6_0 : Rd2 (a := 8192) (b := 1024) (V3 m ρ c main_v6_0) (dX dy x g (fBack x g wg wu wd dy)) :=
    rd_eq (W3_arr m ρ c 8) (call1_dx (e2_arg5 m ρ c h) (e2_arg0 m ρ c h) (e2_arg1 m ρ c h) (e2_v5_1 m ρ c h) (e2_v5_2 m ρ c h) (e2_v1 m ρ c h) (e2_v3 m ρ c h) (e2_v4 m ρ c h))
theorem e3_v6_4 : Rd2 (a := 1) (b := 1024) (V3 m ρ c main_v6_4) (dG 8192 x (fBack x g wg wu wd dy)) :=
    rd_eq (W3_arr m ρ c 12) (call1_dg (e2_arg5 m ρ c h) (e2_arg0 m ρ c h) (e2_v5_1 m ρ c h) (e2_v5_2 m ρ c h) (e2_v1 m ρ c h) (e2_v3 m ρ c h) (e2_v4 m ρ c h))
theorem e3_v5_0 : Rd2 (a := 8192) (b := 1024) (V3 m ρ c main_v5_0) (hid x g) := rd_eq (W3_of m ρ c main_v5_0 (by decide +kernel)) (e2_v5_0 m ρ c h)
theorem e3_v5_3 : Rd2 (a := 8192) (b := 2816) (V3 m ρ c main_v5_3) (fAct x g wg wu) := rd_eq (W3_of m ρ c main_v5_3 (by decide +kernel)) (e2_v5_3 m ρ c h)
theorem e3_arg0 : Rd2 (a := 8192) (b := 1024) (V3 m ρ c main_arg0) x := rd_eq (W3_of m ρ c main_arg0 (by decide +kernel)) (e2_arg0 m ρ c h)
theorem e3_v4 : Rd2 (a := 2816) (b := 1024) (V3 m ρ c main_v4) wd := rd_eq (W3_of m ρ c main_v4 (by decide +kernel)) (e2_v4 m ρ c h)

/-! ## After the weight gradients of the gate and the up product -/

theorem e4_v7_0 : Rd2 (a := 2816) (b := 1024) (V4 m ρ c main_v7_0) (linT 8192 (fDgate x g wg wu wd dy) (hid x g)) :=
    rd_eq (W4_arr m ρ c 3) (call2_dwg (e3_v6_1 m ρ c h) (e3_v5_0 m ρ c h))
theorem e4_v7_1 : Rd2 (a := 2816) (b := 1024) (V4 m ρ c main_v7_1) (linT 8192 (fDup x g wg wd dy) (hid x g)) :=
    rd_eq (W4_arr m ρ c 4) (call2_dwu (e3_v6_2 m ρ c h) (e3_v5_0 m ρ c h))
theorem e4_v6_0 : Rd2 (a := 8192) (b := 1024) (V4 m ρ c main_v6_0) (dX dy x g (fBack x g wg wu wd dy)) := rd_eq (W4_of m ρ c main_v6_0 (by decide +kernel)) (e3_v6_0 m ρ c h)
theorem e4_v6_4 : Rd2 (a := 1) (b := 1024) (V4 m ρ c main_v6_4) (dG 8192 x (fBack x g wg wu wd dy)) := rd_eq (W4_of m ρ c main_v6_4 (by decide +kernel)) (e3_v6_4 m ρ c h)
theorem e4_v6_3 : Rd2 (a := 8192) (b := 1024) (V4 m ρ c main_v6_3) (dyh dy) := rd_eq (W4_of m ρ c main_v6_3 (by decide +kernel)) (e3_v6_3 m ρ c h)
theorem e4_v5_3 : Rd2 (a := 8192) (b := 2816) (V4 m ρ c main_v5_3) (fAct x g wg wu) := rd_eq (W4_of m ρ c main_v5_3 (by decide +kernel)) (e3_v5_3 m ρ c h)
theorem e4_arg0 : Rd2 (a := 8192) (b := 1024) (V4 m ρ c main_arg0) x := rd_eq (W4_of m ρ c main_arg0 (by decide +kernel)) (e3_arg0 m ρ c h)
theorem e4_v4 : Rd2 (a := 2816) (b := 1024) (V4 m ρ c main_v4) wd := rd_eq (W4_of m ρ c main_v4 (by decide +kernel)) (e3_v4 m ρ c h)

/-! ## After the weight gradient of the down product -/

theorem e5_v8 : Rd2 (a := 2816) (b := 1024) (V5 m ρ c main_v8) (linT 8192 (fAct x g wg wu) (dyh dy)) :=
    rd_eq (W5_arr m ρ c 2) (call3_dwd (e4_v5_3 m ρ c h) (e4_v6_3 m ρ c h))
theorem e5_v6_0 : Rd2 (a := 8192) (b := 1024) (V5 m ρ c main_v6_0) (dX dy x g (fBack x g wg wu wd dy)) := rd_eq (W5_of m ρ c main_v6_0 (by decide +kernel)) (e4_v6_0 m ρ c h)
theorem e5_v6_4 : Rd2 (a := 1) (b := 1024) (V5 m ρ c main_v6_4) (dG 8192 x (fBack x g wg wu wd dy)) := rd_eq (W5_of m ρ c main_v6_4 (by decide +kernel)) (e4_v6_4 m ρ c h)
theorem e5_v7_0 : Rd2 (a := 2816) (b := 1024) (V5 m ρ c main_v7_0) (linT 8192 (fDgate x g wg wu wd dy) (hid x g)) := rd_eq (W5_of m ρ c main_v7_0 (by decide +kernel)) (e4_v7_0 m ρ c h)
theorem e5_v7_1 : Rd2 (a := 2816) (b := 1024) (V5 m ρ c main_v7_1) (linT 8192 (fDup x g wg wd dy) (hid x g)) := rd_eq (W5_of m ρ c main_v7_1 (by decide +kernel)) (e4_v7_1 m ρ c h)
theorem e5_v5_3 : Rd2 (a := 8192) (b := 2816) (V5 m ρ c main_v5_3) (fAct x g wg wu) := rd_eq (W5_of m ρ c main_v5_3 (by decide +kernel)) (e4_v5_3 m ρ c h)
theorem e5_arg0 : Rd2 (a := 8192) (b := 1024) (V5 m ρ c main_arg0) x := rd_eq (W5_of m ρ c main_arg0 (by decide +kernel)) (e4_arg0 m ρ c h)
theorem e5_v4 : Rd2 (a := 2816) (b := 1024) (V5 m ρ c main_v4) wd := rd_eq (W5_of m ρ c main_v4 (by decide +kernel)) (e4_v4 m ρ c h)

/-! ## After the down product -/

theorem e6_v9 : Rd2 (a := 8192) (b := 1024) (V6 m ρ c main_v9) (outp x (fAct x g wg wu) wd) :=
    rd_eq (W6_arr m ρ c 3) (call4_y (e5_arg0 m ρ c h) (e5_v5_3 m ρ c h) (e5_v4 m ρ c h))
theorem e6_v6_0 : Rd2 (a := 8192) (b := 1024) (V6 m ρ c main_v6_0) (dX dy x g (fBack x g wg wu wd dy)) := rd_eq (W6_of m ρ c main_v6_0 (by decide +kernel)) (e5_v6_0 m ρ c h)
theorem e6_v6_4 : Rd2 (a := 1) (b := 1024) (V6 m ρ c main_v6_4) (dG 8192 x (fBack x g wg wu wd dy)) := rd_eq (W6_of m ρ c main_v6_4 (by decide +kernel)) (e5_v6_4 m ρ c h)
theorem e6_v7_0 : Rd2 (a := 2816) (b := 1024) (V6 m ρ c main_v7_0) (linT 8192 (fDgate x g wg wu wd dy) (hid x g)) := rd_eq (W6_of m ρ c main_v7_0 (by decide +kernel)) (e5_v7_0 m ρ c h)
theorem e6_v7_1 : Rd2 (a := 2816) (b := 1024) (V6 m ρ c main_v7_1) (linT 8192 (fDup x g wg wd dy) (hid x g)) := rd_eq (W6_of m ρ c main_v7_1 (by decide +kernel)) (e5_v7_1 m ρ c h)
theorem e6_v8 : Rd2 (a := 2816) (b := 1024) (V6 m ρ c main_v8) (linT 8192 (fAct x g wg wu) (dyh dy)) := rd_eq (W6_of m ρ c main_v8 (by decide +kernel)) (e5_v8 m ρ c h)

/-! ## The results -/

/-- Core `c`'s buffers at the end. -/
abbrev V7 : (c : Dev nD) → (b : Ref sig .tc) → Buf (Elt Ideal) ((c : Thread nD τ).loc b) := fun c b => W7 m ρ c b

theorem e7_v9 : Rd2 (a := 8192) (b := 1024) (V7 m ρ c main_v9) (outp x (fAct x g wg wu) wd) := rd_eq (W7_of m ρ c main_v9 (by decide +kernel)) (e6_v9 m ρ c h)
theorem e7_v6_0 : Rd2 (a := 8192) (b := 1024) (V7 m ρ c main_v6_0) (dX dy x g (fBack x g wg wu wd dy)) := rd_eq (W7_of m ρ c main_v6_0 (by decide +kernel)) (e6_v6_0 m ρ c h)
theorem e7_v6_4 : Rd2 (a := 1) (b := 1024) (V7 m ρ c main_v6_4) (dG 8192 x (fBack x g wg wu wd dy)) := rd_eq (W7_of m ρ c main_v6_4 (by decide +kernel)) (e6_v6_4 m ρ c h)
theorem e7_v8 : Rd2 (a := 2816) (b := 1024) (V7 m ρ c main_v8) (linT 8192 (fAct x g wg wu) (dyh dy)) := rd_eq (W7_of m ρ c main_v8 (by decide +kernel)) (e6_v8 m ρ c h)
theorem e7_v10 : Rd2 (a := 1024) (b := 2816) (V7 m ρ c main_v10) (tr (linT 8192 (fDgate x g wg wu wd dy) (hid x g))) := by
  refine rd_eq (v' := transpose S1024x2816 [1, 0] (W6 m ρ c (Proc.devRef .tc main_v7_0)) transposes_S2816x1024_S1024x2816_1_0) ?_ ?_
  · show StableHlo.after hostOps5 (W6 m ρ c) (Proc.devRef .tc main_v10) = _
    simp only [hostOps5]; after_results_simp <;> rfl
  · exact (Rd2.transp (e6_v7_0 m ρ c h) _).congr fun _ _ _ _ => by rw [tr]
theorem e7_v11 : Rd2 (a := 1024) (b := 2816) (V7 m ρ c main_v11) (tr (linT 8192 (fDup x g wg wd dy) (hid x g))) := by
  refine rd_eq (v' := transpose S1024x2816 [1, 0] (W6 m ρ c (Proc.devRef .tc main_v7_1)) transposes_S2816x1024_S1024x2816_1_0) ?_ ?_
  · show StableHlo.after hostOps5 (W6 m ρ c) (Proc.devRef .tc main_v11) = _
    simp only [hostOps5]; after_results_simp <;> rfl
  · exact (Rd2.transp (e6_v7_1 m ρ c h) _).congr fun _ _ _ _ => by rw [tr]

end Cert.Kernel4Ideal.Val
-- ==== Proof.FirstAgree.lean ====
/- The two programs of the first half step agree: under the precondition each result of the kernel and its counterpart of
   the reference read one and the same real array. -/
module

public import proofs.«01_k».proof.Proof.FirstChain
public import proofs.«01_k».proof.Proof.Agree

@[expose] public section

noncomputable section

namespace Cert.FirstAgree

open Cert.RealArrays Cert.Formulas Cert.Agree
open Idealize.ShloMosaic Idealize.ShloMosaic.TcCoe Idealize.ShloMosaic.ValueIdx
open Idealize.SL.Sem

theorem algebraic : Cert.algebraic_Kernel4Ideal_ReferenceIdeal_pre_finite
    (hKernel4Ideal := Cert.Kernel4Ideal.Gen.facts) (hReferenceIdeal := Cert.ReferenceIdeal.Gen.facts) (hPre_finite := Cert.Pre_finite.Gen.facts) := by
  intro m g m' g' hpre hagree
  refine ⟨fun c => Cert.Kernel4Ideal.Gen.W7 m g c (Proc.devRef .tc Cert.Kernel4Ideal.main_v9), fun c => Cert.Kernel4Ideal.Gen.W7 m g c (Proc.devRef .tc Cert.Kernel4Ideal.main_v6_0), fun c => Cert.Kernel4Ideal.Gen.W7 m g c (Proc.devRef .tc Cert.Kernel4Ideal.main_v6_4), fun c => Cert.Kernel4Ideal.Gen.W7 m g c (Proc.devRef .tc Cert.Kernel4Ideal.main_v10), fun c => Cert.Kernel4Ideal.Gen.W7 m g c (Proc.devRef .tc Cert.Kernel4Ideal.main_v11), fun c => Cert.Kernel4Ideal.Gen.W7 m g c (Proc.devRef .tc Cert.Kernel4Ideal.main_v8),
    Cert.Kernel4Ideal.Val.run_values m g, ?_⟩
  refine (θ_run Cert.ReferenceIdeal.defs _ _).mono (fun r h c => ?_) (Cert.ReferenceIdeal.Value.run (F := Ideal) m' g')
  obtain ⟨a0, a1, a2, a3, a4, a5⟩ := hagree c
  obtain ⟨⟨x, hx⟩, ⟨gn, hg⟩, ⟨wg, hwg⟩, ⟨wu, hwu⟩, ⟨wd, hwd⟩, ⟨dy, hdy⟩⟩ := Cert.Finite.reals (hpre c)
  have hx' : Rd2 (a := 8192) (b := 1024) (m' ((c.tc : Thread Cert.ReferenceIdeal.nD Cert.ReferenceIdeal.τ).loc Cert.ReferenceIdeal.main_arg0)) x := Cert.KernelIdeal.Val.rd_eq a0 hx
  have hg' : Rd2 (a := 1) (b := 1024) (m' ((c.tc : Thread Cert.ReferenceIdeal.nD Cert.ReferenceIdeal.τ).loc Cert.ReferenceIdeal.main_arg1)) gn := Cert.KernelIdeal.Val.rd_eq a1 hg
  have hwg' : Rd2 (a := 1024) (b := 2816) (m' ((c.tc : Thread Cert.ReferenceIdeal.nD Cert.ReferenceIdeal.τ).loc Cert.ReferenceIdeal.main_arg2)) wg := Cert.KernelIdeal.Val.rd_eq a2 hwg
  have hwu' : Rd2 (a := 1024) (b := 2816) (m' ((c.tc : Thread Cert.ReferenceIdeal.nD Cert.ReferenceIdeal.τ).loc Cert.ReferenceIdeal.main_arg3)) wu := Cert.KernelIdeal.Val.rd_eq a3 hwu
  have hwd' : Rd2 (a := 2816) (b := 1024) (m' ((c.tc : Thread Cert.ReferenceIdeal.nD Cert.ReferenceIdeal.τ).loc Cert.ReferenceIdeal.main_arg4)) wd := Cert.KernelIdeal.Val.rd_eq a4 hwd
  have hdy' : Rd2 (a := 8192) (b := 1024) (m' ((c.tc : Thread Cert.ReferenceIdeal.nD Cert.ReferenceIdeal.τ).loc Cert.ReferenceIdeal.main_arg5)) dy := Cert.KernelIdeal.Val.rd_eq a5 hdy
  have hk : Cert.Kernel4Ideal.Val.Args m c x gn wg wu wd dy := ⟨hx, hg, hwg, hwu, hwd, hdy⟩
  obtain ⟨h0, h1, h2, h3, h4, h5, hargs⟩ := h c
  refine ⟨h0.trans ?_, h1.trans ?_, h2.trans ?_, h3.trans ?_, h4.trans ?_, h5.trans ?_, hargs⟩
  · refine (Cert.ReferenceIdeal.Read.val_main_v22_eq (F := Ideal) _ _ _ _ _).trans ?_
    exact rd_unique (a := 8192) (b := 1024) (Cert.ReferenceIdeal.Val.r_v22 hx' hg' hwg' hwu' hwd') (Cert.Kernel4Ideal.Val.e7_v9 m g c hk)
  · refine (Cert.ReferenceIdeal.Read.val_main_v58_eq (F := Ideal) m' c).trans ?_
    exact rd_unique (a := 8192) (b := 1024) (Cert.ReferenceIdeal.Val.r_v58 hx' hg' hwg' hwu' hwd' hdy') (Cert.Kernel4Ideal.Val.e7_v6_0 m g c hk)
  · refine (Cert.ReferenceIdeal.Read.val_main_v41_eq (F := Ideal) m' c).trans ?_
    exact rd_unique (a := 1) (b := 1024) (Cert.ReferenceIdeal.Val.r_v41 hx' hg' hwg' hwu' hwd' hdy') (Cert.Kernel4Ideal.Val.e7_v6_4 m g c hk)
  · refine (Cert.ReferenceIdeal.Read.val_main_v36_eq (F := Ideal) m' c).trans ?_
    exact rd_unique (a := 1024) (b := 2816) (Cert.ReferenceIdeal.Val.r_v36 hx' hg' hwg' hwu' hwd' hdy') (Cert.Kernel4Ideal.Val.e7_v10 m g c hk)
  · refine (Cert.ReferenceIdeal.Read.val_main_v32_eq (F := Ideal) _ _ _ _ _).trans ?_
    exact rd_unique (a := 1024) (b := 2816) (Cert.ReferenceIdeal.Val.r_v32 hx' hg' hwg' hwd' hdy') (Cert.Kernel4Ideal.Val.e7_v11 m g c hk)
  · refine (Cert.ReferenceIdeal.Read.val_main_v27_eq (F := Ideal) _ _ _ _ _).trans ?_
    exact rd_unique (a := 2816) (b := 1024) (Cert.ReferenceIdeal.Val.r_v27 hx' hg' hwg' hwu' hdy') (Cert.Kernel4Ideal.Val.e7_v8 m g c hk)

end Cert.FirstAgree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite

public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Agree
public import proofs.«01_k».proof.Proof.GateAgree
public import proofs.«01_k».proof.Proof.ProjAgree
public import proofs.«01_k».proof.Proof.FirstAgree
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- So does the gating's reference. -/
theorem frame_r2 : Cert.quiescent_Reference2Ideal (hReference2Ideal := Cert.Reference2Ideal.Gen.facts) := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- And the input projection's reference. -/
theorem frame_r3 : Cert.quiescent_Reference3Ideal (hReference3Ideal := Cert.Reference3Ideal.Gen.facts) := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The gating kernel and its ideal program differ in two constants alone, each the nearest float of the number named. -/
theorem preserves₂ : Cert.preserves_Kernel2_Kernel2Ideal :=
  ⟨IdealRules.named_const.statement Cert.Kernel2Ideal.κ "gelu_a" .f32 0x3D372713#32 ((8943 / 200000 : ℝ) : EReal) rfl,
    IdealRules.named_const.statement Cert.Kernel2Ideal.κ "gelu_3a" .f32 0x3E095D4F#32 ((26829 / 200000 : ℝ) : EReal) rfl⟩

/-- The claims of the two half steps, of the gating and of the input projection: for each the frame of the kernel as printed and at the extended reals,
    the reference's frame, what was rewritten between the two kernels, and the agreement of all results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts,
    Cert.Pre_finite.Gen.facts, Cert.Pre_finite2.Gen.facts, Cert.Pre_finite3.Gen.facts,
    fun m ρ _ => Cert.Kernel.Gen.frame m ρ, fun m ρ _ => Cert.KernelIdeal.Gen.frame m ρ, fun m ρ _ => Cert.KernelIdeal.Gen.frame m ρ,
    fun m ρ _ => frame_r m ρ trivial, fun m ρ _ => frame_r m ρ trivial,
    fun m ρ _ => Cert.Kernel2.Gen.frame m ρ, fun m ρ _ => Cert.Kernel2Ideal.Gen.frame m ρ, fun m ρ _ => Cert.Kernel2Ideal.Gen.frame m ρ,
    fun m ρ _ => frame_r2 m ρ trivial, fun m ρ _ => frame_r2 m ρ trivial,
    fun m ρ _ => Cert.Kernel3.Gen.frame m ρ, fun m ρ _ => Cert.Kernel3Ideal.Gen.frame m ρ, fun m ρ _ => Cert.Kernel3Ideal.Gen.frame m ρ,
    fun m ρ _ => frame_r3 m ρ trivial, fun m ρ _ => frame_r3 m ρ trivial,
    fun m ρ _ => Cert.Kernel4.Gen.frame m ρ, fun m ρ _ => Cert.Kernel4Ideal.Gen.frame m ρ, fun m ρ _ => Cert.Kernel4Ideal.Gen.frame m ρ,
    trivial, Cert.Agree.algebraic, preserves₂, Cert.GateAgree.algebraic,
    trivial, Cert.ProjAgree.algebraic,
    trivial, Cert.FirstAgree.algebraic⟩

end Cert.Proof

end
